-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_PrepIdeal (m : (ℓ : Loc Cert.PrepIdeal.nD Cert.PrepIdeal.τ Cert.PrepIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Wxo (m : (ℓ : Loc Cert.Wxo.nD Cert.Wxo.τ Cert.Wxo.sig) → Buf (Elt Bits) ℓ) : Prop :=
  True

def Pre_WxoIdeal (m : (ℓ : Loc Cert.WxoIdeal.nD Cert.WxoIdeal.τ Cert.WxoIdeal.sig) → Buf (Elt Ideal) ℓ) : Prop :=
  True

def Pre_WxoRefIdeal (m : (ℓ : Loc Cert.WxoRefIdeal.nD Cert.WxoRefIdeal.τ Cert.WxoRefIdeal.sig) → Buf (Elt Ideal) ℓ) : Prop :=
  True

def Pre_Wxq (m : (ℓ : Loc Cert.Wxq.nD Cert.Wxq.τ Cert.Wxq.sig) → Buf (Elt Bits) ℓ) : Prop :=
  True

def Pre_WxqIdeal (m : (ℓ : Loc Cert.WxqIdeal.nD Cert.WxqIdeal.τ Cert.WxqIdeal.sig) → Buf (Elt Ideal) ℓ) : Prop :=
  True

def Pre_WxqRefIdeal (m : (ℓ : Loc Cert.WxqRefIdeal.nD Cert.WxqRefIdeal.τ Cert.WxqRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Projb (m : (ℓ : Loc Cert.Projb.nD Cert.Projb.τ Cert.Projb.sig) → Buf (Elt Bits) ℓ) : Prop :=
  True

def Pre_ProjbIdeal (m : (ℓ : Loc Cert.ProjbIdeal.nD Cert.ProjbIdeal.τ Cert.ProjbIdeal.sig) → Buf (Elt Ideal) ℓ) : Prop :=
  True

def Pre_ProjbRefIdeal (m : (ℓ : Loc Cert.ProjbRefIdeal.nD Cert.ProjbRefIdeal.τ Cert.ProjbRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Wxo [hWxo : Cert.Wxo.Facts] : Prop :=
  ∀ (m : (ℓ : Loc Cert.Wxo.nD Cert.Wxo.τ Cert.Wxo.sig) → Buf (Elt Bits) ℓ) (g : Dev Cert.Wxo.nD → PrngReg), Pre_Wxo m →
    θ_run (Cert.Wxo.defs (F := Bits)) (onTc (τ := Cert.Wxo.τ) (Cert.Wxo.main (F := Bits))) ⟨m, fun _ => 0, g⟩ (fun r => (∀ c : Dev Cert.Wxo.nD,
      r.2.mem ((c.tc : Thread Cert.Wxo.nD Cert.Wxo.τ).loc Cert.Wxo.main_arg0) = m ((c.tc : Thread Cert.Wxo.nD Cert.Wxo.τ).loc Cert.Wxo.main_arg0)
      ∧ r.2.mem ((c.tc : Thread Cert.Wxo.nD Cert.Wxo.τ).loc Cert.Wxo.main_arg1) = m ((c.tc : Thread Cert.Wxo.nD Cert.Wxo.τ).loc Cert.Wxo.main_arg1))
      ∧ r.2.sem = fun _ => 0)

def quiescent_WxoIdeal [hWxoIdeal : Cert.WxoIdeal.Facts] : Prop :=
  ∀ (m : (ℓ : Loc Cert.WxoIdeal.nD Cert.WxoIdeal.τ Cert.WxoIdeal.sig) → Buf (Elt Ideal) ℓ) (g : Dev Cert.WxoIdeal.nD → PrngReg), Pre_WxoIdeal m →
    θ_run (Cert.WxoIdeal.defs (F := Ideal)) (onTc (τ := Cert.WxoIdeal.τ) (Cert.WxoIdeal.main (F := Ideal))) ⟨m, fun _ => 0, g⟩ (fun r => (∀ c : Dev Cert.WxoIdeal.nD,
      r.2.mem ((c.tc : Thread Cert.WxoIdeal.nD Cert.WxoIdeal.τ).loc Cert.WxoIdeal.main_arg0) = m ((c.tc : Thread Cert.WxoIdeal.nD Cert.WxoIdeal.τ).loc Cert.WxoIdeal.main_arg0)
      ∧ r.2.mem ((c.tc : Thread Cert.WxoIdeal.nD Cert.WxoIdeal.τ).loc Cert.WxoIdeal.main_arg1) = m ((c.tc : Thread Cert.WxoIdeal.nD Cert.WxoIdeal.τ).loc Cert.WxoIdeal.main_arg1))
      ∧ r.2.sem = fun _ => 0)

def quiescent_WxoRefIdeal [hWxoRefIdeal : Cert.WxoRefIdeal.Facts] : Prop :=
  ∀ (m : (ℓ : Loc Cert.WxoRefIdeal.nD Cert.WxoRefIdeal.τ Cert.WxoRefIdeal.sig) → Buf (Elt Ideal) ℓ) (g : Dev Cert.WxoRefIdeal.nD → PrngReg), Pre_WxoRefIdeal m →
    θ_run (Cert.WxoRefIdeal.defs (F := Ideal)) (onTc (τ := Cert.WxoRefIdeal.τ) (Cert.WxoRefIdeal.main (F := Ideal))) ⟨m, fun _ => 0, g⟩ (fun r => (∀ c : Dev Cert.WxoRefIdeal.nD,
      r.2.mem ((c.tc : Thread Cert.WxoRefIdeal.nD Cert.WxoRefIdeal.τ).loc Cert.WxoRefIdeal.main_arg0) = m ((c.tc : Thread Cert.WxoRefIdeal.nD Cert.WxoRefIdeal.τ).loc Cert.WxoRefIdeal.main_arg0)
      ∧ r.2.mem ((c.tc : Thread Cert.WxoRefIdeal.nD Cert.WxoRefIdeal.τ).loc Cert.WxoRefIdeal.main_arg1) = m ((c.tc : Thread Cert.WxoRefIdeal.nD Cert.WxoRefIdeal.τ).loc Cert.WxoRefIdeal.main_arg1))
      ∧ r.2.sem = fun _ => 0)

def quiescent_Wxq [hWxq : Cert.Wxq.Facts] : Prop :=
  ∀ (m : (ℓ : Loc Cert.Wxq.nD Cert.Wxq.τ Cert.Wxq.sig) → Buf (Elt Bits) ℓ) (g : Dev Cert.Wxq.nD → PrngReg), Pre_Wxq m →
    θ_run (Cert.Wxq.defs (F := Bits)) (onTc (τ := Cert.Wxq.τ) (Cert.Wxq.main (F := Bits))) ⟨m, fun _ => 0, g⟩ (fun r => (∀ c : Dev Cert.Wxq.nD,
      r.2.mem ((c.tc : Thread Cert.Wxq.nD Cert.Wxq.τ).loc Cert.Wxq.main_arg0) = m ((c.tc : Thread Cert.Wxq.nD Cert.Wxq.τ).loc Cert.Wxq.main_arg0)
      ∧ r.2.mem ((c.tc : Thread Cert.Wxq.nD Cert.Wxq.τ).loc Cert.Wxq.main_arg1) = m ((c.tc : Thread Cert.Wxq.nD Cert.Wxq.τ).loc Cert.Wxq.main_arg1))
      ∧ r.2.sem = fun _ => 0)

def quiescent_WxqIdeal [hWxqIdeal : Cert.WxqIdeal.Facts] : Prop :=
  ∀ (m : (ℓ : Loc Cert.WxqIdeal.nD Cert.WxqIdeal.τ Cert.WxqIdeal.sig) → Buf (Elt Ideal) ℓ) (g : Dev Cert.WxqIdeal.nD → PrngReg), Pre_WxqIdeal m →
    θ_run (Cert.WxqIdeal.defs (F := Ideal)) (onTc (τ := Cert.WxqIdeal.τ) (Cert.WxqIdeal.main (F := Ideal))) ⟨m, fun _ => 0, g⟩ (fun r => (∀ c : Dev Cert.WxqIdeal.nD,
      r.2.mem ((c.tc : Thread Cert.WxqIdeal.nD Cert.WxqIdeal.τ).loc Cert.WxqIdeal.main_arg0) = m ((c.tc : Thread Cert.WxqIdeal.nD Cert.WxqIdeal.τ).loc Cert.WxqIdeal.main_arg0)
      ∧ r.2.mem ((c.tc : Thread Cert.WxqIdeal.nD Cert.WxqIdeal.τ).loc Cert.WxqIdeal.main_arg1) = m ((c.tc : Thread Cert.WxqIdeal.nD Cert.WxqIdeal.τ).loc Cert.WxqIdeal.main_arg1))
      ∧ r.2.sem = fun _ => 0)

def quiescent_WxqRefIdeal [hWxqRefIdeal : Cert.WxqRefIdeal.Facts] : Prop :=
  ∀ (m : (ℓ : Loc Cert.WxqRefIdeal.nD Cert.WxqRefIdeal.τ Cert.WxqRefIdeal.sig) → Buf (Elt Ideal) ℓ) (g : Dev Cert.WxqRefIdeal.nD → PrngReg), Pre_WxqRefIdeal m →
    θ_run (Cert.WxqRefIdeal.defs (F := Ideal)) (onTc (τ := Cert.WxqRefIdeal.τ) (Cert.WxqRefIdeal.main (F := Ideal))) ⟨m, fun _ => 0, g⟩ (fun r => (∀ c : Dev Cert.WxqRefIdeal.nD,
      r.2.mem ((c.tc : Thread Cert.WxqRefIdeal.nD Cert.WxqRefIdeal.τ).loc Cert.WxqRefIdeal.main_arg0) = m ((c.tc : Thread Cert.WxqRefIdeal.nD Cert.WxqRefIdeal.τ).loc Cert.WxqRefIdeal.main_arg0)
      ∧ r.2.mem ((c.tc : Thread Cert.WxqRefIdeal.nD Cert.WxqRefIdeal.τ).loc Cert.WxqRefIdeal.main_arg1) = m ((c.tc : Thread Cert.WxqRefIdeal.nD Cert.WxqRefIdeal.τ).loc Cert.WxqRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4)
      ∧ r.2.mem ((c.tc : Thread Cert.Act.nD Cert.Act.τ).loc Cert.Act.main_arg5) = m ((c.tc : Thread Cert.Act.nD Cert.Act.τ).loc Cert.Act.main_arg5))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4)
      ∧ r.2.mem ((c.tc : Thread Cert.ActRefIdeal.nD Cert.ActRefIdeal.τ).loc Cert.ActRefIdeal.main_arg5) = m ((c.tc : Thread Cert.ActRefIdeal.nD Cert.ActRefIdeal.τ).loc Cert.ActRefIdeal.main_arg5))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4)
      ∧ r.2.mem ((c.tc : Thread Cert.ActRefIdeal.nD Cert.ActRefIdeal.τ).loc Cert.ActRefIdeal.main_arg5) = m ((c.tc : Thread Cert.ActRefIdeal.nD Cert.ActRefIdeal.τ).loc Cert.ActRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Projb [hProjb : Cert.Projb.Facts] : Prop :=
  ∀ (m : (ℓ : Loc Cert.Projb.nD Cert.Projb.τ Cert.Projb.sig) → Buf (Elt Bits) ℓ) (g : Dev Cert.Projb.nD → PrngReg), Pre_Projb m →
    θ_run (Cert.Projb.defs (F := Bits)) (onTc (τ := Cert.Projb.τ) (Cert.Projb.main (F := Bits))) ⟨m, fun _ => 0, g⟩ (fun r => (∀ c : Dev Cert.Projb.nD,
      r.2.mem ((c.tc : Thread Cert.Projb.nD Cert.Projb.τ).loc Cert.Projb.main_arg0) = m ((c.tc : Thread Cert.Projb.nD Cert.Projb.τ).loc Cert.Projb.main_arg0)
      ∧ r.2.mem ((c.tc : Thread Cert.Projb.nD Cert.Projb.τ).loc Cert.Projb.main_arg1) = m ((c.tc : Thread Cert.Projb.nD Cert.Projb.τ).loc Cert.Projb.main_arg1)
      ∧ r.2.mem ((c.tc : Thread Cert.Projb.nD Cert.Projb.τ).loc Cert.Projb.main_arg2) = m ((c.tc : Thread Cert.Projb.nD Cert.Projb.τ).loc Cert.Projb.main_arg2)
      ∧ r.2.mem ((c.tc : Thread Cert.Projb.nD Cert.Projb.τ).loc Cert.Projb.main_arg3) = m ((c.tc : Thread Cert.Projb.nD Cert.Projb.τ).loc Cert.Projb.main_arg3)
      ∧ r.2.mem ((c.tc : Thread Cert.Projb.nD Cert.Projb.τ).loc Cert.Projb.main_arg4) = m ((c.tc : Thread Cert.Projb.nD Cert.Projb.τ).loc Cert.Projb.main_arg4)
      ∧ r.2.mem ((c.tc : Thread Cert.Projb.nD Cert.Projb.τ).loc Cert.Projb.main_arg5) = m ((c.tc : Thread Cert.Projb.nD Cert.Projb.τ).loc Cert.Projb.main_arg5)
      ∧ r.2.mem ((c.tc : Thread Cert.Projb.nD Cert.Projb.τ).loc Cert.Projb.main_arg6) = m ((c.tc : Thread Cert.Projb.nD Cert.Projb.τ).loc Cert.Projb.main_arg6)
      ∧ r.2.mem ((c.tc : Thread Cert.Projb.nD Cert.Projb.τ).loc Cert.Projb.main_arg7) = m ((c.tc : Thread Cert.Projb.nD Cert.Projb.τ).loc Cert.Projb.main_arg7)
      ∧ r.2.mem ((c.tc : Thread Cert.Projb.nD Cert.Projb.τ).loc Cert.Projb.main_arg8) = m ((c.tc : Thread Cert.Projb.nD Cert.Projb.τ).loc Cert.Projb.main_arg8)
      ∧ r.2.mem ((c.tc : Thread Cert.Projb.nD Cert.Projb.τ).loc Cert.Projb.main_arg9) = m ((c.tc : Thread Cert.Projb.nD Cert.Projb.τ).loc Cert.Projb.main_arg9)
      ∧ r.2.mem ((c.tc : Thread Cert.Projb.nD Cert.Projb.τ).loc Cert.Projb.main_arg10) = m ((c.tc : Thread Cert.Projb.nD Cert.Projb.τ).loc Cert.Projb.main_arg10)
      ∧ r.2.mem ((c.tc : Thread Cert.Projb.nD Cert.Projb.τ).loc Cert.Projb.main_arg11) = m ((c.tc : Thread Cert.Projb.nD Cert.Projb.τ).loc Cert.Projb.main_arg11)
      ∧ r.2.mem ((c.tc : Thread Cert.Projb.nD Cert.Projb.τ).loc Cert.Projb.main_arg12) = m ((c.tc : Thread Cert.Projb.nD Cert.Projb.τ).loc Cert.Projb.main_arg12)
      ∧ r.2.mem ((c.tc : Thread Cert.Projb.nD Cert.Projb.τ).loc Cert.Projb.main_arg13) = m ((c.tc : Thread Cert.Projb.nD Cert.Projb.τ).loc Cert.Projb.main_arg13)
      ∧ r.2.mem ((c.tc : Thread Cert.Projb.nD Cert.Projb.τ).loc Cert.Projb.main_arg14) = m ((c.tc : Thread Cert.Projb.nD Cert.Projb.τ).loc Cert.Projb.main_arg14)
      ∧ r.2.mem ((c.tc : Thread Cert.Projb.nD Cert.Projb.τ).loc Cert.Projb.main_arg15) = m ((c.tc : Thread Cert.Projb.nD Cert.Projb.τ).loc Cert.Projb.main_arg15)
      ∧ r.2.mem ((c.tc : Thread Cert.Projb.nD Cert.Projb.τ).loc Cert.Projb.main_arg16) = m ((c.tc : Thread Cert.Projb.nD Cert.Projb.τ).loc Cert.Projb.main_arg16))
      ∧ r.2.sem = fun _ => 0)

def quiescent_ProjbIdeal [hProjbIdeal : Cert.ProjbIdeal.Facts] : Prop :=
  ∀ (m : (ℓ : Loc Cert.ProjbIdeal.nD Cert.ProjbIdeal.τ Cert.ProjbIdeal.sig) → Buf (Elt Ideal) ℓ) (g : Dev Cert.ProjbIdeal.nD → PrngReg), Pre_ProjbIdeal m →
    θ_run (Cert.ProjbIdeal.defs (F := Ideal)) (onTc (τ := Cert.ProjbIdeal.τ) (Cert.ProjbIdeal.main (F := Ideal))) ⟨m, fun _ => 0, g⟩ (fun r => (∀ c : Dev Cert.ProjbIdeal.nD,
      r.2.mem ((c.tc : Thread Cert.ProjbIdeal.nD Cert.ProjbIdeal.τ).loc Cert.ProjbIdeal.main_arg0) = m ((c.tc : Thread Cert.ProjbIdeal.nD Cert.ProjbIdeal.τ).loc Cert.ProjbIdeal.main_arg0)
      ∧ r.2.mem ((c.tc : Thread Cert.ProjbIdeal.nD Cert.ProjbIdeal.τ).loc Cert.ProjbIdeal.main_arg1) = m ((c.tc : Thread Cert.ProjbIdeal.nD Cert.ProjbIdeal.τ).loc Cert.ProjbIdeal.main_arg1)
      ∧ r.2.mem ((c.tc : Thread Cert.ProjbIdeal.nD Cert.ProjbIdeal.τ).loc Cert.ProjbIdeal.main_arg2) = m ((c.tc : Thread Cert.ProjbIdeal.nD Cert.ProjbIdeal.τ).loc Cert.ProjbIdeal.main_arg2)
      ∧ r.2.mem ((c.tc : Thread Cert.ProjbIdeal.nD Cert.ProjbIdeal.τ).loc Cert.ProjbIdeal.main_arg3) = m ((c.tc : Thread Cert.ProjbIdeal.nD Cert.ProjbIdeal.τ).loc Cert.ProjbIdeal.main_arg3)
      ∧ r.2.mem ((c.tc : Thread Cert.ProjbIdeal.nD Cert.ProjbIdeal.τ).loc Cert.ProjbIdeal.main_arg4) = m ((c.tc : Thread Cert.ProjbIdeal.nD Cert.ProjbIdeal.τ).loc Cert.ProjbIdeal.main_arg4)
      ∧ r.2.mem ((c.tc : Thread Cert.ProjbIdeal.nD Cert.ProjbIdeal.τ).loc Cert.ProjbIdeal.main_arg5) = m ((c.tc : Thread Cert.ProjbIdeal.nD Cert.ProjbIdeal.τ).loc Cert.ProjbIdeal.main_arg5)
      ∧ r.2.mem ((c.tc : Thread Cert.ProjbIdeal.nD Cert.ProjbIdeal.τ).loc Cert.ProjbIdeal.main_arg6) = m ((c.tc : Thread Cert.ProjbIdeal.nD Cert.ProjbIdeal.τ).loc Cert.ProjbIdeal.main_arg6)
      ∧ r.2.mem ((c.tc : Thread Cert.ProjbIdeal.nD Cert.ProjbIdeal.τ).loc Cert.ProjbIdeal.main_arg7) = m ((c.tc : Thread Cert.ProjbIdeal.nD Cert.ProjbIdeal.τ).loc Cert.ProjbIdeal.main_arg7)
      ∧ r.2.mem ((c.tc : Thread Cert.ProjbIdeal.nD Cert.ProjbIdeal.τ).loc Cert.ProjbIdeal.main_arg8) = m ((c.tc : Thread Cert.ProjbIdeal.nD Cert.ProjbIdeal.τ).loc Cert.ProjbIdeal.main_arg8)
      ∧ r.2.mem ((c.tc : Thread Cert.ProjbIdeal.nD Cert.ProjbIdeal.τ).loc Cert.ProjbIdeal.main_arg9) = m ((c.tc : Thread Cert.ProjbIdeal.nD Cert.ProjbIdeal.τ).loc Cert.ProjbIdeal.main_arg9)
      ∧ r.2.mem ((c.tc : Thread Cert.ProjbIdeal.nD Cert.ProjbIdeal.τ).loc Cert.ProjbIdeal.main_arg10) = m ((c.tc : Thread Cert.ProjbIdeal.nD Cert.ProjbIdeal.τ).loc Cert.ProjbIdeal.main_arg10)
      ∧ r.2.mem ((c.tc : Thread Cert.ProjbIdeal.nD Cert.ProjbIdeal.τ).loc Cert.ProjbIdeal.main_arg11) = m ((c.tc : Thread Cert.ProjbIdeal.nD Cert.ProjbIdeal.τ).loc Cert.ProjbIdeal.main_arg11)
      ∧ r.2.mem ((c.tc : Thread Cert.ProjbIdeal.nD Cert.ProjbIdeal.τ).loc Cert.ProjbIdeal.main_arg12) = m ((c.tc : Thread Cert.ProjbIdeal.nD Cert.ProjbIdeal.τ).loc Cert.ProjbIdeal.main_arg12)
      ∧ r.2.mem ((c.tc : Thread Cert.ProjbIdeal.nD Cert.ProjbIdeal.τ).loc Cert.ProjbIdeal.main_arg13) = m ((c.tc : Thread Cert.ProjbIdeal.nD Cert.ProjbIdeal.τ).loc Cert.ProjbIdeal.main_arg13)
      ∧ r.2.mem ((c.tc : Thread Cert.ProjbIdeal.nD Cert.ProjbIdeal.τ).loc Cert.ProjbIdeal.main_arg14) = m ((c.tc : Thread Cert.ProjbIdeal.nD Cert.ProjbIdeal.τ).loc Cert.ProjbIdeal.main_arg14)
      ∧ r.2.mem ((c.tc : Thread Cert.ProjbIdeal.nD Cert.ProjbIdeal.τ).loc Cert.ProjbIdeal.main_arg15) = m ((c.tc : Thread Cert.ProjbIdeal.nD Cert.ProjbIdeal.τ).loc Cert.ProjbIdeal.main_arg15)
      ∧ r.2.mem ((c.tc : Thread Cert.ProjbIdeal.nD Cert.ProjbIdeal.τ).loc Cert.ProjbIdeal.main_arg16) = m ((c.tc : Thread Cert.ProjbIdeal.nD Cert.ProjbIdeal.τ).loc Cert.ProjbIdeal.main_arg16))
      ∧ r.2.sem = fun _ => 0)

def quiescent_ProjbRefIdeal [hProjbRefIdeal : Cert.ProjbRefIdeal.Facts] : Prop :=
  ∀ (m : (ℓ : Loc Cert.ProjbRefIdeal.nD Cert.ProjbRefIdeal.τ Cert.ProjbRefIdeal.sig) → Buf (Elt Ideal) ℓ) (g : Dev Cert.ProjbRefIdeal.nD → PrngReg), Pre_ProjbRefIdeal m →
    θ_run (Cert.ProjbRefIdeal.defs (F := Ideal)) (onTc (τ := Cert.ProjbRefIdeal.τ) (Cert.ProjbRefIdeal.main (F := Ideal))) ⟨m, fun _ => 0, g⟩ (fun r => (∀ c : Dev Cert.ProjbRefIdeal.nD,
      r.2.mem ((c.tc : Thread Cert.ProjbRefIdeal.nD Cert.ProjbRefIdeal.τ).loc Cert.ProjbRefIdeal.main_arg0) = m ((c.tc : Thread Cert.ProjbRefIdeal.nD Cert.ProjbRefIdeal.τ).loc Cert.ProjbRefIdeal.main_arg0)
      ∧ r.2.mem ((c.tc : Thread Cert.ProjbRefIdeal.nD Cert.ProjbRefIdeal.τ).loc Cert.ProjbRefIdeal.main_arg1) = m ((c.tc : Thread Cert.ProjbRefIdeal.nD Cert.ProjbRefIdeal.τ).loc Cert.ProjbRefIdeal.main_arg1)
      ∧ r.2.mem ((c.tc : Thread Cert.ProjbRefIdeal.nD Cert.ProjbRefIdeal.τ).loc Cert.ProjbRefIdeal.main_arg2) = m ((c.tc : Thread Cert.ProjbRefIdeal.nD Cert.ProjbRefIdeal.τ).loc Cert.ProjbRefIdeal.main_arg2)
      ∧ r.2.mem ((c.tc : Thread Cert.ProjbRefIdeal.nD Cert.ProjbRefIdeal.τ).loc Cert.ProjbRefIdeal.main_arg3) = m ((c.tc : Thread Cert.ProjbRefIdeal.nD Cert.ProjbRefIdeal.τ).loc Cert.ProjbRefIdeal.main_arg3)
      ∧ r.2.mem ((c.tc : Thread Cert.ProjbRefIdeal.nD Cert.ProjbRefIdeal.τ).loc Cert.ProjbRefIdeal.main_arg4) = m ((c.tc : Thread Cert.ProjbRefIdeal.nD Cert.ProjbRefIdeal.τ).loc Cert.ProjbRefIdeal.main_arg4)
      ∧ r.2.mem ((c.tc : Thread Cert.ProjbRefIdeal.nD Cert.ProjbRefIdeal.τ).loc Cert.ProjbRefIdeal.main_arg5) = m ((c.tc : Thread Cert.ProjbRefIdeal.nD Cert.ProjbRefIdeal.τ).loc Cert.ProjbRefIdeal.main_arg5)
      ∧ r.2.mem ((c.tc : Thread Cert.ProjbRefIdeal.nD Cert.ProjbRefIdeal.τ).loc Cert.ProjbRefIdeal.main_arg6) = m ((c.tc : Thread Cert.ProjbRefIdeal.nD Cert.ProjbRefIdeal.τ).loc Cert.ProjbRefIdeal.main_arg6)
      ∧ r.2.mem ((c.tc : Thread Cert.ProjbRefIdeal.nD Cert.ProjbRefIdeal.τ).loc Cert.ProjbRefIdeal.main_arg7) = m ((c.tc : Thread Cert.ProjbRefIdeal.nD Cert.ProjbRefIdeal.τ).loc Cert.ProjbRefIdeal.main_arg7)
      ∧ r.2.mem ((c.tc : Thread Cert.ProjbRefIdeal.nD Cert.ProjbRefIdeal.τ).loc Cert.ProjbRefIdeal.main_arg8) = m ((c.tc : Thread Cert.ProjbRefIdeal.nD Cert.ProjbRefIdeal.τ).loc Cert.ProjbRefIdeal.main_arg8)
      ∧ r.2.mem ((c.tc : Thread Cert.ProjbRefIdeal.nD Cert.ProjbRefIdeal.τ).loc Cert.ProjbRefIdeal.main_arg9) = m ((c.tc : Thread Cert.ProjbRefIdeal.nD Cert.ProjbRefIdeal.τ).loc Cert.ProjbRefIdeal.main_arg9)
      ∧ r.2.mem ((c.tc : Thread Cert.ProjbRefIdeal.nD Cert.ProjbRefIdeal.τ).loc Cert.ProjbRefIdeal.main_arg10) = m ((c.tc : Thread Cert.ProjbRefIdeal.nD Cert.ProjbRefIdeal.τ).loc Cert.ProjbRefIdeal.main_arg10)
      ∧ r.2.mem ((c.tc : Thread Cert.ProjbRefIdeal.nD Cert.ProjbRefIdeal.τ).loc Cert.ProjbRefIdeal.main_arg11) = m ((c.tc : Thread Cert.ProjbRefIdeal.nD Cert.ProjbRefIdeal.τ).loc Cert.ProjbRefIdeal.main_arg11)
      ∧ r.2.mem ((c.tc : Thread Cert.ProjbRefIdeal.nD Cert.ProjbRefIdeal.τ).loc Cert.ProjbRefIdeal.main_arg12) = m ((c.tc : Thread Cert.ProjbRefIdeal.nD Cert.ProjbRefIdeal.τ).loc Cert.ProjbRefIdeal.main_arg12)
      ∧ r.2.mem ((c.tc : Thread Cert.ProjbRefIdeal.nD Cert.ProjbRefIdeal.τ).loc Cert.ProjbRefIdeal.main_arg13) = m ((c.tc : Thread Cert.ProjbRefIdeal.nD Cert.ProjbRefIdeal.τ).loc Cert.ProjbRefIdeal.main_arg13)
      ∧ r.2.mem ((c.tc : Thread Cert.ProjbRefIdeal.nD Cert.ProjbRefIdeal.τ).loc Cert.ProjbRefIdeal.main_arg14) = m ((c.tc : Thread Cert.ProjbRefIdeal.nD Cert.ProjbRefIdeal.τ).loc Cert.ProjbRefIdeal.main_arg14)
      ∧ r.2.mem ((c.tc : Thread Cert.ProjbRefIdeal.nD Cert.ProjbRefIdeal.τ).loc Cert.ProjbRefIdeal.main_arg15) = m ((c.tc : Thread Cert.ProjbRefIdeal.nD Cert.ProjbRefIdeal.τ).loc Cert.ProjbRefIdeal.main_arg15)
      ∧ r.2.mem ((c.tc : Thread Cert.ProjbRefIdeal.nD Cert.ProjbRefIdeal.τ).loc Cert.ProjbRefIdeal.main_arg16) = m ((c.tc : Thread Cert.ProjbRefIdeal.nD Cert.ProjbRefIdeal.τ).loc Cert.ProjbRefIdeal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_1)) (v2 : (c : Dev Cert.KernelIdeal.nD) → Buf (Elt Ideal) ((c.tc : Thread Cert.KernelIdeal.nD Cert.KernelIdeal.τ).loc Cert.KernelIdeal.main_v95_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95_0) = v0 c
          ∧ r.2.mem ((c.tc : Thread Cert.KernelIdeal.nD Cert.KernelIdeal.τ).loc Cert.KernelIdeal.main_v95_1) = v1 c
          ∧ r.2.mem ((c.tc : Thread Cert.KernelIdeal.nD Cert.KernelIdeal.τ).loc Cert.KernelIdeal.main_v95_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v5) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v4) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Wxo_WxoIdeal : Prop :=
  True

def algebraic_WxoIdeal_WxoRefIdeal [hWxoIdeal : Cert.WxoIdeal.Facts] [hWxoRefIdeal : Cert.WxoRefIdeal.Facts] : Prop :=
  ∀ (m : (ℓ : Loc Cert.WxoIdeal.nD Cert.WxoIdeal.τ Cert.WxoIdeal.sig) → Buf (Elt Ideal) ℓ) (g : Dev Cert.WxoIdeal.nD → PrngReg)
    (m' : (ℓ : Loc Cert.WxoRefIdeal.nD Cert.WxoRefIdeal.τ Cert.WxoRefIdeal.sig) → Buf (Elt Ideal) ℓ) (g' : Dev Cert.WxoRefIdeal.nD → PrngReg), Pre_WxoIdeal m →
    (∀ c : Dev Cert.WxoIdeal.nD,
      m' ((c.tc : Thread Cert.WxoRefIdeal.nD Cert.WxoRefIdeal.τ).loc Cert.WxoRefIdeal.main_arg0) = m ((c.tc : Thread Cert.WxoIdeal.nD Cert.WxoIdeal.τ).loc Cert.WxoIdeal.main_arg0)
      ∧ m' ((c.tc : Thread Cert.WxoRefIdeal.nD Cert.WxoRefIdeal.τ).loc Cert.WxoRefIdeal.main_arg1) = m ((c.tc : Thread Cert.WxoIdeal.nD Cert.WxoIdeal.τ).loc Cert.WxoIdeal.main_arg1)) →
    ∃ (v0 : (c : Dev Cert.WxoIdeal.nD) → Buf (Elt Ideal) ((c.tc : Thread Cert.WxoIdeal.nD Cert.WxoIdeal.τ).loc Cert.WxoIdeal.main_v0)),
      θ_run (Cert.WxoIdeal.defs (F := Ideal)) (onTc (τ := Cert.WxoIdeal.τ) (Cert.WxoIdeal.main (F := Ideal))) ⟨m, fun _ => 0, g⟩ (fun r => ∀ c : Dev Cert.WxoIdeal.nD,
          r.2.mem ((c.tc : Thread Cert.WxoIdeal.nD Cert.WxoIdeal.τ).loc Cert.WxoIdeal.main_v0) = v0 c
          ∧ r.2.mem ((c.tc : Thread Cert.WxoIdeal.nD Cert.WxoIdeal.τ).loc Cert.WxoIdeal.main_arg0) = m ((c.tc : Thread Cert.WxoIdeal.nD Cert.WxoIdeal.τ).loc Cert.WxoIdeal.main_arg0)
          ∧ r.2.mem ((c.tc : Thread Cert.WxoIdeal.nD Cert.WxoIdeal.τ).loc Cert.WxoIdeal.main_arg1) = m ((c.tc : Thread Cert.WxoIdeal.nD Cert.WxoIdeal.τ).loc Cert.WxoIdeal.main_arg1))
      ∧ θ_run (Cert.WxoRefIdeal.defs (F := Ideal)) (onTc (τ := Cert.WxoRefIdeal.τ) (Cert.WxoRefIdeal.main (F := Ideal))) ⟨m', fun _ => 0, g'⟩ (fun r => ∀ c : Dev Cert.WxoRefIdeal.nD,
          r.2.mem ((c.tc : Thread Cert.WxoRefIdeal.nD Cert.WxoRefIdeal.τ).loc Cert.WxoRefIdeal.main_v5) = v0 c
          ∧ r.2.mem ((c.tc : Thread Cert.WxoRefIdeal.nD Cert.WxoRefIdeal.τ).loc Cert.WxoRefIdeal.main_arg0) = m' ((c.tc : Thread Cert.WxoRefIdeal.nD Cert.WxoRefIdeal.τ).loc Cert.WxoRefIdeal.main_arg0)
          ∧ r.2.mem ((c.tc : Thread Cert.WxoRefIdeal.nD Cert.WxoRefIdeal.τ).loc Cert.WxoRefIdeal.main_arg1) = m' ((c.tc : Thread Cert.WxoRefIdeal.nD Cert.WxoRefIdeal.τ).loc Cert.WxoRefIdeal.main_arg1))

def preserves_Wxq_WxqIdeal : Prop :=
  True

def algebraic_WxqIdeal_WxqRefIdeal [hWxqIdeal : Cert.WxqIdeal.Facts] [hWxqRefIdeal : Cert.WxqRefIdeal.Facts] : Prop :=
  ∀ (m : (ℓ : Loc Cert.WxqIdeal.nD Cert.WxqIdeal.τ Cert.WxqIdeal.sig) → Buf (Elt Ideal) ℓ) (g : Dev Cert.WxqIdeal.nD → PrngReg)
    (m' : (ℓ : Loc Cert.WxqRefIdeal.nD Cert.WxqRefIdeal.τ Cert.WxqRefIdeal.sig) → Buf (Elt Ideal) ℓ) (g' : Dev Cert.WxqRefIdeal.nD → PrngReg), Pre_WxqIdeal m →
    (∀ c : Dev Cert.WxqIdeal.nD,
      m' ((c.tc : Thread Cert.WxqRefIdeal.nD Cert.WxqRefIdeal.τ).loc Cert.WxqRefIdeal.main_arg0) = m ((c.tc : Thread Cert.WxqIdeal.nD Cert.WxqIdeal.τ).loc Cert.WxqIdeal.main_arg0)
      ∧ m' ((c.tc : Thread Cert.WxqRefIdeal.nD Cert.WxqRefIdeal.τ).loc Cert.WxqRefIdeal.main_arg1) = m ((c.tc : Thread Cert.WxqIdeal.nD Cert.WxqIdeal.τ).loc Cert.WxqIdeal.main_arg1)) →
    ∃ (v0 : (c : Dev Cert.WxqIdeal.nD) → Buf (Elt Ideal) ((c.tc : Thread Cert.WxqIdeal.nD Cert.WxqIdeal.τ).loc Cert.WxqIdeal.main_v0)),
      θ_run (Cert.WxqIdeal.defs (F := Ideal)) (onTc (τ := Cert.WxqIdeal.τ) (Cert.WxqIdeal.main (F := Ideal))) ⟨m, fun _ => 0, g⟩ (fun r => ∀ c : Dev Cert.WxqIdeal.nD,
          r.2.mem ((c.tc : Thread Cert.WxqIdeal.nD Cert.WxqIdeal.τ).loc Cert.WxqIdeal.main_v0) = v0 c
          ∧ r.2.mem ((c.tc : Thread Cert.WxqIdeal.nD Cert.WxqIdeal.τ).loc Cert.WxqIdeal.main_arg0) = m ((c.tc : Thread Cert.WxqIdeal.nD Cert.WxqIdeal.τ).loc Cert.WxqIdeal.main_arg0)
          ∧ r.2.mem ((c.tc : Thread Cert.WxqIdeal.nD Cert.WxqIdeal.τ).loc Cert.WxqIdeal.main_arg1) = m ((c.tc : Thread Cert.WxqIdeal.nD Cert.WxqIdeal.τ).loc Cert.WxqIdeal.main_arg1))
      ∧ θ_run (Cert.WxqRefIdeal.defs (F := Ideal)) (onTc (τ := Cert.WxqRefIdeal.τ) (Cert.WxqRefIdeal.main (F := Ideal))) ⟨m', fun _ => 0, g'⟩ (fun r => ∀ c : Dev Cert.WxqRefIdeal.nD,
          r.2.mem ((c.tc : Thread Cert.WxqRefIdeal.nD Cert.WxqRefIdeal.τ).loc Cert.WxqRefIdeal.main_v5) = v0 c
          ∧ r.2.mem ((c.tc : Thread Cert.WxqRefIdeal.nD Cert.WxqRefIdeal.τ).loc Cert.WxqRefIdeal.main_arg0) = m' ((c.tc : Thread Cert.WxqRefIdeal.nD Cert.WxqRefIdeal.τ).loc Cert.WxqRefIdeal.main_arg0)
          ∧ r.2.mem ((c.tc : Thread Cert.WxqRefIdeal.nD Cert.WxqRefIdeal.τ).loc Cert.WxqRefIdeal.main_arg1) = m' ((c.tc : Thread Cert.WxqRefIdeal.nD Cert.WxqRefIdeal.τ).loc Cert.WxqRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_v28) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)
      ∧ m' ((c.tc : Thread Cert.ActRefIdeal.nD Cert.ActRefIdeal.τ).loc Cert.ActRefIdeal.main_arg5) = m ((c.tc : Thread Cert.ActIdeal.nD Cert.ActIdeal.τ).loc Cert.ActIdeal.main_arg5)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)) (v3 : (c : Dev Cert.ActIdeal.nD) → Buf (Elt Ideal) ((c.tc : Thread Cert.ActIdeal.nD Cert.ActIdeal.τ).loc Cert.ActIdeal.main_v0_3)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_v0_3) = v3 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
          ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v45) = v0 c
          ∧ r.2.mem ((c.tc : Thread Cert.ActRefIdeal.nD Cert.ActRefIdeal.τ).loc Cert.ActRefIdeal.main_v46) = v1 c
          ∧ r.2.mem ((c.tc : Thread Cert.ActRefIdeal.nD Cert.ActRefIdeal.τ).loc Cert.ActRefIdeal.main_v47) = v2 c
          ∧ r.2.mem ((c.tc : Thread Cert.ActRefIdeal.nD Cert.ActRefIdeal.τ).loc Cert.ActRefIdeal.main_v17) = v3 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4)
          ∧ r.2.mem ((c.tc : Thread Cert.ActRefIdeal.nD Cert.ActRefIdeal.τ).loc Cert.ActRefIdeal.main_arg5) = m' ((c.tc : Thread Cert.ActRefIdeal.nD Cert.ActRefIdeal.τ).loc Cert.ActRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v16) = v0 c
          ∧ r.2.mem ((c.tc : Thread Cert.UpRefIdeal.nD Cert.UpRefIdeal.τ).loc Cert.UpRefIdeal.main_v17) = v1 c
          ∧ r.2.mem ((c.tc : Thread Cert.UpRefIdeal.nD Cert.UpRefIdeal.τ).loc Cert.UpRefIdeal.main_v18) = v2 c
          ∧ r.2.mem ((c.tc : Thread Cert.UpRefIdeal.nD Cert.UpRefIdeal.τ).loc Cert.UpRefIdeal.main_v21) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v2) = v0 c
          ∧ r.2.mem ((c.tc : Thread Cert.LossRefIdeal.nD Cert.LossRefIdeal.τ).loc Cert.LossRefIdeal.main_v30) = v1 c
          ∧ r.2.mem ((c.tc : Thread Cert.LossRefIdeal.nD Cert.LossRefIdeal.τ).loc Cert.LossRefIdeal.main_v34) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v21) = v0 c
          ∧ r.2.mem ((c.tc : Thread Cert.ProjRefIdeal.nD Cert.ProjRefIdeal.τ).loc Cert.ProjRefIdeal.main_v25) = v1 c
          ∧ r.2.mem ((c.tc : Thread Cert.ProjRefIdeal.nD Cert.ProjRefIdeal.τ).loc Cert.ProjRefIdeal.main_v17) = v2 c
          ∧ r.2.mem ((c.tc : Thread Cert.ProjRefIdeal.nD Cert.ProjRefIdeal.τ).loc Cert.ProjRefIdeal.main_v29) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Projb_ProjbIdeal : Prop :=
  True

def algebraic_ProjbIdeal_ProjbRefIdeal [hProjbIdeal : Cert.ProjbIdeal.Facts] [hProjbRefIdeal : Cert.ProjbRefIdeal.Facts] : Prop :=
  ∀ (m : (ℓ : Loc Cert.ProjbIdeal.nD Cert.ProjbIdeal.τ Cert.ProjbIdeal.sig) → Buf (Elt Ideal) ℓ) (g : Dev Cert.ProjbIdeal.nD → PrngReg)
    (m' : (ℓ : Loc Cert.ProjbRefIdeal.nD Cert.ProjbRefIdeal.τ Cert.ProjbRefIdeal.sig) → Buf (Elt Ideal) ℓ) (g' : Dev Cert.ProjbRefIdeal.nD → PrngReg), Pre_ProjbIdeal m →
    (∀ c : Dev Cert.ProjbIdeal.nD,
      m' ((c.tc : Thread Cert.ProjbRefIdeal.nD Cert.ProjbRefIdeal.τ).loc Cert.ProjbRefIdeal.main_arg0) = m ((c.tc : Thread Cert.ProjbIdeal.nD Cert.ProjbIdeal.τ).loc Cert.ProjbIdeal.main_arg0)
      ∧ m' ((c.tc : Thread Cert.ProjbRefIdeal.nD Cert.ProjbRefIdeal.τ).loc Cert.ProjbRefIdeal.main_arg1) = m ((c.tc : Thread Cert.ProjbIdeal.nD Cert.ProjbIdeal.τ).loc Cert.ProjbIdeal.main_arg1)
      ∧ m' ((c.tc : Thread Cert.ProjbRefIdeal.nD Cert.ProjbRefIdeal.τ).loc Cert.ProjbRefIdeal.main_arg2) = m ((c.tc : Thread Cert.ProjbIdeal.nD Cert.ProjbIdeal.τ).loc Cert.ProjbIdeal.main_arg2)
      ∧ m' ((c.tc : Thread Cert.ProjbRefIdeal.nD Cert.ProjbRefIdeal.τ).loc Cert.ProjbRefIdeal.main_arg3) = m ((c.tc : Thread Cert.ProjbIdeal.nD Cert.ProjbIdeal.τ).loc Cert.ProjbIdeal.main_arg3)
      ∧ m' ((c.tc : Thread Cert.ProjbRefIdeal.nD Cert.ProjbRefIdeal.τ).loc Cert.ProjbRefIdeal.main_arg4) = m ((c.tc : Thread Cert.ProjbIdeal.nD Cert.ProjbIdeal.τ).loc Cert.ProjbIdeal.main_arg4)
      ∧ m' ((c.tc : Thread Cert.ProjbRefIdeal.nD Cert.ProjbRefIdeal.τ).loc Cert.ProjbRefIdeal.main_arg5) = m ((c.tc : Thread Cert.ProjbIdeal.nD Cert.ProjbIdeal.τ).loc Cert.ProjbIdeal.main_arg5)
      ∧ m' ((c.tc : Thread Cert.ProjbRefIdeal.nD Cert.ProjbRefIdeal.τ).loc Cert.ProjbRefIdeal.main_arg6) = m ((c.tc : Thread Cert.ProjbIdeal.nD Cert.ProjbIdeal.τ).loc Cert.ProjbIdeal.main_arg6)
      ∧ m' ((c.tc : Thread Cert.ProjbRefIdeal.nD Cert.ProjbRefIdeal.τ).loc Cert.ProjbRefIdeal.main_arg7) = m ((c.tc : Thread Cert.ProjbIdeal.nD Cert.ProjbIdeal.τ).loc Cert.ProjbIdeal.main_arg7)
      ∧ m' ((c.tc : Thread Cert.ProjbRefIdeal.nD Cert.ProjbRefIdeal.τ).loc Cert.ProjbRefIdeal.main_arg8) = m ((c.tc : Thread Cert.ProjbIdeal.nD Cert.ProjbIdeal.τ).loc Cert.ProjbIdeal.main_arg8)
      ∧ m' ((c.tc : Thread Cert.ProjbRefIdeal.nD Cert.ProjbRefIdeal.τ).loc Cert.ProjbRefIdeal.main_arg9) = m ((c.tc : Thread Cert.ProjbIdeal.nD Cert.ProjbIdeal.τ).loc Cert.ProjbIdeal.main_arg9)
      ∧ m' ((c.tc : Thread Cert.ProjbRefIdeal.nD Cert.ProjbRefIdeal.τ).loc Cert.ProjbRefIdeal.main_arg10) = m ((c.tc : Thread Cert.ProjbIdeal.nD Cert.ProjbIdeal.τ).loc Cert.ProjbIdeal.main_arg10)
      ∧ m' ((c.tc : Thread Cert.ProjbRefIdeal.nD Cert.ProjbRefIdeal.τ).loc Cert.ProjbRefIdeal.main_arg11) = m ((c.tc : Thread Cert.ProjbIdeal.nD Cert.ProjbIdeal.τ).loc Cert.ProjbIdeal.main_arg11)
      ∧ m' ((c.tc : Thread Cert.ProjbRefIdeal.nD Cert.ProjbRefIdeal.τ).loc Cert.ProjbRefIdeal.main_arg12) = m ((c.tc : Thread Cert.ProjbIdeal.nD Cert.ProjbIdeal.τ).loc Cert.ProjbIdeal.main_arg12)
      ∧ m' ((c.tc : Thread Cert.ProjbRefIdeal.nD Cert.ProjbRefIdeal.τ).loc Cert.ProjbRefIdeal.main_arg13) = m ((c.tc : Thread Cert.ProjbIdeal.nD Cert.ProjbIdeal.τ).loc Cert.ProjbIdeal.main_arg13)
      ∧ m' ((c.tc : Thread Cert.ProjbRefIdeal.nD Cert.ProjbRefIdeal.τ).loc Cert.ProjbRefIdeal.main_arg14) = m ((c.tc : Thread Cert.ProjbIdeal.nD Cert.ProjbIdeal.τ).loc Cert.ProjbIdeal.main_arg14)
      ∧ m' ((c.tc : Thread Cert.ProjbRefIdeal.nD Cert.ProjbRefIdeal.τ).loc Cert.ProjbRefIdeal.main_arg15) = m ((c.tc : Thread Cert.ProjbIdeal.nD Cert.ProjbIdeal.τ).loc Cert.ProjbIdeal.main_arg15)
      ∧ m' ((c.tc : Thread Cert.ProjbRefIdeal.nD Cert.ProjbRefIdeal.τ).loc Cert.ProjbRefIdeal.main_arg16) = m ((c.tc : Thread Cert.ProjbIdeal.nD Cert.ProjbIdeal.τ).loc Cert.ProjbIdeal.main_arg16)) →
    ∃ (v0 : (c : Dev Cert.ProjbIdeal.nD) → Buf (Elt Ideal) ((c.tc : Thread Cert.ProjbIdeal.nD Cert.ProjbIdeal.τ).loc Cert.ProjbIdeal.main_v0_0)) (v1 : (c : Dev Cert.ProjbIdeal.nD) → Buf (Elt Ideal) ((c.tc : Thread Cert.ProjbIdeal.nD Cert.ProjbIdeal.τ).loc Cert.ProjbIdeal.main_v0_1)) (v2 : (c : Dev Cert.ProjbIdeal.nD) → Buf (Elt Ideal) ((c.tc : Thread Cert.ProjbIdeal.nD Cert.ProjbIdeal.τ).loc Cert.ProjbIdeal.main_v0_2)),
      θ_run (Cert.ProjbIdeal.defs (F := Ideal)) (onTc (τ := Cert.ProjbIdeal.τ) (Cert.ProjbIdeal.main (F := Ideal))) ⟨m, fun _ => 0, g⟩ (fun r => ∀ c : Dev Cert.ProjbIdeal.nD,
          r.2.mem ((c.tc : Thread Cert.ProjbIdeal.nD Cert.ProjbIdeal.τ).loc Cert.ProjbIdeal.main_v0_0) = v0 c
          ∧ r.2.mem ((c.tc : Thread Cert.ProjbIdeal.nD Cert.ProjbIdeal.τ).loc Cert.ProjbIdeal.main_v0_1) = v1 c
          ∧ r.2.mem ((c.tc : Thread Cert.ProjbIdeal.nD Cert.ProjbIdeal.τ).loc Cert.ProjbIdeal.main_v0_2) = v2 c
          ∧ r.2.mem ((c.tc : Thread Cert.ProjbIdeal.nD Cert.ProjbIdeal.τ).loc Cert.ProjbIdeal.main_arg0) = m ((c.tc : Thread Cert.ProjbIdeal.nD Cert.ProjbIdeal.τ).loc Cert.ProjbIdeal.main_arg0)
          ∧ r.2.mem ((c.tc : Thread Cert.ProjbIdeal.nD Cert.ProjbIdeal.τ).loc Cert.ProjbIdeal.main_arg1) = m ((c.tc : Thread Cert.ProjbIdeal.nD Cert.ProjbIdeal.τ).loc Cert.ProjbIdeal.main_arg1)
          ∧ r.2.mem ((c.tc : Thread Cert.ProjbIdeal.nD Cert.ProjbIdeal.τ).loc Cert.ProjbIdeal.main_arg2) = m ((c.tc : Thread Cert.ProjbIdeal.nD Cert.ProjbIdeal.τ).loc Cert.ProjbIdeal.main_arg2)
          ∧ r.2.mem ((c.tc : Thread Cert.ProjbIdeal.nD Cert.ProjbIdeal.τ).loc Cert.ProjbIdeal.main_arg3) = m ((c.tc : Thread Cert.ProjbIdeal.nD Cert.ProjbIdeal.τ).loc Cert.ProjbIdeal.main_arg3)
          ∧ r.2.mem ((c.tc : Thread Cert.ProjbIdeal.nD Cert.ProjbIdeal.τ).loc Cert.ProjbIdeal.main_arg4) = m ((c.tc : Thread Cert.ProjbIdeal.nD Cert.ProjbIdeal.τ).loc Cert.ProjbIdeal.main_arg4)
          ∧ r.2.mem ((c.tc : Thread Cert.ProjbIdeal.nD Cert.ProjbIdeal.τ).loc Cert.ProjbIdeal.main_arg5) = m ((c.tc : Thread Cert.ProjbIdeal.nD Cert.ProjbIdeal.τ).loc Cert.ProjbIdeal.main_arg5)
          ∧ r.2.mem ((c.tc : Thread Cert.ProjbIdeal.nD Cert.ProjbIdeal.τ).loc Cert.ProjbIdeal.main_arg6) = m ((c.tc : Thread Cert.ProjbIdeal.nD Cert.ProjbIdeal.τ).loc Cert.ProjbIdeal.main_arg6)
          ∧ r.2.mem ((c.tc : Thread Cert.ProjbIdeal.nD Cert.ProjbIdeal.τ).loc Cert.ProjbIdeal.main_arg7) = m ((c.tc : Thread Cert.ProjbIdeal.nD Cert.ProjbIdeal.τ).loc Cert.ProjbIdeal.main_arg7)
          ∧ r.2.mem ((c.tc : Thread Cert.ProjbIdeal.nD Cert.ProjbIdeal.τ).loc Cert.ProjbIdeal.main_arg8) = m ((c.tc : Thread Cert.ProjbIdeal.nD Cert.ProjbIdeal.τ).loc Cert.ProjbIdeal.main_arg8)
          ∧ r.2.mem ((c.tc : Thread Cert.ProjbIdeal.nD Cert.ProjbIdeal.τ).loc Cert.ProjbIdeal.main_arg9) = m ((c.tc : Thread Cert.ProjbIdeal.nD Cert.ProjbIdeal.τ).loc Cert.ProjbIdeal.main_arg9)
          ∧ r.2.mem ((c.tc : Thread Cert.ProjbIdeal.nD Cert.ProjbIdeal.τ).loc Cert.ProjbIdeal.main_arg10) = m ((c.tc : Thread Cert.ProjbIdeal.nD Cert.ProjbIdeal.τ).loc Cert.ProjbIdeal.main_arg10)
          ∧ r.2.mem ((c.tc : Thread Cert.ProjbIdeal.nD Cert.ProjbIdeal.τ).loc Cert.ProjbIdeal.main_arg11) = m ((c.tc : Thread Cert.ProjbIdeal.nD Cert.ProjbIdeal.τ).loc Cert.ProjbIdeal.main_arg11)
          ∧ r.2.mem ((c.tc : Thread Cert.ProjbIdeal.nD Cert.ProjbIdeal.τ).loc Cert.ProjbIdeal.main_arg12) = m ((c.tc : Thread Cert.ProjbIdeal.nD Cert.ProjbIdeal.τ).loc Cert.ProjbIdeal.main_arg12)
          ∧ r.2.mem ((c.tc : Thread Cert.ProjbIdeal.nD Cert.ProjbIdeal.τ).loc Cert.ProjbIdeal.main_arg13) = m ((c.tc : Thread Cert.ProjbIdeal.nD Cert.ProjbIdeal.τ).loc Cert.ProjbIdeal.main_arg13)
          ∧ r.2.mem ((c.tc : Thread Cert.ProjbIdeal.nD Cert.ProjbIdeal.τ).loc Cert.ProjbIdeal.main_arg14) = m ((c.tc : Thread Cert.ProjbIdeal.nD Cert.ProjbIdeal.τ).loc Cert.ProjbIdeal.main_arg14)
          ∧ r.2.mem ((c.tc : Thread Cert.ProjbIdeal.nD Cert.ProjbIdeal.τ).loc Cert.ProjbIdeal.main_arg15) = m ((c.tc : Thread Cert.ProjbIdeal.nD Cert.ProjbIdeal.τ).loc Cert.ProjbIdeal.main_arg15)
          ∧ r.2.mem ((c.tc : Thread Cert.ProjbIdeal.nD Cert.ProjbIdeal.τ).loc Cert.ProjbIdeal.main_arg16) = m ((c.tc : Thread Cert.ProjbIdeal.nD Cert.ProjbIdeal.τ).loc Cert.ProjbIdeal.main_arg16))
      ∧ θ_run (Cert.ProjbRefIdeal.defs (F := Ideal)) (onTc (τ := Cert.ProjbRefIdeal.τ) (Cert.ProjbRefIdeal.main (F := Ideal))) ⟨m', fun _ => 0, g'⟩ (fun r => ∀ c : Dev Cert.ProjbRefIdeal.nD,
          r.2.mem ((c.tc : Thread Cert.ProjbRefIdeal.nD Cert.ProjbRefIdeal.τ).loc Cert.ProjbRefIdeal.main_v61) = v0 c
          ∧ r.2.mem ((c.tc : Thread Cert.ProjbRefIdeal.nD Cert.ProjbRefIdeal.τ).loc Cert.ProjbRefIdeal.main_v62) = v1 c
          ∧ r.2.mem ((c.tc : Thread Cert.ProjbRefIdeal.nD Cert.ProjbRefIdeal.τ).loc Cert.ProjbRefIdeal.main_v44) = v2 c
          ∧ r.2.mem ((c.tc : Thread Cert.ProjbRefIdeal.nD Cert.ProjbRefIdeal.τ).loc Cert.ProjbRefIdeal.main_arg0) = m' ((c.tc : Thread Cert.ProjbRefIdeal.nD Cert.ProjbRefIdeal.τ).loc Cert.ProjbRefIdeal.main_arg0)
          ∧ r.2.mem ((c.tc : Thread Cert.ProjbRefIdeal.nD Cert.ProjbRefIdeal.τ).loc Cert.ProjbRefIdeal.main_arg1) = m' ((c.tc : Thread Cert.ProjbRefIdeal.nD Cert.ProjbRefIdeal.τ).loc Cert.ProjbRefIdeal.main_arg1)
          ∧ r.2.mem ((c.tc : Thread Cert.ProjbRefIdeal.nD Cert.ProjbRefIdeal.τ).loc Cert.ProjbRefIdeal.main_arg2) = m' ((c.tc : Thread Cert.ProjbRefIdeal.nD Cert.ProjbRefIdeal.τ).loc Cert.ProjbRefIdeal.main_arg2)
          ∧ r.2.mem ((c.tc : Thread Cert.ProjbRefIdeal.nD Cert.ProjbRefIdeal.τ).loc Cert.ProjbRefIdeal.main_arg3) = m' ((c.tc : Thread Cert.ProjbRefIdeal.nD Cert.ProjbRefIdeal.τ).loc Cert.ProjbRefIdeal.main_arg3)
          ∧ r.2.mem ((c.tc : Thread Cert.ProjbRefIdeal.nD Cert.ProjbRefIdeal.τ).loc Cert.ProjbRefIdeal.main_arg4) = m' ((c.tc : Thread Cert.ProjbRefIdeal.nD Cert.ProjbRefIdeal.τ).loc Cert.ProjbRefIdeal.main_arg4)
          ∧ r.2.mem ((c.tc : Thread Cert.ProjbRefIdeal.nD Cert.ProjbRefIdeal.τ).loc Cert.ProjbRefIdeal.main_arg5) = m' ((c.tc : Thread Cert.ProjbRefIdeal.nD Cert.ProjbRefIdeal.τ).loc Cert.ProjbRefIdeal.main_arg5)
          ∧ r.2.mem ((c.tc : Thread Cert.ProjbRefIdeal.nD Cert.ProjbRefIdeal.τ).loc Cert.ProjbRefIdeal.main_arg6) = m' ((c.tc : Thread Cert.ProjbRefIdeal.nD Cert.ProjbRefIdeal.τ).loc Cert.ProjbRefIdeal.main_arg6)
          ∧ r.2.mem ((c.tc : Thread Cert.ProjbRefIdeal.nD Cert.ProjbRefIdeal.τ).loc Cert.ProjbRefIdeal.main_arg7) = m' ((c.tc : Thread Cert.ProjbRefIdeal.nD Cert.ProjbRefIdeal.τ).loc Cert.ProjbRefIdeal.main_arg7)
          ∧ r.2.mem ((c.tc : Thread Cert.ProjbRefIdeal.nD Cert.ProjbRefIdeal.τ).loc Cert.ProjbRefIdeal.main_arg8) = m' ((c.tc : Thread Cert.ProjbRefIdeal.nD Cert.ProjbRefIdeal.τ).loc Cert.ProjbRefIdeal.main_arg8)
          ∧ r.2.mem ((c.tc : Thread Cert.ProjbRefIdeal.nD Cert.ProjbRefIdeal.τ).loc Cert.ProjbRefIdeal.main_arg9) = m' ((c.tc : Thread Cert.ProjbRefIdeal.nD Cert.ProjbRefIdeal.τ).loc Cert.ProjbRefIdeal.main_arg9)
          ∧ r.2.mem ((c.tc : Thread Cert.ProjbRefIdeal.nD Cert.ProjbRefIdeal.τ).loc Cert.ProjbRefIdeal.main_arg10) = m' ((c.tc : Thread Cert.ProjbRefIdeal.nD Cert.ProjbRefIdeal.τ).loc Cert.ProjbRefIdeal.main_arg10)
          ∧ r.2.mem ((c.tc : Thread Cert.ProjbRefIdeal.nD Cert.ProjbRefIdeal.τ).loc Cert.ProjbRefIdeal.main_arg11) = m' ((c.tc : Thread Cert.ProjbRefIdeal.nD Cert.ProjbRefIdeal.τ).loc Cert.ProjbRefIdeal.main_arg11)
          ∧ r.2.mem ((c.tc : Thread Cert.ProjbRefIdeal.nD Cert.ProjbRefIdeal.τ).loc Cert.ProjbRefIdeal.main_arg12) = m' ((c.tc : Thread Cert.ProjbRefIdeal.nD Cert.ProjbRefIdeal.τ).loc Cert.ProjbRefIdeal.main_arg12)
          ∧ r.2.mem ((c.tc : Thread Cert.ProjbRefIdeal.nD Cert.ProjbRefIdeal.τ).loc Cert.ProjbRefIdeal.main_arg13) = m' ((c.tc : Thread Cert.ProjbRefIdeal.nD Cert.ProjbRefIdeal.τ).loc Cert.ProjbRefIdeal.main_arg13)
          ∧ r.2.mem ((c.tc : Thread Cert.ProjbRefIdeal.nD Cert.ProjbRefIdeal.τ).loc Cert.ProjbRefIdeal.main_arg14) = m' ((c.tc : Thread Cert.ProjbRefIdeal.nD Cert.ProjbRefIdeal.τ).loc Cert.ProjbRefIdeal.main_arg14)
          ∧ r.2.mem ((c.tc : Thread Cert.ProjbRefIdeal.nD Cert.ProjbRefIdeal.τ).loc Cert.ProjbRefIdeal.main_arg15) = m' ((c.tc : Thread Cert.ProjbRefIdeal.nD Cert.ProjbRefIdeal.τ).loc Cert.ProjbRefIdeal.main_arg15)
          ∧ r.2.mem ((c.tc : Thread Cert.ProjbRefIdeal.nD Cert.ProjbRefIdeal.τ).loc Cert.ProjbRefIdeal.main_arg16) = m' ((c.tc : Thread Cert.ProjbRefIdeal.nD Cert.ProjbRefIdeal.τ).loc Cert.ProjbRefIdeal.main_arg16))

def Claim : Prop :=
  ∃ (hKernel : Cert.Kernel.Facts) (hKernelIdeal : Cert.KernelIdeal.Facts) (hReferenceIdeal : Cert.ReferenceIdeal.Facts) (hPrepIdeal : Cert.PrepIdeal.Facts) (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hWin : Cert.Win.Facts) (hWinIdeal : Cert.WinIdeal.Facts) (hWinRefIdeal : Cert.WinRefIdeal.Facts) (hWout : Cert.Wout.Facts) (hWoutIdeal : Cert.WoutIdeal.Facts) (hWoutRefIdeal : Cert.WoutRefIdeal.Facts) (hWxo : Cert.Wxo.Facts) (hWxoIdeal : Cert.WxoIdeal.Facts) (hWxoRefIdeal : Cert.WxoRefIdeal.Facts) (hWxq : Cert.Wxq.Facts) (hWxqIdeal : Cert.WxqIdeal.Facts) (hWxqRefIdeal : Cert.WxqRefIdeal.Facts) (hFfn : Cert.Ffn.Facts) (hFfnIdeal : Cert.FfnIdeal.Facts) (hFfnRefIdeal : Cert.FfnRefIdeal.Facts) (hAct : Cert.Act.Facts) (hActIdeal : Cert.ActIdeal.Facts) (hActRefIdeal : Cert.ActRefIdeal.Facts) (hUp : Cert.Up.Facts) (hUpIdeal : Cert.UpIdeal.Facts) (hUpRefIdeal : Cert.UpRefIdeal.Facts) (hLoss : Cert.Loss.Facts) (hLossIdeal : Cert.LossIdeal.Facts) (hLossRefIdeal : Cert.LossRefIdeal.Facts) (hProj : Cert.Proj.Facts) (hProjIdeal : Cert.ProjIdeal.Facts) (hProjRefIdeal : Cert.ProjRefIdeal.Facts) (hProjb : Cert.Projb.Facts) (hProjbIdeal : Cert.ProjbIdeal.Facts) (hProjbRefIdeal : Cert.ProjbRefIdeal.Facts) (hPre_finite : Cert.Pre_finite.Facts) (hPre_act_finite : Cert.Pre_act_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PrepIdeal (hPrepIdeal := hPrepIdeal)
    ∧ quiescent_Gate (hGate := hGate)
    ∧ quiescent_GateIdeal (hGateIdeal := hGateIdeal)
    ∧ quiescent_GateRefIdeal (hGateRefIdeal := hGateRefIdeal)
    ∧ quiescent_Down (hDown := hDown)
    ∧ quiescent_DownIdeal (hDownIdeal := hDownIdeal)
    ∧ quiescent_DownRefIdeal (hDownRefIdeal := hDownRefIdeal)
    ∧ quiescent_Win (hWin := hWin)
    ∧ quiescent_WinIdeal (hWinIdeal := hWinIdeal)
    ∧ quiescent_WinRefIdeal (hWinRefIdeal := hWinRefIdeal)
    ∧ quiescent_Wout (hWout := hWout)
    ∧ quiescent_WoutIdeal (hWoutIdeal := hWoutIdeal)
    ∧ quiescent_WoutRefIdeal (hWoutRefIdeal := hWoutRefIdeal)
    ∧ quiescent_Wxo (hWxo := hWxo)
    ∧ quiescent_WxoIdeal (hWxoIdeal := hWxoIdeal)
    ∧ quiescent_WxoRefIdeal (hWxoRefIdeal := hWxoRefIdeal)
    ∧ quiescent_Wxq (hWxq := hWxq)
    ∧ quiescent_WxqIdeal (hWxqIdeal := hWxqIdeal)
    ∧ quiescent_WxqRefIdeal (hWxqRefIdeal := hWxqRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Up (hUp := hUp)
    ∧ quiescent_UpIdeal (hUpIdeal := hUpIdeal)
    ∧ quiescent_UpRefIdeal (hUpRefIdeal := hUpRefIdeal)
    ∧ quiescent_Loss (hLoss := hLoss)
    ∧ quiescent_LossIdeal (hLossIdeal := hLossIdeal)
    ∧ quiescent_LossRefIdeal (hLossRefIdeal := hLossRefIdeal)
    ∧ quiescent_Proj (hProj := hProj)
    ∧ quiescent_ProjIdeal (hProjIdeal := hProjIdeal)
    ∧ quiescent_ProjRefIdeal (hProjRefIdeal := hProjRefIdeal)
    ∧ quiescent_Projb (hProjb := hProjb)
    ∧ quiescent_ProjbIdeal (hProjbIdeal := hProjbIdeal)
    ∧ quiescent_ProjbRefIdeal (hProjbRefIdeal := hProjbRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal (hGateIdeal := hGateIdeal) (hGateRefIdeal := hGateRefIdeal)
    ∧ preserves_Down_DownIdeal
    ∧ algebraic_DownIdeal_DownRefIdeal (hDownIdeal := hDownIdeal) (hDownRefIdeal := hDownRefIdeal)
    ∧ preserves_Win_WinIdeal
    ∧ algebraic_WinIdeal_WinRefIdeal (hWinIdeal := hWinIdeal) (hWinRefIdeal := hWinRefIdeal)
    ∧ preserves_Wout_WoutIdeal
    ∧ algebraic_WoutIdeal_WoutRefIdeal (hWoutIdeal := hWoutIdeal) (hWoutRefIdeal := hWoutRefIdeal)
    ∧ preserves_Wxo_WxoIdeal
    ∧ algebraic_WxoIdeal_WxoRefIdeal (hWxoIdeal := hWxoIdeal) (hWxoRefIdeal := hWxoRefIdeal)
    ∧ preserves_Wxq_WxqIdeal
    ∧ algebraic_WxqIdeal_WxqRefIdeal (hWxqIdeal := hWxqIdeal) (hWxqRefIdeal := hWxqRefIdeal)
    ∧ preserves_Ffn_FfnIdeal
    ∧ algebraic_FfnIdeal_FfnRefIdeal (hFfnIdeal := hFfnIdeal) (hFfnRefIdeal := hFfnRefIdeal)
    ∧ preserves_Act_ActIdeal
    ∧ algebraic_ActIdeal_ActRefIdeal_pre_act_finite (hActIdeal := hActIdeal) (hActRefIdeal := hActRefIdeal) (hPre_act_finite := hPre_act_finite)
    ∧ preserves_Up_UpIdeal
    ∧ algebraic_UpIdeal_UpRefIdeal (hUpIdeal := hUpIdeal) (hUpRefIdeal := hUpRefIdeal)
    ∧ preserves_Loss_LossIdeal
    ∧ algebraic_LossIdeal_LossRefIdeal (hLossIdeal := hLossIdeal) (hLossRefIdeal := hLossRefIdeal)
    ∧ preserves_Proj_ProjIdeal
    ∧ algebraic_ProjIdeal_ProjRefIdeal (hProjIdeal := hProjIdeal) (hProjRefIdeal := hProjRefIdeal)
    ∧ preserves_Projb_ProjbIdeal
    ∧ algebraic_ProjbIdeal_ProjbRefIdeal (hProjbIdeal := hProjbIdeal) (hProjbRefIdeal := hProjbRefIdeal)
-- ==== Pre_act_finite.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x2816 : S_.BroadcastsInDim S1024x2816 (![] : Fin 0 → Fin S1024x2816.rank)
  reducesTo_S1024x2816_S_d0_1 : S1024x2816.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn_part1 {F : FTy → Type} [FloatOps F] (main_v14 : IVec S_ 1) (main_v16 : FVec F S16384x2816 .f32) (main_cst_4 : FVec F S_ .f32) : IVec S_ 1 :=
  let main_v17 : FVec F S16384x2816 .f32 := broadcastInDim S16384x2816 ![] bcast_S_S16384x2816 main_cst_4
  let main_v18 : IVec S16384x2816 1 := cmpf .olt main_v16 main_v17
  let main_c_5 : IVec S_ 1 := constantI S_ 1 1#1
  let main_v19 : IVec S_ 1 := (fun x v => Host.reduce IntOp.andi x v reducesTo_S16384x2816_S_d0_1 h_S_) main_v18 main_c_5
  let main_v20 : IVec S_ 1 := andi main_v14 main_v19
  main_v20

def fn {F : FTy → Type} [FloatOps F] (main_arg0 : FVec F S16384x1024 .f32) (main_arg1 : FVec F S16384x1024 .f32) (main_arg2 : FVec F S1x1024 .f32) (main_arg3 : FVec F S1024x2816 .bf16) (main_arg4 : FVec F S16384x2816 .bf16) (main_arg5 : FVec F S16384x2816 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := (extf .f32 · bitsLt_bf16_f32) main_arg3
  let main_v10 : FVec F S1024x2816 .f32 := Host.absf main_v9
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_c_3 : IVec S_ 1 := constantI S_ 1 1#1
  let main_v13 : IVec S_ 1 := (fun x v => Host.reduce IntOp.andi x v reducesTo_S1024x2816_S_d0_1 h_S_) main_v12 main_c_3
  let main_v14 : IVec S_ 1 := andi main_v8 main_v13
  let main_v15 : FVec F S16384x2816 .f32 := (extf .f32 · bitsLt_bf16_f32) main_arg5
  let main_v16 : FVec F S16384x2816 .f32 := Host.absf main_v15
  let main_cst_4 : FVec F S_ .f32 := constant S_ .f32 0x7F800000#32
  fn_part1 (F := F) main_v14 main_v16 main_cst_4
-- ==== Pre_finite.lean ====
abbrev S16384x512 : Shape := ⟨2, ![16384, 512]⟩
abbrev S8x16384 : Shape := ⟨2, ![8, 16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x16384 : S_.BroadcastsInDim S8x16384 (![] : Fin 0 → Fin S8x16384.rank)
  reducesTo_S8x16384_S_d0_1 : S8x16384.ReducesTo [0, 1] S_

variable [Facts]

def fn_part1 {F : FTy → Type} [FloatOps F] (main_arg4 : FVec F S16384x512 .f32) (main_v13 : IVec S_ 1) (main_v16 : IVec S8x16384 1) : IVec S_ 1 :=
  let main_c_5 : IVec S_ 1 := constantI S_ 1 1#1
  let main_v17 : IVec S_ 1 := (fun x v => Host.reduce IntOp.andi x v reducesTo_S8x16384_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  main_v23

def fn {F : FTy → Type} [FloatOps F] (main_arg0 : FVec F S16384x512 .f32) (main_arg1 : FVec F S16384x512 .f32) (main_arg2 : FVec F S16384x512 .f32) (main_arg3 : FVec F S8x16384 .f32) (main_arg4 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S8x16384 .f32 := Host.absf main_arg3
  let main_cst_4 : FVec F S_ .f32 := constant S_ .f32 0x7F800000#32
  let main_v15 : FVec F S8x16384 .f32 := broadcastInDim S8x16384 ![] bcast_S_S8x16384 main_cst_4
  let main_v16 : IVec S8x16384 1 := cmpf .olt main_v14 main_v15
  fn_part1 (F := F) main_arg4 main_v13 main_v16
-- ==== Kernel.lean ====
abbrev S16384x512 : Shape := ⟨2, ![16384, 512]⟩
abbrev S8x16384 : Shape := ⟨2, ![8, 16384]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x1536 : Shape := ⟨2, ![16384, 1536]⟩
abbrev S16384x8x3 : Shape := ⟨3, ![16384, 8, 3]⟩
abbrev S4x2x16384 : Shape := ⟨3, ![4, 2, 16384]⟩
abbrev S16384x8 : Shape := ⟨2, ![16384, 8]⟩
abbrev S16384x8x1 : Shape := ⟨3, ![16384, 8, 1]⟩
abbrev S16384x8x55 : Shape := ⟨3, ![16384, 8, 55]⟩
abbrev S16384x8x61 : Shape := ⟨3, ![16384, 8, 61]⟩
abbrev S512x128 : Shape := ⟨2, ![512, 128]⟩
abbrev S2x512x128 : Shape := ⟨3, ![2, 512, 128]⟩
abbrev S1x128 : Shape := ⟨2, ![1, 128]⟩
abbrev S1x512x128 : Shape := ⟨3, ![1, 512, 128]⟩
abbrev S512x512 : Shape := ⟨2, ![512, 512]⟩

abbrev nBuf : Space → Nat
  | .hbm => 116
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x16384, .f32⟩
  | .hbm, ⟨4, _⟩ => ⟨S16384x512, .f32⟩
  | .hbm, ⟨5, _⟩ => ⟨S16384x8x64, .f32⟩
  | .hbm, ⟨6, _⟩ => ⟨S8x16384x64, .f32⟩
  | .hbm, ⟨7, _⟩ => ⟨S16384x8x64, .f32⟩
  | .hbm, ⟨8, _⟩ => ⟨S8x16384x64, .f32⟩
  | .hbm, ⟨9, _⟩ => ⟨S8x16384x16384, .f32⟩
  | .hbm, ⟨10, _⟩ => ⟨S_, .f32⟩
  | .hbm, ⟨11, _⟩ => ⟨S8x16384x16384, .f32⟩
  | .hbm, ⟨12, _⟩ => ⟨S8x16384x16384, .f32⟩
  | .hbm, ⟨13, _⟩ => ⟨S8x16384x1, .f32⟩
  | .hbm, ⟨14, _⟩ => ⟨S8x16384x16384, .f32⟩
  | .hbm, ⟨15, _⟩ => ⟨S8x16384x16384, .f32⟩
  | .hbm, ⟨16, _⟩ => ⟨S8x1x16384, .f32⟩
  | .hbm, ⟨17, _⟩ => ⟨S8x16384x16384, .f32⟩
  | .hbm, ⟨18, _⟩ => ⟨S8x16384x16384, .f32⟩
  | .hbm, ⟨19, _⟩ => ⟨S16384, .i32⟩
  | .hbm, ⟨20, _⟩ => ⟨S1x16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S8x16384x16384, .i1⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384, .f32⟩
  | .hbm, ⟨32, _⟩ => ⟨S8x16384x1, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S8x16384, .f32⟩
  | .hbm, ⟨38, _⟩ => ⟨S8x16384x1, .f32⟩
  | .hbm, ⟨39, _⟩ => ⟨S8x16384x16384, .f32⟩
  | .hbm, ⟨40, _⟩ => ⟨S8x16384x16384, .f32⟩
  | .hbm, ⟨41, _⟩ => ⟨S16384x8x64, .f32⟩
  | .hbm, ⟨42, _⟩ => ⟨S8x16384x64, .f32⟩
  | .hbm, ⟨43, _⟩ => ⟨S8x16384x64, .f32⟩
  | .hbm, ⟨44, _⟩ => ⟨S8x16384x1, .f32⟩
  | .hbm, ⟨45, _⟩ => ⟨S8x16384x1, .f32⟩
  | .hbm, ⟨46, _⟩ => ⟨S8x16384, .f32⟩
  | .hbm, ⟨47, _⟩ => ⟨S16384x8x64, .f32⟩
  | .hbm, ⟨48, _⟩ => ⟨S8x16384x64, .f32⟩
  | .hbm, ⟨49, _⟩ => ⟨S8x16384x64, .f32⟩
  | .hbm, ⟨50, _⟩ => ⟨S_, .f32⟩
  | .hbm, ⟨51, _⟩ => ⟨S8x16384, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S16384x1536, .f32⟩
  | .hbm, ⟨56, _⟩ => ⟨S16384x1536, .bf16⟩
  | .hbm, ⟨57, _⟩ => ⟨S_, .bf16⟩
  | .hbm, ⟨58, _⟩ => ⟨S16384x8x3, .bf16⟩
  | .hbm, ⟨59, _⟩ => ⟨S4x2x16384, .f32⟩
  | .hbm, ⟨60, _⟩ => ⟨S4x2x16384, .f32⟩
  | .hbm, ⟨61, _⟩ => ⟨S8x16384, .f32⟩
  | .hbm, ⟨62, _⟩ => ⟨S16384x8, .f32⟩
  | .hbm, ⟨63, _⟩ => ⟨S16384x8x1, .f32⟩
  | .hbm, ⟨64, _⟩ => ⟨S16384x8x1, .bf16⟩
  | .hbm, ⟨65, _⟩ => ⟨S16384x8x1, .f32⟩
  | .hbm, ⟨66, _⟩ => ⟨S16384x8x1, .f32⟩
  | .hbm, ⟨67, _⟩ => ⟨S16384x8x1, .bf16⟩
  | .hbm, ⟨68, _⟩ => ⟨S16384x8x1, .f32⟩
  | .hbm, ⟨69, _⟩ => ⟨S16384x8x1, .f32⟩
  | .hbm, ⟨70, _⟩ => ⟨S16384x8x1, .bf16⟩
  | .hbm, ⟨71, _⟩ => ⟨S8x16384, .f32⟩
  | .hbm, ⟨72, _⟩ => ⟨S4x2x16384, .f32⟩
  | .hbm, ⟨73, _⟩ => ⟨S4x2x16384, .f32⟩
  | .hbm, ⟨74, _⟩ => ⟨S8x16384, .f32⟩
  | .hbm, ⟨75, _⟩ => ⟨S16384x8, .f32⟩
  | .hbm, ⟨76, _⟩ => ⟨S16384x8x1, .f32⟩
  | .hbm, ⟨77, _⟩ => ⟨S16384x8x1, .bf16⟩
  | .hbm, ⟨78, _⟩ => ⟨S16384x8x1, .f32⟩
  | .hbm, ⟨79, _⟩ => ⟨S16384x8x1, .f32⟩
  | .hbm, ⟨80, _⟩ => ⟨S16384x8x1, .bf16⟩
  | .hbm, ⟨81, _⟩ => ⟨S16384x8x1, .f32⟩
  | .hbm, ⟨82, _⟩ => ⟨S16384x8x1, .f32⟩
  | .hbm, ⟨83, _⟩ => ⟨S16384x8x1, .bf16⟩
  | .hbm, ⟨84, _⟩ => ⟨S8x16384, .f32⟩
  | .hbm, ⟨85, _⟩ => ⟨S4x2x16384, .f32⟩
  | .hbm, ⟨86, _⟩ => ⟨S4x2x16384, .f32⟩
  | .hbm, ⟨87, _⟩ => ⟨S8x16384, .f32⟩
  | .hbm, ⟨88, _⟩ => ⟨S16384x8, .f32⟩
  | .hbm, ⟨89, _⟩ => ⟨S16384x8x1, .f32⟩
  | .hbm, ⟨90, _⟩ => ⟨S16384x8x1, .bf16⟩
  | .hbm, ⟨91, _⟩ => ⟨S16384x8x1, .f32⟩
  | .hbm, ⟨92, _⟩ => ⟨S16384x8x1, .f32⟩
  | .hbm, ⟨93, _⟩ => ⟨S16384x8x1, .bf16⟩
  | .hbm, ⟨94, _⟩ => ⟨S16384x8x1, .f32⟩
  | .hbm, ⟨95, _⟩ => ⟨S16384x8x1, .f32⟩
  | .hbm, ⟨96, _⟩ => ⟨S16384x8x1, .bf16⟩
  | .hbm, ⟨97, _⟩ => ⟨S_, .bf16⟩
  | .hbm, ⟨98, _⟩ => ⟨S16384x8x55, .bf16⟩
  | .hbm, ⟨99, _⟩ => ⟨S16384x8x64, .bf16⟩
  | .hbm, ⟨100, _⟩ => ⟨S16384x512, .bf16⟩
  | .hbm, ⟨101, _⟩ => ⟨S16384x8x1, .bf16⟩
  | .hbm, ⟨102, _⟩ => ⟨S16384x8x1, .bf16⟩
  | .hbm, ⟨103, _⟩ => ⟨S16384x8x1, .bf16⟩
  | .hbm, ⟨104, _⟩ => ⟨S_, .bf16⟩
  | .hbm, ⟨105, _⟩ => ⟨S16384x8x55, .bf16⟩
  | .hbm, ⟨106, _⟩ => ⟨S16384x8x64, .bf16⟩
  | .hbm, ⟨107, _⟩ => ⟨S16384x512, .bf16⟩
  | .hbm, ⟨108, _⟩ => ⟨S_, .bf16⟩
  | .hbm, ⟨109, _⟩ => ⟨S16384x8x61, .bf16⟩
  | .hbm, ⟨110, _⟩ => ⟨S16384x8x64, .bf16⟩
  | .hbm, ⟨111, _⟩ => ⟨S16384x512, .bf16⟩
  | .hbm, ⟨112, _⟩ => ⟨S16384x512, .bf16⟩
  | .hbm, ⟨113, _⟩ => ⟨S16384x512, .bf16⟩
  | .hbm, ⟨114, _⟩ => ⟨S16384x512, .bf16⟩
  | .hbm, ⟨115, _⟩ => ⟨S16384x512, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S2x512x128, .bf16⟩
  | .local _ .vmem, ⟨21, _⟩ => ⟨S2x512x128, .bf16⟩
  | .local _ .vmem, ⟨22, _⟩ => ⟨S2x512x128, .f32⟩
  | .local _ .vmem, ⟨23, _⟩ => ⟨S2x512x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_6 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_7 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_8 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95_0 : Ref sig .tc := ⟨.hbm, 113, rfl⟩
abbrev main_v95_1 : Ref sig .tc := ⟨.hbm, 114, rfl⟩
abbrev main_v95_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 32, 32], ![false, false, false]⟩

def k0_cond4 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S8x16384 : Shape := ⟨2, ![8, 16384]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S16384x8 : Shape := ⟨2, ![16384, 8]⟩

abbrev nBuf : Space → Nat
  | .hbm => 116
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x16384, .f32⟩
  | .hbm, ⟨4, _⟩ => ⟨S16384x512, .f32⟩
  | .hbm, ⟨5, _⟩ => ⟨S16384x8x64, .f32⟩
  | .hbm, ⟨6, _⟩ => ⟨S8x16384x64, .f32⟩
  | .hbm, ⟨7, _⟩ => ⟨S16384x8x64, .f32⟩
  | .hbm, ⟨8, _⟩ => ⟨S8x16384x64, .f32⟩
  | .hbm, ⟨9, _⟩ => ⟨S8x16384x16384, .f32⟩
  | .hbm, ⟨10, _⟩ => ⟨S_, .f32⟩
  | .hbm, ⟨11, _⟩ => ⟨S8x16384x16384, .f32⟩
  | .hbm, ⟨12, _⟩ => ⟨S8x16384x16384, .f32⟩
  | .hbm, ⟨13, _⟩ => ⟨S8x16384x1, .f32⟩
  | .hbm, ⟨14, _⟩ => ⟨S8x16384x16384, .f32⟩
  | .hbm, ⟨15, _⟩ => ⟨S8x16384x16384, .f32⟩
  | .hbm, ⟨16, _⟩ => ⟨S8x1x16384, .f32⟩
  | .hbm, ⟨17, _⟩ => ⟨S8x16384x16384, .f32⟩
  | .hbm, ⟨18, _⟩ => ⟨S8x16384x16384, .f32⟩
  | .hbm, ⟨19, _⟩ => ⟨S16384, .i32⟩
  | .hbm, ⟨20, _⟩ => ⟨S1x16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S8x16384x16384, .i1⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .i1⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .i1⟩
  | .hbm, ⟨46, _⟩ => ⟨S_, .f32⟩
  | .hbm, ⟨47, _⟩ => ⟨S8x16384, .f32⟩
  | .hbm, ⟨48, _⟩ => ⟨S8x16384, .i1⟩
  | .hbm, ⟨49, _⟩ => ⟨S_, .f32⟩
  | .hbm, ⟨50, _⟩ => ⟨S8x16384, .f32⟩
  | .hbm, ⟨51, _⟩ => ⟨S_, .f32⟩
  | .hbm, ⟨52, _⟩ => ⟨S8x16384, .f32⟩
  | .hbm, ⟨53, _⟩ => ⟨S_, .f32⟩
  | .hbm, ⟨54, _⟩ => ⟨S8x16384, .f32⟩
  | .hbm, ⟨55, _⟩ => ⟨S8x16384, .f32⟩
  | .hbm, ⟨56, _⟩ => ⟨S8x16384, .f32⟩
  | .hbm, ⟨57, _⟩ => ⟨S8x16384x1, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S8x16384, .f32⟩
  | .hbm, ⟨63, _⟩ => ⟨S8x16384x1, .f32⟩
  | .hbm, ⟨64, _⟩ => ⟨S8x16384x16384, .f32⟩
  | .hbm, ⟨65, _⟩ => ⟨S8x16384x16384, .f32⟩
  | .hbm, ⟨66, _⟩ => ⟨S8x16384x1, .f32⟩
  | .hbm, ⟨67, _⟩ => ⟨S_, .f32⟩
  | .hbm, ⟨68, _⟩ => ⟨S8x16384x1, .f32⟩
  | .hbm, ⟨69, _⟩ => ⟨S8x16384x1, .f32⟩
  | .hbm, ⟨70, _⟩ => ⟨S16384x8x64, .f32⟩
  | .hbm, ⟨71, _⟩ => ⟨S8x16384x64, .f32⟩
  | .hbm, ⟨72, _⟩ => ⟨S8x16384x64, .f32⟩
  | .hbm, ⟨73, _⟩ => ⟨S16384x8x64, .f32⟩
  | .hbm, ⟨74, _⟩ => ⟨S16384x512, .f32⟩
  | .hbm, ⟨75, _⟩ => ⟨S16384x8x64, .f32⟩
  | .hbm, ⟨76, _⟩ => ⟨S8x16384x64, .f32⟩
  | .hbm, ⟨77, _⟩ => ⟨S8x64x16384, .f32⟩
  | .hbm, ⟨78, _⟩ => ⟨S8x16384x64, .f32⟩
  | .hbm, ⟨79, _⟩ => ⟨S8x16384x16384, .f32⟩
  | .hbm, ⟨80, _⟩ => ⟨S16384x8x64, .f32⟩
  | .hbm, ⟨81, _⟩ => ⟨S16384x512, .f32⟩
  | .hbm, ⟨82, _⟩ => ⟨S8x16384x16384, .f32⟩
  | .hbm, ⟨83, _⟩ => ⟨S8x16384x16384, .f32⟩
  | .hbm, ⟨84, _⟩ => ⟨S8x16384x16384, .f32⟩
  | .hbm, ⟨85, _⟩ => ⟨S_, .f32⟩
  | .hbm, ⟨86, _⟩ => ⟨S8x16384, .f32⟩
  | .hbm, ⟨87, _⟩ => ⟨S8x16384x1, .f32⟩
  | .hbm, ⟨88, _⟩ => ⟨S8x16384x1, .f32⟩
  | .hbm, ⟨89, _⟩ => ⟨S8x16384x16384, .f32⟩
  | .hbm, ⟨90, _⟩ => ⟨S8x16384x16384, .f32⟩
  | .hbm, ⟨91, _⟩ => ⟨S_, .f32⟩
  | .hbm, ⟨92, _⟩ => ⟨S8x16384, .f32⟩
  | .hbm, ⟨93, _⟩ => ⟨S8x16384x16384, .f32⟩
  | .hbm, ⟨94, _⟩ => ⟨S8x16384x16384, .f32⟩
  | .hbm, ⟨95, _⟩ => ⟨S8x16384x16384, .f32⟩
  | .hbm, ⟨96, _⟩ => ⟨S_, .f32⟩
  | .hbm, ⟨97, _⟩ => ⟨S8x16384x16384, .f32⟩
  | .hbm, ⟨98, _⟩ => ⟨S8x16384x16384, .f32⟩
  | .hbm, ⟨99, _⟩ => ⟨S8x16384x16384, .f32⟩
  | .hbm, ⟨100, _⟩ => ⟨S_, .f32⟩
  | .hbm, ⟨101, _⟩ => ⟨S8x16384, .f32⟩
  | .hbm, ⟨102, _⟩ => ⟨S8x1x16384, .f32⟩
  | .hbm, ⟨103, _⟩ => ⟨S_, .f32⟩
  | .hbm, ⟨104, _⟩ => ⟨S8x16384, .f32⟩
  | .hbm, ⟨105, _⟩ => ⟨S_, .f32⟩
  | .hbm, ⟨106, _⟩ => ⟨S8x16384x16384, .f32⟩
  | .hbm, ⟨107, _⟩ => ⟨S8x16384x16384, .f32⟩
  | .hbm, ⟨108, _⟩ => ⟨S8x16384x64, .f32⟩
  | .hbm, ⟨109, _⟩ => ⟨S16384x8x64, .f32⟩
  | .hbm, ⟨110, _⟩ => ⟨S16384x512, .f32⟩
  | .hbm, ⟨111, _⟩ => ⟨S16384x512, .bf16⟩
  | .hbm, ⟨112, _⟩ => ⟨S16384x512, .bf16⟩
  | .hbm, ⟨113, _⟩ => ⟨S16384x8, .f32⟩
  | .hbm, ⟨114, _⟩ => ⟨S16384x8x64, .f32⟩
  | .hbm, ⟨115, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== PrepIdeal.lean ====
abbrev S16384x512 : Shape := ⟨2, ![16384, 512]⟩
abbrev S8x16384 : Shape := ⟨2, ![8, 16384]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x1536 : Shape := ⟨2, ![16384, 1536]⟩
abbrev S16384x8x3 : Shape := ⟨3, ![16384, 8, 3]⟩
abbrev S4x2x16384 : Shape := ⟨3, ![4, 2, 16384]⟩
abbrev S16384x8 : Shape := ⟨2, ![16384, 8]⟩
abbrev S16384x8x1 : Shape := ⟨3, ![16384, 8, 1]⟩
abbrev S16384x8x55 : Shape := ⟨3, ![16384, 8, 55]⟩
abbrev S16384x8x61 : Shape := ⟨3, ![16384, 8, 61]⟩

abbrev nBuf : Space → Nat
  | .hbm => 113
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x16384, .f32⟩
  | .hbm, ⟨4, _⟩ => ⟨S16384x512, .f32⟩
  | .hbm, ⟨5, _⟩ => ⟨S16384x8x64, .f32⟩
  | .hbm, ⟨6, _⟩ => ⟨S8x16384x64, .f32⟩
  | .hbm, ⟨7, _⟩ => ⟨S16384x8x64, .f32⟩
  | .hbm, ⟨8, _⟩ => ⟨S8x16384x64, .f32⟩
  | .hbm, ⟨9, _⟩ => ⟨S8x16384x16384, .f32⟩
  | .hbm, ⟨10, _⟩ => ⟨S_, .f32⟩
  | .hbm, ⟨11, _⟩ => ⟨S8x16384x16384, .f32⟩
  | .hbm, ⟨12, _⟩ => ⟨S8x16384x16384, .f32⟩
  | .hbm, ⟨13, _⟩ => ⟨S8x16384x1, .f32⟩
  | .hbm, ⟨14, _⟩ => ⟨S8x16384x16384, .f32⟩
  | .hbm, ⟨15, _⟩ => ⟨S8x16384x16384, .f32⟩
  | .hbm, ⟨16, _⟩ => ⟨S8x1x16384, .f32⟩
  | .hbm, ⟨17, _⟩ => ⟨S8x16384x16384, .f32⟩
  | .hbm, ⟨18, _⟩ => ⟨S8x16384x16384, .f32⟩
  | .hbm, ⟨19, _⟩ => ⟨S16384, .i32⟩
  | .hbm, ⟨20, _⟩ => ⟨S1x16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S8x16384x16384, .i1⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384, .f32⟩
  | .hbm, ⟨32, _⟩ => ⟨S8x16384x1, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S8x16384, .f32⟩
  | .hbm, ⟨38, _⟩ => ⟨S8x16384x1, .f32⟩
  | .hbm, ⟨39, _⟩ => ⟨S8x16384x16384, .f32⟩
  | .hbm, ⟨40, _⟩ => ⟨S8x16384x16384, .f32⟩
  | .hbm, ⟨41, _⟩ => ⟨S16384x8x64, .f32⟩
  | .hbm, ⟨42, _⟩ => ⟨S8x16384x64, .f32⟩
  | .hbm, ⟨43, _⟩ => ⟨S8x16384x64, .f32⟩
  | .hbm, ⟨44, _⟩ => ⟨S8x16384x1, .f32⟩
  | .hbm, ⟨45, _⟩ => ⟨S8x16384x1, .f32⟩
  | .hbm, ⟨46, _⟩ => ⟨S8x16384, .f32⟩
  | .hbm, ⟨47, _⟩ => ⟨S16384x8x64, .f32⟩
  | .hbm, ⟨48, _⟩ => ⟨S8x16384x64, .f32⟩
  | .hbm, ⟨49, _⟩ => ⟨S8x16384x64, .f32⟩
  | .hbm, ⟨50, _⟩ => ⟨S_, .f32⟩
  | .hbm, ⟨51, _⟩ => ⟨S8x16384, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S16384x1536, .f32⟩
  | .hbm, ⟨56, _⟩ => ⟨S16384x1536, .bf16⟩
  | .hbm, ⟨57, _⟩ => ⟨S_, .bf16⟩
  | .hbm, ⟨58, _⟩ => ⟨S16384x8x3, .bf16⟩
  | .hbm, ⟨59, _⟩ => ⟨S4x2x16384, .f32⟩
  | .hbm, ⟨60, _⟩ => ⟨S4x2x16384, .f32⟩
  | .hbm, ⟨61, _⟩ => ⟨S8x16384, .f32⟩
  | .hbm, ⟨62, _⟩ => ⟨S16384x8, .f32⟩
  | .hbm, ⟨63, _⟩ => ⟨S16384x8x1, .f32⟩
  | .hbm, ⟨64, _⟩ => ⟨S16384x8x1, .bf16⟩
  | .hbm, ⟨65, _⟩ => ⟨S16384x8x1, .f32⟩
  | .hbm, ⟨66, _⟩ => ⟨S16384x8x1, .f32⟩
  | .hbm, ⟨67, _⟩ => ⟨S16384x8x1, .bf16⟩
  | .hbm, ⟨68, _⟩ => ⟨S16384x8x1, .f32⟩
  | .hbm, ⟨69, _⟩ => ⟨S16384x8x1, .f32⟩
  | .hbm, ⟨70, _⟩ => ⟨S16384x8x1, .bf16⟩
  | .hbm, ⟨71, _⟩ => ⟨S8x16384, .f32⟩
  | .hbm, ⟨72, _⟩ => ⟨S4x2x16384, .f32⟩
  | .hbm, ⟨73, _⟩ => ⟨S4x2x16384, .f32⟩
  | .hbm, ⟨74, _⟩ => ⟨S8x16384, .f32⟩
  | .hbm, ⟨75, _⟩ => ⟨S16384x8, .f32⟩
  | .hbm, ⟨76, _⟩ => ⟨S16384x8x1, .f32⟩
  | .hbm, ⟨77, _⟩ => ⟨S16384x8x1, .bf16⟩
  | .hbm, ⟨78, _⟩ => ⟨S16384x8x1, .f32⟩
  | .hbm, ⟨79, _⟩ => ⟨S16384x8x1, .f32⟩
  | .hbm, ⟨80, _⟩ => ⟨S16384x8x1, .bf16⟩
  | .hbm, ⟨81, _⟩ => ⟨S16384x8x1, .f32⟩
  | .hbm, ⟨82, _⟩ => ⟨S16384x8x1, .f32⟩
  | .hbm, ⟨83, _⟩ => ⟨S16384x8x1, .bf16⟩
  | .hbm, ⟨84, _⟩ => ⟨S8x16384, .f32⟩
  | .hbm, ⟨85, _⟩ => ⟨S4x2x16384, .f32⟩
  | .hbm, ⟨86, _⟩ => ⟨S4x2x16384, .f32⟩
  | .hbm, ⟨87, _⟩ => ⟨S8x16384, .f32⟩
  | .hbm, ⟨88, _⟩ => ⟨S16384x8, .f32⟩
  | .hbm, ⟨89, _⟩ => ⟨S16384x8x1, .f32⟩
  | .hbm, ⟨90, _⟩ => ⟨S16384x8x1, .bf16⟩
  | .hbm, ⟨91, _⟩ => ⟨S16384x8x1, .f32⟩
  | .hbm, ⟨92, _⟩ => ⟨S16384x8x1, .f32⟩
  | .hbm, ⟨93, _⟩ => ⟨S16384x8x1, .bf16⟩
  | .hbm, ⟨94, _⟩ => ⟨S16384x8x1, .f32⟩
  | .hbm, ⟨95, _⟩ => ⟨S16384x8x1, .f32⟩
  | .hbm, ⟨96, _⟩ => ⟨S16384x8x1, .bf16⟩
  | .hbm, ⟨97, _⟩ => ⟨S_, .bf16⟩
  | .hbm, ⟨98, _⟩ => ⟨S16384x8x55, .bf16⟩
  | .hbm, ⟨99, _⟩ => ⟨S16384x8x64, .bf16⟩
  | .hbm, ⟨100, _⟩ => ⟨S16384x512, .bf16⟩
  | .hbm, ⟨101, _⟩ => ⟨S16384x8x1, .bf16⟩
  | .hbm, ⟨102, _⟩ => ⟨S16384x8x1, .bf16⟩
  | .hbm, ⟨103, _⟩ => ⟨S16384x8x1, .bf16⟩
  | .hbm, ⟨104, _⟩ => ⟨S_, .bf16⟩
  | .hbm, ⟨105, _⟩ => ⟨S16384x8x55, .bf16⟩
  | .hbm, ⟨106, _⟩ => ⟨S16384x8x64, .bf16⟩
  | .hbm, ⟨107, _⟩ => ⟨S16384x512, .bf16⟩
  | .hbm, ⟨108, _⟩ => ⟨S_, .bf16⟩
  | .hbm, ⟨109, _⟩ => ⟨S16384x8x61, .bf16⟩
  | .hbm, ⟨110, _⟩ => ⟨S16384x8x64, .bf16⟩
  | .hbm, ⟨111, _⟩ => ⟨S16384x512, .bf16⟩
  | .hbm, ⟨112, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_6 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_7 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_8 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩

abbrev nD : Nat := 1
abbrev τ : Topo := Topo.v7x

variable {F : FTy → Type} [FloatOps F]
-- ==== Gate.lean ====
abbrev S16384x1024 : Shape := ⟨2, ![16384, 1024]⟩
abbrev S16384x2816 : Shape := ⟨2, ![16384, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateIdeal.lean ====
abbrev S16384x1024 : Shape := ⟨2, ![16384, 1024]⟩
abbrev S16384x2816 : Shape := ⟨2, ![16384, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateRefIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S16384x2816 : Shape := ⟨2, ![16384, 2816]⟩
abbrev S16384x1024 : Shape := ⟨2, ![16384, 1024]⟩
abbrev S2816x1024 : Shape := ⟨2, ![2816, 1024]⟩
abbrev S512x2816 : Shape := ⟨2, ![512, 2816]⟩
abbrev S512x512 : Shape := ⟨2, ![512, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x512, .bf16⟩
  | .local _ .vmem, ⟨3, _⟩ => ⟨S512x512, .bf16⟩
  | .local _ .vmem, ⟨4, _⟩ => ⟨S2816x512, .f32⟩
  | .local _ .vmem, ⟨5, _⟩ => ⟨S2816x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownIdeal.lean ====
abbrev S16384x2816 : Shape := ⟨2, ![16384, 2816]⟩
abbrev S16384x1024 : Shape := ⟨2, ![16384, 1024]⟩
abbrev S2816x1024 : Shape := ⟨2, ![2816, 1024]⟩
abbrev S512x2816 : Shape := ⟨2, ![512, 2816]⟩
abbrev S512x512 : Shape := ⟨2, ![512, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x512, .bf16⟩
  | .local _ .vmem, ⟨3, _⟩ => ⟨S512x512, .bf16⟩
  | .local _ .vmem, ⟨4, _⟩ => ⟨S2816x512, .f32⟩
  | .local _ .vmem, ⟨5, _⟩ => ⟨S2816x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Win.lean ====
abbrev S16384x1024 : Shape := ⟨2, ![16384, 1024]⟩
abbrev S16384x3584 : Shape := ⟨2, ![16384, 3584]⟩
abbrev S1024x3584 : Shape := ⟨2, ![1024, 3584]⟩
abbrev S512x1024 : Shape := ⟨2, ![512, 1024]⟩
abbrev S512x1792 : Shape := ⟨2, ![512, 1792]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x3584, .bf16⟩
  | .hbm, ⟨2, _⟩ => ⟨S1024x3584, .f32⟩
  | .local _ .vmem, ⟨0, _⟩ => ⟨S512x1024, .bf16⟩
  | .local _ .vmem, ⟨1, _⟩ => ⟨S512x1024, .bf16⟩
  | .local _ .vmem, ⟨2, _⟩ => ⟨S512x1792, .bf16⟩
  | .local _ .vmem, ⟨3, _⟩ => ⟨S512x1792, .bf16⟩
  | .local _ .vmem, ⟨4, _⟩ => ⟨S1024x1792, .f32⟩
  | .local _ .vmem, ⟨5, _⟩ => ⟨S1024x1792, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinIdeal.lean ====
abbrev S16384x1024 : Shape := ⟨2, ![16384, 1024]⟩
abbrev S16384x3584 : Shape := ⟨2, ![16384, 3584]⟩
abbrev S1024x3584 : Shape := ⟨2, ![1024, 3584]⟩
abbrev S512x1024 : Shape := ⟨2, ![512, 1024]⟩
abbrev S512x1792 : Shape := ⟨2, ![512, 1792]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x3584, .bf16⟩
  | .hbm, ⟨2, _⟩ => ⟨S1024x3584, .f32⟩
  | .local _ .vmem, ⟨0, _⟩ => ⟨S512x1024, .bf16⟩
  | .local _ .vmem, ⟨1, _⟩ => ⟨S512x1024, .bf16⟩
  | .local _ .vmem, ⟨2, _⟩ => ⟨S512x1792, .bf16⟩
  | .local _ .vmem, ⟨3, _⟩ => ⟨S512x1792, .bf16⟩
  | .local _ .vmem, ⟨4, _⟩ => ⟨S1024x1792, .f32⟩
  | .local _ .vmem, ⟨5, _⟩ => ⟨S1024x1792, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S16384x1024 : Shape := ⟨2, ![16384, 1024]⟩
abbrev S16384x3584 : Shape := ⟨2, ![16384, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3584, .bf16⟩
  | .hbm, ⟨2, _⟩ => ⟨S_, .f32⟩
  | .hbm, ⟨3, _⟩ => ⟨S1024x3584, .f32⟩
  | .hbm, ⟨4, _⟩ => ⟨S16384x1024, .f32⟩
  | .hbm, ⟨5, _⟩ => ⟨S16384x3584, .f32⟩
  | .hbm, ⟨6, _⟩ => ⟨S16384x3584, .f32⟩
  | .hbm, ⟨7, _⟩ => ⟨S3584x1024, .f32⟩
  | .hbm, ⟨8, _⟩ => ⟨S1024x3584, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wout.lean ====
abbrev S16384x512 : Shape := ⟨2, ![16384, 512]⟩
abbrev S16384x1024 : Shape := ⟨2, ![16384, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoutIdeal.lean ====
abbrev S16384x512 : Shape := ⟨2, ![16384, 512]⟩
abbrev S16384x1024 : Shape := ⟨2, ![16384, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoutRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S16384x1024, .f32⟩
  | .hbm, ⟨6, _⟩ => ⟨S1024x512, .f32⟩
  | .hbm, ⟨7, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wxo.lean ====
abbrev S16384x256 : Shape := ⟨2, ![16384, 256]⟩
abbrev S16384x1024 : Shape := ⟨2, ![16384, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WxoIdeal.lean ====
abbrev S16384x256 : Shape := ⟨2, ![16384, 256]⟩
abbrev S16384x1024 : Shape := ⟨2, ![16384, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WxoRefIdeal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S_, .f32⟩
  | .hbm, ⟨3, _⟩ => ⟨S256x1024, .f32⟩
  | .hbm, ⟨4, _⟩ => ⟨S16384x256, .f32⟩
  | .hbm, ⟨5, _⟩ => ⟨S16384x1024, .f32⟩
  | .hbm, ⟨6, _⟩ => ⟨S16384x1024, .f32⟩
  | .hbm, ⟨7, _⟩ => ⟨S1024x256, .f32⟩
  | .hbm, ⟨8, _⟩ => ⟨S256x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wxq.lean ====
abbrev S16384x1024 : Shape := ⟨2, ![16384, 1024]⟩
abbrev S16384x256 : Shape := ⟨2, ![16384, 256]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S1024x256, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WxqRefIdeal.lean ====
abbrev S16384x1024 : Shape := ⟨2, ![16384, 1024]⟩
abbrev S16384x256 : Shape := ⟨2, ![16384, 256]⟩
abbrev S_ : Shape := ⟨0, ![]⟩
abbrev S1024x256 : Shape := ⟨2, ![1024, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S_, .f32⟩
  | .hbm, ⟨3, _⟩ => ⟨S1024x256, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S256x1024, .f32⟩
  | .hbm, ⟨8, _⟩ => ⟨S1024x256, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ffn.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S2816x1024, .bf16⟩
  | .hbm, ⟨3, _⟩ => ⟨S2816x1024, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnRefIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S2816x1024, .bf16⟩
  | .hbm, ⟨3, _⟩ => ⟨S2816x1024, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S2816x1024, .f32⟩
  | .hbm, ⟨27, _⟩ => ⟨S1024x2816, .f32⟩
  | .hbm, ⟨28, _⟩ => ⟨S16384x2816, .f32⟩
  | .hbm, ⟨29, _⟩ => ⟨S2816x1024, .f32⟩
  | .hbm, ⟨30, _⟩ => ⟨S1024x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Act.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024x2816, .bf16⟩
  | .hbm, ⟨4, _⟩ => ⟨S16384x2816, .bf16⟩
  | .hbm, ⟨5, _⟩ => ⟨S16384x2816, .bf16⟩
  | .hbm, ⟨6, _⟩ => ⟨S16384x1024, .bf16⟩
  | .hbm, ⟨7, _⟩ => ⟨S16384x2816, .bf16⟩
  | .hbm, ⟨8, _⟩ => ⟨S16384x2816, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ActRefIdeal.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1024 : Shape := ⟨1, ![1024]⟩
abbrev S2816x1024 : Shape := ⟨2, ![2816, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024x2816, .bf16⟩
  | .hbm, ⟨4, _⟩ => ⟨S16384x2816, .bf16⟩
  | .hbm, ⟨5, _⟩ => ⟨S16384x2816, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S1024x2816, .f32⟩
  | .hbm, ⟨65, _⟩ => ⟨S2816x1024, .f32⟩
  | .hbm, ⟨66, _⟩ => ⟨S16384x1024, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x1024, .bf16⟩
  | .hbm, ⟨75, _⟩ => ⟨S16384x2816, .bf16⟩
  | .hbm, ⟨76, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v36_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v36_1 : Ref sig .tc := ⟨.hbm, 61, rfl⟩
abbrev main_v36_0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩

abbrev nD : Nat := 1
abbrev τ : Topo := Topo.v7x

variable {F : FTy → Type} [FloatOps F]
-- ==== Up.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S16384x1024, .bf16⟩
  | .hbm, ⟨5, _⟩ => ⟨S16384x2816, .bf16⟩
  | .hbm, ⟨6, _⟩ => ⟨S16384x2816, .bf16⟩
  | .hbm, ⟨7, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpRefIdeal.lean ====
abbrev S16384x1024 : Shape := ⟨2, ![16384, 1024]⟩
abbrev S1x1024 : Shape := ⟨2, ![1, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x2816, .f32⟩
  | .hbm, ⟨20, _⟩ => ⟨S16384x2816, .f32⟩
  | .hbm, ⟨21, _⟩ => ⟨S1024x2816, .f32⟩
  | .hbm, ⟨22, _⟩ => ⟨S16384x2816, .f32⟩
  | .hbm, ⟨23, _⟩ => ⟨S16384x1024, .bf16⟩
  | .hbm, ⟨24, _⟩ => ⟨S16384x2816, .bf16⟩
  | .hbm, ⟨25, _⟩ => ⟨S16384x2816, .bf16⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Loss.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x2816, .f32⟩
  | .hbm, ⟨6, _⟩ => ⟨S2816x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proj.lean ====
abbrev S16384x1024 : Shape := ⟨2, ![16384, 1024]⟩
abbrev S1x1024 : Shape := ⟨2, ![1, 1024]⟩
abbrev S1024x3584 : Shape := ⟨2, ![1024, 3584]⟩
abbrev S16384x1536 : Shape := ⟨2, ![16384, 1536]⟩
abbrev S16384x512 : Shape := ⟨2, ![16384, 512]⟩
abbrev S256x1024 : Shape := ⟨2, ![256, 1024]⟩
abbrev S256x1536 : Shape := ⟨2, ![256, 1536]⟩
abbrev S256x512 : Shape := ⟨2, ![256, 512]⟩
abbrev S256 : Shape := ⟨1, ![256]⟩
abbrev S256x1 : Shape := ⟨2, ![256, 1]⟩
abbrev S256x3584 : Shape := ⟨2, ![256, 3584]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3584, .bf16⟩
  | .hbm, ⟨3, _⟩ => ⟨S16384x1024, .bf16⟩
  | .hbm, ⟨4, _⟩ => ⟨S16384x1536, .bf16⟩
  | .hbm, ⟨5, _⟩ => ⟨S16384x512, .f32⟩
  | .hbm, ⟨6, _⟩ => ⟨S16384x1536, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S256x1024, .bf16⟩
  | .local _ .vmem, ⟨5, _⟩ => ⟨S256x1024, .bf16⟩
  | .local _ .vmem, ⟨6, _⟩ => ⟨S256x1536, .bf16⟩
  | .local _ .vmem, ⟨7, _⟩ => ⟨S256x1536, .bf16⟩
  | .local _ .vmem, ⟨8, _⟩ => ⟨S256x512, .f32⟩
  | .local _ .vmem, ⟨9, _⟩ => ⟨S256x512, .f32⟩
  | .local _ .vmem, ⟨10, _⟩ => ⟨S256x1536, .bf16⟩
  | .local _ .vmem, ⟨11, _⟩ => ⟨S256x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S16384x1024 : Shape := ⟨2, ![16384, 1024]⟩
abbrev S1x1024 : Shape := ⟨2, ![1, 1024]⟩
abbrev S1024x3584 : Shape := ⟨2, ![1024, 3584]⟩
abbrev S_ : Shape := ⟨0, ![]⟩
abbrev S16384 : Shape := ⟨1, ![16384]⟩
abbrev S16384x1 : Shape := ⟨2, ![16384, 1]⟩
abbrev S16384x3584 : Shape := ⟨2, ![16384, 3584]⟩
abbrev S16384x512 : Shape := ⟨2, ![16384, 512]⟩
abbrev S16384x1536 : Shape := ⟨2, ![16384, 1536]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3584, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x3584, .f32⟩
  | .hbm, ⟨19, _⟩ => ⟨S16384x3584, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x1024, .bf16⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x1536, .f32⟩
  | .hbm, ⟨32, _⟩ => ⟨S16384x1536, .bf16⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x1536, .f32⟩
  | .hbm, ⟨37, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Projb.lean ====
abbrev S16384x512 : Shape := ⟨2, ![16384, 512]⟩
abbrev S3584x1024 : Shape := ⟨2, ![3584, 1024]⟩
abbrev S16384x1024 : Shape := ⟨2, ![16384, 1024]⟩
abbrev S1x1024 : Shape := ⟨2, ![1, 1024]⟩
abbrev S16384x3584 : Shape := ⟨2, ![16384, 3584]⟩
abbrev S256x512 : Shape := ⟨2, ![256, 512]⟩
abbrev S256x1024 : Shape := ⟨2, ![256, 1024]⟩
abbrev S256x3584 : Shape := ⟨2, ![256, 3584]⟩
abbrev S256 : Shape := ⟨1, ![256]⟩
abbrev S256x1 : Shape := ⟨2, ![256, 1]⟩
abbrev S1024 : Shape := ⟨1, ![1024]⟩

abbrev nBuf : Space → Nat
  | .hbm => 20
  | .vmem => 37
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S3584x1024, .bf16⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x3584, .bf16⟩
  | .hbm, ⟨19, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S3584x1024, .bf16⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S1x1024, .f32⟩
  | .local _ .vmem, ⟨32, _⟩ => ⟨S256x1024, .f32⟩
  | .local _ .vmem, ⟨33, _⟩ => ⟨S256x1024, .f32⟩
  | .local _ .vmem, ⟨34, _⟩ => ⟨S256x3584, .bf16⟩
  | .local _ .vmem, ⟨35, _⟩ => ⟨S256x3584, .bf16⟩
  | .local _ .vmem, ⟨36, _⟩ => ⟨S1x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3584x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x3584 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ProjbRefIdeal.lean ====
abbrev S16384x512 : Shape := ⟨2, ![16384, 512]⟩
abbrev S3584x1024 : Shape := ⟨2, ![3584, 1024]⟩
abbrev S16384x1024 : Shape := ⟨2, ![16384, 1024]⟩
abbrev S1x1024 : Shape := ⟨2, ![1, 1024]⟩
abbrev S_ : Shape := ⟨0, ![]⟩
abbrev S16384x3584 : Shape := ⟨2, ![16384, 3584]⟩
abbrev S16384 : Shape := ⟨1, ![16384]⟩
abbrev S16384x1 : Shape := ⟨2, ![16384, 1]⟩
abbrev S1024x3584 : Shape := ⟨2, ![1024, 3584]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S3584x1024, .bf16⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x3584, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x3584, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S3584x1024, .f32⟩
  | .hbm, ⟨63, _⟩ => ⟨S1024x3584, .f32⟩
  | .hbm, ⟨64, _⟩ => ⟨S16384x3584, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x3584, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== Proof.Spec.lean ====
/- The attention's derivative over the reals, head by head: what both programs compute of finite arguments.
   `Q`, `K`, `W`, `D` are the queries, keys, values and the cotangent of the output (head, row, lane), `c` the
   running sums of the log forget gates (head, row). -/
module

public import Idealize.ShloMosaic.PureOps.Ideal.Laws
public import Mathlib.Tactic.Ring
public import Mathlib.Tactic.FieldSimp
public import Mathlib.Tactic.Positivity
public import Mathlib.Algebra.Order.BigOperators.Group.Finset

@[expose] public section

noncomputable section

namespace Cert.Fox

open scoped BigOperators

variable (Q K W D : Fin 8 → Fin 16384 → Fin 64 → ℝ) (c : Fin 8 → Fin 16384 → ℝ)

/-- The score of query row `i` against key row `j`: the scaled product plus the gates between them. -/
def score (h : Fin 8) (i j : Fin 16384) : ℝ := (∑ e, Q h i e * K h j e) * (1 / 8) + c h i - c h j

/-- The unnormalised weight: the exponential of the score of a visible key, nothing for a later one. -/
def weight (h : Fin 8) (i j : Fin 16384) : ℝ := if j ≤ i then Real.exp (score Q K c h i j) else 0

/-- The sum of a row's weights. -/
def total (h : Fin 8) (i : Fin 16384) : ℝ := ∑ j, weight Q K c h i j

/-- The attention probability. -/
def prob (h : Fin 8) (i j : Fin 16384) : ℝ := weight Q K c h i j / total Q K c h i

/-- The gradient of the probability: the cotangent against the value row. -/
def dprob (h : Fin 8) (i j : Fin 16384) : ℝ := ∑ e, D h i e * W h j e

/-- The row's weighted sum of those, which the softmax's derivative takes off. -/
def delta (h : Fin 8) (i : Fin 16384) : ℝ := ∑ j, prob Q K c h i j * dprob W D h i j

/-- The gradient of the score. -/
def dscore (h : Fin 8) (i j : Fin 16384) : ℝ :=
  prob Q K c h i j * (dprob W D h i j - delta Q K W D c h i)

/-- The gradient of a value row. -/
def dval (h : Fin 8) (j : Fin 16384) (e : Fin 64) : ℝ := ∑ i, prob Q K c h i j * D h i e

/-- The gradient of a key row. -/
def dkey (h : Fin 8) (j : Fin 16384) (e : Fin 64) : ℝ :=
  ∑ i, dscore Q K W D c h i j * (Q h i e * (1 / 8))

/-- The gradient of a key's gate sum. -/
def dgate (h : Fin 8) (j : Fin 16384) : ℝ := -∑ i, dscore Q K W D c h i j

theorem weight_nonneg (h : Fin 8) (i j : Fin 16384) : 0 ≤ weight Q K c h i j := by
  unfold weight; split
  · exact (Real.exp_pos _).le
  · exact le_refl _

theorem total_pos (h : Fin 8) (i : Fin 16384) : 0 < total Q K c h i := by
  refine Finset.sum_pos' (fun j _ => weight_nonneg Q K c h i j) ⟨i, Finset.mem_univ _, ?_⟩
  unfold weight; rw [if_pos (le_refl _)]; exact Real.exp_pos _

/-- A row's weights taken against a shift `M`. -/
def shifted (M : ℝ) (h : Fin 8) (i j : Fin 16384) : ℝ :=
  if j ≤ i then Real.exp (score Q K c h i j - M) else 0

theorem shifted_eq (M : ℝ) (h : Fin 8) (i j : Fin 16384) :
    shifted Q K c M h i j = Real.exp (-M) * weight Q K c h i j := by
  unfold shifted weight; split
  · rw [sub_eq_add_neg, Real.exp_add, mul_comm]
  · rw [mul_zero]

theorem sum_shifted (M : ℝ) (h : Fin 8) (i : Fin 16384) :
    ∑ j, shifted Q K c M h i j = Real.exp (-M) * total Q K c h i := by
  unfold total; rw [Finset.mul_sum]; exact Finset.sum_congr rfl fun j _ => shifted_eq Q K c M h i j

theorem sum_shifted_pos (M : ℝ) (h : Fin 8) (i : Fin 16384) : 0 < ∑ j, shifted Q K c M h i j := by
  rw [sum_shifted]; exact mul_pos (Real.exp_pos _) (total_pos Q K c h i)

/-- The probabilities do not depend on the shift. -/
theorem shifted_div (M : ℝ) (h : Fin 8) (i j : Fin 16384) :
    shifted Q K c M h i j / (∑ j, shifted Q K c M h i j) = prob Q K c h i j := by
  rw [sum_shifted, shifted_eq, prob, mul_div_mul_left _ _ (Real.exp_pos _).ne']

/-- The row's log-sum does not depend on the shift. -/
theorem log_sum_shifted (M : ℝ) (h : Fin 8) (i : Fin 16384) :
    M + Real.log (∑ j, shifted Q K c M h i j) = Real.log (total Q K c h i) := by
  rw [sum_shifted, Real.log_mul (Real.exp_pos _).ne' (total_pos Q K c h i).ne', Real.log_exp]; ring

/-- The exponential of the score less the row's log-sum is the probability. -/
theorem exp_score_sub (h : Fin 8) (i j : Fin 16384) (hj : j ≤ i) :
    Real.exp (score Q K c h i j - Real.log (total Q K c h i)) = prob Q K c h i j := by
  rw [Real.exp_sub, Real.exp_log (total_pos Q K c h i), prob, weight, if_pos hj]

theorem prob_of_lt (h : Fin 8) (i j : Fin 16384) (hj : ¬ j ≤ i) : prob Q K c h i j = 0 := by
  rw [prob, weight, if_neg hj, zero_div]

theorem dscore_of_lt (h : Fin 8) (i j : Fin 16384) (hj : ¬ j ≤ i) : dscore Q K W D c h i j = 0 := by
  rw [dscore, prob_of_lt Q K c h i j hj, zero_mul]

/-- The row's `delta` is the cotangent against the row's output. -/
theorem delta_eq (h : Fin 8) (i : Fin 16384) :
    delta Q K W D c h i = ∑ e, D h i e * ∑ j, prob Q K c h i j * W h j e := by
  unfold delta dprob
  simp only [Finset.mul_sum]
  rw [Finset.sum_comm]
  exact Finset.sum_congr rfl fun e _ => Finset.sum_congr rfl fun j _ => by ring

/-- The softmax's derivative as a quotient's: the same gradient of the score. -/
theorem dscore_eq (M : ℝ) (h : Fin 8) (i j : Fin 16384) :
    (dprob W D h i j / (∑ j, shifted Q K c M h i j)
        + -(∑ j, dprob W D h i j * (1 / ((∑ j, shifted Q K c M h i j) * ∑ j, shifted Q K c M h i j)) * shifted Q K c M h i j))
      * shifted Q K c M h i j = dscore Q K W D c h i j := by
  have hL := (sum_shifted_pos Q K c M h i).ne'
  set L := ∑ j, shifted Q K c M h i j with hLdef
  have hd : ∑ j, dprob W D h i j * (1 / (L * L)) * shifted Q K c M h i j = delta Q K W D c h i / L := by
    unfold delta
    rw [Finset.sum_div]
    refine Finset.sum_congr rfl fun j _ => ?_
    rw [← shifted_div Q K c M h i j, ← hLdef]
    field_simp
  rw [hd, dscore, ← shifted_div Q K c M h i j, ← hLdef]
  field_simp
  ring

/-! ## Sums of reals inside the extended reals -/

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Fox

end
-- ==== Proof.Arrays.lean ====
/- Arrays of real numbers inside the extended reals, the columns of a head, and the few facts about the extended
   reals' scalars that both host programs use. -/
module

public import proofs.«01_k».proof.Proof.Spec
public import Idealize.ShloMosaic.PureOps.Reduce
public import Idealize.ShloMosaic.Lib.IdealHost
public import Idealize.ShloMosaic.Lib.Pipeline.Value

@[expose] public section

noncomputable section

namespace Cert.Fox

open Idealize.ShloMosaic
open scoped BigOperators

/-! ### An index's coordinates, typed by the sizes -/

def p0 {r n : ℕ} {f : Fin r → ℕ} (i : (⟨r + 1, Matrix.vecCons n f⟩ : Shape).Idx) : Fin n := i 0

def p1 {r n m : ℕ} {f : Fin r → ℕ} (i : (⟨r + 2, Matrix.vecCons n (Matrix.vecCons m f)⟩ : Shape).Idx) : Fin m := i 1

def p2 {r n m l : ℕ} {f : Fin r → ℕ}
    (i : (⟨r + 3, Matrix.vecCons n (Matrix.vecCons m (Matrix.vecCons l f))⟩ : Shape).Idx) : Fin l := i 2

/-- A real array of 16384 rows of 512 columns, as the programs hold it. -/
def wide (a : Fin 16384 → Fin 512 → ℝ) : (⟨2, ![16384, 512]⟩ : Shape).Idx → EReal :=
  fun i => ((a (p0 i) (p1 i) : ℝ) : EReal)

/-- A real array of a number per head and row. -/
def gates (c : Fin 8 → Fin 16384 → ℝ) : (⟨2, ![8, 16384]⟩ : Shape).Idx → EReal :=
  fun i => ((c (p0 i) (p1 i) : ℝ) : EReal)

/-- Head `h`'s column `e` of a row. -/
def heads (a : Fin 16384 → Fin 512 → ℝ) (h : Fin 8) (i : Fin 16384) (e : Fin 64) : ℝ :=
  a i ⟨64 * h.val + e.val, by have := h.isLt; have := e.isLt; omega⟩

/-- The place of head `h`'s column `e` of row `i`, in the row-major order of rows, heads and columns. -/
theorem wide_at (a : Fin 16384 → Fin 512 → ℝ) (h : Fin 8) (i : Fin 16384) (e : Fin 64)
    (j : (⟨2, ![16384, 512]⟩ : Shape).Idx) (h0 : (j 0).val = ((i.val * 8 + h.val) * 64 + e.val) / 512)
    (h1 : (j 1).val = ((i.val * 8 + h.val) * 64 + e.val) % 512) :
    wide a j = ((heads a h i e : ℝ) : EReal) := by
  have e0 : p0 j = i := Fin.ext (by show (j 0).val = _; rw [h0]; have := h.isLt; have := e.isLt; omega)
  have e1 : p1 j = ⟨64 * h.val + e.val, by have := h.isLt; have := e.isLt; omega⟩ :=
    Fin.ext (by show (j 1).val = _; rw [h1]; have := h.isLt; have := e.isLt; show _ = 64 * h.val + e.val; omega)
  unfold wide heads
  rw [e0, e1]

theorem bits_eighth : Ideal.ofBits .f32 0x3E000000#32 = ((1 / 8 : ℝ) : EReal) := by
  simp [Ideal.ofBits, Ideal.ieee]
  rw [← EReal.coe_mul]
  norm_num

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

/-- Comparing two row numbers as signed 32-bit words compares the numbers. -/
theorem sle_small (a b : ℕ) (ha : a < 2 ^ 31) (hb : b < 2 ^ 31) :
    IntOp.cmpi .sle (BitVec.ofNat 32 a) (BitVec.ofNat 32 b) = if a ≤ b then 1#1 else 0#1 := by
  have hs : (BitVec.ofNat 32 a).sle (BitVec.ofNat 32 b) = decide (a ≤ b) := by
    have ta : (BitVec.ofNat 32 a).toInt = a := by
      rw [BitVec.toInt_eq_toNat_of_lt] <;> rw [BitVec.toNat_ofNat, Nat.mod_eq_of_lt] <;> omega
    have tb : (BitVec.ofNat 32 b).toInt = b := by
      rw [BitVec.toInt_eq_toNat_of_lt] <;> rw [BitVec.toNat_ofNat, Nat.mod_eq_of_lt] <;> omega
    rw [BitVec.sle, ta, tb]; simp
  show BitVec.ofBool ((BitVec.ofNat 32 a).sle (BitVec.ofNat 32 b)) = _
  rw [hs]
  by_cases h : a ≤ b <;> simp [h]

variable (Q K : Fin 8 → Fin 16384 → Fin 64 → ℝ) (c : Fin 8 → Fin 16384 → ℝ)

/-- The masked score: −∞ at a key after the query. -/
def masked (h : Fin 8) (i j : Fin 16384) : EReal :=
  if j ≤ i then ((score Q K c h i j : ℝ) : EReal) else ⊥

theorem masked_ne_top (h : Fin 8) (i j : Fin 16384) : masked Q K c h i j ≠ ⊤ := by
  unfold masked; split
  · exact EReal.coe_ne_top _
  · exact bot_ne_top

theorem masked_self_ne_bot (h : Fin 8) (i : Fin 16384) : masked Q K c h i i ≠ ⊥ := by
  unfold masked; rw [if_pos (le_refl _)]; exact EReal.coe_ne_bot _

/-- The exponential of a masked score less a real shift is the real weight against that shift. -/
theorem exp_masked (M : ℝ) (h : Fin 8) (i j : Fin 16384) :
    Ideal.exp (masked Q K c h i j - (M : EReal)) = ((shifted Q K c M h i j : ℝ) : EReal) := by
  unfold masked shifted; split
  · rw [← EReal.coe_sub, Ideal.exp_coe]
  · rw [EReal.bot_sub]; exact Ideal.exp_bot

/-- The maximum over an axis of entries below ⊤, one of them above ⊥, is a real number. -/
theorem reduce_max_real {s t u : Shape} {axes : List (Fin s.rank)} (x : s.Idx → EReal) (init : u.Idx → EReal)
    (h : s.ReducesTo axes t) (hu : 0 < u.numel) (j : t.Idx) (hx : ∀ i, x i ≠ ⊤) (k : s.Idx) (hk : h.drop k = j)
    (hb : x k ≠ ⊥) (hi : init (Shape.Idx.first hu) = ⊥) :
    ∃ M : ℝ, Host.reduce (fun a b : EReal => max a b) x init h hu j = (M : EReal) := by
  classical
  rw [Host.reduce_eq_fold, hi]
  have key : (Finset.univ.filter fun i => h.drop i = j).fold (fun a b : EReal => max a b) ⊥ x
      = (Finset.univ.filter fun i => h.drop i = j).sup x := rfl
  rw [key]
  have h1 : (Finset.univ.filter fun i => h.drop i = j).sup x ≠ ⊥ := by
    intro hh
    have := Finset.le_sup (f := x) (show k ∈ Finset.univ.filter fun i => h.drop i = j from Finset.mem_filter.2 ⟨Finset.mem_univ k, hk⟩)
    rw [hh, le_bot_iff] at this
    exact hb this
  have h2 : (Finset.univ.filter fun i => h.drop i = j).sup x ≠ ⊤ := by
    refine ne_of_lt ((Finset.sup_lt_iff (bot_lt_top)).2 fun i _ => lt_top_iff_ne_top.2 (hx i))
  exact ⟨_, (EReal.coe_toReal h2 h1).symm⟩

/-- Division by a real number other than zero. -/
theorem div_coe (x y : ℝ) (hy : y ≠ 0) : Ideal.div (x : EReal) (y : EReal) = ((x / y : ℝ) : EReal) := by
  unfold Ideal.div
  simp [hy, div_eq_mul_inv, EReal.coe_inv]

end Cert.Fox

end
-- ==== Proof.Lanes.lean ====
/- The bias lanes: the columns of the other head of a pair carry, for a head, the pieces of its gate sums, of its row's
   log-sum and of its row's `delta`, so that one product over a pair's 128 columns adds them to the scores. Over the
   reals a number's first piece is the number and the two others are zero. -/
module

public import proofs.«01_k».proof.Proof.Arrays

@[expose] public section

noncomputable section

namespace Cert.Fox

open Idealize.ShloMosaic
open scoped BigOperators

/-- The other head of a head's pair. -/
def mate (h : Fin 8) : Fin 8 := ⟨2 * (h.val / 2) + (1 - h.val % 2), by have := h.isLt; omega⟩

/-- A query row's lanes: pieces of `x`, three ones, pieces of `l`. -/
def qlane (x l : ℝ) (e : ℕ) : ℝ := if e = 0 then x else if e < 3 then 0 else if e < 6 then 1 else if e = 6 then l else 0

/-- A key row's lanes: three ones, pieces of `x`, three ones. -/
def klane (x : ℝ) (e : ℕ) : ℝ := if e < 3 then 1 else if e = 3 then x else if e < 6 then 0 else if e < 9 then 1 else 0

/-- A cotangent row's lanes: pieces of `x`. -/
def dlane (x : ℝ) (e : ℕ) : ℝ := if e = 0 then x else 0

/-- The value rows' lanes: three ones. -/
def onelane (e : ℕ) : ℝ := if e < 3 then 1 else 0

theorem sum_qlane (x l y : ℝ) : ∑ e : Fin 64, qlane x l e.val * klane y e.val = x + y + l := by
  rw [Fin.sum_univ_eq_sum_range (fun e => qlane x l e * klane y e) 64]
  rw [← Finset.sum_subset (Finset.range_subset_range.2 (show 9 ≤ 64 by norm_num))]
  · simp [Finset.sum_range_succ, qlane, klane]
  · intro e _ he
    rw [Finset.mem_range, not_lt] at he
    rw [klane, if_neg (by omega), if_neg (by omega), if_neg (by omega), if_neg (by omega), mul_zero]

theorem sum_dlane (x : ℝ) : ∑ e : Fin 64, dlane x e.val * onelane e.val = x := by
  rw [Fin.sum_univ_eq_sum_range (fun e => dlane x e * onelane e) 64]
  rw [← Finset.sum_subset (Finset.range_subset_range.2 (show 3 ≤ 64 by norm_num))]
  · simp [Finset.sum_range_succ, dlane, onelane]
  · intro e _ he
    rw [Finset.mem_range, not_lt] at he
    rw [onelane, if_neg (by omega), mul_zero]

/-- A number per head and row read at the other head of the pair: the heads grouped in pairs, the pairs reversed. -/
theorem swap_at {α : Type} (y : (⟨2, ![8, 16384]⟩ : Shape).Idx → α) (i j : (⟨2, ![8, 16384]⟩ : Shape).Idx)
    (k r : (⟨3, ![4, 2, 16384]⟩ : Shape).Idx)
    (k0 : (k 0).val = ((i 0).val * 16384 + (i 1).val) / 32768)
    (k1 : (k 1).val = ((i 0).val * 16384 + (i 1).val) / 16384 % 2)
    (k2 : (k 2).val = ((i 0).val * 16384 + (i 1).val) % 16384)
    (r0 : (r 0).val = (k 0).val) (r1 : (r 1).val = 2 - ((k 1).val + 1)) (r2 : (r 2).val = (k 2).val)
    (j0 : (j 0).val = (((r 0).val * 2 + (r 1).val) * 16384 + (r 2).val) / 16384)
    (j1 : (j 1).val = (((r 0).val * 2 + (r 1).val) * 16384 + (r 2).val) % 16384) :
    p0 j = mate (p0 i) ∧ p1 j = p1 i := by
  have h0 : (i 0).val < 8 := (i 0).isLt
  have h1 : (i 1).val < 16384 := (i 1).isLt
  constructor
  · apply Fin.ext
    show (j 0).val = 2 * ((i 0).val / 2) + (1 - (i 0).val % 2)
    omega
  · apply Fin.ext
    show (j 1).val = (i 1).val
    omega

/-- A piece of a row of lanes, of `w` columns from column `pre`, each of them the same function of row and head. -/
theorem piece_at (w : ℕ) (xs : List ((s : Shape) × (s.Idx → EReal)))
    (h : Shape.Concatenates (xs.map (·.1)) (⟨3, ![16384, 8, 64]⟩ : Shape) 2) (j : (⟨3, ![16384, 8, 64]⟩ : Shape).Idx)
    (k : ℕ) (hk : k < xs.length) (x : (⟨3, ![16384, 8, w]⟩ : Shape).Idx → EReal)
    (hxk : xs[k] = ⟨_, x⟩) (pre : ℕ)
    (hpre : (((xs.take k).map (·.1)).map fun s => if h : s.rank = 3 then s.size ((2 : Fin 3).cast h.symm) else 0).sum = pre)
    (g : Fin 16384 → Fin 8 → EReal) (hx : ∀ i, x i = g (p0 i) (p1 i))
    (lo : pre ≤ (j 2).val) (hi : (j 2).val < pre + w) :
    concatenate (⟨3, ![16384, 8, 64]⟩ : Shape) 2 xs h j = g (p0 j) (p1 j) := by
  let i : (⟨3, ![16384, 8, w]⟩ : Shape).Idx := fun a => match a with
    | ⟨0, _⟩ => p0 j
    | ⟨1, _⟩ => p1 j
    | ⟨2, _⟩ => ⟨(j 2).val - pre, by show _ < w; omega⟩
  rw [concatenate_apply_piece (t := ⟨3, ![16384, 8, 64]⟩) 2 xs h j k hk _ x hxk rfl pre hpre i ?_ ?_, hx]
  · rfl
  · intro b hb
    match b with
    | ⟨0, _⟩ => rfl
    | ⟨1, _⟩ => rfl
    | ⟨2, _⟩ => exact absurd rfl hb
  · show pre + ((j 2).val - pre) = (j 2).val
    omega

end Cert.Fox

end
-- ==== Proof.Rows.lean ====
/- Rows of a pair's 128 columns as one of its heads reads them: the head's own 64 columns and, in place of the other
   head's, the bias lanes. -/
module

public import proofs.«01_k».proof.Proof.Lanes

@[expose] public section

noncomputable section

namespace Cert.Fox

open scoped BigOperators

/-- Whether column `l` of the pair belongs to head `h`. -/
abbrev own (h : Fin 8) (l : Fin 128) : Prop := l.val / 64 = h.val % 2

/-- The column inside its head. -/
def lane (l : Fin 128) : Fin 64 := ⟨l.val % 64, Nat.mod_lt _ (by decide)⟩

variable (Q K W D : Fin 8 → Fin 16384 → Fin 64 → ℝ) (c : Fin 8 → Fin 16384 → ℝ)

/-- A query row: scaled queries, and the gate sum and the log-sum of the row. -/
def qrow (h : Fin 8) (i : Fin 16384) (l : Fin 128) : ℝ :=
  if own h l then Q h i (lane l) * (1 / 8) else qlane (c h i) (-Real.log (total Q K c h i)) (lane l).val

/-- A key row: keys, and the gate sum of the row. -/
def krow (h : Fin 8) (j : Fin 16384) (l : Fin 128) : ℝ :=
  if own h l then K h j (lane l) else klane (-c h j) (lane l).val

/-- A cotangent row: the cotangent, and the row's `delta`. -/
def drow (h : Fin 8) (i : Fin 16384) (l : Fin 128) : ℝ :=
  if own h l then D h i (lane l) else dlane (-delta Q K W D c h i) (lane l).val

/-- A value row: values, and ones. -/
def vrow (h : Fin 8) (j : Fin 16384) (l : Fin 128) : ℝ :=
  if own h l then W h j (lane l) else onelane (lane l).val

/-- A query row with ones in place of the other head's columns. -/
def urow (h : Fin 8) (i : Fin 16384) (l : Fin 128) : ℝ :=
  if own h l then Q h i (lane l) * (1 / 8) else 1

/-- A sum over the pair's columns is the sum over a head's own and the sum over the other's. -/
theorem sum_own (h : Fin 8) (f g : Fin 64 → ℝ) :
    ∑ l : Fin 128, (if own h l then f (lane l) else g (lane l)) = ∑ e, f e + ∑ e, g e := by
  rw [Fin.sum_univ_add (a := 64) (b := 64) (fun l : Fin 128 => if own h l then f (lane l) else g (lane l))]
  have hl : ∀ e : Fin 64, lane (Fin.castAdd 64 e) = e := fun e => Fin.ext (Nat.mod_eq_of_lt e.isLt)
  have hr : ∀ e : Fin 64, lane (Fin.natAdd 64 e) = e := fun e => Fin.ext (by
    show (64 + e.val) % 64 = e.val; have := e.isLt; omega)
  have dl : ∀ e : Fin 64, (Fin.castAdd 64 e).val / 64 = 0 := fun e => Nat.div_eq_of_lt e.isLt
  have dr : ∀ e : Fin 64, (Fin.natAdd 64 e).val / 64 = 1 := fun e => by
    show (64 + e.val) / 64 = 1; have := e.isLt; omega
  simp only [hl, hr, own, dl, dr]
  rcases Nat.mod_two_eq_zero_or_one h.val with hh | hh
  · rw [hh]; simp
  · rw [hh]; simp [add_comm]

theorem sum_score (h : Fin 8) (i j : Fin 16384) :
    ∑ l, qrow Q K c h i l * krow K c h j l = score Q K c h i j - Real.log (total Q K c h i) := by
  refine ((Finset.sum_congr rfl fun l _ => ?_).trans (sum_own h (fun e => Q h i e * (1 / 8) * K h j e)
    (fun e => qlane (c h i) (-Real.log (total Q K c h i)) e.val * klane (-c h j) e.val))).trans ?_
  · unfold qrow krow; split <;> rfl
  rw [sum_qlane, score, Finset.sum_mul]
  rw [show (∑ e, Q h i e * (1 / 8) * K h j e) = ∑ e, Q h i e * K h j e * (1 / 8) from
    Finset.sum_congr rfl fun e _ => by ring]
  ring

theorem sum_dprob (h : Fin 8) (i j : Fin 16384) :
    ∑ l, drow Q K W D c h i l * vrow W h j l = dprob W D h i j - delta Q K W D c h i := by
  refine ((Finset.sum_congr rfl fun l _ => ?_).trans (sum_own h (fun e => D h i e * W h j e)
    (fun e => dlane (-delta Q K W D c h i) e.val * onelane e.val))).trans ?_
  · unfold drow vrow; split <;> rfl
  rw [sum_dlane, dprob]
  ring

/-- The row of query block `b`'s row `r`. -/
def rowOf (b r : ℕ) (hb : b < 32) (hr : r < 512) : Fin 16384 := ⟨512 * b + r, by omega⟩

/-- Gradient sums of key row `j` over the first `n` blocks of 512 query rows, by the columns of the queries and ones. -/
def rsum (h : Fin 8) (j : Fin 16384) (l : Fin 128) (n : ℕ) : ℝ :=
  ∑ i : Fin 16384, if i.val < 512 * n then dscore Q K W D c h i j * urow Q h i l else 0

/-- The same sums of the probabilities against the cotangent's columns. -/
def vsum (h : Fin 8) (j : Fin 16384) (l : Fin 128) (n : ℕ) : ℝ :=
  ∑ i : Fin 16384, if i.val < 512 * n then prob Q K c h i j * drow Q K W D c h i l else 0

/-- A sum over the rows below a block boundary gains the next block's rows. -/
theorem block_succ (f : Fin 16384 → ℝ) (n : ℕ) (hn : n < 32) :
    ∑ i : Fin 16384, (if i.val < 512 * (n + 1) then f i else 0)
      = ∑ i : Fin 16384, (if i.val < 512 * n then f i else 0) + ∑ r : Fin 512, f (rowOf n r.val hn r.isLt) := by
  have key : ∑ r : Fin 512, f (rowOf n r.val hn r.isLt)
      = ∑ i : Fin 16384, if 512 * n ≤ i.val ∧ i.val < 512 * (n + 1) then f i else 0 := by
    rw [← Finset.sum_filter]
    refine Finset.sum_bij (fun r _ => rowOf n r.val hn r.isLt) ?_ ?_ ?_ ?_
    · intro r _
      refine Finset.mem_filter.2 ⟨Finset.mem_univ _, ?_⟩
      have := r.isLt
      show 512 * n ≤ 512 * n + r.val ∧ 512 * n + r.val < 512 * (n + 1)
      omega
    · intro r _ r' _ e
      have : 512 * n + r.val = 512 * n + r'.val := congrArg Fin.val e
      exact Fin.ext (by omega)
    · intro i hi
      have hi := (Finset.mem_filter.1 hi).2
      exact ⟨⟨i.val - 512 * n, by omega⟩, Finset.mem_univ _, Fin.ext (by show 512 * n + (i.val - 512 * n) = i.val; omega)⟩
    · intro r _; rfl
  rw [key, ← Finset.sum_add_distrib]
  refine Finset.sum_congr rfl fun i _ => ?_
  by_cases h1 : i.val < 512 * n
  · rw [if_pos h1, if_pos (by omega), if_neg (by omega), add_zero]
  · by_cases h2 : i.val < 512 * (n + 1)
    · rw [if_neg h1, if_pos h2, if_pos (by omega), zero_add]
    · rw [if_neg h1, if_neg h2, if_neg (by omega), zero_add]

theorem rsum_succ (h : Fin 8) (j : Fin 16384) (l : Fin 128) (n : ℕ) (hn : n < 32) :
    rsum Q K W D c h j l (n + 1) = rsum Q K W D c h j l n
      + ∑ r : Fin 512, dscore Q K W D c h (rowOf n r.val hn r.isLt) j * urow Q h (rowOf n r.val hn r.isLt) l :=
  block_succ _ n hn

theorem vsum_succ (h : Fin 8) (j : Fin 16384) (l : Fin 128) (n : ℕ) (hn : n < 32) :
    vsum Q K W D c h j l (n + 1) = vsum Q K W D c h j l n
      + ∑ r : Fin 512, prob Q K c h (rowOf n r.val hn r.isLt) j * drow Q K W D c h (rowOf n r.val hn r.isLt) l :=
  block_succ _ n hn

/-- Nothing is summed over query rows before the key row. -/
theorem rsum_early (h : Fin 8) (j : Fin 16384) (l : Fin 128) (n : ℕ) (hn : 512 * n ≤ j.val) :
    rsum Q K W D c h j l n = 0 :=
  Finset.sum_eq_zero fun i _ => by
    split
    · rw [dscore_of_lt Q K W D c h i j (by rw [Fin.le_def]; omega), zero_mul]
    · rfl

theorem vsum_early (h : Fin 8) (j : Fin 16384) (l : Fin 128) (n : ℕ) (hn : 512 * n ≤ j.val) :
    vsum Q K W D c h j l n = 0 :=
  Finset.sum_eq_zero fun i _ => by
    split
    · rw [prob_of_lt Q K c h i j (by rw [Fin.le_def]; omega), zero_mul]
    · rfl

/-- Over all the rows: a key's gradient in the head's own columns, … -/
theorem rsum_own (h : Fin 8) (j : Fin 16384) (l : Fin 128) (hl : own h l) :
    rsum Q K W D c h j l 32 = dkey Q K W D c h j (lane l) :=
  Finset.sum_congr rfl fun i _ => by rw [if_pos (by have := i.isLt; omega), urow, if_pos hl]

/-- … and minus the gradient of its gate sum in the other's. -/
theorem rsum_other (h : Fin 8) (j : Fin 16384) (l : Fin 128) (hl : ¬ own h l) :
    rsum Q K W D c h j l 32 = -dgate Q K W D c h j := by
  rw [dgate, neg_neg]
  exact Finset.sum_congr rfl fun i _ => by rw [if_pos (by have := i.isLt; omega), urow, if_neg hl, mul_one]

/-- A value's gradient. -/
theorem vsum_own (h : Fin 8) (j : Fin 16384) (l : Fin 128) (hl : own h l) :
    vsum Q K W D c h j l 32 = dval Q K D c h j (lane l) :=
  Finset.sum_congr rfl fun i _ => by rw [if_pos (by have := i.isLt; omega), drow, if_pos hl]

end Cert.Fox

end
-- ==== Proof.Pay.lean ====
/- What the kernel's step computes of one pair of blocks: at blocks of real rows, the probabilities, the gradients of the
   scores, and the two products added to the accumulators, for each head of the pair and for whole and diagonal blocks. -/
module

public import proofs.«01_k».proof.Proof.Rows
public import proofs.«01_k».proof.Proof.Gen.KernelIdeal.Skeleton
public import Idealize.ShloMosaic.Lib.Pipeline.ValueKit

@[expose] public section

set_option maxRecDepth 16384

noncomputable section

namespace Cert.Fox.Pay

open Cert.KernelIdeal Cert.KernelIdeal.Gen Idealize.ShloMosaic
open scoped BigOperators

theorem slt_small (a b : ℕ) (ha : a < 2 ^ 31) (hb : b < 2 ^ 31) :
    IntOp.cmpi .slt (BitVec.ofNat 32 a) (BitVec.ofNat 32 b) = if a < b then 1#1 else 0#1 := by
  have hs : (BitVec.ofNat 32 a).slt (BitVec.ofNat 32 b) = decide (a < b) := by
    have ta : (BitVec.ofNat 32 a).toInt = a := by
      rw [BitVec.toInt_eq_toNat_of_lt] <;> rw [BitVec.toNat_ofNat, Nat.mod_eq_of_lt] <;> omega
    have tb : (BitVec.ofNat 32 b).toInt = b := by
      rw [BitVec.toInt_eq_toNat_of_lt] <;> rw [BitVec.toNat_ofNat, Nat.mod_eq_of_lt] <;> omega
    rw [BitVec.slt, ta, tb]; simp
  show BitVec.ofBool ((BitVec.ofNat 32 a).slt (BitVec.ofNat 32 b)) = _
  rw [hs]
  by_cases h : a < b <;> simp [h]

/-- The columns of the pair's first head. -/
theorem pay1_at (l : Fin 128) : k0_pay1 (ix2 0 l) = if l.val / 64 = 0 then 1#1 else 0#1 := by
  have e : k0_pay1 (ix2 0 l) = if l.val < 64 then 1#1 else 0#1 := by
    pointwise [k0_pay1]
    exact slt_small _ _ (by have := l.isLt; omega) (by decide)
  rw [e]
  by_cases h : l.val < 64
  · rw [if_pos h, if_pos (by omega)]
  · rw [if_neg h, if_neg (by omega)]

/-- The columns of its second. -/
theorem pay2_at (l : Fin 128) : k0_pay2 (ix2 0 l) = if l.val / 64 = 1 then 1#1 else 0#1 := by
  have e : k0_pay2 (ix2 0 l) = IntOp.xori (k0_pay1 (ix2 0 l)) 1#1 := by
    pointwise [k0_pay2]
  rw [e, pay1_at]
  by_cases h : l.val / 64 = 0
  · rw [if_pos h, if_neg (by omega)]; rfl
  · rw [if_neg h, if_pos (by have := l.isLt; omega)]; rfl

theorem mask_bot : (Named.named κ "mask" 0xF149F2CA#32 : Ideal .f32) = (⊥ : EReal) :=
  IdealRules.named_const.ideal_named_scalar _ _ _ _ rfl

variable (Q K W D : Fin 8 → Fin 16384 → Fin 64 → ℝ) (c : Fin 8 → Fin 16384 → ℝ) (h : Fin 8)

/-- A product of two rows of reals. -/
theorem dot_coe {n : ℕ} (S T : Fin n → EReal) (X Y : Fin n → ℝ) (hS : ∀ x, S x = ((X x : ℝ) : EReal))
    (hT : ∀ x, T x = ((Y x : ℝ) : EReal)) : ∑ x, S x * T x = ((∑ x, X x * Y x : ℝ) : EReal) := by
  rw [← coe_sum]
  exact Finset.sum_congr rfl fun x _ => by rw [hS, hT, ← EReal.coe_mul]

theorem exp_rows (S T : Fin 128 → EReal) (i j : Fin 16384) (hS : ∀ x, S x = ((qrow Q K c h i x : ℝ) : EReal))
    (hT : ∀ x, T x = ((krow K c h j x : ℝ) : EReal)) (hij : j ≤ i) :
    Ideal.exp (∑ x, S x * T x) = ((prob Q K c h i j : ℝ) : EReal) := by
  rw [dot_coe S T _ _ hS hT, sum_score, Ideal.exp_coe, exp_score_sub Q K c h i j hij]

theorem exp_masked_rows (S T : Fin 128 → EReal) (i j : Fin 16384) (r y : Fin 512)
    (hS : ∀ x, S x = ((qrow Q K c h i x : ℝ) : EReal))
    (hT : ∀ x, T x = ((krow K c h j x : ℝ) : EReal)) (hij : j ≤ i ↔ y.val ≤ r.val) :
    Ideal.exp (Scalar.select (IntOp.cmpi CmpIPredicate.sle (BitVec.ofNat 32 y.val) (BitVec.ofNat 32 r.val))
      (∑ x, S x * T x) (Named.named κ "mask" 0xF149F2CA#32 : Ideal .f32)) = ((prob Q K c h i j : ℝ) : EReal) := by
  rw [sle_small _ _ (by have := y.isLt; omega) (by have := r.isLt; omega)]
  by_cases hh : y.val ≤ r.val
  · rw [if_pos hh]
    exact exp_rows Q K c h S T i j hS hT (hij.2 hh)
  · rw [if_neg hh, prob_of_lt Q K c h i j (fun e => hh (hij.1 e))]
    show Ideal.exp (Named.named κ "mask" 0xF149F2CA#32 : Ideal .f32) = _
    rw [mask_bot]; exact Ideal.exp_bot

theorem dprob_rows (S T : Fin 128 → EReal) (i j : Fin 16384) (hS : ∀ x, S x = ((drow Q K W D c h i x : ℝ) : EReal))
    (hT : ∀ x, T x = ((vrow W h j x : ℝ) : EReal)) :
    ((prob Q K c h i j : ℝ) : EReal) * ∑ x, S x * T x = ((dscore Q K W D c h i j : ℝ) : EReal) := by
  rw [dot_coe S T _ _ hS hT, sum_dprob, ← EReal.coe_mul]; rfl

variable (I J : Fin 512 → Fin 16384)

/-- The probabilities (whole block, first head). -/
theorem pay26_at {v : IVec S1x128 1} {q aq : FVec Ideal S512x128 .bf16} {ka : FVec Ideal S1x512x128 .bf16}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal)) (hij : ∀ r y, J y ≤ I r) (r y : Fin 512) :
    k0_pay26 (F := Ideal) v q aq ka (ix2 r y) = ((prob Q K c h (I r) (J y) : ℝ) : EReal) := by
  pointwise [k0_pay26, k0_pay20, k0_pay22]
  exact exp_rows Q K c h _ _ (I r) (J y) (Hq r) (Hk y) (hij r y)

/-- The gradients of the scores (whole block, first head). -/
theorem pay27_at {v : IVec S1x128 1} {q d aq ad : FVec Ideal S512x128 .bf16} {ka va : FVec Ideal S1x512x128 .bf16}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal))
    (Hd : ∀ r x, Scalar.select (v (ix2 0 x)) (d (ix2 r x)) (ad (ix2 r x)) = ((drow Q K W D c h (I r) x : ℝ) : EReal))
    (Hv : ∀ y x, va (ix3 0 y x) = ((vrow W h (J y) x : ℝ) : EReal)) (hij : ∀ r y, J y ≤ I r) (r y : Fin 512) :
    k0_pay27 (F := Ideal) v q d aq ad ka va (ix2 r y) = ((dscore Q K W D c h (I r) (J y) : ℝ) : EReal) := by
  pointwise [k0_pay27, k0_pay25, k0_pay21, k0_pay23]
  rw [pay26_at Q K c h I J Hq Hk hij r y]
  exact dprob_rows Q K W D c h _ _ (I r) (J y) (Hd r) (Hv y)

/-- The values' gradient gains the probabilities against the cotangent's rows (whole block, first head). -/
theorem pay28_at {v : IVec S1x128 1} {q d aq ad : FVec Ideal S512x128 .bf16} {ka : FVec Ideal S1x512x128 .bf16} {a : FVec Ideal S1x512x128 .f32}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal))
    (Hd : ∀ r x, Scalar.select (v (ix2 0 x)) (d (ix2 r x)) (ad (ix2 r x)) = ((drow Q K W D c h (I r) x : ℝ) : EReal)) (hij : ∀ r y, J y ≤ I r) (y : Fin 512) (l : Fin 128) :
    k0_pay28 (F := Ideal) v q d aq ad ka a (ix3 0 y l) = a (ix3 0 y l)
      + ((∑ r, prob Q K c h (I r) (J y) * drow Q K W D c h (I r) l : ℝ) : EReal) := by
  pointwise [k0_pay28, k0_pay25, k0_pay21, k0_pay23]
  refine congrArg (a (ix3 0 y l) + ·) ?_
  refine dot_coe _ _ _ _ (fun r => pay26_at Q K c h I J Hq Hk hij r y) (fun r => Hd r l)

/-- The keys' gradient gains the scores' gradients against the query's rows (whole block, first head). -/
theorem pay29_at {v : IVec S1x128 1} {q one : FVec Ideal S512x128 .bf16} {ds : FVec Ideal S512x512 .bf16} {a : FVec Ideal S1x512x128 .f32}
    (Hu : ∀ r x, Scalar.select (v (ix2 0 x)) (q (ix2 r x)) (one (ix2 r x)) = ((urow Q h (I r) x : ℝ) : EReal))
    (Hs : ∀ r y, ds (ix2 r y) = ((dscore Q K W D c h (I r) (J y) : ℝ) : EReal)) (y : Fin 512) (l : Fin 128) :
    k0_pay29 (F := Ideal) v q one ds a (ix3 0 y l) = a (ix3 0 y l)
      + ((∑ r, dscore Q K W D c h (I r) (J y) * urow Q h (I r) l : ℝ) : EReal) := by
  pointwise [k0_pay29]
  refine congrArg (a (ix3 0 y l) + ·) ?_
  refine dot_coe _ _ _ _ (fun r => Hs r y) (fun r => Hu r l)

/-- The probabilities (whole block, second head). -/
theorem pay31_at {v : IVec S1x128 1} {q aq : FVec Ideal S512x128 .bf16} {ka : FVec Ideal S1x512x128 .bf16}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal)) (hij : ∀ r y, J y ≤ I r) (r y : Fin 512) :
    k0_pay31 (F := Ideal) v q aq ka (ix2 r y) = ((prob Q K c h (I r) (J y) : ℝ) : EReal) := by
  pointwise [k0_pay31]
  exact exp_rows Q K c h _ _ (I r) (J y) (Hq r) (Hk y) (hij r y)

/-- The gradients of the scores (whole block, second head). -/
theorem pay32_at {v : IVec S1x128 1} {q d aq ad : FVec Ideal S512x128 .bf16} {ka va : FVec Ideal S1x512x128 .bf16}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal))
    (Hd : ∀ r x, Scalar.select (v (ix2 0 x)) (d (ix2 r x)) (ad (ix2 r x)) = ((drow Q K W D c h (I r) x : ℝ) : EReal))
    (Hv : ∀ y x, va (ix3 0 y x) = ((vrow W h (J y) x : ℝ) : EReal)) (hij : ∀ r y, J y ≤ I r) (r y : Fin 512) :
    k0_pay32 (F := Ideal) v q d aq ad ka va (ix2 r y) = ((dscore Q K W D c h (I r) (J y) : ℝ) : EReal) := by
  pointwise [k0_pay32, k0_pay30]
  rw [pay31_at Q K c h I J Hq Hk hij r y]
  exact dprob_rows Q K W D c h _ _ (I r) (J y) (Hd r) (Hv y)

/-- The values' gradient gains the probabilities against the cotangent's rows (whole block, second head). -/
theorem pay33_at {v : IVec S1x128 1} {q d aq ad : FVec Ideal S512x128 .bf16} {ka : FVec Ideal S1x512x128 .bf16} {a : FVec Ideal S1x512x128 .f32}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal))
    (Hd : ∀ r x, Scalar.select (v (ix2 0 x)) (d (ix2 r x)) (ad (ix2 r x)) = ((drow Q K W D c h (I r) x : ℝ) : EReal)) (hij : ∀ r y, J y ≤ I r) (y : Fin 512) (l : Fin 128) :
    k0_pay33 (F := Ideal) v q d aq ad ka a (ix3 0 y l) = a (ix3 0 y l)
      + ((∑ r, prob Q K c h (I r) (J y) * drow Q K W D c h (I r) l : ℝ) : EReal) := by
  pointwise [k0_pay33, k0_pay30]
  refine congrArg (a (ix3 0 y l) + ·) ?_
  refine dot_coe _ _ _ _ (fun r => pay31_at Q K c h I J Hq Hk hij r y) (fun r => Hd r l)

/-- The keys' gradient gains the scores' gradients against the query's rows (whole block, second head). -/
theorem pay8_at {v : IVec S1x128 1} {q one : FVec Ideal S512x128 .bf16} {ds : FVec Ideal S512x512 .bf16} {a : FVec Ideal S1x512x128 .f32}
    (Hu : ∀ r x, Scalar.select (v (ix2 0 x)) (q (ix2 r x)) (one (ix2 r x)) = ((urow Q h (I r) x : ℝ) : EReal))
    (Hs : ∀ r y, ds (ix2 r y) = ((dscore Q K W D c h (I r) (J y) : ℝ) : EReal)) (y : Fin 512) (l : Fin 128) :
    k0_pay8 (F := Ideal) q one ds (k0_pay34 a) (k0_pay35 v) (ix3 0 y l) = a (ix3 0 y l)
      + ((∑ r, dscore Q K W D c h (I r) (J y) * urow Q h (I r) l : ℝ) : EReal) := by
  pointwise [k0_pay8, k0_pay34, k0_pay35]
  refine congrArg (a (ix3 0 y l) + ·) ?_
  refine dot_coe _ _ _ _ (fun r => Hs r y) (fun r => Hu r l)

/-- The probabilities (diagonal block, first head). -/
theorem pay42_at {v : IVec S1x128 1} {q aq : FVec Ideal S512x128 .bf16} {ka : FVec Ideal S1x512x128 .bf16}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal)) (hij : ∀ r y, J y ≤ I r ↔ y.val ≤ r.val) (r y : Fin 512) :
    k0_pay42 (F := Ideal) v q aq ka (ix2 r y) = ((prob Q K c h (I r) (J y) : ℝ) : EReal) := by
  pointwise [k0_pay42, k0_pay36, k0_pay38]
  exact exp_masked_rows Q K c h _ _ (I r) (J y) r y (Hq r) (Hk y) (hij r y)

/-- The gradients of the scores (diagonal block, first head). -/
theorem pay43_at {v : IVec S1x128 1} {q d aq ad : FVec Ideal S512x128 .bf16} {ka va : FVec Ideal S1x512x128 .bf16}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal))
    (Hd : ∀ r x, Scalar.select (v (ix2 0 x)) (d (ix2 r x)) (ad (ix2 r x)) = ((drow Q K W D c h (I r) x : ℝ) : EReal))
    (Hv : ∀ y x, va (ix3 0 y x) = ((vrow W h (J y) x : ℝ) : EReal)) (hij : ∀ r y, J y ≤ I r ↔ y.val ≤ r.val) (r y : Fin 512) :
    k0_pay43 (F := Ideal) v q d aq ad ka va (ix2 r y) = ((dscore Q K W D c h (I r) (J y) : ℝ) : EReal) := by
  pointwise [k0_pay43, k0_pay41, k0_pay37, k0_pay39]
  rw [pay42_at Q K c h I J Hq Hk hij r y]
  exact dprob_rows Q K W D c h _ _ (I r) (J y) (Hd r) (Hv y)

/-- The values' gradient gains the probabilities against the cotangent's rows (diagonal block, first head). -/
theorem pay44_at {v : IVec S1x128 1} {q d aq ad : FVec Ideal S512x128 .bf16} {ka : FVec Ideal S1x512x128 .bf16} {a : FVec Ideal S1x512x128 .f32}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal))
    (Hd : ∀ r x, Scalar.select (v (ix2 0 x)) (d (ix2 r x)) (ad (ix2 r x)) = ((drow Q K W D c h (I r) x : ℝ) : EReal)) (hij : ∀ r y, J y ≤ I r ↔ y.val ≤ r.val) (y : Fin 512) (l : Fin 128) :
    k0_pay44 (F := Ideal) v q d aq ad ka a (ix2 y l) = a (ix3 0 y l)
      + ((∑ r, prob Q K c h (I r) (J y) * drow Q K W D c h (I r) l : ℝ) : EReal) := by
  pointwise [k0_pay44, k0_pay41, k0_pay37, k0_pay39]
  refine congrArg (a (ix3 0 y l) + ·) ?_
  refine dot_coe _ _ _ _ (fun r => pay42_at Q K c h I J Hq Hk hij r y) (fun r => Hd r l)

/-- The keys' gradient gains the scores' gradients against the query's rows (diagonal block, first head). -/
theorem pay46_at {v : IVec S1x128 1} {q one : FVec Ideal S512x128 .bf16} {ds : FVec Ideal S512x512 .bf16} {a : FVec Ideal S1x512x128 .f32}
    (Hu : ∀ r x, Scalar.select (v (ix2 0 x)) (q (ix2 r x)) (one (ix2 r x)) = ((urow Q h (I r) x : ℝ) : EReal))
    (Hs : ∀ r y, ds (ix2 r y) = ((dscore Q K W D c h (I r) (J y) : ℝ) : EReal)) (y : Fin 512) (l : Fin 128) :
    k0_pay46 (F := Ideal) v q one ds a (ix3 0 y l) = a (ix3 0 y l)
      + ((∑ r, dscore Q K W D c h (I r) (J y) * urow Q h (I r) l : ℝ) : EReal) := by
  pointwise [k0_pay46]
  refine congrArg (a (ix3 0 y l) + ·) ?_
  refine dot_coe _ _ _ _ (fun r => Hs r y) (fun r => Hu r l)

/-- The probabilities (diagonal block, second head). -/
theorem pay48_at {v : IVec S1x128 1} {q aq : FVec Ideal S512x128 .bf16} {ka : FVec Ideal S1x512x128 .bf16}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal)) (hij : ∀ r y, J y ≤ I r ↔ y.val ≤ r.val) (r y : Fin 512) :
    k0_pay48 (F := Ideal) v q aq ka (ix2 r y) = ((prob Q K c h (I r) (J y) : ℝ) : EReal) := by
  pointwise [k0_pay48]
  exact exp_masked_rows Q K c h _ _ (I r) (J y) r y (Hq r) (Hk y) (hij r y)

/-- The gradients of the scores (diagonal block, second head). -/
theorem pay49_at {v : IVec S1x128 1} {q d aq ad : FVec Ideal S512x128 .bf16} {ka va : FVec Ideal S1x512x128 .bf16}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal))
    (Hd : ∀ r x, Scalar.select (v (ix2 0 x)) (d (ix2 r x)) (ad (ix2 r x)) = ((drow Q K W D c h (I r) x : ℝ) : EReal))
    (Hv : ∀ y x, va (ix3 0 y x) = ((vrow W h (J y) x : ℝ) : EReal)) (hij : ∀ r y, J y ≤ I r ↔ y.val ≤ r.val) (r y : Fin 512) :
    k0_pay49 (F := Ideal) v q d aq ad ka va (ix2 r y) = ((dscore Q K W D c h (I r) (J y) : ℝ) : EReal) := by
  pointwise [k0_pay49, k0_pay47]
  rw [pay48_at Q K c h I J Hq Hk hij r y]
  exact dprob_rows Q K W D c h _ _ (I r) (J y) (Hd r) (Hv y)

/-- The values' gradient gains the probabilities against the cotangent's rows (diagonal block, second head). -/
theorem pay50_at {v : IVec S1x128 1} {q d aq ad : FVec Ideal S512x128 .bf16} {ka : FVec Ideal S1x512x128 .bf16} {a : FVec Ideal S1x512x128 .f32}
    (Hq : ∀ r x, Scalar.select (v (ix2 0 x)) (q (ix2 r x)) (aq (ix2 r x)) = ((qrow Q K c h (I r) x : ℝ) : EReal))
    (Hk : ∀ y x, ka (ix3 0 y x) = ((krow K c h (J y) x : ℝ) : EReal))
    (Hd : ∀ r x, Scalar.select (v (ix2 0 x)) (d (ix2 r x)) (ad (ix2 r x)) = ((drow Q K W D c h (I r) x : ℝ) : EReal)) (hij : ∀ r y, J y ≤ I r ↔ y.val ≤ r.val) (y : Fin 512) (l : Fin 128) :
    k0_pay50 (F := Ideal) v q d aq ad ka a (ix2 y l) = a (ix3 0 y l)
      + ((∑ r, prob Q K c h (I r) (J y) * drow Q K W D c h (I r) l : ℝ) : EReal) := by
  pointwise [k0_pay50, k0_pay47]
  refine congrArg (a (ix3 0 y l) + ·) ?_
  refine dot_coe _ _ _ _ (fun r => pay48_at Q K c h I J Hq Hk hij r y) (fun r => Hd r l)

/-- The keys' gradient gains the scores' gradients against the query's rows (diagonal block, second head). -/
theorem pay10_at {q one : FVec Ideal S512x128 .bf16} {ds : FVec Ideal S512x512 .bf16} {a : FVec Ideal S1x512x128 .f32}
    (Hu : ∀ r x, Scalar.select (k0_pay2 (ix2 0 x)) (q (ix2 r x)) (one (ix2 r x)) = ((urow Q h (I r) x : ℝ) : EReal))
    (Hs : ∀ r y, ds (ix2 r y) = ((dscore Q K W D c h (I r) (J y) : ℝ) : EReal)) (y : Fin 512) (l : Fin 128) :
    k0_pay10 (F := Ideal) q one ds a (ix3 0 y l) = a (ix3 0 y l)
      + ((∑ r, dscore Q K W D c h (I r) (J y) * urow Q h (I r) l : ℝ) : EReal) := by
  pointwise [k0_pay10]
  refine congrArg (a (ix3 0 y l) + ·) ?_
  refine dot_coe _ _ _ _ (fun r => Hs r y) (fun r => Hu r l)

end Cert.Fox.Pay

end
-- ==== Proof.Windows.lean ====
/- The region's input blocks at a point of the grid, as places of the arrays they are blocks of. -/
module

public import proofs.«01_k».proof.Proof.Pay
public import proofs.«01_k».proof.Proof.Gen.KernelIdeal.Frame.Runs

@[expose] public section

set_option maxRecDepth 16384

noncomputable section

namespace Cert.Fox.Blocks

open Cert.KernelIdeal Cert.KernelIdeal.Gen Idealize.ShloMosaic Idealize.ShloMosaic.TcCoe
open scoped BigOperators

variable (m : (ℓ : Loc nD τ sig) → Buf (Elt Ideal) ℓ) (c : Dev nD)

/-- The blocks' places: a point is a pair of heads, a key block and a query block. -/
theorem idx : ∀ t : Fin cfg0.N, win0_0.index t = ![max (t.val % 32) (t.val / 32 % 32), t.val / 1024]
    ∧ win0_1.index t = ![t.val / 32 % 32, 4 + t.val / 1024] ∧ win0_2.index t = ![t.val / 32 % 32, 8 + t.val / 1024]
    ∧ win0_3.index t = ![max (t.val % 32) (t.val / 32 % 32), t.val / 1024]
    ∧ win0_4.index t = ![max (t.val % 32) (t.val / 32 % 32), t.val / 1024]
    ∧ win0_5.index t = ![t.val / 32 % 32, t.val / 1024]
    ∧ win0_6.index t = ![max (t.val % 32) (t.val / 32 % 32), t.val / 1024] :=
  (by decide +kernel : ∀ t : Fin grid0.N, _)

theorem lt (t : Fin cfg0.N) : t.val / 1024 < 4 := by
  have := lt_of_lt_of_eq t.isLt (show cfg0.N = 4096 from N_0); omega

/-- The point's pair of heads, its key block, and the query block it loads. -/
abbrev pr (t : Fin cfg0.N) : ℕ := t.val / 1024
abbrev kj (t : Fin cfg0.N) : ℕ := t.val / 32 % 32
abbrev mx (t : Fin cfg0.N) : ℕ := max (t.val % 32) (t.val / 32 % 32)

theorem kj_lt (t : Fin cfg0.N) : kj t < 32 := Nat.mod_lt _ (by decide)
theorem mx_lt (t : Fin cfg0.N) : mx t < 32 := by unfold mx; omega

/-- The pair's column in the arrays of 512. -/
def col (t : Fin cfg0.N) (x : Fin 128) : Fin 512 := ⟨pr t * 128 + x.val, by have h : pr t < 4 := lt t; have := x.isLt; omega⟩

/-- The rows of the loaded queries and of the keys. -/
abbrev qI (t : Fin cfg0.N) (r : Fin 512) : Fin 16384 := rowOf (mx t) r.val (mx_lt t) r.isLt
abbrev kJ (t : Fin cfg0.N) (y : Fin 512) : Fin 16384 := rowOf (kj t) y.val (kj_lt t) y.isLt

/-- The pair's head `a`. -/
def hd (t : Fin cfg0.N) (a : Fin 2) : Fin 8 := ⟨2 * pr t + a.val, by have h : pr t < 4 := lt t; have := a.isLt; omega⟩

theorem blk0 (t : Fin cfg0.N) (r : Fin 512) (x : Fin 128) :
    (iblk m c 0 t : FVec Ideal S512x128 .bf16) (ix2 r x)
      = (V m c main_v42 : FVec Ideal S16384x1536 .bf16)
          (ix2 ⟨max (t.val % 32) (t.val / 32 % 32) * 512 + r.val, by have := r.isLt; omega⟩
            ⟨t.val / 1024 * 128 + x.val, by have := lt t; have := x.isLt; omega⟩) := by
  blk_ext [iblk, idx t]

theorem blk1 (t : Fin cfg0.N) (r : Fin 512) (x : Fin 128) :
    (iblk m c 1 t : FVec Ideal S512x128 .bf16) (ix2 r x)
      = (V m c main_v42 : FVec Ideal S16384x1536 .bf16)
          (ix2 ⟨t.val / 32 % 32 * 512 + r.val, by have := r.isLt; omega⟩
            ⟨(4 + t.val / 1024) * 128 + x.val, by have := lt t; have := x.isLt; omega⟩) := by
  blk_ext [iblk, idx t]

theorem blk2 (t : Fin cfg0.N) (r : Fin 512) (x : Fin 128) :
    (iblk m c 2 t : FVec Ideal S512x128 .bf16) (ix2 r x)
      = (V m c main_v42 : FVec Ideal S16384x1536 .bf16)
          (ix2 ⟨t.val / 32 % 32 * 512 + r.val, by have := r.isLt; omega⟩
            ⟨(8 + t.val / 1024) * 128 + x.val, by have := lt t; have := x.isLt; omega⟩) := by
  blk_ext [iblk, idx t]

theorem blk3 (t : Fin cfg0.N) (r : Fin 512) (x : Fin 128) :
    (iblk m c 3 t : FVec Ideal S512x128 .bf16) (ix2 r x)
      = (V m c main_v94 : FVec Ideal S16384x512 .bf16)
          (ix2 ⟨max (t.val % 32) (t.val / 32 % 32) * 512 + r.val, by have := r.isLt; omega⟩
            ⟨t.val / 1024 * 128 + x.val, by have := lt t; have := x.isLt; omega⟩) := by
  blk_ext [iblk, idx t]

theorem blk4 (t : Fin cfg0.N) (r : Fin 512) (x : Fin 128) :
    (iblk m c 4 t : FVec Ideal S512x128 .bf16) (ix2 r x)
      = (V m c main_v84 : FVec Ideal S16384x512 .bf16)
          (ix2 ⟨max (t.val % 32) (t.val / 32 % 32) * 512 + r.val, by have := r.isLt; omega⟩
            ⟨t.val / 1024 * 128 + x.val, by have := lt t; have := x.isLt; omega⟩) := by
  blk_ext [iblk, idx t]

theorem blk5 (t : Fin cfg0.N) (r : Fin 512) (x : Fin 128) :
    (iblk m c 5 t : FVec Ideal S512x128 .bf16) (ix2 r x)
      = (V m c main_v90 : FVec Ideal S16384x512 .bf16)
          (ix2 ⟨t.val / 32 % 32 * 512 + r.val, by have := r.isLt; omega⟩
            ⟨t.val / 1024 * 128 + x.val, by have := lt t; have := x.isLt; omega⟩) := by
  blk_ext [iblk, idx t]

theorem blk6 (t : Fin cfg0.N) (r : Fin 512) (x : Fin 128) :
    (iblk m c 6 t : FVec Ideal S512x128 .bf16) (ix2 r x)
      = (V m c main_v93 : FVec Ideal S16384x512 .bf16)
          (ix2 ⟨max (t.val % 32) (t.val / 32 % 32) * 512 + r.val, by have := r.isLt; omega⟩
            ⟨t.val / 1024 * 128 + x.val, by have := lt t; have := x.isLt; omega⟩) := by
  blk_ext [iblk, idx t]

end Cert.Fox.Blocks
end
-- ==== Proof.Prep.lean ====
/- The arrays the kernel's host code prepares, of real arguments: the rows' log-sums and `delta`, the fused queries, keys
   and values, and the three arrays of bias lanes. -/
module

public import proofs.«01_k».proof.Proof.Lanes
public import proofs.«01_k».proof.Proof.Gen.PrepIdeal.Read

@[expose] public section

set_option maxRecDepth 16384

noncomputable section

namespace Cert.Fox.Prep

open Cert.PrepIdeal Cert.PrepIdeal.Gen Cert.PrepIdeal.Read Idealize.ShloMosaic
open scoped BigOperators

theorem v1_at (a : Fin 16384 → Fin 512 → ℝ) (i : S8x16384x64.Idx) :
    val_main_v1 (F := Ideal) (wide a) i = ((heads a (p0 i) (p1 i) (p2 i) : ℝ) : EReal) := by
  rw [val_main_v1_apply, val_main_v0_apply]
  exact wide_at a _ _ _ _ rfl rfl

theorem v3_at (a : Fin 16384 → Fin 512 → ℝ) (i : S8x16384x64.Idx) :
    val_main_v3 (F := Ideal) (wide a) i = ((heads a (p0 i) (p1 i) (p2 i) : ℝ) : EReal) := by
  rw [val_main_v3_apply, val_main_v2_apply]
  exact wide_at a _ _ _ _ rfl rfl

/-- The scores before the mask. -/
theorem score_at (q k : Fin 16384 → Fin 512 → ℝ) (c : Fin 8 → Fin 16384 → ℝ) (i : S8x16384x16384.Idx) :
    val_main_v12 (F := Ideal) (wide q) (wide k) (gates c) i
      = ((score (heads q) (heads k) c (p0 i) (p1 i) (p2 i) : ℝ) : EReal) := by
  have h4 : val_main_v4 (F := Ideal) (wide q) (wide k) i
      = ((∑ e, heads q (p0 i) (p1 i) e * heads k (p0 i) (p2 i) e : ℝ) : EReal) := by
    rw [val_main_v4_apply, ← coe_sum]
    refine Finset.sum_congr rfl fun e _ => ?_
    rw [v1_at, v3_at, EReal.coe_mul]; rfl
  have h5 : val_main_v5 (F := Ideal) i = ((1 / 8 : ℝ) : EReal) := by
    rw [val_main_v5_apply, val_main_cst_apply]; exact bits_eighth
  have h8 : val_main_v8 (F := Ideal) (gates c) i = ((c (p0 i) (p1 i) : ℝ) : EReal) := by
    rw [val_main_v8_apply, val_main_v7_apply]; rfl
  have h11 : val_main_v11 (F := Ideal) (gates c) i = ((c (p0 i) (p2 i) : ℝ) : EReal) := by
    rw [val_main_v11_apply, val_main_v10_apply]; rfl
  rw [val_main_v12_apply, val_main_v9_apply, val_main_v6_apply, h4, h5, h8, h11, score,
    EReal.coe_sub, EReal.coe_add, EReal.coe_mul]
  rfl

theorem mask_at (i : S16384x16384.Idx) :
    val_main_v18 (F := Ideal) i = if (i 1).val ≤ (i 0).val then 1#1 else 0#1 := by
  rw [val_main_v18_apply, val_main_v16_apply, val_main_v14_apply, val_main_v17_apply, val_main_v15_apply,
    val_main_v13_apply, val_main_v13_apply]
  exact sle_small _ _ (lt_trans (i 1).isLt (by decide)) (lt_trans (i 0).isLt (by decide))

/-- The masked scores: −∞ at the keys after the query. -/
theorem masked_at (q k : Fin 16384 → Fin 512 → ℝ) (c : Fin 8 → Fin 16384 → ℝ) (i : S8x16384x16384.Idx) :
    val_main_v19 (F := Ideal) (wide q) (wide k) (gates c) i
      = masked (heads q) (heads k) c (p0 i) (p1 i) (p2 i) := by
  have hm : val_main_call0_v1 (F := Ideal) i = if (i 2).val ≤ (i 1).val then 1#1 else 0#1 := by
    rw [val_main_call0_v1_apply, mask_at]
  have hb : val_main_call0_v2 (F := Ideal) i = (⊥ : EReal) := by
    rw [val_main_call0_v2_apply]; exact bits_bot
  rw [val_main_v19_apply, hm, score_at, hb, masked]
  by_cases h : (i 2).val ≤ (i 1).val
  · rw [if_pos h, if_pos (show p2 i ≤ p1 i from h)]; rfl
  · rw [if_neg h, if_neg (show ¬ p2 i ≤ p1 i from h)]; rfl

/-- A row's maximum is a real number. -/
theorem rowmax_at (q k : Fin 16384 → Fin 512 → ℝ) (c : Fin 8 → Fin 16384 → ℝ) (i : S8x16384.Idx) :
    ∃ M : ℝ, val_main_v20 (F := Ideal) (wide q) (wide k) (gates c) i = (M : EReal) := by
  unfold val_main_v20
  have hf : ∀ j, val_main_v19 (F := Ideal) (wide q) (wide k) (gates c) j
      = masked (heads q) (heads k) c (p0 j) (p1 j) (p2 j) := masked_at q k c
  generalize val_main_v19 (F := Ideal) (wide q) (wide k) (gates c) = x at hf
  let t : S8x16384x16384.Idx := fun a => match a with
    | ⟨0, _⟩ => i 0
    | ⟨1, _⟩ => i 1
    | ⟨2, _⟩ => i 1
  refine reduce_max_real x _ _ _ i (fun j => ?_) t ?_ ?_ ?_
  · rw [hf]; exact masked_ne_top _ _ _ _ _ _
  · exact funext fun a => Fin.ext (by match a with | ⟨0, _⟩ => rfl | ⟨1, _⟩ => rfl)
  · rw [hf]; exact masked_self_ne_bot _ _ _ _ _
  · exact bits_bot

section Rows

variable {q k v d : Fin 16384 → Fin 512 → ℝ} {c : Fin 8 → Fin 16384 → ℝ}
  {M : Fin 8 → Fin 16384 → ℝ}
    (hM : ∀ i, val_main_v20 (F := Ideal) (wide q) (wide k) (gates c) i = ((M (p0 i) (p1 i) : ℝ) : EReal))

include hM

theorem weight_at (i : S8x16384x16384.Idx) :
    val_main_v24 (F := Ideal) (wide q) (wide k) (gates c) i
      = ((shifted (heads q) (heads k) c (M (p0 i) (p1 i)) (p0 i) (p1 i) (p2 i) : ℝ) : EReal) := by
  have h22 : val_main_v22 (F := Ideal) (wide q) (wide k) (gates c) i = ((M (p0 i) (p1 i) : ℝ) : EReal) := by
    rw [val_main_v22_apply, val_main_v21_apply, hM]; rfl
  rw [val_main_v24_apply, val_main_v23_apply, masked_at, h22]
  exact exp_masked _ _ _ _ _ _ _

theorem sum_at (i : S8x16384x1.Idx) :
    val_main_v26 (F := Ideal) (wide q) (wide k) (gates c) i
      = ((∑ j, shifted (heads q) (heads k) c (M (p0 i) (p1 i)) (p0 i) (p1 i) j : ℝ) : EReal) := by
  rw [val_main_v26_apply, val_main_v25_apply, ← coe_sum]
  have h0 : val_main_cst_2 (F := Ideal) (Shape.Idx.first h_S_) = (0 : EReal) := Ideal.ofBits_zero_f32
  rw [h0, zero_add]
  refine Finset.sum_congr rfl fun j _ => ?_
  rw [weight_at hM]; rfl

theorem prob_at (i : S8x16384x16384.Idx) :
    val_main_v28 (F := Ideal) (wide q) (wide k) (gates c) i = ((prob (heads q) (heads k) c (p0 i) (p1 i) (p2 i) : ℝ) : EReal) := by
  rw [val_main_v28_apply, val_main_v27_apply, sum_at hM, weight_at hM]
  refine (div_coe _ _ (sum_shifted_pos _ _ _ _ _ _).ne').trans ?_
  exact congrArg _ (shifted_div _ _ _ _ _ _ _)

/-- The rows' log-sums. -/
theorem lse_at (i : S8x16384.Idx) :
    val_main_v34 (F := Ideal) (wide q) (wide k) (gates c) i
      = ((Real.log (total (heads q) (heads k) c (p0 i) (p1 i)) : ℝ) : EReal) := by
  have hi : idx_main_v26 (idx_main_v34 i) = i := funext fun a => Fin.ext (by
    have h0 : (i 0).val < 8 := (i 0).isLt
    have h1 : (i 1).val < 16384 := (i 1).isLt
    match a with
    | ⟨0, _⟩ => show ((i 0).val * 16384 + (i 1).val) / 16384 = (i 0).val; omega
    | ⟨1, _⟩ => show ((i 0).val * 16384 + (i 1).val) / 1 % 16384 = (i 1).val; omega)
  have e0 : p0 (idx_main_v34 i) = p0 i := congrArg (fun x => p0 (r := 1) x) hi
  have e1 : p1 (idx_main_v34 i) = p1 i := congrArg (fun x => p1 (r := 0) x) hi
  have hp : 0 < ∑ j, shifted (heads q) (heads k) c (M (p0 i) (p1 i)) (p0 i) (p1 i) j := sum_shifted_pos _ _ _ _ _ _
  rw [val_main_v34_apply, val_main_v33_apply, val_main_v32_apply, val_main_v21_apply, hM, sum_at hM, e0, e1,
    ← log_sum_shifted _ _ _ (M (p0 i) (p1 i))]
  show ((M (p0 (idx_main_v21 (idx_main_v34 i))) (p1 (idx_main_v21 (idx_main_v34 i))) : ℝ) : EReal)
      + Ideal.log ((∑ j, shifted (heads q) (heads k) c (M (p0 i) (p1 i)) (p0 i) (p1 i) j : ℝ) : EReal) = _
  rw [Ideal.log_coe, if_neg (not_le.2 hp), EReal.coe_add]
  have f0 : p0 (idx_main_v21 (idx_main_v34 i)) = p0 i := congrArg (fun x => p0 (r := 1) x) hi
  have f1 : p1 (idx_main_v21 (idx_main_v34 i)) = p1 i := congrArg (fun x => p1 (r := 0) x) hi
  rw [f0, f1]

/-- The rows' `delta`. -/
theorem delta_at (i : S8x16384.Idx) :
    val_main_v38 (F := Ideal) (wide q) (wide k) (wide v) (gates c) (wide d) i
      = ((delta (heads q) (heads k) (heads v) (heads d) c (p0 i) (p1 i) : ℝ) : EReal) := by
  have h0 : val_main_cst_3 (F := Ideal) (Shape.Idx.first h_S_) = (0 : EReal) := Ideal.ofBits_zero_f32
  have h30 : ∀ i, val_main_v30 (F := Ideal) (wide v) i = ((heads v (p0 i) (p1 i) (p2 i) : ℝ) : EReal) := fun i => by
    rw [val_main_v30_apply, val_main_v29_apply]; exact wide_at v _ _ _ _ rfl rfl
  have h36 : ∀ i, val_main_v36 (F := Ideal) (wide d) i = ((heads d (p0 i) (p1 i) (p2 i) : ℝ) : EReal) := fun i => by
    rw [val_main_v36_apply, val_main_v35_apply]; exact wide_at d _ _ _ _ rfl rfl
  have h31 : ∀ i, val_main_v31 (F := Ideal) (wide q) (wide k) (wide v) (gates c) i
      = ((∑ j, prob (heads q) (heads k) c (p0 i) (p1 i) j * heads v (p0 i) j (p2 i) : ℝ) : EReal) := fun i => by
    rw [val_main_v31_apply, ← coe_sum]
    refine Finset.sum_congr rfl fun j _ => ?_
    rw [prob_at hM, h30, EReal.coe_mul]; rfl
  rw [val_main_v38_apply, h0, zero_add, delta_eq, ← coe_sum]
  refine Finset.sum_congr rfl fun e _ => ?_
  rw [val_main_v37_apply, h36, h31, EReal.coe_mul]; rfl

end Rows

variable {q k v d : Fin 16384 → Fin 512 → ℝ} {c : Fin 8 → Fin 16384 → ℝ}

/-- What is left of a real number after its first piece: nothing. -/
theorem rest_coe (x : ℝ) : (x : EReal) - (x : EReal) = ((0 : ℝ) : EReal) := by
  rw [← EReal.coe_sub, sub_self]

/-- The gate sums of the other head of the pair. -/
theorem gate_col (i : S16384x8x1.Idx) :
    val_main_v48 (F := Ideal) (gates c) i = ((c (mate (p1 i)) (p0 i) : ℝ) : EReal) := by
  obtain ⟨e0, e1⟩ := swap_at (fun _ => (0 : ℕ)) (idx_main_v47 (idx_main_v48 i)) (idx_main_v44 (fun a => if a ∈ [(1 : Fin S4x2x16384.rank)] then ((idx_main_v46 (idx_main_v47 (idx_main_v48 i))) a).rev else (idx_main_v46 (idx_main_v47 (idx_main_v48 i))) a))
    (idx_main_v46 (idx_main_v47 (idx_main_v48 i))) (fun a => if a ∈ [(1 : Fin S4x2x16384.rank)] then ((idx_main_v46 (idx_main_v47 (idx_main_v48 i))) a).rev else (idx_main_v46 (idx_main_v47 (idx_main_v48 i))) a) rfl rfl rfl rfl rfl rfl rfl rfl
  rw [val_main_v48_apply, val_main_v47_apply, val_main_v46_apply]
  show val_main_v44 (F := Ideal) (gates c) (fun a => if a ∈ [(1 : Fin S4x2x16384.rank)] then ((idx_main_v46 (idx_main_v47 (idx_main_v48 i))) a).rev else (idx_main_v46 (idx_main_v47 (idx_main_v48 i))) a) = _
  rw [val_main_v44_apply]
  show ((c (p0 _) (p1 _) : ℝ) : EReal) = _
  rw [e0, e1]; rfl

/-- The log-sums of the other head of the pair, negated. -/
theorem lse_col {M : Fin 8 → Fin 16384 → ℝ}
    (hM : ∀ i, val_main_v20 (F := Ideal) (wide q) (wide k) (gates c) i = ((M (p0 i) (p1 i) : ℝ) : EReal))
    (i : S16384x8x1.Idx) :
    val_main_v61 (F := Ideal) (wide q) (wide k) (gates c) i = ((-Real.log (total (heads q) (heads k) c (mate (p1 i)) (p0 i)) : ℝ) : EReal) := by
  obtain ⟨e0, e1⟩ := swap_at (fun _ => (0 : ℕ)) (idx_main_v60 (idx_main_v61 i)) (idx_main_v57 (fun a => if a ∈ [(1 : Fin S4x2x16384.rank)] then ((idx_main_v59 (idx_main_v60 (idx_main_v61 i))) a).rev else (idx_main_v59 (idx_main_v60 (idx_main_v61 i))) a))
    (idx_main_v59 (idx_main_v60 (idx_main_v61 i))) (fun a => if a ∈ [(1 : Fin S4x2x16384.rank)] then ((idx_main_v59 (idx_main_v60 (idx_main_v61 i))) a).rev else (idx_main_v59 (idx_main_v60 (idx_main_v61 i))) a) rfl rfl rfl rfl rfl rfl rfl rfl
  rw [val_main_v61_apply, val_main_v60_apply, val_main_v59_apply]
  show val_main_v57 (F := Ideal) (wide q) (wide k) (gates c) (fun a => if a ∈ [(1 : Fin S4x2x16384.rank)] then ((idx_main_v59 (idx_main_v60 (idx_main_v61 i))) a).rev else (idx_main_v59 (idx_main_v60 (idx_main_v61 i))) a) = _
  rw [val_main_v57_apply, val_main_v56_apply, lse_at hM]
  show -((Real.log (total (heads q) (heads k) c (p0 _) (p1 _)) : ℝ) : EReal) = _
  rw [e0, e1, EReal.coe_neg]; rfl

/-- The `delta` of the other head of the pair, negated. -/
theorem delta_col {M : Fin 8 → Fin 16384 → ℝ}
    (hM : ∀ i, val_main_v20 (F := Ideal) (wide q) (wide k) (gates c) i = ((M (p0 i) (p1 i) : ℝ) : EReal))
    (i : S16384x8x1.Idx) :
    val_main_v74 (F := Ideal) (wide q) (wide k) (wide v) (gates c) (wide d) i = ((-delta (heads q) (heads k) (heads v) (heads d) c (mate (p1 i)) (p0 i) : ℝ) : EReal) := by
  obtain ⟨e0, e1⟩ := swap_at (fun _ => (0 : ℕ)) (idx_main_v73 (idx_main_v74 i)) (idx_main_v70 (fun a => if a ∈ [(1 : Fin S4x2x16384.rank)] then ((idx_main_v72 (idx_main_v73 (idx_main_v74 i))) a).rev else (idx_main_v72 (idx_main_v73 (idx_main_v74 i))) a))
    (idx_main_v72 (idx_main_v73 (idx_main_v74 i))) (fun a => if a ∈ [(1 : Fin S4x2x16384.rank)] then ((idx_main_v72 (idx_main_v73 (idx_main_v74 i))) a).rev else (idx_main_v72 (idx_main_v73 (idx_main_v74 i))) a) rfl rfl rfl rfl rfl rfl rfl rfl
  rw [val_main_v74_apply, val_main_v73_apply, val_main_v72_apply]
  show val_main_v70 (F := Ideal) (wide q) (wide k) (wide v) (gates c) (wide d) (fun a => if a ∈ [(1 : Fin S4x2x16384.rank)] then ((idx_main_v72 (idx_main_v73 (idx_main_v74 i))) a).rev else (idx_main_v72 (idx_main_v73 (idx_main_v74 i))) a) = _
  rw [val_main_v70_apply, val_main_v69_apply, delta_at hM]
  show -((delta (heads q) (heads k) (heads v) (heads d) c (p0 _) (p1 _) : ℝ) : EReal) = _
  rw [e0, e1, EReal.coe_neg]; rfl

theorem gate_hi (i : S16384x8x1.Idx) :
    val_main_v49 (F := Ideal) (gates c) i = ((c (mate (p1 i)) (p0 i) : ℝ) : EReal) := by
  rw [val_main_v49_apply, gate_col]; rfl

theorem gate_mid (i : S16384x8x1.Idx) :
    val_main_v52 (F := Ideal) (gates c) i = ((0 : ℝ) : EReal) := by
  rw [val_main_v52_apply, val_main_v51_apply, val_main_v50_apply, gate_hi, gate_col]
  exact rest_coe _

theorem gate_lo (i : S16384x8x1.Idx) :
    val_main_v55 (F := Ideal) (gates c) i = ((0 : ℝ) : EReal) := by
  rw [val_main_v55_apply, val_main_v54_apply, val_main_v53_apply, val_main_v51_apply, val_main_v50_apply,
    gate_mid, gate_hi, gate_col]
  show ((_ : ℝ) : EReal) - ((_ : ℝ) : EReal) - ((0 : ℝ) : EReal) = _
  rw [rest_coe]; exact rest_coe _

theorem lse_hi {M : Fin 8 → Fin 16384 → ℝ}
    (hM : ∀ i, val_main_v20 (F := Ideal) (wide q) (wide k) (gates c) i = ((M (p0 i) (p1 i) : ℝ) : EReal))
    (i : S16384x8x1.Idx) :
    val_main_v62 (F := Ideal) (wide q) (wide k) (gates c) i = ((-Real.log (total (heads q) (heads k) c (mate (p1 i)) (p0 i)) : ℝ) : EReal) := by
  rw [val_main_v62_apply, lse_col hM]; rfl

theorem lse_mid {M : Fin 8 → Fin 16384 → ℝ}
    (hM : ∀ i, val_main_v20 (F := Ideal) (wide q) (wide k) (gates c) i = ((M (p0 i) (p1 i) : ℝ) : EReal))
    (i : S16384x8x1.Idx) :
    val_main_v65 (F := Ideal) (wide q) (wide k) (gates c) i = ((0 : ℝ) : EReal) := by
  rw [val_main_v65_apply, val_main_v64_apply, val_main_v63_apply, lse_hi hM, lse_col hM]
  exact rest_coe _

theorem lse_lo {M : Fin 8 → Fin 16384 → ℝ}
    (hM : ∀ i, val_main_v20 (F := Ideal) (wide q) (wide k) (gates c) i = ((M (p0 i) (p1 i) : ℝ) : EReal))
    (i : S16384x8x1.Idx) :
    val_main_v68 (F := Ideal) (wide q) (wide k) (gates c) i = ((0 : ℝ) : EReal) := by
  rw [val_main_v68_apply, val_main_v67_apply, val_main_v66_apply, val_main_v64_apply, val_main_v63_apply,
    lse_mid hM, lse_hi hM, lse_col hM]
  show ((_ : ℝ) : EReal) - ((_ : ℝ) : EReal) - ((0 : ℝ) : EReal) = _
  rw [rest_coe]; exact rest_coe _

theorem delta_hi {M : Fin 8 → Fin 16384 → ℝ}
    (hM : ∀ i, val_main_v20 (F := Ideal) (wide q) (wide k) (gates c) i = ((M (p0 i) (p1 i) : ℝ) : EReal))
    (i : S16384x8x1.Idx) :
    val_main_v75 (F := Ideal) (wide q) (wide k) (wide v) (gates c) (wide d) i = ((-delta (heads q) (heads k) (heads v) (heads d) c (mate (p1 i)) (p0 i) : ℝ) : EReal) := by
  rw [val_main_v75_apply, delta_col hM]; rfl

theorem delta_mid {M : Fin 8 → Fin 16384 → ℝ}
    (hM : ∀ i, val_main_v20 (F := Ideal) (wide q) (wide k) (gates c) i = ((M (p0 i) (p1 i) : ℝ) : EReal))
    (i : S16384x8x1.Idx) :
    val_main_v78 (F := Ideal) (wide q) (wide k) (wide v) (gates c) (wide d) i = ((0 : ℝ) : EReal) := by
  rw [val_main_v78_apply, val_main_v77_apply, val_main_v76_apply, delta_hi hM, delta_col hM]
  exact rest_coe _

theorem delta_lo {M : Fin 8 → Fin 16384 → ℝ}
    (hM : ∀ i, val_main_v20 (F := Ideal) (wide q) (wide k) (gates c) i = ((M (p0 i) (p1 i) : ℝ) : EReal))
    (i : S16384x8x1.Idx) :
    val_main_v81 (F := Ideal) (wide q) (wide k) (wide v) (gates c) (wide d) i = ((0 : ℝ) : EReal) := by
  rw [val_main_v81_apply, val_main_v80_apply, val_main_v79_apply, val_main_v77_apply, val_main_v76_apply,
    delta_mid hM, delta_hi hM, delta_col hM]
  show ((_ : ℝ) : EReal) - ((_ : ℝ) : EReal) - ((0 : ℝ) : EReal) = _
  rw [rest_coe]; exact rest_coe _

theorem ones_at (i : S16384x8x3.Idx) : val_main_v43 (F := Ideal) i = ((1 : ℝ) : EReal) := by
  rw [val_main_v43_apply]; exact Ideal.ofBits_one_bf16

theorem zeros82_at (i : S16384x8x55.Idx) : val_main_v82 (F := Ideal) i = ((0 : ℝ) : EReal) := by
  rw [val_main_v82_apply]; exact Ideal.ofBits_zero_bf16

theorem zeros88_at (i : S16384x8x55.Idx) : val_main_v88 (F := Ideal) i = ((0 : ℝ) : EReal) := by
  rw [val_main_v88_apply]; exact Ideal.ofBits_zero_bf16

theorem zeros91_at (i : S16384x8x61.Idx) : val_main_v91 (F := Ideal) i = ((0 : ℝ) : EReal) := by
  rw [val_main_v91_apply]; exact Ideal.ofBits_zero_bf16

theorem neg85_at (i : S16384x8x1.Idx) : val_main_v85 (F := Ideal) (gates c) i = ((-c (mate (p1 i)) (p0 i) : ℝ) : EReal) := by
  rw [val_main_v85_apply, gate_hi]; exact (EReal.coe_neg _).symm

theorem neg86_at (i : S16384x8x1.Idx) : val_main_v86 (F := Ideal) (gates c) i = ((0 : ℝ) : EReal) := by
  rw [val_main_v86_apply, gate_mid]; show -((0 : ℝ) : EReal) = _; rw [← EReal.coe_neg, neg_zero]

theorem neg87_at (i : S16384x8x1.Idx) : val_main_v87 (F := Ideal) (gates c) i = ((0 : ℝ) : EReal) := by
  rw [val_main_v87_apply, gate_lo]; show -((0 : ℝ) : EReal) = _; rw [← EReal.coe_neg, neg_zero]

/-- The query rows' lanes. -/
theorem aql_row {M : Fin 8 → Fin 16384 → ℝ}
    (hM : ∀ i, val_main_v20 (F := Ideal) (wide q) (wide k) (gates c) i = ((M (p0 i) (p1 i) : ℝ) : EReal))
    (j : S16384x8x64.Idx) :
    val_main_v83 (F := Ideal) (wide q) (wide k) (gates c) j = ((qlane (c (mate (p1 j)) (p0 j)) (-Real.log (total (heads q) (heads k) c (mate (p1 j)) (p0 j))) (p2 j).val : ℝ) : EReal) := by
  have hj : (j 2).val < 64 := (j 2).isLt
  show _ = ((qlane (c (mate (p1 j)) (p0 j)) (-Real.log (total (heads q) (heads k) c (mate (p1 j)) (p0 j))) (j 2).val : ℝ) : EReal)
  unfold val_main_v83 qlane
  by_cases h0 : (j 2).val < 1
  · refine (piece_at 1 _ _ j 0 (by exact (by decide : 0 < 8)) _ rfl 0 rfl (fun r h => ((c (mate h) r : ℝ) : EReal)) (fun i => gate_hi i) (by omega) (by omega)).trans ?_
    rw [if_pos (by omega)]
  by_cases h1 : (j 2).val < 2
  · refine (piece_at 1 _ _ j 1 (by exact (by decide : 1 < 8)) _ rfl 1 rfl (fun r h => ((0 : ℝ) : EReal)) (fun i => gate_mid i) (by omega) (by omega)).trans ?_
    rw [if_neg (by omega), if_pos (by omega)]
  by_cases h2 : (j 2).val < 3
  · refine (piece_at 1 _ _ j 2 (by exact (by decide : 2 < 8)) _ rfl 2 rfl (fun r h => ((0 : ℝ) : EReal)) (fun i => gate_lo i) (by omega) (by omega)).trans ?_
    rw [if_neg (by omega), if_pos (by omega)]
  by_cases h3 : (j 2).val < 6
  · refine (piece_at 3 _ _ j 3 (by exact (by decide : 3 < 8)) _ rfl 3 rfl (fun r h => ((1 : ℝ) : EReal)) (fun i => ones_at i) (by omega) (by omega)).trans ?_
    rw [if_neg (by omega), if_neg (by omega), if_pos (by omega)]
  by_cases h4 : (j 2).val < 7
  · refine (piece_at 1 _ _ j 4 (by exact (by decide : 4 < 8)) _ rfl 6 rfl (fun r h => ((-Real.log (total (heads q) (heads k) c (mate h) r) : ℝ) : EReal)) (fun i => lse_hi hM i) (by omega) (by omega)).trans ?_
    rw [if_neg (by omega), if_neg (by omega), if_neg (by omega), if_pos (by omega)]
  by_cases h5 : (j 2).val < 8
  · refine (piece_at 1 _ _ j 5 (by exact (by decide : 5 < 8)) _ rfl 7 rfl (fun r h => ((0 : ℝ) : EReal)) (fun i => lse_mid hM i) (by omega) (by omega)).trans ?_
    rw [if_neg (by omega), if_neg (by omega), if_neg (by omega), if_neg (by omega)]
  by_cases h6 : (j 2).val < 9
  · refine (piece_at 1 _ _ j 6 (by exact (by decide : 6 < 8)) _ rfl 8 rfl (fun r h => ((0 : ℝ) : EReal)) (fun i => lse_lo hM i) (by omega) (by omega)).trans ?_
    rw [if_neg (by omega), if_neg (by omega), if_neg (by omega), if_neg (by omega)]
  refine (piece_at 55 _ _ j 7 (by exact (by decide : 7 < 8)) _ rfl 9 rfl (fun r h => ((0 : ℝ) : EReal)) (fun i => zeros82_at i) (by omega) (by omega)).trans ?_
  rw [if_neg (by omega), if_neg (by omega), if_neg (by omega), if_neg (by omega)]

/-- The key rows' lanes. -/
theorem ak_row (j : S16384x8x64.Idx) :
    val_main_v89 (F := Ideal) (gates c) j = ((klane (-c (mate (p1 j)) (p0 j)) (p2 j).val : ℝ) : EReal) := by
  have hj : (j 2).val < 64 := (j 2).isLt
  show _ = ((klane (-c (mate (p1 j)) (p0 j)) (j 2).val : ℝ) : EReal)
  unfold val_main_v89 klane
  by_cases h0 : (j 2).val < 3
  · refine (piece_at 3 _ _ j 0 (by exact (by decide : 0 < 6)) _ rfl 0 rfl (fun r h => ((1 : ℝ) : EReal)) (fun i => ones_at i) (by omega) (by omega)).trans ?_
    rw [if_pos (by omega)]
  by_cases h1 : (j 2).val < 4
  · refine (piece_at 1 _ _ j 1 (by exact (by decide : 1 < 6)) _ rfl 3 rfl (fun r h => ((-c (mate h) r : ℝ) : EReal)) (fun i => neg85_at i) (by omega) (by omega)).trans ?_
    rw [if_neg (by omega), if_pos (by omega)]
  by_cases h2 : (j 2).val < 5
  · refine (piece_at 1 _ _ j 2 (by exact (by decide : 2 < 6)) _ rfl 4 rfl (fun r h => ((0 : ℝ) : EReal)) (fun i => neg86_at i) (by omega) (by omega)).trans ?_
    rw [if_neg (by omega), if_neg (by omega), if_pos (by omega)]
  by_cases h3 : (j 2).val < 6
  · refine (piece_at 1 _ _ j 3 (by exact (by decide : 3 < 6)) _ rfl 5 rfl (fun r h => ((0 : ℝ) : EReal)) (fun i => neg87_at i) (by omega) (by omega)).trans ?_
    rw [if_neg (by omega), if_neg (by omega), if_pos (by omega)]
  by_cases h4 : (j 2).val < 9
  · refine (piece_at 3 _ _ j 4 (by exact (by decide : 4 < 6)) _ rfl 6 rfl (fun r h => ((1 : ℝ) : EReal)) (fun i => ones_at i) (by omega) (by omega)).trans ?_
    rw [if_neg (by omega), if_neg (by omega), if_neg (by omega), if_pos (by omega)]
  refine (piece_at 55 _ _ j 5 (by exact (by decide : 5 < 6)) _ rfl 9 rfl (fun r h => ((0 : ℝ) : EReal)) (fun i => zeros88_at i) (by omega) (by omega)).trans ?_
  rw [if_neg (by omega), if_neg (by omega), if_neg (by omega), if_neg (by omega)]

/-- The cotangent rows' lanes. -/
theorem ad_row {M : Fin 8 → Fin 16384 → ℝ}
    (hM : ∀ i, val_main_v20 (F := Ideal) (wide q) (wide k) (gates c) i = ((M (p0 i) (p1 i) : ℝ) : EReal))
    (j : S16384x8x64.Idx) :
    val_main_v92 (F := Ideal) (wide q) (wide k) (wide v) (gates c) (wide d) j = ((dlane (-delta (heads q) (heads k) (heads v) (heads d) c (mate (p1 j)) (p0 j)) (p2 j).val : ℝ) : EReal) := by
  have hj : (j 2).val < 64 := (j 2).isLt
  show _ = ((dlane (-delta (heads q) (heads k) (heads v) (heads d) c (mate (p1 j)) (p0 j)) (j 2).val : ℝ) : EReal)
  unfold val_main_v92 dlane
  by_cases h0 : (j 2).val < 1
  · refine (piece_at 1 _ _ j 0 (by exact (by decide : 0 < 4)) _ rfl 0 rfl (fun r h => ((-delta (heads q) (heads k) (heads v) (heads d) c (mate h) r : ℝ) : EReal)) (fun i => delta_hi hM i) (by omega) (by omega)).trans ?_
    rw [if_pos (by omega)]
  by_cases h1 : (j 2).val < 2
  · refine (piece_at 1 _ _ j 1 (by exact (by decide : 1 < 4)) _ rfl 1 rfl (fun r h => ((0 : ℝ) : EReal)) (fun i => delta_mid hM i) (by omega) (by omega)).trans ?_
    rw [if_neg (by omega)]
  by_cases h2 : (j 2).val < 3
  · refine (piece_at 1 _ _ j 2 (by exact (by decide : 2 < 4)) _ rfl 2 rfl (fun r h => ((0 : ℝ) : EReal)) (fun i => delta_lo hM i) (by omega) (by omega)).trans ?_
    rw [if_neg (by omega)]
  refine (piece_at 61 _ _ j 3 (by exact (by decide : 3 < 4)) _ rfl 3 rfl (fun r h => ((0 : ℝ) : EReal)) (fun i => zeros91_at i) (by omega) (by omega)).trans ?_
  rw [if_neg (by omega)]

/-- The query rows' lanes, in the kernel's layout. -/
theorem aql_at {M : Fin 8 → Fin 16384 → ℝ}
    (hM : ∀ i, val_main_v20 (F := Ideal) (wide q) (wide k) (gates c) i = ((M (p0 i) (p1 i) : ℝ) : EReal))
    (i : S16384x512.Idx) (h : Fin 8) (e : Fin 64) (hi : (i 1).val = 64 * h.val + e.val) :
    val_main_v84 (F := Ideal) (wide q) (wide k) (gates c) i = ((qlane (c (mate h) (p0 i)) (-Real.log (total (heads q) (heads k) c (mate h) (p0 i))) e.val : ℝ) : EReal) := by
  have hr : (i 0).val < 16384 := (i 0).isLt
  have hh := h.isLt
  have he := e.isLt
  have e0 : p0 (idx_main_v84 i) = p0 i := Fin.ext (by show ((i 0).val * 512 + (i 1).val) / 512 = (i 0).val; omega)
  have e1 : p1 (idx_main_v84 i) = h := Fin.ext (by show ((i 0).val * 512 + (i 1).val) / 64 % 8 = h.val; omega)
  have e2 : p2 (idx_main_v84 i) = e := Fin.ext (by show ((i 0).val * 512 + (i 1).val) % 64 = e.val; omega)
  rw [val_main_v84_apply, aql_row hM, e0, e1, e2]

/-- The key rows' lanes, in the kernel's layout. -/
theorem ak_at (i : S16384x512.Idx) (h : Fin 8) (e : Fin 64) (hi : (i 1).val = 64 * h.val + e.val) :
    val_main_v90 (F := Ideal) (gates c) i = ((klane (-c (mate h) (p0 i)) e.val : ℝ) : EReal) := by
  have hr : (i 0).val < 16384 := (i 0).isLt
  have hh := h.isLt
  have he := e.isLt
  have e0 : p0 (idx_main_v90 i) = p0 i := Fin.ext (by show ((i 0).val * 512 + (i 1).val) / 512 = (i 0).val; omega)
  have e1 : p1 (idx_main_v90 i) = h := Fin.ext (by show ((i 0).val * 512 + (i 1).val) / 64 % 8 = h.val; omega)
  have e2 : p2 (idx_main_v90 i) = e := Fin.ext (by show ((i 0).val * 512 + (i 1).val) % 64 = e.val; omega)
  rw [val_main_v90_apply, ak_row, e0, e1, e2]

/-- The cotangent rows' lanes, in the kernel's layout. -/
theorem ad_at {M : Fin 8 → Fin 16384 → ℝ}
    (hM : ∀ i, val_main_v20 (F := Ideal) (wide q) (wide k) (gates c) i = ((M (p0 i) (p1 i) : ℝ) : EReal))
    (i : S16384x512.Idx) (h : Fin 8) (e : Fin 64) (hi : (i 1).val = 64 * h.val + e.val) :
    val_main_v93 (F := Ideal) (wide q) (wide k) (wide v) (gates c) (wide d) i = ((dlane (-delta (heads q) (heads k) (heads v) (heads d) c (mate h) (p0 i)) e.val : ℝ) : EReal) := by
  have hr : (i 0).val < 16384 := (i 0).isLt
  have hh := h.isLt
  have he := e.isLt
  have e0 : p0 (idx_main_v93 i) = p0 i := Fin.ext (by show ((i 0).val * 512 + (i 1).val) / 512 = (i 0).val; omega)
  have e1 : p1 (idx_main_v93 i) = h := Fin.ext (by show ((i 0).val * 512 + (i 1).val) / 64 % 8 = h.val; omega)
  have e2 : p2 (idx_main_v93 i) = e := Fin.ext (by show ((i 0).val * 512 + (i 1).val) % 64 = e.val; omega)
  rw [val_main_v93_apply, ad_row hM, e0, e1, e2]

/-! The fused array: the queries scaled by 1/8, the keys, the values. -/

theorem fused0_at (i : S16384x1536.Idx) (n : Fin 512) (hi : (i 1).val = 0 + n.val) :
    val_main_v42 (F := Ideal) (wide q) (wide k) (wide v) i = ((q (p0 i) n * (1 / 8) : ℝ) : EReal) := by
  let j : S16384x512.Idx := fun a => match a with
    | ⟨0, _⟩ => p0 i
    | ⟨1, _⟩ => n
  rw [val_main_v42_apply]
  show val_main_v41 (F := Ideal) _ _ _ i = _
  unfold val_main_v41
  refine (concatenate_apply_piece (t := S16384x1536) 1 _ _ i 0 (by exact (by decide : 0 < 3)) S16384x512 _ rfl rfl 0 rfl j ?_ ?_).trans ?_
  · intro b hb
    match b with
    | ⟨0, _⟩ => rfl
    | ⟨1, _⟩ => exact absurd rfl hb
  · exact hi.symm
  · have h39 : ∀ i, val_main_v39 (F := Ideal) i = ((1 / 8 : ℝ) : EReal) := fun i => by
      rw [val_main_v39_apply]; exact bits_eighth
    rw [val_main_v40_apply, h39, EReal.coe_mul]; rfl

theorem fused1_at (i : S16384x1536.Idx) (n : Fin 512) (hi : (i 1).val = 512 + n.val) :
    val_main_v42 (F := Ideal) (wide q) (wide k) (wide v) i = ((k (p0 i) n : ℝ) : EReal) := by
  let j : S16384x512.Idx := fun a => match a with
    | ⟨0, _⟩ => p0 i
    | ⟨1, _⟩ => n
  rw [val_main_v42_apply]
  show val_main_v41 (F := Ideal) _ _ _ i = _
  unfold val_main_v41
  refine (concatenate_apply_piece (t := S16384x1536) 1 _ _ i 1 (by exact (by decide : 1 < 3)) S16384x512 _ rfl rfl 512 rfl j ?_ ?_).trans ?_
  · intro b hb
    match b with
    | ⟨0, _⟩ => rfl
    | ⟨1, _⟩ => exact absurd rfl hb
  · exact hi.symm
  · rfl

theorem fused2_at (i : S16384x1536.Idx) (n : Fin 512) (hi : (i 1).val = 1024 + n.val) :
    val_main_v42 (F := Ideal) (wide q) (wide k) (wide v) i = ((v (p0 i) n : ℝ) : EReal) := by
  let j : S16384x512.Idx := fun a => match a with
    | ⟨0, _⟩ => p0 i
    | ⟨1, _⟩ => n
  rw [val_main_v42_apply]
  show val_main_v41 (F := Ideal) _ _ _ i = _
  unfold val_main_v41
  refine (concatenate_apply_piece (t := S16384x1536) 1 _ _ i 2 (by exact (by decide : 2 < 3)) S16384x512 _ rfl rfl 1024 rfl j ?_ ?_).trans ?_
  · intro b hb
    match b with
    | ⟨0, _⟩ => rfl
    | ⟨1, _⟩ => exact absurd rfl hb
  · exact hi.symm
  · rfl

theorem cot_at (i : S16384x512.Idx) : val_main_v94 (F := Ideal) (wide d) i = ((d (p0 i) (p1 i) : ℝ) : EReal) := rfl

end Cert.Fox.Prep

end
-- ==== Proof.Host.lean ====
/- What the region's five operands hold when the launch starts: the arrays that `_prepare` computes, which the Prep modules
   describe. The kernel's host line and the program Prep are the same operations on the same arguments. -/
module

public import proofs.«01_k».proof.Proof.Gen.KernelIdeal.Frame.Runs
public import proofs.«01_k».proof.Proof.Gen.PrepIdeal.Read

@[expose] public section

set_option maxRecDepth 16384

noncomputable section

namespace Cert.Fox.Host

open Idealize.ShloMosaic Idealize.ShloMosaic.TcCoe Idealize.ShloMosaic.Tactic
open Idealize.ShloMosaic.StableHlo
open Cert.KernelIdeal Cert.KernelIdeal.Gen

variable {F : FTy → Type} [FloatOps F] [Named F]
variable (m : (ℓ : Loc nD τ sig) → Buf (Elt F) ℓ) (c : Dev nD)

/-- Side by side arrays are equal when the pieces are. -/
theorem cat83 {a0 b0 : (⟨S16384x8x1, .bf16⟩ : BufTy).Contents (Elt F)} {a1 b1 : (⟨S16384x8x1, .bf16⟩ : BufTy).Contents (Elt F)} {a2 b2 : (⟨S16384x8x1, .bf16⟩ : BufTy).Contents (Elt F)} {a3 b3 : (⟨S16384x8x3, .bf16⟩ : BufTy).Contents (Elt F)} {a4 b4 : (⟨S16384x8x1, .bf16⟩ : BufTy).Contents (Elt F)} {a5 b5 : (⟨S16384x8x1, .bf16⟩ : BufTy).Contents (Elt F)} {a6 b6 : (⟨S16384x8x1, .bf16⟩ : BufTy).Contents (Elt F)} {a7 b7 : (⟨S16384x8x55, .bf16⟩ : BufTy).Contents (Elt F)}
    (h0 : a0 = b0) (h1 : a1 = b1) (h2 : a2 = b2) (h3 : a3 = b3) (h4 : a4 = b4) (h5 : a5 = b5) (h6 : a6 = b6) (h7 : a7 = b7) :
    (concatenate S16384x8x64 2 [⟨S16384x8x1, a0⟩, ⟨S16384x8x1, a1⟩, ⟨S16384x8x1, a2⟩, ⟨S16384x8x3, a3⟩, ⟨S16384x8x1, a4⟩, ⟨S16384x8x1, a5⟩, ⟨S16384x8x1, a6⟩, ⟨S16384x8x55, a7⟩] concatenates_S16384x8x1_S16384x8x1_S16384x8x1_S16384x8x3_S16384x8x1_S16384x8x1_S16384x8x1_S16384x8x55_S16384x8x64_d2 : (⟨S16384x8x64, .bf16⟩ : BufTy).Contents (Elt F))
      = (concatenate S16384x8x64 2 [⟨S16384x8x1, b0⟩, ⟨S16384x8x1, b1⟩, ⟨S16384x8x1, b2⟩, ⟨S16384x8x3, b3⟩, ⟨S16384x8x1, b4⟩, ⟨S16384x8x1, b5⟩, ⟨S16384x8x1, b6⟩, ⟨S16384x8x55, b7⟩] concatenates_S16384x8x1_S16384x8x1_S16384x8x1_S16384x8x3_S16384x8x1_S16384x8x1_S16384x8x1_S16384x8x55_S16384x8x64_d2 : (⟨S16384x8x64, .bf16⟩ : BufTy).Contents (Elt F)) := by
  subst h0; subst h1; subst h2; subst h3; subst h4; subst h5; subst h6; subst h7; rfl

/-- Side by side arrays are equal when the pieces are. -/
theorem cat92 {a0 b0 : (⟨S16384x8x1, .bf16⟩ : BufTy).Contents (Elt F)} {a1 b1 : (⟨S16384x8x1, .bf16⟩ : BufTy).Contents (Elt F)} {a2 b2 : (⟨S16384x8x1, .bf16⟩ : BufTy).Contents (Elt F)} {a3 b3 : (⟨S16384x8x61, .bf16⟩ : BufTy).Contents (Elt F)}
    (h0 : a0 = b0) (h1 : a1 = b1) (h2 : a2 = b2) (h3 : a3 = b3) :
    (concatenate S16384x8x64 2 [⟨S16384x8x1, a0⟩, ⟨S16384x8x1, a1⟩, ⟨S16384x8x1, a2⟩, ⟨S16384x8x61, a3⟩] concatenates_S16384x8x1_S16384x8x1_S16384x8x1_S16384x8x61_S16384x8x64_d2 : (⟨S16384x8x64, .bf16⟩ : BufTy).Contents (Elt F))
      = (concatenate S16384x8x64 2 [⟨S16384x8x1, b0⟩, ⟨S16384x8x1, b1⟩, ⟨S16384x8x1, b2⟩, ⟨S16384x8x61, b3⟩] concatenates_S16384x8x1_S16384x8x1_S16384x8x1_S16384x8x61_S16384x8x64_d2 : (⟨S16384x8x64, .bf16⟩ : BufTy).Contents (Elt F)) := by
  subst h0; subst h1; subst h2; subst h3; rfl

set_option maxHeartbeats 16000000 in
/-- Queries (scaled by an eighth), keys and values side by side. -/
theorem V_v42 : V m c main_v42 = Cert.PrepIdeal.Read.val_main_v42 (F := F) (m ((c : Thread nD τ).loc main_arg0)) (m ((c : Thread nD τ).loc main_arg1)) (m ((c : Thread nD τ).loc main_arg2)) := by
  simp only [V, hostOps0, hostOps0_1, hostOps0_2, List.flatten_cons, List.flatten_nil, List.cons_append, List.nil_append,
    List.append_nil, TRef.ternary, TRef.unary, TRef.toBuf, TRef.ofBuf, cast_eq]
  after_results_simp <;> (try dsimp only [Matrix.cons_val]) <;> (try after_results_simp) <;> rfl

set_option maxHeartbeats 16000000 in
/-- The cotangent in the half width. -/
theorem V_v94 : V m c main_v94 = Cert.PrepIdeal.Read.val_main_v94 (F := F) (m ((c : Thread nD τ).loc main_arg4)) := by
  simp only [V, hostOps0, hostOps0_1, hostOps0_2, List.flatten_cons, List.flatten_nil, List.cons_append, List.nil_append,
    List.append_nil, TRef.ternary, TRef.unary, TRef.toBuf, TRef.ofBuf, cast_eq]
  after_results_simp <;> (try dsimp only [Matrix.cons_val]) <;> (try after_results_simp) <;> rfl

set_option maxHeartbeats 16000000 in
/-- The query side lanes: gate and log-sum of the mate head. -/
theorem V_v84 : V m c main_v84 = Cert.PrepIdeal.Read.val_main_v84 (F := F) (m ((c : Thread nD τ).loc main_arg0)) (m ((c : Thread nD τ).loc main_arg1)) (m ((c : Thread nD τ).loc main_arg3)) := by
  simp only [V, hostOps0, hostOps0_1, hostOps0_2, List.flatten_cons, List.flatten_nil, List.cons_append, List.nil_append,
    List.append_nil, TRef.ternary, TRef.unary, TRef.toBuf, TRef.ofBuf, cast_eq]
  after_results_simp
  refine congrArg (fun z => shapeCast S16384x512 z shapeCasts_S16384x8x64_S16384x512) (cat83 ?_ ?_ ?_ ?_ ?_ ?_ ?_ ?_) <;>
    (try dsimp only [Matrix.cons_val]) <;> (try after_results_simp) <;> rfl

set_option maxHeartbeats 16000000 in
/-- The key side lanes: gate of the mate head. -/
theorem V_v90 : V m c main_v90 = Cert.PrepIdeal.Read.val_main_v90 (F := F) (m ((c : Thread nD τ).loc main_arg3)) := by
  simp only [V, hostOps0, hostOps0_1, hostOps0_2, List.flatten_cons, List.flatten_nil, List.cons_append, List.nil_append,
    List.append_nil, TRef.ternary, TRef.unary, TRef.toBuf, TRef.ofBuf, cast_eq]
  after_results_simp <;> (try dsimp only [Matrix.cons_val]) <;> (try after_results_simp) <;> rfl

set_option maxHeartbeats 16000000 in
/-- The cotangent side lanes: minus delta of the mate head. -/
theorem V_v93 : V m c main_v93 = Cert.PrepIdeal.Read.val_main_v93 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  simp only [V, hostOps0, hostOps0_1, hostOps0_2, List.flatten_cons, List.flatten_nil, List.cons_append, List.nil_append,
    List.append_nil, TRef.ternary, TRef.unary, TRef.toBuf, TRef.ofBuf, cast_eq]
  after_results_simp
  refine congrArg (fun z => shapeCast S16384x512 z shapeCasts_S16384x8x64_S16384x512) (cat92 ?_ ?_ ?_ ?_) <;>
    (try dsimp only [Matrix.cons_val]) <;> (try after_results_simp) <;> rfl

end Cert.Fox.Host

end
-- ==== Proof.Blocks.lean ====
/- The region's input blocks at a point of the grid, of real arguments: each head of the pair selects, of two blocks, its
   own columns of the one and the bias lanes of the other. -/
module

public import proofs.«01_k».proof.Proof.Pay
public import proofs.«01_k».proof.Proof.Windows
public import proofs.«01_k».proof.Proof.Prep
public import proofs.«01_k».proof.Proof.Host

@[expose] public section

set_option maxRecDepth 16384

noncomputable section

namespace Cert.Fox.Blocks

open Cert.KernelIdeal Cert.KernelIdeal.Gen Idealize.ShloMosaic Idealize.ShloMosaic.TcCoe
open scoped BigOperators

/-- The arguments are arrays of reals. -/
structure Reals (m : (ℓ : Loc nD τ sig) → Buf (Elt Ideal) ℓ) (c : Dev nD) (q k v d : Fin 16384 → Fin 512 → ℝ)
    (g : Fin 8 → Fin 16384 → ℝ) : Prop where
  a0 : (m ((c : Thread nD τ).loc main_arg0) : FVec Ideal S16384x512 .f32) = wide q
  a1 : (m ((c : Thread nD τ).loc main_arg1) : FVec Ideal S16384x512 .f32) = wide k
  a2 : (m ((c : Thread nD τ).loc main_arg2) : FVec Ideal S16384x512 .f32) = wide v
  a3 : (m ((c : Thread nD τ).loc main_arg3) : FVec Ideal S8x16384 .f32) = gates g
  a4 : (m ((c : Thread nD τ).loc main_arg4) : FVec Ideal S16384x512 .f32) = wide d

variable {m : (ℓ : Loc nD τ sig) → Buf (Elt Ideal) ℓ} {c : Dev nD} {q k v d : Fin 16384 → Fin 512 → ℝ}
  {g : Fin 8 → Fin 16384 → ℝ} (H : Reals m c q k v d g)

theorem qI_eq (t : Fin cfg0.N) (r : Fin 512) (h : max (t.val % 32) (t.val / 32 % 32) * 512 + r.val < 16384) :
    (⟨max (t.val % 32) (t.val / 32 % 32) * 512 + r.val, h⟩ : Fin 16384) = qI t r :=
  Fin.ext (by show max (t.val % 32) (t.val / 32 % 32) * 512 + r.val = 512 * max (t.val % 32) (t.val / 32 % 32) + r.val; omega)

theorem kJ_eq (t : Fin cfg0.N) (y : Fin 512) (h : t.val / 32 % 32 * 512 + y.val < 16384) :
    (⟨t.val / 32 % 32 * 512 + y.val, h⟩ : Fin 16384) = kJ t y :=
  Fin.ext (by show t.val / 32 % 32 * 512 + y.val = 512 * (t.val / 32 % 32) + y.val; omega)

theorem congr_three {α β γ δ : Type} (f : α → β → γ → δ) {a a' : α} {b b' : β} {x x' : γ} (ha : a = a') (hb : b = b')
    (hx : x = x') : f a b x = f a' b' x' := by
  rw [ha, hb, hx]

/-- The slot of a column: the pair's head it belongs to. -/
def slot (x : Fin 128) : Fin 2 := ⟨x.val / 64, by have := x.isLt; omega⟩

include H

theorem q_at (t : Fin cfg0.N) (r : Fin 512) (x : Fin 128) :
    (iblk m c 0 t : FVec Ideal S512x128 .bf16) (ix2 r x) = ((q (qI t r) (col t x) * (1 / 8) : ℝ) : EReal) := by
  rw [blk0, Host.V_v42]
  refine (congr_three (fun a b c => Cert.PrepIdeal.Read.val_main_v42 (F := Ideal) a b c _) H.a0 H.a1 H.a2).trans ?_
  refine (Prep.fused0_at _ (col t x) ?_).trans ?_
  · show t.val / 1024 * 128 + x.val = 0 + (t.val / 1024 * 128 + x.val); omega
  · rw [← qI_eq t r (by have := r.isLt; omega)]; rfl

theorem k_at (t : Fin cfg0.N) (y : Fin 512) (x : Fin 128) :
    (iblk m c 1 t : FVec Ideal S512x128 .bf16) (ix2 y x) = ((k (kJ t y) (col t x) : ℝ) : EReal) := by
  rw [blk1, Host.V_v42]
  refine (congr_three (fun a b c => Cert.PrepIdeal.Read.val_main_v42 (F := Ideal) a b c _) H.a0 H.a1 H.a2).trans ?_
  refine (Prep.fused1_at _ (col t x) ?_).trans ?_
  · show (4 + t.val / 1024) * 128 + x.val = 512 + (t.val / 1024 * 128 + x.val); omega
  · rw [← kJ_eq t y (by have := y.isLt; omega)]; rfl

theorem v_at (t : Fin cfg0.N) (y : Fin 512) (x : Fin 128) :
    (iblk m c 2 t : FVec Ideal S512x128 .bf16) (ix2 y x) = ((v (kJ t y) (col t x) : ℝ) : EReal) := by
  rw [blk2, Host.V_v42]
  refine (congr_three (fun a b c => Cert.PrepIdeal.Read.val_main_v42 (F := Ideal) a b c _) H.a0 H.a1 H.a2).trans ?_
  refine (Prep.fused2_at _ (col t x) ?_).trans ?_
  · show (8 + t.val / 1024) * 128 + x.val = 1024 + (t.val / 1024 * 128 + x.val); omega
  · rw [← kJ_eq t y (by have := y.isLt; omega)]; rfl

theorem d_at (t : Fin cfg0.N) (r : Fin 512) (x : Fin 128) :
    (iblk m c 3 t : FVec Ideal S512x128 .bf16) (ix2 r x) = ((d (qI t r) (col t x) : ℝ) : EReal) := by
  rw [blk3, Host.V_v94]
  refine (congrArg (fun a => Cert.PrepIdeal.Read.val_main_v94 (F := Ideal) a _) H.a4).trans ?_
  refine (Prep.cot_at _).trans ?_
  rw [← qI_eq t r (by have := r.isLt; omega)]; rfl

theorem aq_at (t : Fin cfg0.N) (r : Fin 512) (x : Fin 128) :
    (iblk m c 4 t : FVec Ideal S512x128 .bf16) (ix2 r x)
      = ((qlane (g (mate (hd t (slot x))) (qI t r))
          (-Real.log (total (heads q) (heads k) g (mate (hd t (slot x))) (qI t r))) (lane x).val : ℝ) : EReal) := by
  choose M hM using fun (h : Fin 8) (i : Fin 16384) => Prep.rowmax_at q k g (ix2 h i)
  rw [blk4, Host.V_v84]
  refine (congr_three (fun a b c => Cert.PrepIdeal.Read.val_main_v84 (F := Ideal) a b c _) H.a0 H.a1 H.a3).trans ?_
  refine (Prep.aql_at (M := M) ?_ _ (hd t (slot x)) (lane x) ?_).trans ?_
  · intro i
    refine Eq.trans ?_ (hM (p0 i) (p1 i))
    exact congrArg _ (by funext a; match a with | ⟨0, _⟩ => rfl | ⟨1, _⟩ => rfl)
  · show t.val / 1024 * 128 + x.val = 64 * (2 * (t.val / 1024) + x.val / 64) + x.val % 64; omega
  · rw [← qI_eq t r (by have := r.isLt; omega)]; rfl

theorem ak_at (t : Fin cfg0.N) (y : Fin 512) (x : Fin 128) :
    (iblk m c 5 t : FVec Ideal S512x128 .bf16) (ix2 y x)
      = ((klane (-g (mate (hd t (slot x))) (kJ t y)) (lane x).val : ℝ) : EReal) := by
  rw [blk5, Host.V_v90]
  refine (congrArg (fun a => Cert.PrepIdeal.Read.val_main_v90 (F := Ideal) a _) H.a3).trans ?_
  refine (Prep.ak_at _ (hd t (slot x)) (lane x) ?_).trans ?_
  · show t.val / 1024 * 128 + x.val = 64 * (2 * (t.val / 1024) + x.val / 64) + x.val % 64; omega
  · rw [← kJ_eq t y (by have := y.isLt; omega)]; rfl

theorem ad_at (t : Fin cfg0.N) (r : Fin 512) (x : Fin 128) :
    (iblk m c 6 t : FVec Ideal S512x128 .bf16) (ix2 r x)
      = ((dlane (-delta (heads q) (heads k) (heads v) (heads d) g (mate (hd t (slot x))) (qI t r)) (lane x).val : ℝ) : EReal) := by
  choose M hM using fun (h : Fin 8) (i : Fin 16384) => Prep.rowmax_at q k g (ix2 h i)
  rw [blk6, Host.V_v93]
  refine (congr_three (fun a b c => Cert.PrepIdeal.Read.val_main_v93 (F := Ideal) a b c _ _ _) H.a0 H.a1 H.a2).trans ?_
  refine (congrArg₂ (fun a b => Cert.PrepIdeal.Read.val_main_v93 (F := Ideal) _ _ _ a b _) H.a3 H.a4).trans ?_
  refine (Prep.ad_at (M := M) ?_ _ (hd t (slot x)) (lane x) ?_).trans ?_
  · intro i
    refine Eq.trans ?_ (hM (p0 i) (p1 i))
    exact congrArg _ (by funext a; match a with | ⟨0, _⟩ => rfl | ⟨1, _⟩ => rfl)
  · show t.val / 1024 * 128 + x.val = 64 * (2 * (t.val / 1024) + x.val / 64) + x.val % 64; omega
  · rw [← qI_eq t r (by have := r.isLt; omega)]; rfl

omit H in
/-- Whether a column is the head's own, read from its slot. -/
theorem own_iff (t : Fin cfg0.N) (a : Fin 2) (x : Fin 128) : own (hd t a) x ↔ x.val / 64 = a.val := by
  show x.val / 64 = (2 * pr t + a.val) % 2 ↔ _
  have := a.isLt
  omega

omit H in
theorem slot_own (t : Fin cfg0.N) (a : Fin 2) (x : Fin 128) (h : x.val / 64 = a.val) : hd t (slot x) = hd t a :=
  congrArg (hd t) (Fin.ext h)

omit H in
theorem slot_mate (t : Fin cfg0.N) (a : Fin 2) (x : Fin 128) (h : ¬ x.val / 64 = a.val) :
    mate (hd t (slot x)) = hd t a := Fin.ext (by
  show 2 * ((2 * pr t + x.val / 64) / 2) + (1 - (2 * pr t + x.val / 64) % 2) = 2 * pr t + a.val
  have := a.isLt; have := x.isLt; omega)

omit H in
theorem heads_col (w : Fin 16384 → Fin 512 → ℝ) (t : Fin cfg0.N) (x : Fin 128) (i : Fin 16384) :
    heads w (hd t (slot x)) i (lane x) = w i (col t x) :=
  congrArg (w i) (Fin.ext (by
    show 64 * (2 * pr t + x.val / 64) + x.val % 64 = pr t * 128 + x.val; omega))

omit H in
/-- A selection by slot. -/
theorem sel_at {w : IVec S1x128 1} {a : Fin 2} (hw : ∀ l, w (ix2 0 l) = if l.val / 64 = a.val then 1#1 else 0#1)
    (x : Fin 128) (y z : EReal) : Scalar.select (w (ix2 0 x)) y z = if x.val / 64 = a.val then y else z := by
  rw [hw]
  by_cases h : x.val / 64 = a.val
  · rw [if_pos h, if_pos h]; rfl
  · rw [if_neg h, if_neg h]; rfl

theorem sel_q {w : IVec S1x128 1} {a : Fin 2} (hw : ∀ l, w (ix2 0 l) = if l.val / 64 = a.val then 1#1 else 0#1)
    (t : Fin cfg0.N) (r : Fin 512) (x : Fin 128) :
    Scalar.select (w (ix2 0 x)) ((iblk m c 0 t : FVec Ideal S512x128 .bf16) (ix2 r x))
        ((iblk m c 4 t : FVec Ideal S512x128 .bf16) (ix2 r x))
      = ((qrow (heads q) (heads k) g (hd t a) (qI t r) x : ℝ) : EReal) := by
  rw [sel_at hw, q_at H, aq_at H, qrow]
  by_cases h : x.val / 64 = a.val
  · rw [if_pos h, if_pos ((own_iff t a x).2 h), ← slot_own t a x h, heads_col]
  · rw [if_neg h, if_neg (fun e => h ((own_iff t a x).1 e)), slot_mate t a x h]

theorem sel_u {w : IVec S1x128 1} {a : Fin 2} (hw : ∀ l, w (ix2 0 l) = if l.val / 64 = a.val then 1#1 else 0#1)
    (t : Fin cfg0.N) (r : Fin 512) (x : Fin 128) :
    Scalar.select (w (ix2 0 x)) ((iblk m c 0 t : FVec Ideal S512x128 .bf16) (ix2 r x)) (1 : EReal)
      = ((urow (heads q) (hd t a) (qI t r) x : ℝ) : EReal) := by
  rw [sel_at hw, q_at H, urow]
  by_cases h : x.val / 64 = a.val
  · rw [if_pos h, if_pos ((own_iff t a x).2 h), ← slot_own t a x h, heads_col]
  · rw [if_neg h, if_neg (fun e => h ((own_iff t a x).1 e))]; rfl

theorem sel_d {w : IVec S1x128 1} {a : Fin 2} (hw : ∀ l, w (ix2 0 l) = if l.val / 64 = a.val then 1#1 else 0#1)
    (t : Fin cfg0.N) (r : Fin 512) (x : Fin 128) :
    Scalar.select (w (ix2 0 x)) ((iblk m c 3 t : FVec Ideal S512x128 .bf16) (ix2 r x))
        ((iblk m c 6 t : FVec Ideal S512x128 .bf16) (ix2 r x))
      = ((drow (heads q) (heads k) (heads v) (heads d) g (hd t a) (qI t r) x : ℝ) : EReal) := by
  rw [sel_at hw, d_at H, ad_at H, drow]
  by_cases h : x.val / 64 = a.val
  · rw [if_pos h, if_pos ((own_iff t a x).2 h), ← slot_own t a x h, heads_col]
  · rw [if_neg h, if_neg (fun e => h ((own_iff t a x).1 e)), slot_mate t a x h]

/-- A key row of the head `a`. -/
theorem key_at (t : Fin cfg0.N) (a : Fin 2) (y : Fin 512) (x : Fin 128) :
    (if x.val / 64 = a.val then (iblk m c 1 t : FVec Ideal S512x128 .bf16) (ix2 y x)
        else (iblk m c 5 t : FVec Ideal S512x128 .bf16) (ix2 y x))
      = ((krow (heads k) g (hd t a) (kJ t y) x : ℝ) : EReal) := by
  rw [k_at H, ak_at H, krow]
  by_cases h : x.val / 64 = a.val
  · rw [if_pos h, if_pos ((own_iff t a x).2 h), ← slot_own t a x h, heads_col]
  · rw [if_neg h, if_neg (fun e => h ((own_iff t a x).1 e)), slot_mate t a x h]

/-- A value row of the head `a`. -/
theorem value_at (t : Fin cfg0.N) (a : Fin 2) (y : Fin 512) (x : Fin 128) :
    (if x.val / 64 = a.val then (iblk m c 2 t : FVec Ideal S512x128 .bf16) (ix2 y x)
        else ((onelane (lane x).val : ℝ) : EReal))
      = ((vrow (heads v) (hd t a) (kJ t y) x : ℝ) : EReal) := by
  rw [v_at H, vrow]
  by_cases h : x.val / 64 = a.val
  · rw [if_pos h, if_pos ((own_iff t a x).2 h), ← slot_own t a x h, heads_col]
  · rw [if_neg h, if_neg (fun e => h ((own_iff t a x).1 e))]

end Cert.Fox.Blocks

end
-- ==== Proof.Steps.lean ====
/- What the body adds to the sums of a pair's two heads at one point of the grid, and what it puts into the buffers at
   the first point of a key block. -/
module

public import proofs.«01_k».proof.Proof.Blocks

@[expose] public section

set_option maxRecDepth 16384

noncomputable section

namespace Cert.Fox.Steps

open Cert.KernelIdeal Cert.KernelIdeal.Gen Cert.Fox.Blocks Idealize.ShloMosaic Idealize.ShloMosaic.TcCoe
open scoped BigOperators

/-- Re-laid blocks of the same shape. -/
theorem lay20 (b : FVec Ideal S512x128 .bf16) : k0_pay20 (F := Ideal) b = b := by funext i; pointwise [k0_pay20]
theorem lay21 (b : FVec Ideal S512x128 .bf16) : k0_pay21 (F := Ideal) b = b := by funext i; pointwise [k0_pay21]
theorem lay22 (b : FVec Ideal S512x128 .bf16) : k0_pay22 (F := Ideal) b = b := by funext i; pointwise [k0_pay22]
theorem lay23 (b : FVec Ideal S512x128 .bf16) : k0_pay23 (F := Ideal) b = b := by funext i; pointwise [k0_pay23]
theorem lay36 (b : FVec Ideal S512x128 .bf16) : k0_pay36 (F := Ideal) b = b := by funext i; pointwise [k0_pay36]
theorem lay37 (b : FVec Ideal S512x128 .bf16) : k0_pay37 (F := Ideal) b = b := by funext i; pointwise [k0_pay37]
theorem lay38 (b : FVec Ideal S512x128 .bf16) : k0_pay38 (F := Ideal) b = b := by funext i; pointwise [k0_pay38]
theorem lay39 (b : FVec Ideal S512x128 .bf16) : k0_pay39 (F := Ideal) b = b := by funext i; pointwise [k0_pay39]
theorem lay15 (b : FVec Ideal S512x128 .bf16) : k0_pay15 (F := Ideal) b = b := by funext i; pointwise [k0_pay15]

theorem pay24_at (r : Fin 512) (x : Fin 128) : k0_pay24 (F := Ideal) (ix2 r x) = (1 : EReal) := by
  pointwise [k0_pay24]

/-- Whether a column is one of the first three of its head. -/
theorem third : ∀ x : Fin 128, IntOp.cmpi CmpIPredicate.slt
        (Scalar.select
          (IntOp.andi
            (IntOp.xori
              (IntOp.cmpi CmpIPredicate.slt
                (IntOp.remsi ArithUnit.vector (BitVec.ofNat 32 x.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 x.val)
                (Scalar.select (Scalar.cmpi CmpIPredicate.eq 64#32 0#32) 1#32 64#32))
              0#32))
          (IntOp.addi
            (IntOp.remsi ArithUnit.vector (BitVec.ofNat 32 x.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 x.val)
            (Scalar.select (Scalar.cmpi CmpIPredicate.eq 64#32 0#32) 1#32 64#32)))
        3#32 = if (x.val % 64) < 3 then 1#1 else 0#1 := by decide +kernel

theorem pay17_at (r : Fin 512) (x : Fin 128) : k0_pay17 (F := Ideal) (ix2 r x) = ((onelane (lane x).val : ℝ) : EReal) := by
  pointwise [k0_pay17]
  rw [third x, onelane]
  show _ = (((if x.val % 64 < 3 then 1 else 0 : ℝ)) : EReal)
  by_cases h : x.val % 64 < 3
  · rw [if_pos h, if_pos h]; rfl
  · rw [if_neg h, if_neg h]; rfl

theorem pay6_at (a : Fin 2) (r : Fin 512) (x : Fin 128) : k0_pay6 (F := Ideal) (ix3 a r x) = (0 : EReal) := by
  pointwise [k0_pay6]

theorem pay7_at (a : Fin 2) (r : Fin 512) (x : Fin 128) : k0_pay7 (F := Ideal) (ix3 a r x) = (0 : EReal) := by
  pointwise [k0_pay7]

theorem pay40_at (r : Fin 512) (x : Fin 128) : k0_pay40 (F := Ideal) (ix2 r x) = (1 : EReal) := by
  pointwise [k0_pay40]

theorem other_slot (x : Fin 128) (y z : EReal) :
    (if x.val / 64 = (0 : Fin 2).val then y else z) = if x.val / 64 = (1 : Fin 2).val then z else y := by
  have hx := x.isLt
  show (if x.val / 64 = 0 then y else z) = if x.val / 64 = 1 then z else y
  by_cases h : x.val / 64 = 0
  · rw [if_pos h, if_neg (by omega)]
  · rw [if_neg h, if_pos (by omega)]

theorem pay18_at (b w : FVec Ideal S512x128 .bf16) (r : Fin 512) (x : Fin 128) :
    k0_pay18 (F := Ideal) k0_pay1 b w (ix3 0 r x) = if x.val / 64 = (0 : Fin 2).val then b (ix2 r x) else w (ix2 r x) := by
  pointwise [k0_pay18, k0_pay14, k0_pay16]
  exact sel_at (a := 0) Pay.pay1_at x _ _

theorem pay19_at (b w : FVec Ideal S512x128 .bf16) (r : Fin 512) (x : Fin 128) :
    k0_pay3 (F := Ideal) (k0_pay19 k0_pay1 b w) (ix3 0 r x) = if x.val / 64 = (1 : Fin 2).val then b (ix2 r x) else w (ix2 r x) := by
  pointwise [k0_pay3, k0_pay19, k0_pay14, k0_pay16]
  rw [sel_at (a := 0) Pay.pay1_at x]
  exact other_slot x _ _

theorem pay4_at (b w : FVec Ideal S512x128 .bf16) (r : Fin 512) (x : Fin 128) :
    k0_pay4 (F := Ideal) b w (ix3 0 r x) = if x.val / 64 = (0 : Fin 2).val then b (ix2 r x) else w (ix2 r x) := by
  pointwise [k0_pay4]
  exact sel_at (a := 0) Pay.pay1_at x _ _

theorem pay5_at (b w : FVec Ideal S512x128 .bf16) (r : Fin 512) (x : Fin 128) :
    k0_pay5 (F := Ideal) b w (ix3 0 r x) = if x.val / 64 = (1 : Fin 2).val then b (ix2 r x) else w (ix2 r x) := by
  pointwise [k0_pay5]
  rw [sel_at (a := 0) Pay.pay1_at x]
  exact other_slot x _ _

theorem pay9_at (b : FVec Ideal S512x128 .f32) (r : Fin 512) (x : Fin 128) : k0_pay9 (F := Ideal) b (ix3 0 r x) = b (ix2 r x) := by
  pointwise [k0_pay9]

theorem pay45_at (b : FVec Ideal S512x128 .f32) (r : Fin 512) (x : Fin 128) : k0_pay45 (F := Ideal) b (ix3 0 r x) = b (ix2 r x) := by
  pointwise [k0_pay45]

/-- Before the diagonal's block every key is at or before every query; … -/
theorem Jlt (t : Fin cfg0.N) (hk : kj t < mx t) (r y : Fin 512) : kJ t y ≤ qI t r := by
  show 512 * kj t + y.val ≤ 512 * mx t + r.val
  have := y.isLt; omega

/-- … on it, as the rows inside the block are. -/
theorem Jdiag (t : Fin cfg0.N) (hk : kj t = mx t) (r y : Fin 512) : kJ t y ≤ qI t r ↔ y.val ≤ r.val := by
  show 512 * kj t + y.val ≤ 512 * mx t + r.val ↔ _
  omega

variable {m : (ℓ : Loc nD τ sig) → Buf (Elt Ideal) ℓ} {c : Dev nD} {q k v d : Fin 16384 → Fin 512 → ℝ}
  {g : Fin 8 → Fin 16384 → ℝ} (H : Reals m c q k v d g)
include H

/-- The keys' sums of the first head, after a whole block. -/
theorem rwhole0 (t : Fin cfg0.N) (hk : kj t < mx t) {ka va : FVec Ideal S1x512x128 .bf16} {a : FVec Ideal S1x512x128 .f32}
    (Hk : ∀ y x, ka (ix3 0 y x) = ((krow (heads k) g (hd t 0) (kJ t y) x : ℝ) : EReal))
    (Hv : ∀ y x, va (ix3 0 y x) = ((vrow (heads v) (hd t 0) (kJ t y) x : ℝ) : EReal))
    (y : Fin 512) (l : Fin 128)
    (Ha : a (ix3 0 y l) = ((rsum (heads q) (heads k) (heads v) (heads d) g (hd t 0) (kJ t y) l (mx t) : ℝ) : EReal)) :
    k0_pay29 (F := Ideal) k0_pay1 (k0_pay20 (iblk m c 0 t)) k0_pay24 (k0_pay27 k0_pay1 (iblk m c 0 t) (iblk m c 3 t) (iblk m c 4 t) (iblk m c 6 t) ka va) a (ix3 0 y l)
      = ((rsum (heads q) (heads k) (heads v) (heads d) g (hd t 0) (kJ t y) l (mx t + 1) : ℝ) : EReal) := by
  rw [lay20]
  refine (Pay.pay29_at (heads q) (heads k) (heads v) (heads d) g (hd t 0) (qI t) (kJ t) (v := k0_pay1) (fun r x => ?_)
    (fun r y => Pay.pay27_at (heads q) (heads k) (heads v) (heads d) g (hd t 0) (qI t) (kJ t) (sel_q H Pay.pay1_at t) Hk (sel_d H Pay.pay1_at t) Hv (Jlt t hk) r y) y l).trans ?_
  · rw [pay24_at]; exact sel_u H Pay.pay1_at t r x
  · rw [Ha, ← EReal.coe_add]; exact congrArg _ (rsum_succ (heads q) (heads k) (heads v) (heads d) g (hd t 0) (kJ t y) l (mx t) (mx_lt t)).symm

/-- The values' sums of the first head, after a whole block. -/
theorem vwhole0 (t : Fin cfg0.N) (hk : kj t < mx t) {ka : FVec Ideal S1x512x128 .bf16} {a : FVec Ideal S1x512x128 .f32}
    (Hk : ∀ y x, ka (ix3 0 y x) = ((krow (heads k) g (hd t 0) (kJ t y) x : ℝ) : EReal))
    (y : Fin 512) (l : Fin 128)
    (Ha : a (ix3 0 y l) = ((vsum (heads q) (heads k) (heads v) (heads d) g (hd t 0) (kJ t y) l (mx t) : ℝ) : EReal)) :
    k0_pay28 (F := Ideal) k0_pay1 (iblk m c 0 t) (iblk m c 3 t) (iblk m c 4 t) (iblk m c 6 t) ka a (ix3 0 y l)
      = ((vsum (heads q) (heads k) (heads v) (heads d) g (hd t 0) (kJ t y) l (mx t + 1) : ℝ) : EReal) := by
  refine ((Pay.pay28_at (heads q) (heads k) (heads v) (heads d) g (hd t 0) (qI t) (kJ t) (sel_q H Pay.pay1_at t) Hk (sel_d H Pay.pay1_at t) (Jlt t hk) y l)).trans ?_
  rw [Ha, ← EReal.coe_add]
  exact congrArg _ (vsum_succ (heads q) (heads k) (heads v) (heads d) g (hd t 0) (kJ t y) l (mx t) (mx_lt t)).symm

/-- The keys' sums of the second head, after a whole block. -/
theorem rwhole1 (t : Fin cfg0.N) (hk : kj t < mx t) {ka va : FVec Ideal S1x512x128 .bf16} {a : FVec Ideal S1x512x128 .f32}
    (Hk : ∀ y x, ka (ix3 0 y x) = ((krow (heads k) g (hd t 1) (kJ t y) x : ℝ) : EReal))
    (Hv : ∀ y x, va (ix3 0 y x) = ((vrow (heads v) (hd t 1) (kJ t y) x : ℝ) : EReal))
    (y : Fin 512) (l : Fin 128)
    (Ha : a (ix3 0 y l) = ((rsum (heads q) (heads k) (heads v) (heads d) g (hd t 1) (kJ t y) l (mx t) : ℝ) : EReal)) :
    k0_pay8 (F := Ideal) (k0_pay20 (iblk m c 0 t)) k0_pay24 (k0_pay32 k0_pay2 (k0_pay20 (iblk m c 0 t)) (k0_pay21 (iblk m c 3 t)) (k0_pay22 (iblk m c 4 t)) (k0_pay23 (iblk m c 6 t)) ka va) (k0_pay34 a) (k0_pay35 k0_pay2) (ix3 0 y l)
      = ((rsum (heads q) (heads k) (heads v) (heads d) g (hd t 1) (kJ t y) l (mx t + 1) : ℝ) : EReal) := by
  rw [lay20, lay21, lay22, lay23]
  refine (Pay.pay8_at (heads q) (heads k) (heads v) (heads d) g (hd t 1) (qI t) (kJ t) (v := k0_pay2) (fun r x => ?_)
    (fun r y => Pay.pay32_at (heads q) (heads k) (heads v) (heads d) g (hd t 1) (qI t) (kJ t) (sel_q H Pay.pay2_at t) Hk (sel_d H Pay.pay2_at t) Hv (Jlt t hk) r y) y l).trans ?_
  · rw [pay24_at]; exact sel_u H Pay.pay2_at t r x
  · rw [Ha, ← EReal.coe_add]; exact congrArg _ (rsum_succ (heads q) (heads k) (heads v) (heads d) g (hd t 1) (kJ t y) l (mx t) (mx_lt t)).symm

/-- The values' sums of the second head, after a whole block. -/
theorem vwhole1 (t : Fin cfg0.N) (hk : kj t < mx t) {ka : FVec Ideal S1x512x128 .bf16} {a : FVec Ideal S1x512x128 .f32}
    (Hk : ∀ y x, ka (ix3 0 y x) = ((krow (heads k) g (hd t 1) (kJ t y) x : ℝ) : EReal))
    (y : Fin 512) (l : Fin 128)
    (Ha : a (ix3 0 y l) = ((vsum (heads q) (heads k) (heads v) (heads d) g (hd t 1) (kJ t y) l (mx t) : ℝ) : EReal)) :
    k0_pay33 (F := Ideal) k0_pay2 (k0_pay20 (iblk m c 0 t)) (k0_pay21 (iblk m c 3 t)) (k0_pay22 (iblk m c 4 t)) (k0_pay23 (iblk m c 6 t)) ka a (ix3 0 y l)
      = ((vsum (heads q) (heads k) (heads v) (heads d) g (hd t 1) (kJ t y) l (mx t + 1) : ℝ) : EReal) := by
  rw [lay20, lay21, lay22, lay23]
  refine ((Pay.pay33_at (heads q) (heads k) (heads v) (heads d) g (hd t 1) (qI t) (kJ t) (sel_q H Pay.pay2_at t) Hk (sel_d H Pay.pay2_at t) (Jlt t hk) y l)).trans ?_
  rw [Ha, ← EReal.coe_add]
  exact congrArg _ (vsum_succ (heads q) (heads k) (heads v) (heads d) g (hd t 1) (kJ t y) l (mx t) (mx_lt t)).symm

/-- The keys' sums of the first head, after a block of the diagonal. -/
theorem rdiag0 (t : Fin cfg0.N) (hk : kj t = mx t) {ka va : FVec Ideal S1x512x128 .bf16} {a : FVec Ideal S1x512x128 .f32}
    (Hk : ∀ y x, ka (ix3 0 y x) = ((krow (heads k) g (hd t 0) (kJ t y) x : ℝ) : EReal))
    (Hv : ∀ y x, va (ix3 0 y x) = ((vrow (heads v) (hd t 0) (kJ t y) x : ℝ) : EReal))
    (y : Fin 512) (l : Fin 128)
    (Ha : a (ix3 0 y l) = ((rsum (heads q) (heads k) (heads v) (heads d) g (hd t 0) (kJ t y) l (mx t) : ℝ) : EReal)) :
    k0_pay46 (F := Ideal) k0_pay1 (k0_pay36 (iblk m c 0 t)) k0_pay40 (k0_pay43 k0_pay1 (iblk m c 0 t) (iblk m c 3 t) (iblk m c 4 t) (iblk m c 6 t) ka va) a (ix3 0 y l)
      = ((rsum (heads q) (heads k) (heads v) (heads d) g (hd t 0) (kJ t y) l (mx t + 1) : ℝ) : EReal) := by
  rw [lay36]
  refine (Pay.pay46_at (heads q) (heads k) (heads v) (heads d) g (hd t 0) (qI t) (kJ t) (v := k0_pay1) (fun r x => ?_)
    (fun r y => Pay.pay43_at (heads q) (heads k) (heads v) (heads d) g (hd t 0) (qI t) (kJ t) (sel_q H Pay.pay1_at t) Hk (sel_d H Pay.pay1_at t) Hv (Jdiag t hk) r y) y l).trans ?_
  · rw [pay40_at]; exact sel_u H Pay.pay1_at t r x
  · rw [Ha, ← EReal.coe_add]; exact congrArg _ (rsum_succ (heads q) (heads k) (heads v) (heads d) g (hd t 0) (kJ t y) l (mx t) (mx_lt t)).symm

/-- The values' sums of the first head, after a block of the diagonal. -/
theorem vdiag0 (t : Fin cfg0.N) (hk : kj t = mx t) {ka : FVec Ideal S1x512x128 .bf16} {a : FVec Ideal S1x512x128 .f32}
    (Hk : ∀ y x, ka (ix3 0 y x) = ((krow (heads k) g (hd t 0) (kJ t y) x : ℝ) : EReal))
    (y : Fin 512) (l : Fin 128)
    (Ha : a (ix3 0 y l) = ((vsum (heads q) (heads k) (heads v) (heads d) g (hd t 0) (kJ t y) l (mx t) : ℝ) : EReal)) :
    k0_pay45 (F := Ideal) (k0_pay44 k0_pay1 (iblk m c 0 t) (iblk m c 3 t) (iblk m c 4 t) (iblk m c 6 t) ka a) (ix3 0 y l)
      = ((vsum (heads q) (heads k) (heads v) (heads d) g (hd t 0) (kJ t y) l (mx t + 1) : ℝ) : EReal) := by
  refine ((pay45_at _ y l).trans (Pay.pay44_at (heads q) (heads k) (heads v) (heads d) g (hd t 0) (qI t) (kJ t) (sel_q H Pay.pay1_at t) Hk (sel_d H Pay.pay1_at t) (Jdiag t hk) y l)).trans ?_
  rw [Ha, ← EReal.coe_add]
  exact congrArg _ (vsum_succ (heads q) (heads k) (heads v) (heads d) g (hd t 0) (kJ t y) l (mx t) (mx_lt t)).symm

/-- The keys' sums of the second head, after a block of the diagonal. -/
theorem rdiag1 (t : Fin cfg0.N) (hk : kj t = mx t) {ka va : FVec Ideal S1x512x128 .bf16} {a : FVec Ideal S1x512x128 .f32}
    (Hk : ∀ y x, ka (ix3 0 y x) = ((krow (heads k) g (hd t 1) (kJ t y) x : ℝ) : EReal))
    (Hv : ∀ y x, va (ix3 0 y x) = ((vrow (heads v) (hd t 1) (kJ t y) x : ℝ) : EReal))
    (y : Fin 512) (l : Fin 128)
    (Ha : a (ix3 0 y l) = ((rsum (heads q) (heads k) (heads v) (heads d) g (hd t 1) (kJ t y) l (mx t) : ℝ) : EReal)) :
    k0_pay10 (F := Ideal) (k0_pay36 (iblk m c 0 t)) k0_pay40 (k0_pay49 k0_pay2 (k0_pay36 (iblk m c 0 t)) (k0_pay37 (iblk m c 3 t)) (k0_pay38 (iblk m c 4 t)) (k0_pay39 (iblk m c 6 t)) ka va) a (ix3 0 y l)
      = ((rsum (heads q) (heads k) (heads v) (heads d) g (hd t 1) (kJ t y) l (mx t + 1) : ℝ) : EReal) := by
  rw [lay36, lay37, lay38, lay39]
  refine (Pay.pay10_at (heads q) (heads k) (heads v) (heads d) g (hd t 1) (qI t) (kJ t) (fun r x => ?_)
    (fun r y => Pay.pay49_at (heads q) (heads k) (heads v) (heads d) g (hd t 1) (qI t) (kJ t) (sel_q H Pay.pay2_at t) Hk (sel_d H Pay.pay2_at t) Hv (Jdiag t hk) r y) y l).trans ?_
  · rw [pay40_at]; exact sel_u H Pay.pay2_at t r x
  · rw [Ha, ← EReal.coe_add]; exact congrArg _ (rsum_succ (heads q) (heads k) (heads v) (heads d) g (hd t 1) (kJ t y) l (mx t) (mx_lt t)).symm

/-- The values' sums of the second head, after a block of the diagonal. -/
theorem vdiag1 (t : Fin cfg0.N) (hk : kj t = mx t) {ka : FVec Ideal S1x512x128 .bf16} {a : FVec Ideal S1x512x128 .f32}
    (Hk : ∀ y x, ka (ix3 0 y x) = ((krow (heads k) g (hd t 1) (kJ t y) x : ℝ) : EReal))
    (y : Fin 512) (l : Fin 128)
    (Ha : a (ix3 0 y l) = ((vsum (heads q) (heads k) (heads v) (heads d) g (hd t 1) (kJ t y) l (mx t) : ℝ) : EReal)) :
    k0_pay9 (F := Ideal) (k0_pay50 k0_pay2 (k0_pay36 (iblk m c 0 t)) (k0_pay37 (iblk m c 3 t)) (k0_pay38 (iblk m c 4 t)) (k0_pay39 (iblk m c 6 t)) ka a) (ix3 0 y l)
      = ((vsum (heads q) (heads k) (heads v) (heads d) g (hd t 1) (kJ t y) l (mx t + 1) : ℝ) : EReal) := by
  rw [lay36, lay37, lay38, lay39]
  refine ((pay9_at _ y l).trans (Pay.pay50_at (heads q) (heads k) (heads v) (heads d) g (hd t 1) (qI t) (kJ t) (sel_q H Pay.pay2_at t) Hk (sel_d H Pay.pay2_at t) (Jdiag t hk) y l)).trans ?_
  rw [Ha, ← EReal.coe_add]
  exact congrArg _ (vsum_succ (heads q) (heads k) (heads v) (heads d) g (hd t 1) (kJ t y) l (mx t) (mx_lt t)).symm

end Cert.Fox.Steps

end
-- ==== Proof.Slabs.lean ====
/- A buffer of two planes, one per head of a pair, written and read a plane at a time. -/
module

public import proofs.«01_k».proof.Proof.Blocks

@[expose] public section

set_option maxRecDepth 16384

noncomputable section

namespace Cert.Fox.Slabs

open Cert.KernelIdeal Cert.KernelIdeal.Gen Idealize.ShloMosaic Idealize.ShloMosaic.TcCoe

variable {e : EltTy}

theorem emb0 (y : Fin 512) (l : Fin 128) : (Rect.unit (s := S2x512x128) ![0, 0, 0] ![1, 512, 128] inb_S2x512x128_S1x512x128_0_0_0).emb (ix3 (0 : Fin 1) y l) = ix3 (0 : Fin 2) y l :=
  (Rect.unit (s := S2x512x128) ![0, 0, 0] ![1, 512, 128] inb_S2x512x128_S1x512x128_0_0_0).emb_eq_of_coords _ _ fun a => by
    match a with
    | ⟨0, _⟩ => rfl
    | ⟨1, _⟩ => show y.val = 0 + 1 * y.val; omega
    | ⟨2, _⟩ => show l.val = 0 + 1 * l.val; omega

theorem emb1 (y : Fin 512) (l : Fin 128) : (Rect.unit (s := S2x512x128) ![1, 0, 0] ![1, 512, 128] inb_S2x512x128_S1x512x128_1_0_0).emb (ix3 (0 : Fin 1) y l) = ix3 (1 : Fin 2) y l :=
  (Rect.unit (s := S2x512x128) ![1, 0, 0] ![1, 512, 128] inb_S2x512x128_S1x512x128_1_0_0).emb_eq_of_coords _ _ fun a => by
    match a with
    | ⟨0, _⟩ => rfl
    | ⟨1, _⟩ => show y.val = 0 + 1 * y.val; omega
    | ⟨2, _⟩ => show l.val = 0 + 1 * l.val; omega

theorem embW (a : Fin 2) (y : Fin 512) (l : Fin 128) : (Rect.unit (s := S2x512x128) ![0, 0, 0] ![2, 512, 128] inb_S2x512x128_S2x512x128_0_0_0).emb (ix3 a y l) = ix3 a y l :=
  (Rect.unit (s := S2x512x128) ![0, 0, 0] ![2, 512, 128] inb_S2x512x128_S2x512x128_0_0_0).emb_eq_of_coords _ _ fun b => by
    match b with
    | ⟨0, _⟩ => show a.val = 0 + 1 * a.val; omega
    | ⟨1, _⟩ => show y.val = 0 + 1 * y.val; omega
    | ⟨2, _⟩ => show l.val = 0 + 1 * l.val; omega

theorem off1 (y : Fin 512) (l : Fin 128) : (ix3 (0 : Fin 2) y l : S2x512x128.Idx) ∉ (Rect.unit (s := S2x512x128) ![1, 0, 0] ![1, 512, 128] inb_S2x512x128_S1x512x128_1_0_0).set :=
  (Rect.unit (s := S2x512x128) ![1, 0, 0] ![1, 512, 128] inb_S2x512x128_S1x512x128_1_0_0).not_mem_set_of_axis _ 0 1 1 rfl rfl rfl (Or.inl Nat.zero_lt_one)

theorem off0 (y : Fin 512) (l : Fin 128) : (ix3 (1 : Fin 2) y l : S2x512x128.Idx) ∉ (Rect.unit (s := S2x512x128) ![0, 0, 0] ![1, 512, 128] inb_S2x512x128_S1x512x128_0_0_0).set :=
  (Rect.unit (s := S2x512x128) ![0, 0, 0] ![1, 512, 128] inb_S2x512x128_S1x512x128_0_0_0).not_mem_set_of_axis _ 0 0 1 rfl rfl rfl (Or.inr (le_refl 1))

/-- What two writes of planes leave in the first plane, … -/
theorem canon0 (w1 : (Rect.unit (s := S2x512x128) ![1, 0, 0] ![1, 512, 128] inb_S2x512x128_S1x512x128_1_0_0).shape.Idx → Elt Ideal e)
    (w0 : (Rect.unit (s := S2x512x128) ![0, 0, 0] ![1, 512, 128] inb_S2x512x128_S1x512x128_0_0_0).shape.Idx → Elt Ideal e) (L : List (View.Piece (Elt Ideal) S2x512x128 e))
    (y : Fin 512) (l : Fin 128) :
    View.canon (⟨(Rect.unit (s := S2x512x128) ![1, 0, 0] ![1, 512, 128] inb_S2x512x128_S1x512x128_1_0_0), w1⟩ :: ⟨(Rect.unit (s := S2x512x128) ![0, 0, 0] ![1, 512, 128] inb_S2x512x128_S1x512x128_0_0_0), w0⟩ :: L) (ix3 (0 : Fin 2) y l) = w0 (ix3 (0 : Fin 1) y l) := by
  have h := View.canon_cons_emb (Val := Elt Ideal) (Rect.unit (s := S2x512x128) ![0, 0, 0] ![1, 512, 128] inb_S2x512x128_S1x512x128_0_0_0) w0 L (ix3 (0 : Fin 1) y l)
  rw [emb0] at h
  rw [View.canon_cons, Rect.overlay_of_not_mem _ _ _ (off1 y l)]
  exact h

/-- … and in the second; -/
theorem canon1 (w1 : (Rect.unit (s := S2x512x128) ![1, 0, 0] ![1, 512, 128] inb_S2x512x128_S1x512x128_1_0_0).shape.Idx → Elt Ideal e) (L : List (View.Piece (Elt Ideal) S2x512x128 e))
    (y : Fin 512) (l : Fin 128) :
    View.canon (⟨(Rect.unit (s := S2x512x128) ![1, 0, 0] ![1, 512, 128] inb_S2x512x128_S1x512x128_1_0_0), w1⟩ :: L) (ix3 (1 : Fin 2) y l) = w1 (ix3 (0 : Fin 1) y l) :=
  (congrArg _ (emb1 y l).symm).trans (View.canon_cons_emb (Rect.unit (s := S2x512x128) ![1, 0, 0] ![1, 512, 128] inb_S2x512x128_S1x512x128_1_0_0) w1 L (ix3 (0 : Fin 1) y l))

/-- a load of the first plane after them, … -/
theorem cov0 (v : View sig .tc .vmem S2x512x128 e) (w1 : (Rect.unit (s := S2x512x128) ![1, 0, 0] ![1, 512, 128] inb_S2x512x128_S1x512x128_1_0_0).shape.Idx → Elt Ideal e)
    (w0 : (Rect.unit (s := S2x512x128) ![0, 0, 0] ![1, 512, 128] inb_S2x512x128_S1x512x128_0_0_0).shape.Idx → Elt Ideal e)
    (L : List (View.Piece (Elt Ideal) S2x512x128 e)) (y : Fin 512) (l : Fin 128) :
    v.readCov (⟨(Rect.unit (s := S2x512x128) ![1, 0, 0] ![1, 512, 128] inb_S2x512x128_S1x512x128_1_0_0), w1⟩ :: ⟨(Rect.unit (s := S2x512x128) ![0, 0, 0] ![1, 512, 128] inb_S2x512x128_S1x512x128_0_0_0), w0⟩ :: L) (Rect.unit (s := S2x512x128) ![0, 0, 0] ![1, 512, 128] inb_S2x512x128_S1x512x128_0_0_0).toLoadRect (ix3 (0 : Fin 1) y l) = w0 (ix3 (0 : Fin 1) y l) := by
  rw [View.readCov_eq_canon']
  exact (congrArg _ (emb0 y l)).trans (canon0 w1 w0 L y l)

/-- … of the second; -/
theorem cov1 (v : View sig .tc .vmem S2x512x128 e) (w1 : (Rect.unit (s := S2x512x128) ![1, 0, 0] ![1, 512, 128] inb_S2x512x128_S1x512x128_1_0_0).shape.Idx → Elt Ideal e)
    (L : List (View.Piece (Elt Ideal) S2x512x128 e)) (y : Fin 512) (l : Fin 128) :
    v.readCov (⟨(Rect.unit (s := S2x512x128) ![1, 0, 0] ![1, 512, 128] inb_S2x512x128_S1x512x128_1_0_0), w1⟩ :: L) (Rect.unit (s := S2x512x128) ![1, 0, 0] ![1, 512, 128] inb_S2x512x128_S1x512x128_1_0_0).toLoadRect (ix3 (0 : Fin 1) y l) = w1 (ix3 (0 : Fin 1) y l) := by
  rw [View.readCov_eq_canon']
  exact (congrArg _ (emb1 y l)).trans (canon1 w1 L y l)

/-- and a load of either after a fill of the whole buffer. -/
theorem fill0 (v : View sig .tc .vmem S2x512x128 e) (z : S2x512x128.Idx → Elt Ideal e) (y : Fin 512) (l : Fin 128) :
    v.readCov [⟨(Rect.unit (s := S2x512x128) ![0, 0, 0] ![2, 512, 128] inb_S2x512x128_S2x512x128_0_0_0), z⟩] (Rect.unit (s := S2x512x128) ![0, 0, 0] ![1, 512, 128] inb_S2x512x128_S1x512x128_0_0_0).toLoadRect (ix3 (0 : Fin 1) y l) = z (ix3 (0 : Fin 2) y l) := by
  rw [View.readCov_eq_canon']
  exact (congrArg _ ((emb0 y l).trans (embW 0 y l).symm)).trans (View.canon_cons_emb (Rect.unit (s := S2x512x128) ![0, 0, 0] ![2, 512, 128] inb_S2x512x128_S2x512x128_0_0_0) z [] _)

theorem fill1 (v : View sig .tc .vmem S2x512x128 e) (w0 : (Rect.unit (s := S2x512x128) ![0, 0, 0] ![1, 512, 128] inb_S2x512x128_S1x512x128_0_0_0).shape.Idx → Elt Ideal e)
    (z : S2x512x128.Idx → Elt Ideal e) (y : Fin 512) (l : Fin 128) :
    v.readCov [⟨(Rect.unit (s := S2x512x128) ![0, 0, 0] ![1, 512, 128] inb_S2x512x128_S1x512x128_0_0_0), w0⟩, ⟨(Rect.unit (s := S2x512x128) ![0, 0, 0] ![2, 512, 128] inb_S2x512x128_S2x512x128_0_0_0), z⟩] (Rect.unit (s := S2x512x128) ![1, 0, 0] ![1, 512, 128] inb_S2x512x128_S1x512x128_1_0_0).toLoadRect (ix3 (0 : Fin 1) y l) = z (ix3 (1 : Fin 2) y l) := by
  rw [View.readCov_eq_canon']
  exact (congrArg _ (emb1 y l)).trans ((View.canon_cons_of_not_mem _ _ (off0 y l)).trans
    ((congrArg _ (embW 1 y l).symm).trans (View.canon_cons_emb (Rect.unit (s := S2x512x128) ![0, 0, 0] ![2, 512, 128] inb_S2x512x128_S2x512x128_0_0_0) z [] _)))

/-- A load of a plane of known contents. -/
theorem ld0 (X : S2x512x128.Idx → Elt Ideal e) (y : Fin 512) (l : Fin 128) :
    View.ld X (Rect.unit (s := S2x512x128) ![0, 0, 0] ![1, 512, 128] inb_S2x512x128_S1x512x128_0_0_0) (ix3 (0 : Fin 1) y l) = X (ix3 (0 : Fin 2) y l) := congrArg X (emb0 y l)

theorem ld1 (X : S2x512x128.Idx → Elt Ideal e) (y : Fin 512) (l : Fin 128) :
    View.ld X (Rect.unit (s := S2x512x128) ![1, 0, 0] ![1, 512, 128] inb_S2x512x128_S1x512x128_1_0_0) (ix3 (0 : Fin 1) y l) = X (ix3 (1 : Fin 2) y l) := congrArg X (emb1 y l)

end Cert.Fox.Slabs

end
-- ==== Proof.Holds.lean ====
/- What the buffers hold of a pair's two heads: the key and value rows, and the sums over the query blocks so far. -/
module

public import proofs.«01_k».proof.Proof.Steps
public import proofs.«01_k».proof.Proof.Slabs
public import proofs.«01_k».proof.Proof.Gen.KernelIdeal.Frame

@[expose] public section

set_option maxRecDepth 16384

noncomputable section

namespace Cert.Fox.Acc

open Cert.KernelIdeal Cert.KernelIdeal.Gen Cert.Fox.Blocks Idealize.ShloMosaic Idealize.ShloMosaic.TcCoe
open scoped BigOperators

/-- The buffers at point `t` after `n` query blocks. -/
structure Holds (q k v d : Fin 16384 → Fin 512 → ℝ) (g : Fin 8 → Fin 16384 → ℝ) (t : Fin cfg0.N) (n : ℕ)
    (s0 s1 : FVec Ideal S2x512x128 .bf16) (s2 s3 : FVec Ideal S2x512x128 .f32) : Prop where
  kk : ∀ (a : Fin 2) (y : Fin 512) (l : Fin 128), s0 (ix3 a y l) = ((krow (heads k) g (hd t a) (kJ t y) l : ℝ) : EReal)
  vv : ∀ (a : Fin 2) (y : Fin 512) (l : Fin 128), s1 (ix3 a y l) = ((vrow (heads v) (hd t a) (kJ t y) l : ℝ) : EReal)
  rr : ∀ (a : Fin 2) (y : Fin 512) (l : Fin 128),
    s2 (ix3 a y l) = ((rsum (heads q) (heads k) (heads v) (heads d) g (hd t a) (kJ t y) l n : ℝ) : EReal)
  ww : ∀ (a : Fin 2) (y : Fin 512) (l : Fin 128),
    s3 (ix3 a y l) = ((vsum (heads q) (heads k) (heads v) (heads d) g (hd t a) (kJ t y) l n : ℝ) : EReal)

variable {m : (ℓ : Loc nD τ sig) → Buf (Elt Ideal) ℓ} {c : Dev nD} {q k v d : Fin 16384 → Fin 512 → ℝ}
  {g : Fin 8 → Fin 16384 → ℝ}

/-- Query blocks before the key block leave the sums at zero. -/
theorem Holds.skip {t : Fin cfg0.N} {n : ℕ} {s0 s1 : FVec Ideal S2x512x128 .bf16} {s2 s3 : FVec Ideal S2x512x128 .f32}
    (P : Holds q k v d g t n s0 s1 s2 s3) (n' : ℕ) (h : n ≤ kj t) (h' : n' ≤ kj t) : Holds q k v d g t n' s0 s1 s2 s3 where
  kk := P.kk
  vv := P.vv
  rr a y l := by
    rw [P.rr, rsum_early _ _ _ _ _ _ _ _ n (by show _ ≤ 512 * kj t + y.val; omega),
      rsum_early _ _ _ _ _ _ _ _ n' (by show _ ≤ 512 * kj t + y.val; omega)]
  ww a y l := by
    rw [P.ww, vsum_early _ _ _ _ _ _ _ _ n (by show _ ≤ 512 * kj t + y.val; omega),
      vsum_early _ _ _ _ _ _ _ _ n' (by show _ ≤ 512 * kj t + y.val; omega)]

/-- The point before, where it has the same key block. -/
theorem Holds.next {t t' : Fin cfg0.N} (e : t'.val = t.val - 1) (h : ¬ t.val % 32 = 0) {n : ℕ}
    {s0 s1 : FVec Ideal S2x512x128 .bf16} {s2 s3 : FVec Ideal S2x512x128 .f32}
    (P : Holds q k v d g t' n s0 s1 s2 s3) : Holds q k v d g t n s0 s1 s2 s3 := by
  have hh : ∀ a, hd t' a = hd t a := fun a => Fin.ext (by show 2 * (t'.val / 1024) + _ = 2 * (t.val / 1024) + _; omega)
  have hj : ∀ y, kJ t' y = kJ t y := fun y => Fin.ext (by
    show 512 * (t'.val / 32 % 32) + y.val = 512 * (t.val / 32 % 32) + y.val; omega)
  refine ⟨fun a y l => ?_, fun a y l => ?_, fun a y l => ?_, fun a y l => ?_⟩
  · rw [P.kk, hh, hj]
  · rw [P.vv, hh, hj]
  · rw [P.rr, hh, hj]
  · rw [P.ww, hh, hj]

end Cert.Fox.Acc

end
-- ==== Proof.AccFirst.lean ====
/- The first query block of a key block: the buffers are filled. -/
module

public import proofs.«01_k».proof.Proof.Holds

@[expose] public section

set_option maxRecDepth 16384

noncomputable section

namespace Cert.Fox.Acc

open Cert.KernelIdeal Cert.KernelIdeal.Gen Cert.Fox.Blocks Cert.Fox.Steps Cert.Fox.Slabs Idealize.ShloMosaic
  Idealize.ShloMosaic.TcCoe
open scoped BigOperators

variable {m : (ℓ : Loc nD τ sig) → Buf (Elt Ideal) ℓ} {c : Dev nD} {q k v d : Fin 16384 → Fin 512 → ℝ}
  {g : Fin 8 → Fin 16384 → ℝ} (H : Reals m c q k v d g)
include H

/-- The key rows that are stored, … -/
theorem key0 (t : Fin cfg0.N) (y : Fin 512) (l : Fin 128) :
    k0_pay18 (F := Ideal) k0_pay1 (iblk m c 1 t) (iblk m c 5 t) (ix3 0 y l)
      = ((krow (heads k) g (hd t 0) (kJ t y) l : ℝ) : EReal) := (pay18_at _ _ y l).trans (key_at H t 0 y l)

theorem key1 (t : Fin cfg0.N) (y : Fin 512) (l : Fin 128) :
    k0_pay3 (F := Ideal) (k0_pay19 k0_pay1 (iblk m c 1 t) (iblk m c 5 t)) (ix3 0 y l)
      = ((krow (heads k) g (hd t 1) (kJ t y) l : ℝ) : EReal) := (pay19_at _ _ y l).trans (key_at H t 1 y l)

/-- … and the value rows. -/
theorem value0 (t : Fin cfg0.N) (y : Fin 512) (l : Fin 128) :
    k0_pay4 (F := Ideal) (k0_pay15 (iblk m c 2 t)) k0_pay17 (ix3 0 y l)
      = ((vrow (heads v) (hd t 0) (kJ t y) l : ℝ) : EReal) := by
  rw [pay4_at, lay15, pay17_at]
  exact value_at H t 0 y l

theorem value1 (t : Fin cfg0.N) (y : Fin 512) (l : Fin 128) :
    k0_pay5 (F := Ideal) (k0_pay15 (iblk m c 2 t)) k0_pay17 (ix3 0 y l)
      = ((vrow (heads v) (hd t 1) (kJ t y) l : ℝ) : EReal) := by
  rw [pay5_at, lay15, pay17_at]
  exact value_at H t 1 y l

omit H in
theorem zero_r (t : Fin cfg0.N) (a : Fin 2) (y : Fin 512) (l : Fin 128) (n : ℕ) (hn : n ≤ kj t) :
    k0_pay6 (F := Ideal) (ix3 a y l)
      = ((rsum (heads q) (heads k) (heads v) (heads d) g (hd t a) (kJ t y) l n : ℝ) : EReal) := by
  rw [rsum_early _ _ _ _ _ _ _ _ n (by show _ ≤ 512 * kj t + y.val; omega), EReal.coe_zero]
  exact pay6_at a y l

omit H in
theorem zero_v (t : Fin cfg0.N) (a : Fin 2) (y : Fin 512) (l : Fin 128) (n : ℕ) (hn : n ≤ kj t) :
    k0_pay7 (F := Ideal) (ix3 a y l)
      = ((vsum (heads q) (heads k) (heads v) (heads d) g (hd t a) (kJ t y) l n : ℝ) : EReal) := by
  rw [vsum_early _ _ _ _ _ _ _ _ n (by show _ ≤ 512 * kj t + y.val; omega), EReal.coe_zero]
  exact pay7_at a y l

/-- The first point of the diagonal. -/
theorem holds_A (t : Fin cfg0.N) (h0 : t.val % 32 = 0) (h1 : ¬t.val / 32 % 32 + 1 ≤ t.val % 32) (h2 : t.val / 32 % 32 = t.val % 32)
    (h3 : ¬t.val % 32 = 31) :
    Holds q k v d g t (mx t + 1) (outsAt0 m c t.val t.isLt).2.2.2.1 (outsAt0 m c t.val t.isLt).2.2.2.2.1
      (outsAt0 m c t.val t.isLt).2.2.2.2.2.1 (outsAt0 m c t.val t.isLt).2.2.2.2.2.2 := by
  have hk : kj t = mx t := by show t.val / 32 % 32 = max (t.val % 32) (t.val / 32 % 32); omega
  refine ⟨fun a y l => ?_, fun a y l => ?_, fun a y l => ?_, fun a y l => ?_⟩
  · rw [outsAt0_A m c t h0 h1 h2 h3]
    frame_out
    match a with
    | 0 => exact (canon0 _ _ _ y l).trans (key0 H t y l)
    | 1 => exact (canon1 _ _ y l).trans (key1 H t y l)
  · rw [outsAt0_A m c t h0 h1 h2 h3]
    frame_out
    match a with
    | 0 => exact (canon0 _ _ _ y l).trans (value0 H t y l)
    | 1 => exact (canon1 _ _ y l).trans (value1 H t y l)
  · rw [outsAt0_A m c t h0 h1 h2 h3]
    frame_out
    match a with
    | 0 =>
      refine (canon0 _ _ _ y l).trans (rdiag0 H t hk (fun y x => (cov0 _ _ _ _ y x).trans (key0 H t y x)) (fun y x => (cov0 _ _ _ _ y x).trans (value0 H t y x)) y l ?_)
      exact (fill0 _ _ y l).trans (zero_r t 0 y l (mx t) (by omega))
    | 1 =>
      refine (canon1 _ _ y l).trans (rdiag1 H t hk (fun y x => (cov1 _ _ _ y x).trans (key1 H t y x)) (fun y x => (cov1 _ _ _ y x).trans (value1 H t y x)) y l ?_)
      exact (fill1 _ _ _ y l).trans (zero_r t 1 y l (mx t) (by omega))
  · rw [outsAt0_A m c t h0 h1 h2 h3]
    frame_out
    match a with
    | 0 =>
      refine (canon0 _ _ _ y l).trans (vdiag0 H t hk (fun y x => (cov0 _ _ _ _ y x).trans (key0 H t y x)) y l ?_)
      exact (fill0 _ _ y l).trans (zero_v t 0 y l (mx t) (by omega))
    | 1 =>
      refine (canon1 _ _ y l).trans (vdiag1 H t hk (fun y x => (cov1 _ _ _ y x).trans (key1 H t y x)) y l ?_)
      exact (fill1 _ _ _ y l).trans (zero_v t 1 y l (mx t) (by omega))

/-- The first query block, before the key block. -/
theorem holds_D (t : Fin cfg0.N) (h0 : t.val % 32 = 0) (h1 : ¬t.val / 32 % 32 + 1 ≤ t.val % 32) (h2 : ¬t.val / 32 % 32 = t.val % 32)
    (h3 : ¬t.val % 32 = 31) :
    Holds q k v d g t 1 (outsAt0 m c t.val t.isLt).2.2.2.1 (outsAt0 m c t.val t.isLt).2.2.2.2.1
      (outsAt0 m c t.val t.isLt).2.2.2.2.2.1 (outsAt0 m c t.val t.isLt).2.2.2.2.2.2 := by
  have hk : 1 ≤ kj t := by show 1 ≤ t.val / 32 % 32; omega
  refine ⟨fun a y l => ?_, fun a y l => ?_, fun a y l => ?_, fun a y l => ?_⟩
  · rw [outsAt0_D m c t h0 h1 h2 h3]
    frame_out
    match a with
    | 0 => exact (canon0 _ _ _ y l).trans (key0 H t y l)
    | 1 => exact (canon1 _ _ y l).trans (key1 H t y l)
  · rw [outsAt0_D m c t h0 h1 h2 h3]
    frame_out
    match a with
    | 0 => exact (canon0 _ _ _ y l).trans (value0 H t y l)
    | 1 => exact (canon1 _ _ y l).trans (value1 H t y l)
  · rw [outsAt0_D m c t h0 h1 h2 h3]
    frame_out
    exact zero_r t a y l 1 hk
  · rw [outsAt0_D m c t h0 h1 h2 h3]
    frame_out
    exact zero_v t a y l 1 hk

end Cert.Fox.Acc

end
-- ==== Proof.AccAfter.lean ====
/- The points of query blocks after the key block. -/
module

public import proofs.«01_k».proof.Proof.Holds

@[expose] public section

set_option maxRecDepth 16384

noncomputable section

namespace Cert.Fox.Acc

open Cert.KernelIdeal Cert.KernelIdeal.Gen Cert.Fox.Blocks Cert.Fox.Steps Cert.Fox.Slabs Idealize.ShloMosaic
  Idealize.ShloMosaic.TcCoe
open scoped BigOperators

variable {m : (ℓ : Loc nD τ sig) → Buf (Elt Ideal) ℓ} {c : Dev nD} {q k v d : Fin 16384 → Fin 512 → ℝ}
  {g : Fin 8 → Fin 16384 → ℝ} (H : Reals m c q k v d g)
include H

/-- A query block after the key block. -/
theorem holds_B (t : Fin cfg0.N) (h0 : ¬t.val % 32 = 0) (h1 : t.val / 32 % 32 + 1 ≤ t.val % 32) (h2 : ¬t.val / 32 % 32 = t.val % 32)
    (h3 : ¬t.val % 32 = 31)
    (P : Holds q k v d g t (mx t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) :
    Holds q k v d g t (mx t + 1) (outsAt0 m c t.val t.isLt).2.2.2.1 (outsAt0 m c t.val t.isLt).2.2.2.2.1
      (outsAt0 m c t.val t.isLt).2.2.2.2.2.1 (outsAt0 m c t.val t.isLt).2.2.2.2.2.2 := by
  have hk : kj t < mx t := by show t.val / 32 % 32 < max (t.val % 32) (t.val / 32 % 32); omega
  refine ⟨fun a y l => ?_, fun a y l => ?_, fun a y l => ?_, fun a y l => ?_⟩
  · exact (congrFun (congrArg (fun s => s.2.2.2.1) (outsAt0_B m c t h0 h1 h2 h3)) (ix3 a y l)).trans (P.kk a y l)
  · exact (congrFun (congrArg (fun s => s.2.2.2.2.1) (outsAt0_B m c t h0 h1 h2 h3)) (ix3 a y l)).trans (P.vv a y l)
  · rw [outsAt0_B m c t h0 h1 h2 h3]
    frame_out
    match a with
    | 0 =>
      refine (canon0 _ _ _ y l).trans (rwhole0 H t hk (fun y x => (ld0 _ y x).trans ((congrFun (Memref.IsWhole.read_unread _ _) _).trans (P.kk 0 y x))) (fun y x => (ld0 _ y x).trans ((congrFun (Memref.IsWhole.read_unread _ _) _).trans (P.vv 0 y x))) y l ?_)
      exact (ld0 _ y l).trans ((congrFun (Memref.IsWhole.read_unread _ _) _).trans (P.rr 0 y l))
    | 1 =>
      refine (canon1 _ _ y l).trans (rwhole1 H t hk (fun y x => (ld1 _ y x).trans ((congrFun (Memref.IsWhole.read_unread _ _) _).trans (P.kk 1 y x))) (fun y x => (ld1 _ y x).trans ((congrFun (Memref.IsWhole.read_unread _ _) _).trans (P.vv 1 y x))) y l ?_)
      exact (ld1 _ y l).trans ((congrFun (Memref.IsWhole.read_unread _ _) _).trans (P.rr 1 y l))
  · rw [outsAt0_B m c t h0 h1 h2 h3]
    frame_out
    match a with
    | 0 =>
      refine (canon0 _ _ _ y l).trans (vwhole0 H t hk (fun y x => (ld0 _ y x).trans ((congrFun (Memref.IsWhole.read_unread _ _) _).trans (P.kk 0 y x))) y l ?_)
      exact (ld0 _ y l).trans ((congrFun (Memref.IsWhole.read_unread _ _) _).trans (P.ww 0 y l))
    | 1 =>
      refine (canon1 _ _ y l).trans (vwhole1 H t hk (fun y x => (ld1 _ y x).trans ((congrFun (Memref.IsWhole.read_unread _ _) _).trans (P.kk 1 y x))) y l ?_)
      exact (ld1 _ y l).trans ((congrFun (Memref.IsWhole.read_unread _ _) _).trans (P.ww 1 y l))

/-- The last query block, after the key block. -/
theorem holds_C (t : Fin cfg0.N) (h0 : ¬t.val % 32 = 0) (h1 : t.val / 32 % 32 + 1 ≤ t.val % 32) (h2 : ¬t.val / 32 % 32 = t.val % 32)
    (h3 : t.val % 32 = 31)
    (P : Holds q k v d g t (mx t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) :
    Holds q k v d g t (mx t + 1) (outsAt0 m c t.val t.isLt).2.2.2.1 (outsAt0 m c t.val t.isLt).2.2.2.2.1
      (outsAt0 m c t.val t.isLt).2.2.2.2.2.1 (outsAt0 m c t.val t.isLt).2.2.2.2.2.2 := by
  have hk : kj t < mx t := by show t.val / 32 % 32 < max (t.val % 32) (t.val / 32 % 32); omega
  refine ⟨fun a y l => ?_, fun a y l => ?_, fun a y l => ?_, fun a y l => ?_⟩
  · exact (congrFun (congrArg (fun s => s.2.2.2.1) (outsAt0_C m c t h0 h1 h2 h3)) (ix3 a y l)).trans (P.kk a y l)
  · exact (congrFun (congrArg (fun s => s.2.2.2.2.1) (outsAt0_C m c t h0 h1 h2 h3)) (ix3 a y l)).trans (P.vv a y l)
  · rw [outsAt0_C m c t h0 h1 h2 h3]
    frame_out
    match a with
    | 0 =>
      refine (canon0 _ _ _ y l).trans (rwhole0 H t hk (fun y x => (ld0 _ y x).trans ((congrFun (Memref.IsWhole.read_unread _ _) _).trans (P.kk 0 y x))) (fun y x => (ld0 _ y x).trans ((congrFun (Memref.IsWhole.read_unread _ _) _).trans (P.vv 0 y x))) y l ?_)
      exact (ld0 _ y l).trans ((congrFun (Memref.IsWhole.read_unread _ _) _).trans (P.rr 0 y l))
    | 1 =>
      refine (canon1 _ _ y l).trans (rwhole1 H t hk (fun y x => (ld1 _ y x).trans ((congrFun (Memref.IsWhole.read_unread _ _) _).trans (P.kk 1 y x))) (fun y x => (ld1 _ y x).trans ((congrFun (Memref.IsWhole.read_unread _ _) _).trans (P.vv 1 y x))) y l ?_)
      exact (ld1 _ y l).trans ((congrFun (Memref.IsWhole.read_unread _ _) _).trans (P.rr 1 y l))
  · rw [outsAt0_C m c t h0 h1 h2 h3]
    frame_out
    match a with
    | 0 =>
      refine (canon0 _ _ _ y l).trans (vwhole0 H t hk (fun y x => (ld0 _ y x).trans ((congrFun (Memref.IsWhole.read_unread _ _) _).trans (P.kk 0 y x))) y l ?_)
      exact (ld0 _ y l).trans ((congrFun (Memref.IsWhole.read_unread _ _) _).trans (P.ww 0 y l))
    | 1 =>
      refine (canon1 _ _ y l).trans (vwhole1 H t hk (fun y x => (ld1 _ y x).trans ((congrFun (Memref.IsWhole.read_unread _ _) _).trans (P.kk 1 y x))) y l ?_)
      exact (ld1 _ y l).trans ((congrFun (Memref.IsWhole.read_unread _ _) _).trans (P.ww 1 y l))

end Cert.Fox.Acc

end
-- ==== Proof.AccDiag.lean ====
/- The points of the diagonal other than the first, and the points of query blocks before the key block. -/
module

public import proofs.«01_k».proof.Proof.Holds

@[expose] public section

set_option maxRecDepth 16384

noncomputable section

namespace Cert.Fox.Acc

open Cert.KernelIdeal Cert.KernelIdeal.Gen Cert.Fox.Blocks Cert.Fox.Steps Cert.Fox.Slabs Idealize.ShloMosaic
  Idealize.ShloMosaic.TcCoe
open scoped BigOperators

variable {m : (ℓ : Loc nD τ sig) → Buf (Elt Ideal) ℓ} {c : Dev nD} {q k v d : Fin 16384 → Fin 512 → ℝ}
  {g : Fin 8 → Fin 16384 → ℝ} (H : Reals m c q k v d g)
include H

/-- The diagonal. -/
theorem holds_E (t : Fin cfg0.N) (h0 : ¬t.val % 32 = 0) (h1 : ¬t.val / 32 % 32 + 1 ≤ t.val % 32) (h2 : t.val / 32 % 32 = t.val % 32)
    (h3 : ¬t.val % 32 = 31)
    (P : Holds q k v d g t (mx t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) :
    Holds q k v d g t (mx t + 1) (outsAt0 m c t.val t.isLt).2.2.2.1 (outsAt0 m c t.val t.isLt).2.2.2.2.1
      (outsAt0 m c t.val t.isLt).2.2.2.2.2.1 (outsAt0 m c t.val t.isLt).2.2.2.2.2.2 := by
  have hk : kj t = mx t := by show t.val / 32 % 32 = max (t.val % 32) (t.val / 32 % 32); omega
  refine ⟨fun a y l => ?_, fun a y l => ?_, fun a y l => ?_, fun a y l => ?_⟩
  · exact (congrFun (congrArg (fun s => s.2.2.2.1) (outsAt0_E m c t h0 h1 h2 h3)) (ix3 a y l)).trans (P.kk a y l)
  · exact (congrFun (congrArg (fun s => s.2.2.2.2.1) (outsAt0_E m c t h0 h1 h2 h3)) (ix3 a y l)).trans (P.vv a y l)
  · rw [outsAt0_E m c t h0 h1 h2 h3]
    frame_out
    match a with
    | 0 =>
      refine (canon0 _ _ _ y l).trans (rdiag0 H t hk (fun y x => (ld0 _ y x).trans ((congrFun (Memref.IsWhole.read_unread _ _) _).trans (P.kk 0 y x))) (fun y x => (ld0 _ y x).trans ((congrFun (Memref.IsWhole.read_unread _ _) _).trans (P.vv 0 y x))) y l ?_)
      exact (ld0 _ y l).trans ((congrFun (Memref.IsWhole.read_unread _ _) _).trans (P.rr 0 y l))
    | 1 =>
      refine (canon1 _ _ y l).trans (rdiag1 H t hk (fun y x => (ld1 _ y x).trans ((congrFun (Memref.IsWhole.read_unread _ _) _).trans (P.kk 1 y x))) (fun y x => (ld1 _ y x).trans ((congrFun (Memref.IsWhole.read_unread _ _) _).trans (P.vv 1 y x))) y l ?_)
      exact (ld1 _ y l).trans ((congrFun (Memref.IsWhole.read_unread _ _) _).trans (P.rr 1 y l))
  · rw [outsAt0_E m c t h0 h1 h2 h3]
    frame_out
    match a with
    | 0 =>
      refine (canon0 _ _ _ y l).trans (vdiag0 H t hk (fun y x => (ld0 _ y x).trans ((congrFun (Memref.IsWhole.read_unread _ _) _).trans (P.kk 0 y x))) y l ?_)
      exact (ld0 _ y l).trans ((congrFun (Memref.IsWhole.read_unread _ _) _).trans (P.ww 0 y l))
    | 1 =>
      refine (canon1 _ _ y l).trans (vdiag1 H t hk (fun y x => (ld1 _ y x).trans ((congrFun (Memref.IsWhole.read_unread _ _) _).trans (P.kk 1 y x))) y l ?_)
      exact (ld1 _ y l).trans ((congrFun (Memref.IsWhole.read_unread _ _) _).trans (P.ww 1 y l))

/-- The last point of the diagonal. -/
theorem holds_G (t : Fin cfg0.N) (h0 : ¬t.val % 32 = 0) (h1 : ¬t.val / 32 % 32 + 1 ≤ t.val % 32) (h2 : t.val / 32 % 32 = t.val % 32)
    (h3 : t.val % 32 = 31)
    (P : Holds q k v d g t (mx t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) :
    Holds q k v d g t (mx t + 1) (outsAt0 m c t.val t.isLt).2.2.2.1 (outsAt0 m c t.val t.isLt).2.2.2.2.1
      (outsAt0 m c t.val t.isLt).2.2.2.2.2.1 (outsAt0 m c t.val t.isLt).2.2.2.2.2.2 := by
  have hk : kj t = mx t := by show t.val / 32 % 32 = max (t.val % 32) (t.val / 32 % 32); omega
  refine ⟨fun a y l => ?_, fun a y l => ?_, fun a y l => ?_, fun a y l => ?_⟩
  · exact (congrFun (congrArg (fun s => s.2.2.2.1) (outsAt0_G m c t h0 h1 h2 h3)) (ix3 a y l)).trans (P.kk a y l)
  · exact (congrFun (congrArg (fun s => s.2.2.2.2.1) (outsAt0_G m c t h0 h1 h2 h3)) (ix3 a y l)).trans (P.vv a y l)
  · rw [outsAt0_G m c t h0 h1 h2 h3]
    frame_out
    match a with
    | 0 =>
      refine (canon0 _ _ _ y l).trans (rdiag0 H t hk (fun y x => (ld0 _ y x).trans ((congrFun (Memref.IsWhole.read_unread _ _) _).trans (P.kk 0 y x))) (fun y x => (ld0 _ y x).trans ((congrFun (Memref.IsWhole.read_unread _ _) _).trans (P.vv 0 y x))) y l ?_)
      exact (ld0 _ y l).trans ((congrFun (Memref.IsWhole.read_unread _ _) _).trans (P.rr 0 y l))
    | 1 =>
      refine (canon1 _ _ y l).trans (rdiag1 H t hk (fun y x => (ld1 _ y x).trans ((congrFun (Memref.IsWhole.read_unread _ _) _).trans (P.kk 1 y x))) (fun y x => (ld1 _ y x).trans ((congrFun (Memref.IsWhole.read_unread _ _) _).trans (P.vv 1 y x))) y l ?_)
      exact (ld1 _ y l).trans ((congrFun (Memref.IsWhole.read_unread _ _) _).trans (P.rr 1 y l))
  · rw [outsAt0_G m c t h0 h1 h2 h3]
    frame_out
    match a with
    | 0 =>
      refine (canon0 _ _ _ y l).trans (vdiag0 H t hk (fun y x => (ld0 _ y x).trans ((congrFun (Memref.IsWhole.read_unread _ _) _).trans (P.kk 0 y x))) y l ?_)
      exact (ld0 _ y l).trans ((congrFun (Memref.IsWhole.read_unread _ _) _).trans (P.ww 0 y l))
    | 1 =>
      refine (canon1 _ _ y l).trans (vdiag1 H t hk (fun y x => (ld1 _ y x).trans ((congrFun (Memref.IsWhole.read_unread _ _) _).trans (P.kk 1 y x))) y l ?_)
      exact (ld1 _ y l).trans ((congrFun (Memref.IsWhole.read_unread _ _) _).trans (P.ww 1 y l))

omit H in
/-- A query block before the key block: nothing is done. -/
theorem holds_F (t : Fin cfg0.N) (h0 : ¬t.val % 32 = 0) (h1 : ¬t.val / 32 % 32 + 1 ≤ t.val % 32) (h2 : ¬t.val / 32 % 32 = t.val % 32)
    (h3 : ¬t.val % 32 = 31) {n : ℕ}
    (P : Holds q k v d g t n (outsAt0 m c (t.val - 1) (Nat.lt_of_le_of_lt (Nat.sub_le _ _) t.isLt)).2.2.2.1 (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) :
    Holds q k v d g t n (outsAt0 m c t.val t.isLt).2.2.2.1 (outsAt0 m c t.val t.isLt).2.2.2.2.1
      (outsAt0 m c t.val t.isLt).2.2.2.2.2.1 (outsAt0 m c t.val t.isLt).2.2.2.2.2.2 := by
  refine ⟨fun a y l => ?_, fun a y l => ?_, fun a y l => ?_, fun a y l => ?_⟩
  · exact (congrFun (congrArg (fun s => s.2.2.2.1) (outsAt0_F m c t h0 h1 h2 h3)) (ix3 a y l)).trans (P.kk a y l)
  · exact (congrFun (congrArg (fun s => s.2.2.2.2.1) (outsAt0_F m c t h0 h1 h2 h3)) (ix3 a y l)).trans (P.vv a y l)
  · exact (congrFun (congrArg (fun s => s.2.2.2.2.2.1) (outsAt0_F m c t h0 h1 h2 h3)) (ix3 a y l)).trans (P.rr a y l)
  · exact (congrFun (congrArg (fun s => s.2.2.2.2.2.2) (outsAt0_F m c t h0 h1 h2 h3)) (ix3 a y l)).trans (P.ww a y l)

end Cert.Fox.Acc

end
-- ==== Proof.Acc.lean ====
/- The sums at every point of the grid, and what the last query block of a key block leaves in the output buffers. -/
module

public import proofs.«01_k».proof.Proof.AccFirst
public import proofs.«01_k».proof.Proof.AccAfter
public import proofs.«01_k».proof.Proof.AccDiag

@[expose] public section

set_option maxRecDepth 16384

noncomputable section

namespace Cert.Fox.Acc

open Cert.KernelIdeal Cert.KernelIdeal.Gen Cert.Fox.Blocks Cert.Fox.Steps Cert.Fox.Slabs Idealize.ShloMosaic
  Idealize.ShloMosaic.TcCoe
open scoped BigOperators

variable {m : (ℓ : Loc nD τ sig) → Buf (Elt Ideal) ℓ} {c : Dev nD} {q k v d : Fin 16384 → Fin 512 → ℝ}
  {g : Fin 8 → Fin 16384 → ℝ} (H : Reals m c q k v d g)
include H

/-- After a point the buffers hold the sums over its query block and those before it. -/
theorem holds (n : ℕ) : ∀ t : Fin cfg0.N, t.val = n → Holds q k v d g t (t.val % 32 + 1)
    (outsAt0 m c t.val t.isLt).2.2.2.1 (outsAt0 m c t.val t.isLt).2.2.2.2.1
    (outsAt0 m c t.val t.isLt).2.2.2.2.2.1 (outsAt0 m c t.val t.isLt).2.2.2.2.2.2 := by
  induction n using Nat.strong_induction_on with
  | _ n ih =>
    intro t ht
    by_cases h0 : t.val % 32 = 0
    · by_cases h2 : t.val / 32 % 32 = t.val % 32
      · have e : mx t = t.val % 32 := by show max (t.val % 32) (t.val / 32 % 32) = _; omega
        have P := holds_A H t h0 (by omega) h2 (by omega)
        rw [e] at P
        exact P
      · have P := holds_D H t h0 (by omega) h2 (by omega)
        rw [show t.val % 32 + 1 = 1 by omega]
        exact P
    · have hlt : t.val - 1 < cfg0.N := Nat.lt_of_le_of_lt (Nat.sub_le _ _) t.isLt
      have P0 := (ih (t.val - 1) (by omega) ⟨t.val - 1, hlt⟩ rfl).next (t := t) rfl h0
      have e0 : (t.val - 1) % 32 + 1 = t.val % 32 := by omega
      have P : Holds q k v d g t (t.val % 32) (outsAt0 m c (t.val - 1) hlt).2.2.2.1 (outsAt0 m c (t.val - 1) hlt).2.2.2.2.1
        (outsAt0 m c (t.val - 1) hlt).2.2.2.2.2.1 (outsAt0 m c (t.val - 1) hlt).2.2.2.2.2.2 := e0 ▸ P0
      by_cases h1 : t.val / 32 % 32 + 1 ≤ t.val % 32
      · have e : t.val % 32 = mx t := by show _ = max (t.val % 32) (t.val / 32 % 32); omega
        rw [e] at P ⊢
        by_cases h3 : t.val % 32 = 31
        · exact holds_C H t h0 h1 (by omega) h3 P
        · exact holds_B H t h0 h1 (by omega) h3 P
      · by_cases h2 : t.val / 32 % 32 = t.val % 32
        · have e : t.val % 32 = mx t := by show _ = max (t.val % 32) (t.val / 32 % 32); omega
          rw [e] at P ⊢
          by_cases h3 : t.val % 32 = 31
          · exact holds_G H t h0 h1 h2 h3 P
          · exact holds_E H t h0 h1 h2 h3 P
        · exact (holds_F t h0 h1 h2 (by omega) P).skip _ (by show _ ≤ t.val / 32 % 32; omega)
            (by show _ ≤ t.val / 32 % 32; omega)

omit H in
theorem pay11_at (a b : FVec Ideal S1x512x128 .f32) (y : Fin 512) (x : Fin 128) :
    k0_pay11 (F := Ideal) a b (ix2 y x) = if x.val / 64 = (0 : Fin 2).val then a (ix3 0 y x) else b (ix3 0 y x) := by
  pointwise [k0_pay11]
  exact sel_at (a := 0) Pay.pay1_at x _ _

omit H in
theorem pay12_at (a b : FVec Ideal S1x512x128 .f32) (y : Fin 512) (x : Fin 128) :
    k0_pay12 (F := Ideal) a b (ix2 y x) = if x.val / 64 = (0 : Fin 2).val then a (ix3 0 y x) else b (ix3 0 y x) := by
  pointwise [k0_pay12]
  exact sel_at (a := 0) Pay.pay1_at x _ _

/-- The column of the same place in the other half. -/
def over (x : Fin 128) : Fin 128 := ⟨(x.val + 128 - 64) % 128, Nat.mod_lt _ (by decide)⟩

omit H in
theorem pay13_at (a b : FVec Ideal S1x512x128 .f32) (y : Fin 512) (x : Fin 128) :
    k0_pay13 (F := Ideal) a b (ix2 y x)
      = 0 - if x.val / 64 = (0 : Fin 2).val then b (ix3 0 y (over x)) else a (ix3 0 y (over x)) := by
  pointwise [k0_pay13]
  refine congrArg (0 - ·) ?_
  show Scalar.select (k0_pay1 (ix2 0 (over x))) (a (ix3 0 y (over x))) (b (ix3 0 y (over x))) = _
  rw [sel_at (a := 0) Pay.pay1_at]
  have hx := x.isLt
  have e : (over x).val = (x.val + 128 - 64) % 128 := rfl
  show (if (over x).val / 64 = 0 then a (ix3 0 y (over x)) else b (ix3 0 y (over x)))
    = if x.val / 64 = 0 then b (ix3 0 y (over x)) else a (ix3 0 y (over x))
  by_cases h : x.val / 64 = 0
  · rw [if_pos h, if_neg (by omega)]
  · rw [if_neg h, if_pos (by omega)]

omit H in
/-- A load of a plane reads what the writes left there. -/
theorem load0 {e : EltTy} (w : View sig .tc .vmem S2x512x128 e) (L : List (View.Piece (Elt Ideal) S2x512x128 e)) (y : Fin 512)
    (l : Fin 128) : w.readCov L (Rect.unit (s := S2x512x128) ![0, 0, 0] ![1, 512, 128] inb_S2x512x128_S1x512x128_0_0_0).toLoadRect
      (ix3 (0 : Fin 1) y l) = View.canon L (ix3 (0 : Fin 2) y l) := by
  rw [View.readCov_eq_canon']
  exact congrArg _ (emb0 y l)

omit H in
theorem load1 {e : EltTy} (w : View sig .tc .vmem S2x512x128 e) (L : List (View.Piece (Elt Ideal) S2x512x128 e)) (y : Fin 512)
    (l : Fin 128) : w.readCov L (Rect.unit (s := S2x512x128) ![1, 0, 0] ![1, 512, 128] inb_S2x512x128_S1x512x128_1_0_0).toLoadRect
      (ix3 (0 : Fin 1) y l) = View.canon L (ix3 (1 : Fin 2) y l) := by
  rw [View.readCov_eq_canon']
  exact congrArg _ (emb1 y l)

omit H in
theorem out7_C (t : Fin cfg0.N) (h0 : ¬t.val % 32 = 0) (h1 : t.val / 32 % 32 + 1 ≤ t.val % 32)
    (h2 : ¬t.val / 32 % 32 = t.val % 32) (h3 : t.val % 32 = 31) (y : Fin 512) (x : Fin 128) :
    (outsAt0 m c t.val t.isLt).1 (ix2 y x) = if x.val / 64 = (0 : Fin 2).val then
      (outsAt0 m c t.val t.isLt).2.2.2.2.2.1 (ix3 0 y x) else (outsAt0 m c t.val t.isLt).2.2.2.2.2.1 (ix3 1 y x) := by
  rw [outsAt0_C m c t h0 h1 h2 h3]
  frame_out
  rw [pay11_at, load0, load1]

omit H in
theorem out7_G (t : Fin cfg0.N) (h0 : ¬t.val % 32 = 0) (h1 : ¬t.val / 32 % 32 + 1 ≤ t.val % 32)
    (h2 : t.val / 32 % 32 = t.val % 32) (h3 : t.val % 32 = 31) (y : Fin 512) (x : Fin 128) :
    (outsAt0 m c t.val t.isLt).1 (ix2 y x) = if x.val / 64 = (0 : Fin 2).val then
      (outsAt0 m c t.val t.isLt).2.2.2.2.2.1 (ix3 0 y x) else (outsAt0 m c t.val t.isLt).2.2.2.2.2.1 (ix3 1 y x) := by
  rw [outsAt0_G m c t h0 h1 h2 h3]
  frame_out
  rw [pay11_at, load0, load1]

omit H in
/-- The keys' block that is written back, from the buffers. -/
theorem out7_at (t : Fin cfg0.N) (h3 : t.val % 32 = 31) (y : Fin 512) (x : Fin 128) :
    (outsAt0 m c t.val t.isLt).1 (ix2 y x) = if x.val / 64 = (0 : Fin 2).val then
      (outsAt0 m c t.val t.isLt).2.2.2.2.2.1 (ix3 0 y x) else (outsAt0 m c t.val t.isLt).2.2.2.2.2.1 (ix3 1 y x) := by
  have h0 : ¬ t.val % 32 = 0 := by omega
  by_cases h2 : t.val / 32 % 32 = t.val % 32
  · exact out7_G t h0 (by omega) h2 h3 y x
  · exact out7_C t h0 (by omega) h2 h3 y x

omit H in
theorem out8_C (t : Fin cfg0.N) (h0 : ¬t.val % 32 = 0) (h1 : t.val / 32 % 32 + 1 ≤ t.val % 32)
    (h2 : ¬t.val / 32 % 32 = t.val % 32) (h3 : t.val % 32 = 31) (y : Fin 512) (x : Fin 128) :
    (outsAt0 m c t.val t.isLt).2.1 (ix2 y x) = if x.val / 64 = (0 : Fin 2).val then
      (outsAt0 m c t.val t.isLt).2.2.2.2.2.2 (ix3 0 y x) else (outsAt0 m c t.val t.isLt).2.2.2.2.2.2 (ix3 1 y x) := by
  rw [outsAt0_C m c t h0 h1 h2 h3]
  frame_out
  rw [pay12_at, load0, load1]

omit H in
theorem out8_G (t : Fin cfg0.N) (h0 : ¬t.val % 32 = 0) (h1 : ¬t.val / 32 % 32 + 1 ≤ t.val % 32)
    (h2 : t.val / 32 % 32 = t.val % 32) (h3 : t.val % 32 = 31) (y : Fin 512) (x : Fin 128) :
    (outsAt0 m c t.val t.isLt).2.1 (ix2 y x) = if x.val / 64 = (0 : Fin 2).val then
      (outsAt0 m c t.val t.isLt).2.2.2.2.2.2 (ix3 0 y x) else (outsAt0 m c t.val t.isLt).2.2.2.2.2.2 (ix3 1 y x) := by
  rw [outsAt0_G m c t h0 h1 h2 h3]
  frame_out
  rw [pay12_at, load0, load1]

omit H in
/-- The values' block that is written back, from the buffers. -/
theorem out8_at (t : Fin cfg0.N) (h3 : t.val % 32 = 31) (y : Fin 512) (x : Fin 128) :
    (outsAt0 m c t.val t.isLt).2.1 (ix2 y x) = if x.val / 64 = (0 : Fin 2).val then
      (outsAt0 m c t.val t.isLt).2.2.2.2.2.2 (ix3 0 y x) else (outsAt0 m c t.val t.isLt).2.2.2.2.2.2 (ix3 1 y x) := by
  have h0 : ¬ t.val % 32 = 0 := by omega
  by_cases h2 : t.val / 32 % 32 = t.val % 32
  · exact out8_G t h0 (by omega) h2 h3 y x
  · exact out8_C t h0 (by omega) h2 h3 y x

omit H in
theorem out9_C (t : Fin cfg0.N) (h0 : ¬t.val % 32 = 0) (h1 : t.val / 32 % 32 + 1 ≤ t.val % 32)
    (h2 : ¬t.val / 32 % 32 = t.val % 32) (h3 : t.val % 32 = 31) (y : Fin 512) (x : Fin 128) :
    (outsAt0 m c t.val t.isLt).2.2.1 (ix2 y x) = 0 - if x.val / 64 = (0 : Fin 2).val then
      (outsAt0 m c t.val t.isLt).2.2.2.2.2.1 (ix3 0 y (over x)) else (outsAt0 m c t.val t.isLt).2.2.2.2.2.1 (ix3 1 y (over x)) := by
  rw [outsAt0_C m c t h0 h1 h2 h3]
  frame_out
  rw [pay13_at, load0, load1]

omit H in
theorem out9_G (t : Fin cfg0.N) (h0 : ¬t.val % 32 = 0) (h1 : ¬t.val / 32 % 32 + 1 ≤ t.val % 32)
    (h2 : t.val / 32 % 32 = t.val % 32) (h3 : t.val % 32 = 31) (y : Fin 512) (x : Fin 128) :
    (outsAt0 m c t.val t.isLt).2.2.1 (ix2 y x) = 0 - if x.val / 64 = (0 : Fin 2).val then
      (outsAt0 m c t.val t.isLt).2.2.2.2.2.1 (ix3 0 y (over x)) else (outsAt0 m c t.val t.isLt).2.2.2.2.2.1 (ix3 1 y (over x)) := by
  rw [outsAt0_G m c t h0 h1 h2 h3]
  frame_out
  rw [pay13_at, load0, load1]

omit H in
/-- The gate sums' block that is written back, from the buffers. -/
theorem out9_at (t : Fin cfg0.N) (h3 : t.val % 32 = 31) (y : Fin 512) (x : Fin 128) :
    (outsAt0 m c t.val t.isLt).2.2.1 (ix2 y x) = 0 - if x.val / 64 = (0 : Fin 2).val then
      (outsAt0 m c t.val t.isLt).2.2.2.2.2.1 (ix3 0 y (over x)) else (outsAt0 m c t.val t.isLt).2.2.2.2.2.1 (ix3 1 y (over x)) := by
  have h0 : ¬ t.val % 32 = 0 := by omega
  by_cases h2 : t.val / 32 % 32 = t.val % 32
  · exact out9_G t h0 (by omega) h2 h3 y x
  · exact out9_C t h0 (by omega) h2 h3 y x

omit H in
theorem split {P : Prop} (x : Fin 128) (h0 : x.val / 64 = (0 : Fin 2).val → P) (h1 : ¬ x.val / 64 = (0 : Fin 2).val → x.val / 64 = (1 : Fin 2).val → P) : P := by
  have hx := x.isLt
  by_cases h : x.val / 64 = (0 : Fin 2).val
  · exact h0 h
  · exact h1 h (by have e0 : (0 : Fin 2).val = 0 := rfl; have e1 : (1 : Fin 2).val = 1 := rfl; omega)

/-- The keys' gradient, at the last query block. -/
theorem dk_at (t : Fin cfg0.N) (h3 : t.val % 32 = 31) (y : Fin 512) (x : Fin 128) :
    (outsAt0 m c t.val t.isLt).1 (ix2 y x) = ((dkey (heads q) (heads k) (heads v) (heads d) g (hd t (slot x)) (kJ t y) (lane x) : ℝ) : EReal) := by
  have P := holds H t.val t rfl
  rw [h3] at P
  rw [out7_at t h3]
  refine split x (fun h => ?_) (fun h h' => ?_)
  · rw [if_pos h, P.rr, rsum_own _ _ _ _ _ _ _ _ ((own_iff t 0 x).2 h), slot_own t 0 x h]
  · rw [if_neg h, P.rr, rsum_own _ _ _ _ _ _ _ _ ((own_iff t 1 x).2 h'), slot_own t 1 x h']

/-- The values' gradient. -/
theorem dv_at (t : Fin cfg0.N) (h3 : t.val % 32 = 31) (y : Fin 512) (x : Fin 128) :
    (outsAt0 m c t.val t.isLt).2.1 (ix2 y x) = ((dval (heads q) (heads k) (heads d) g (hd t (slot x)) (kJ t y) (lane x) : ℝ) : EReal) := by
  have P := holds H t.val t rfl
  rw [h3] at P
  rw [out8_at t h3]
  refine split x (fun h => ?_) (fun h h' => ?_)
  · rw [if_pos h, P.ww, vsum_own _ _ _ _ _ _ _ _ ((own_iff t 0 x).2 h), slot_own t 0 x h]
  · rw [if_neg h, P.ww, vsum_own _ _ _ _ _ _ _ _ ((own_iff t 1 x).2 h'), slot_own t 1 x h']

omit H in
theorem neg_neg_coe (z : ℝ) : (0 : EReal) - ((-z : ℝ) : EReal) = (z : EReal) := by
  rw [← EReal.coe_zero, ← EReal.coe_sub]; exact congrArg _ (by ring)

/-- The gate sums' gradient, repeated over a head's columns. -/
theorem dc_at (t : Fin cfg0.N) (h3 : t.val % 32 = 31) (y : Fin 512) (x : Fin 128) :
    (outsAt0 m c t.val t.isLt).2.2.1 (ix2 y x) = ((dgate (heads q) (heads k) (heads v) (heads d) g (hd t (slot x)) (kJ t y) : ℝ) : EReal) := by
  have P := holds H t.val t rfl
  rw [h3] at P
  rw [out9_at t h3]
  have hx := x.isLt
  have e : (over x).val = (x.val + 128 - 64) % 128 := rfl
  have e0 : (0 : Fin 2).val = 0 := rfl
  have e1 : (1 : Fin 2).val = 1 := rfl
  refine split x (fun h => ?_) (fun h h' => ?_)
  · rw [if_pos h, P.rr, rsum_other _ _ _ _ _ _ _ _ (fun o => by have := (own_iff t 0 (over x)).1 o; omega),
      slot_own t 0 x h]
    exact neg_neg_coe _
  · rw [if_neg h, P.rr, rsum_other _ _ _ _ _ _ _ _ (fun o => by have := (own_iff t 1 (over x)).1 o; omega),
      slot_own t 1 x h']
    exact neg_neg_coe _

end Cert.Fox.Acc

end
-- ==== Proof.Final.lean ====
/- The result arrays after the run, in closed form. -/
module

public import proofs.«01_k».proof.Proof.Acc

@[expose] public section

set_option maxRecDepth 16384

noncomputable section

namespace Cert.Fox.Final

open Cert.KernelIdeal Cert.KernelIdeal.Gen Cert.Fox.Blocks Idealize.ShloMosaic Idealize.ShloMosaic.TcCoe
open scoped BigOperators

variable {m : (ℓ : Loc nD τ sig) → Buf (Elt Ideal) ℓ} {c : Dev nD} {q k v d : Fin 16384 → Fin 512 → ℝ}
  {g : Fin 8 → Fin 16384 → ℝ} (H : Reals m c q k v d g)

/-- A column's head and its place in the head. -/
def headOf (x : Fin 512) : Fin 8 := ⟨x.val / 64, by have := x.isLt; omega⟩
def laneOf (x : Fin 512) : Fin 64 := ⟨x.val % 64, Nat.mod_lt _ (by decide)⟩

/-- The output blocks' places. -/
theorem idx : ∀ t : Fin cfg0.N, win0_7.index t = ![t.val / 32 % 32, t.val / 1024]
    ∧ win0_8.index t = ![t.val / 32 % 32, t.val / 1024] ∧ win0_9.index t = ![t.val / 32 % 32, t.val / 1024] :=
  (by decide +kernel : ∀ t : Fin grid0.N, _)

theorem headOf_col (t : Fin cfg0.N) (x : Fin 128) : headOf (col t x) = hd t (slot x) :=
  Fin.ext (by show (pr t * 128 + x.val) / 64 = 2 * pr t + x.val / 64; omega)

theorem laneOf_col (t : Fin cfg0.N) (x : Fin 128) : laneOf (col t x) = lane x :=
  Fin.ext (by show (pr t * 128 + x.val) % 64 = x.val % 64; omega)

/-- The keys' gradient as an array. -/
def dk (q k v d : Fin 16384 → Fin 512 → ℝ) (g : Fin 8 → Fin 16384 → ℝ) : FVec Ideal S16384x512 .bf16 := fun i =>
  ((dkey (heads q) (heads k) (heads v) (heads d) g (headOf (p1 i)) (p0 i) (laneOf (p1 i)) : ℝ) : EReal)

/-- The values'. -/
def dv (q k d : Fin 16384 → Fin 512 → ℝ) (g : Fin 8 → Fin 16384 → ℝ) : FVec Ideal S16384x512 .bf16 := fun i =>
  ((dval (heads q) (heads k) (heads d) g (headOf (p1 i)) (p0 i) (laneOf (p1 i)) : ℝ) : EReal)

/-- The gate sums', repeated over each head's columns. -/
def dc (q k v d : Fin 16384 → Fin 512 → ℝ) (g : Fin 8 → Fin 16384 → ℝ) : FVec Ideal S16384x512 .f32 := fun i =>
  ((dgate (heads q) (heads k) (heads v) (heads d) g (headOf (p1 i)) (p0 i) : ℝ) : EReal)

/-- A function of a head and of a place within the head, at one column of the output's block. -/
theorem of_col (f : Fin 8 → Fin 64 → ℝ) (t : Fin cfg0.grid.N) (x : Fin 128) :
    ((f (hd t (slot x)) (lane x) : ℝ) : EReal) = ((f (headOf (col t x)) (laneOf (col t x)) : ℝ) : EReal) := by
  rw [headOf_col, laneOf_col]

include H

/-- The keys' gradient after the run. -/
theorem final7 : (dats m 0 c).arrAt 7 cfg0.N = dk q k v d g := by
  refine (dats m 0 c).arrAt_eq_of_covers 7 _ (by decide +kernel) fun t hf y => ?_
  have hm : t.val % 32 = 31 := (flush0_7 t).mp hf
  blk_simp
  rw [after0_7]
  have e0 : p0 ((win0_7.blk t).view.emb y : S16384x512.Idx) = kJ t (y 0) := Fin.ext (by
    show win0_7.index t (0 : Fin 2) * 512 + 1 * (y 0).val = 512 * kj t + (y 0).val
    rw [(idx t).1]
    show t.val / 32 % 32 * 512 + 1 * (y 0).val = 512 * (t.val / 32 % 32) + (y 0).val
    omega)
  have e1 : p1 ((win0_7.blk t).view.emb y : S16384x512.Idx) = col t (y 1) := Fin.ext (by
    show win0_7.index t (1 : Fin 2) * 128 + 1 * (y 1).val = pr t * 128 + (y 1).val
    rw [(idx t).1]
    show t.val / 1024 * 128 + 1 * (y 1).val = t.val / 1024 * 128 + (y 1).val
    omega)
  have ey : y = ix2 (y 0) (y 1) := by
    funext a
    match a with
    | ⟨0, _⟩ => rfl
    | ⟨1, _⟩ => rfl
  refine ((congrArg _ ey).trans (Acc.dk_at H t hm (y 0) (y 1))).trans ?_
  rw [dk, e0, e1]
  exact of_col (fun h e => dkey (heads q) (heads k) (heads v) (heads d) g h (kJ t (y 0)) e) t (y 1)

/-- The values' gradient. -/
theorem final8 : (dats m 0 c).arrAt 8 cfg0.N = dv q k d g := by
  refine (dats m 0 c).arrAt_eq_of_covers 8 _ (by decide +kernel) fun t hf y => ?_
  have hm : t.val % 32 = 31 := (flush0_8 t).mp hf
  blk_simp
  rw [after0_8]
  have e0 : p0 ((win0_8.blk t).view.emb y : S16384x512.Idx) = kJ t (y 0) := Fin.ext (by
    show win0_8.index t (0 : Fin 2) * 512 + 1 * (y 0).val = 512 * kj t + (y 0).val
    rw [(idx t).2.1]
    show t.val / 32 % 32 * 512 + 1 * (y 0).val = 512 * (t.val / 32 % 32) + (y 0).val
    omega)
  have e1 : p1 ((win0_8.blk t).view.emb y : S16384x512.Idx) = col t (y 1) := Fin.ext (by
    show win0_8.index t (1 : Fin 2) * 128 + 1 * (y 1).val = pr t * 128 + (y 1).val
    rw [(idx t).2.1]
    show t.val / 1024 * 128 + 1 * (y 1).val = t.val / 1024 * 128 + (y 1).val
    omega)
  have ey : y = ix2 (y 0) (y 1) := by
    funext a
    match a with
    | ⟨0, _⟩ => rfl
    | ⟨1, _⟩ => rfl
  refine ((congrArg _ ey).trans (Acc.dv_at H t hm (y 0) (y 1))).trans ?_
  rw [dv, e0, e1]
  exact of_col (fun h e => dval (heads q) (heads k) (heads d) g h (kJ t (y 0)) e) t (y 1)

/-- The gate sums' gradient. -/
theorem final9 : (dats m 0 c).arrAt 9 cfg0.N = dc q k v d g := by
  refine (dats m 0 c).arrAt_eq_of_covers 9 _ (by decide +kernel) fun t hf y => ?_
  have hm : t.val % 32 = 31 := (flush0_9 t).mp hf
  blk_simp
  rw [after0_9]
  have e0 : p0 ((win0_9.blk t).view.emb y : S16384x512.Idx) = kJ t (y 0) := Fin.ext (by
    show win0_9.index t (0 : Fin 2) * 512 + 1 * (y 0).val = 512 * kj t + (y 0).val
    rw [(idx t).2.2]
    show t.val / 32 % 32 * 512 + 1 * (y 0).val = 512 * (t.val / 32 % 32) + (y 0).val
    omega)
  have e1 : p1 ((win0_9.blk t).view.emb y : S16384x512.Idx) = col t (y 1) := Fin.ext (by
    show win0_9.index t (1 : Fin 2) * 128 + 1 * (y 1).val = pr t * 128 + (y 1).val
    rw [(idx t).2.2]
    show t.val / 1024 * 128 + 1 * (y 1).val = t.val / 1024 * 128 + (y 1).val
    omega)
  have ey : y = ix2 (y 0) (y 1) := by
    funext a
    match a with
    | ⟨0, _⟩ => rfl
    | ⟨1, _⟩ => rfl
  refine ((congrArg _ ey).trans (Acc.dc_at H t hm (y 0) (y 1))).trans ?_
  rw [dc, e0, e1]
  exact of_col (fun h _ => dgate (heads q) (heads k) (heads v) (heads d) g h (kJ t (y 0))) t (y 1)

end Cert.Fox.Final

end
-- ==== Proof.Args.lean ====
/- The precondition read back: arguments whose absolute values all lie below +∞ are arrays of real numbers. -/
module

public import proofs.«01_k».proof.Defs
public import proofs.«01_k».proof.Proof.Blocks
public import Idealize.ShloMosaic.Lib.ReduceAll

@[expose] public section

noncomputable section

namespace Cert.Fox.Args

open Cert.Fox.Blocks Idealize.ShloMosaic Idealize.ShloMosaic.TcCoe

/-- The shape relations the precondition states. -/
theorem facts : Cert.Pre_finite.Facts where
  bcast_S_S16384x512 := by decide
  reducesTo_S16384x512_S_d0_1 := by decide
  h_S_ := by decide
  bcast_S_S8x16384 := by decide
  reducesTo_S8x16384_S_d0_1 := by decide

/-- An extended real whose absolute value lies below +∞ is a real number. -/
theorem coe_of_lt {x : EReal} (h : Ideal.cmp .olt (max x (-x)) (Ideal.ofBits .f32 0x7F800000#32) = 1#1) :
    ((x.toReal : ℝ) : EReal) = x := by
  rw [bits_top] at h
  have h' : max x (-x) < ⊤ := by
    by_contra hn
    have : Ideal.cmp .olt (max x (-x)) ⊤ = 0#1 := by simp [Ideal.cmp, hn]
    rw [this] at h
    exact absurd h (by decide)
  refine EReal.coe_toReal (fun e => ?_) (fun e => ?_)
  · rw [e] at h'; simp at h'
  · rw [e] at h'; simp at h'

instance : Subsingleton (Cert.Pre_finite.S_).Idx := ⟨fun a b => funext fun x => x.elim0⟩

/-- An array all of whose absolute values lie below +∞ holds real numbers. -/
theorem real_of_all {s : Shape} {axes : List (Fin s.rank)} (x : s.Idx → EReal)
    (hb : (Cert.Pre_finite.S_).BroadcastsInDim s (![] : Fin 0 → Fin s.rank))
    (hr : s.ReducesTo axes Cert.Pre_finite.S_) (hu : 0 < (Cert.Pre_finite.S_).numel) (j : (Cert.Pre_finite.S_).Idx)
    (init : (Cert.Pre_finite.S_).Idx → BitVec 1)
    (e : Host.reduce IntOp.andi (cmpf (F := Ideal) (φ := .f32) .olt (Host.absf x)
      (broadcastInDim s ![] hb (constant Cert.Pre_finite.S_ .f32 0x7F800000#32))) init hr hu j = 1#1) (i : s.Idx) :
    (((x i).toReal : ℝ) : EReal) = x i :=
  coe_of_lt (Host.reduce_andi_all _ init hr hu j e i)

open Cert.KernelIdeal in
/-- The precondition gives the arguments' real arrays. -/
theorem reals [Cert.Pre_finite.Facts] (m : (ℓ : Loc nD τ sig) → Buf (Elt Ideal) ℓ) (h : Cert.Pre_KernelIdeal_finite m)
    (c : Dev nD) : ∃ (q k v d : Fin 16384 → Fin 512 → ℝ) (g : Fin 8 → Fin 16384 → ℝ), Reals m c q k v d g := by
  have h0 := congrFun (h c) (fun x => x.elim0)
  unfold Cert.Pre_finite.fn Cert.Pre_finite.fn_part1 at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  refine ⟨fun r x => ((m ((c : Thread nD τ).loc main_arg0) : FVec Ideal S16384x512 .f32) (ix2 r x)).toReal,
    fun r x => ((m ((c : Thread nD τ).loc main_arg1) : FVec Ideal S16384x512 .f32) (ix2 r x)).toReal,
    fun r x => ((m ((c : Thread nD τ).loc main_arg2) : FVec Ideal S16384x512 .f32) (ix2 r x)).toReal,
    fun r x => ((m ((c : Thread nD τ).loc main_arg4) : FVec Ideal S16384x512 .f32) (ix2 r x)).toReal,
    fun r x => ((m ((c : Thread nD τ).loc main_arg3) : FVec Ideal S8x16384 .f32) (ix2 r x)).toReal, ?_, ?_, ?_, ?_, ?_⟩
  all_goals
    funext i
    have ei : i = ix2 (p0 i) (p1 i) := by
      funext a
      match a with
      | ⟨0, _⟩ => rfl
      | ⟨1, _⟩ => rfl
  · exact (real_of_all _ _ _ _ _ _ e0 i).symm.trans (congrArg (fun j => (((m ((c : Thread nD τ).loc main_arg0) : FVec Ideal S16384x512 .f32) j).toReal : EReal)) ei)
  · exact (real_of_all _ _ _ _ _ _ e1 i).symm.trans (congrArg (fun j => (((m ((c : Thread nD τ).loc main_arg1) : FVec Ideal S16384x512 .f32) j).toReal : EReal)) ei)
  · exact (real_of_all _ _ _ _ _ _ e2 i).symm.trans (congrArg (fun j => (((m ((c : Thread nD τ).loc main_arg2) : FVec Ideal S16384x512 .f32) j).toReal : EReal)) ei)
  · exact (real_of_all _ _ _ _ _ _ e3 i).symm.trans (congrArg (fun j => (((m ((c : Thread nD τ).loc main_arg3) : FVec Ideal S8x16384 .f32) j).toReal : EReal)) ei)
  · exact (real_of_all _ _ _ _ _ _ e4 i).symm.trans (congrArg (fun j => (((m ((c : Thread nD τ).loc main_arg4) : FVec Ideal S16384x512 .f32) j).toReal : EReal)) ei)

end Cert.Fox.Args

end
-- ==== Proof.Ref.lean ====
/- The reference's results of real arguments: the derivative over the reals. The row's maximum, which the softmax
   subtracts, enters as any real number: the results do not depend on it. -/
module

public import proofs.«01_k».proof.Proof.Arrays
public import proofs.«01_k».proof.Proof.Gen.ReferenceIdeal.Read

@[expose] public section

set_option maxRecDepth 16384

noncomputable section

namespace Cert.Fox.Ref

open Cert.ReferenceIdeal Cert.ReferenceIdeal.Gen Cert.ReferenceIdeal.Read Idealize.ShloMosaic
open scoped BigOperators

theorem v1_at (a : Fin 16384 → Fin 512 → ℝ) (i : S8x16384x64.Idx) :
    val_main_v1 (F := Ideal) (wide a) i = ((heads a (p0 i) (p1 i) (p2 i) : ℝ) : EReal) := by
  rw [val_main_v1_apply, val_main_v0_apply]
  exact wide_at a _ _ _ _ rfl rfl

theorem v3_at (a : Fin 16384 → Fin 512 → ℝ) (i : S8x16384x64.Idx) :
    val_main_v3 (F := Ideal) (wide a) i = ((heads a (p0 i) (p1 i) (p2 i) : ℝ) : EReal) := by
  rw [val_main_v3_apply, val_main_v2_apply]
  exact wide_at a _ _ _ _ rfl rfl

/-- The scores before the mask. -/
theorem score_at (q k : Fin 16384 → Fin 512 → ℝ) (c : Fin 8 → Fin 16384 → ℝ) (i : S8x16384x16384.Idx) :
    val_main_v12 (F := Ideal) (wide q) (wide k) (gates c) i
      = ((score (heads q) (heads k) c (p0 i) (p1 i) (p2 i) : ℝ) : EReal) := by
  have h4 : val_main_v4 (F := Ideal) (wide q) (wide k) i
      = ((∑ e, heads q (p0 i) (p1 i) e * heads k (p0 i) (p2 i) e : ℝ) : EReal) := by
    rw [val_main_v4_apply, ← coe_sum]
    refine Finset.sum_congr rfl fun e _ => ?_
    rw [v1_at, v3_at, EReal.coe_mul]; rfl
  have h5 : val_main_v5 (F := Ideal) i = ((1 / 8 : ℝ) : EReal) := by
    rw [val_main_v5_apply, val_main_cst_apply]; exact bits_eighth
  have h8 : val_main_v8 (F := Ideal) (gates c) i = ((c (p0 i) (p1 i) : ℝ) : EReal) := by
    rw [val_main_v8_apply, val_main_v7_apply]; rfl
  have h11 : val_main_v11 (F := Ideal) (gates c) i = ((c (p0 i) (p2 i) : ℝ) : EReal) := by
    rw [val_main_v11_apply, val_main_v10_apply]; rfl
  rw [val_main_v12_apply, val_main_v9_apply, val_main_v6_apply, h4, h5, h8, h11, score,
    EReal.coe_sub, EReal.coe_add, EReal.coe_mul]
  rfl

theorem mask_at (i : S16384x16384.Idx) :
    val_main_v18 (F := Ideal) i = if (i 1).val ≤ (i 0).val then 1#1 else 0#1 := by
  rw [val_main_v18_apply, val_main_v16_apply, val_main_v14_apply, val_main_v17_apply, val_main_v15_apply,
    val_main_v13_apply, val_main_v13_apply]
  exact sle_small _ _ (lt_trans (i 1).isLt (by decide)) (lt_trans (i 0).isLt (by decide))

/-- The masked scores: −∞ at the keys after the query. -/
theorem masked_at (q k : Fin 16384 → Fin 512 → ℝ) (c : Fin 8 → Fin 16384 → ℝ) (i : S8x16384x16384.Idx) :
    val_main_v19_0 (F := Ideal) (wide q) (wide k) (gates c) i
      = masked (heads q) (heads k) c (p0 i) (p1 i) (p2 i) := by
  have hm : val_main_v19_1 (F := Ideal) i = if (i 2).val ≤ (i 1).val then 1#1 else 0#1 := by
    rw [val_main_v19_1_apply, mask_at]
  have hb : val_main_call0_v2 (F := Ideal) i = (⊥ : EReal) := by
    rw [val_main_call0_v2_apply]; exact bits_bot
  rw [val_main_v19_0_apply, hm, score_at, hb, masked]
  by_cases h : (i 2).val ≤ (i 1).val
  · rw [if_pos h, if_pos (show p2 i ≤ p1 i from h)]; rfl
  · rw [if_neg h, if_neg (show ¬ p2 i ≤ p1 i from h)]; rfl

/-- A row's maximum is a real number. -/
theorem rowmax_at (q k : Fin 16384 → Fin 512 → ℝ) (c : Fin 8 → Fin 16384 → ℝ) (i : S8x16384.Idx) :
    ∃ M : ℝ, val_main_v20 (F := Ideal) (wide q) (wide k) (gates c) i = (M : EReal) := by
  unfold val_main_v20
  have hf : ∀ j, val_main_v19_0 (F := Ideal) (wide q) (wide k) (gates c) j
      = masked (heads q) (heads k) c (p0 j) (p1 j) (p2 j) := masked_at q k c
  generalize val_main_v19_0 (F := Ideal) (wide q) (wide k) (gates c) = x at hf
  let t : S8x16384x16384.Idx := fun a => match a with
    | ⟨0, _⟩ => i 0
    | ⟨1, _⟩ => i 1
    | ⟨2, _⟩ => i 1
  refine reduce_max_real x _ _ _ i (fun j => ?_) t ?_ ?_ ?_
  · rw [hf]; exact masked_ne_top _ _ _ _ _ _
  · exact funext fun a => Fin.ext (by match a with | ⟨0, _⟩ => rfl | ⟨1, _⟩ => rfl)
  · rw [hf]; exact masked_self_ne_bot _ _ _ _ _
  · exact bits_bot

/-- Column `e` of head `h` in the row of `i`, in the layout of rows, heads and columns. -/
def lane (i : S16384x512.Idx) (h : Fin 8) (e : Fin 64) : S16384x8x64.Idx := fun a => match a with
  | ⟨0, _⟩ => i 0
  | ⟨1, _⟩ => h
  | ⟨2, _⟩ => e

theorem lane_eq (i : S16384x512.Idx) (h : Fin 8) (e : Fin 64) (hi : (i 1).val = 64 * h.val + e.val)
    (j : S16384x8x64.Idx) (h0 : (j 0).val = ((i 0).val * 512 + (i 1).val) / 512)
    (h1 : (j 1).val = ((i 0).val * 512 + (i 1).val) / 64 % 8) (h2 : (j 2).val = ((i 0).val * 512 + (i 1).val) % 64) :
    j = lane i h e := funext fun a => Fin.ext (by
  have hh := h.isLt
  have he := e.isLt
  match a with
  | ⟨0, _⟩ => show (j 0).val = (i 0).val; omega
  | ⟨1, _⟩ => show (j 1).val = h.val; omega
  | ⟨2, _⟩ => show (j 2).val = e.val; omega)

section Rows

variable {q k v d : Fin 16384 → Fin 512 → ℝ} {c : Fin 8 → Fin 16384 → ℝ}
  {M : Fin 8 → Fin 16384 → ℝ}
    (hM : ∀ i, val_main_v20 (F := Ideal) (wide q) (wide k) (gates c) i = ((M (p0 i) (p1 i) : ℝ) : EReal))

include hM

theorem weight_at (i : S8x16384x16384.Idx) :
    val_main_v40 (F := Ideal) (wide q) (wide k) (gates c) i
      = ((shifted (heads q) (heads k) c (M (p0 i) (p1 i)) (p0 i) (p1 i) (p2 i) : ℝ) : EReal) := by
  have h38 : val_main_v38 (F := Ideal) (wide q) (wide k) (gates c) i = ((M (p0 i) (p1 i) : ℝ) : EReal) := by
    rw [val_main_v38_apply, val_main_v37_apply, val_main_v27_apply, hM, val_main_v26_apply]
    show max (Ideal.ofBits .f32 0xFF800000#32) _ = _
    rw [bits_bot, max_eq_right bot_le]; rfl
  rw [val_main_v40_apply, val_main_v39_apply, masked_at, h38]
  exact exp_masked _ _ _ _ _ _ _

/-- A row's sum of weights. -/
def rowSum (Q K : Fin 8 → Fin 16384 → Fin 64 → ℝ) (c M : Fin 8 → Fin 16384 → ℝ) (h : Fin 8) (i : Fin 16384) : ℝ :=
  ∑ j, shifted Q K c (M h i) h i j

theorem sum_at (i : S8x16384x1.Idx) :
    val_main_v42 (F := Ideal) (wide q) (wide k) (gates c) i = ((rowSum (heads q) (heads k) c M (p0 i) (p1 i) : ℝ) : EReal) := by
  rw [val_main_v42_apply, val_main_v41_apply, rowSum, ← coe_sum]
  have h0 : val_main_cst_9 (F := Ideal) (Shape.Idx.first h_S_) = (0 : EReal) := Ideal.ofBits_zero_f32
  rw [h0, zero_add]
  refine Finset.sum_congr rfl fun j _ => ?_
  rw [weight_at hM]; rfl

theorem prob_at (i : S8x16384x16384.Idx) :
    val_main_v44 (F := Ideal) (wide q) (wide k) (gates c) i = ((prob (heads q) (heads k) c (p0 i) (p1 i) (p2 i) : ℝ) : EReal) := by
  rw [val_main_v44_apply, val_main_v43_apply, sum_at hM, weight_at hM]
  refine (div_coe _ _ (sum_shifted_pos _ _ _ _ _ _).ne').trans ?_
  exact congrArg _ (shifted_div _ _ _ _ _ _ _)

omit hM in
theorem v49_at (i : S8x16384x64.Idx) :
    val_main_v49 (F := Ideal) (wide v) i = ((heads v (p0 i) (p1 i) (p2 i) : ℝ) : EReal) := by
  rw [val_main_v49_apply, val_main_v48_apply]
  exact wide_at v _ _ _ _ rfl rfl

omit hM in
theorem v54_at (i : S8x16384x64.Idx) :
    val_main_v54 (F := Ideal) (wide d) i = ((heads d (p0 i) (p1 i) (p2 i) : ℝ) : EReal) := by
  rw [val_main_v54_apply, val_main_v53_apply]
  exact wide_at d _ _ _ _ rfl rfl

omit hM in
theorem dprob_at (i : S8x16384x16384.Idx) :
    val_main_v57 (F := Ideal) (wide v) (wide d) i
      = ((dprob (heads v) (heads d) (p0 i) (p1 i) (p2 i) : ℝ) : EReal) := by
  rw [val_main_v57_apply, dprob, ← coe_sum]
  refine Finset.sum_congr rfl fun e _ => ?_
  rw [v49_at, v54_at, EReal.coe_mul]; rfl

/-- The softmax's row term, spread over the row. -/
theorem rowterm_at (i : S8x16384x16384.Idx) :
    val_main_v69 (F := Ideal) (wide q) (wide k) (wide v) (gates c) (wide d) i
      = ((-(∑ j, dprob (heads v) (heads d) (p0 i) (p1 i) j
            * (1 / (rowSum (heads q) (heads k) c M (p0 i) (p1 i) * rowSum (heads q) (heads k) c M (p0 i) (p1 i)))
            * shifted (heads q) (heads k) c (M (p0 i) (p1 i)) (p0 i) (p1 i) j) : ℝ) : EReal) := by
  have z68 : val_main_cst_12 (F := Ideal) (Shape.Idx.first h_S_) = (0 : EReal) := Ideal.ofBits_zero_f32
  have z63 : val_main_cst_11 (F := Ideal) (Shape.Idx.first h_S_) = (0 : EReal) := Ideal.ofBits_zero_f32
  rw [val_main_v69_apply, val_main_v68_apply, z68, zero_add, Fin.sum_univ_one, val_main_v65_apply,
    val_main_v64_apply, val_main_v63_apply, z63, zero_add, EReal.coe_neg, ← coe_sum]
  have hi : idx_main_v64 (idx_main_v68 (idx_main_v69 i) 0) = idx_main_v69 i := funext fun a => Fin.ext (by
    have h0 : (i 0).val < 8 := (i 0).isLt
    have h1 : (i 1).val < 16384 := (i 1).isLt
    match a with
    | ⟨0, _⟩ => show (((i 0).val * 16384 + (i 1).val) * 1 + 0) / 16384 = (i 0).val; omega
    | ⟨1, _⟩ => show (((i 0).val * 16384 + (i 1).val) * 1 + 0) % 16384 = (i 1).val; omega)
  rw [hi]
  refine congrArg (fun x : EReal => -x) (Finset.sum_congr rfl fun j _ => ?_)
  have h60 : ∀ i : S8x16384x16384.Idx, val_main_v60 (F := Ideal) (wide q) (wide k) (gates c) i
      = ((1 / (rowSum (heads q) (heads k) c M (p0 i) (p1 i) * rowSum (heads q) (heads k) c M (p0 i) (p1 i)) : ℝ) : EReal) := by
    intro i
    have h1 : ∀ i, val_main_v46 (F := Ideal) i = ((1 : ℝ) : EReal) := fun i => by
      rw [val_main_v46_apply]; exact Ideal.ofBits_one_f32
    have hp : rowSum (heads q) (heads k) c M (p0 i) (p1 i) ≠ 0 := (sum_shifted_pos _ _ _ _ _ _).ne'
    rw [val_main_v60_apply, val_main_v47_apply, val_main_v45_apply, sum_at hM, h1]
    refine Eq.trans ?_ (div_coe 1 _ (mul_ne_zero hp hp))
    rw [EReal.coe_mul]; rfl
  rw [val_main_v62_apply, val_main_v61_apply, dprob_at, h60, weight_at hM]
  rw [EReal.coe_mul, EReal.coe_mul]; rfl

/-- The gradient of the scores. -/
theorem dscore_at (i : S8x16384x16384.Idx) :
    val_main_v72 (F := Ideal) (wide q) (wide k) (wide v) (gates c) (wide d) i
      = ((dscore (heads q) (heads k) (heads v) (heads d) c (p0 i) (p1 i) (p2 i) : ℝ) : EReal) := by
  have hm : val_main_v19_1 (F := Ideal) i = if (i 2).val ≤ (i 1).val then 1#1 else 0#1 := by
    rw [val_main_v19_1_apply, mask_at]
  have hz : val_main_call1_v0 (F := Ideal) i = (0 : EReal) := by
    rw [val_main_call1_v0_apply]; exact Ideal.ofBits_zero_f32
  have hp : rowSum (heads q) (heads k) c M (p0 i) (p1 i) ≠ 0 := (sum_shifted_pos _ _ _ _ _ _).ne'
  rw [val_main_v72_apply, hm, hz]
  by_cases h : (i 2).val ≤ (i 1).val
  · rw [if_pos h, val_main_v71_apply, val_main_v70_apply, val_main_v67_apply, val_main_v66_apply, dprob_at, sum_at hM,
      rowterm_at hM, weight_at hM]
    refine Eq.trans ?_ (congrArg (fun x : ℝ => (x : EReal))
      (dscore_eq (heads q) (heads k) (heads v) (heads d) c (M (p0 i) (p1 i)) (p0 i) (p1 i) (p2 i)))
    refine Eq.trans ?_ (EReal.coe_mul _ _).symm
    refine congrArg (fun x : EReal => x * _) ?_
    refine Eq.trans ?_ (EReal.coe_add _ _).symm
    exact congrArg (fun x : EReal => x + _) (div_coe _ _ hp)
  · rw [if_neg h]
    exact (congrArg (fun x : ℝ => (x : EReal))
      (dscore_of_lt (heads q) (heads k) (heads v) (heads d) c (p0 i) (p1 i) (p2 i) h)).symm

/-- The values' gradient. -/
theorem dval_at (i : S16384x512.Idx) (h : Fin 8) (e : Fin 64) (hi : (i 1).val = 64 * h.val + e.val) :
    val_main_v83 (F := Ideal) (wide q) (wide k) (gates c) (wide d) i
      = ((dval (heads q) (heads k) (heads d) c h (p0 i) e : ℝ) : EReal) := by
  have hx : idx_main_v59 i = lane i h e := lane_eq i h e hi _ rfl rfl rfl
  rw [val_main_v83_apply]
  show val_main_v59 (F := Ideal) _ _ _ _ i = _
  rw [val_main_v59_apply, hx, val_main_v58_apply, val_main_v56_apply, val_main_v55_apply, dval, ← coe_sum]
  refine Finset.sum_congr rfl fun r _ => ?_
  rw [v54_at, prob_at hM, mul_comm (prob _ _ _ _ _ _), EReal.coe_mul]; rfl

/-- The keys' gradient. -/
theorem dkey_at (i : S16384x512.Idx) (h : Fin 8) (e : Fin 64) (hi : (i 1).val = 64 * h.val + e.val) :
    val_main_v82 (F := Ideal) (wide q) (wide k) (wide v) (gates c) (wide d) i
      = ((dkey (heads q) (heads k) (heads v) (heads d) c h (p0 i) e : ℝ) : EReal) := by
  have hx : idx_main_v81 i = lane i h e := lane_eq i h e hi _ rfl rfl rfl
  have h77 : ∀ i, val_main_v77 (F := Ideal) i = ((1 / 8 : ℝ) : EReal) := fun i => by
    rw [val_main_v77_apply]; exact bits_eighth
  rw [val_main_v82_apply]
  show val_main_v81 (F := Ideal) _ _ _ _ _ i = _
  rw [val_main_v81_apply, hx, val_main_v80_apply, val_main_v79_apply, dkey, ← coe_sum]
  refine Finset.sum_congr rfl fun r _ => ?_
  rw [val_main_v78_apply, dscore_at hM, v1_at, h77, mul_comm (heads q _ _ _), ← mul_assoc, EReal.coe_mul,
    EReal.coe_mul]
  rfl

/-- The gates' gradient, repeated over a head's columns. -/
theorem dgate_at (i : S16384x512.Idx) (h : Fin 8) (e : Fin 64) (hi : (i 1).val = 64 * h.val + e.val) :
    val_main_v86 (F := Ideal) (wide q) (wide k) (wide v) (gates c) (wide d) i
      = ((dgate (heads q) (heads k) (heads v) (heads d) c h (p0 i) : ℝ) : EReal) := by
  have hx : idx_main_v86 i = lane i h e := lane_eq i h e hi _ rfl rfl rfl
  have z76 : val_main_cst_14 (F := Ideal) (Shape.Idx.first h_S_) = (0 : EReal) := Ideal.ofBits_zero_f32
  have z74 : val_main_cst_13 (F := Ideal) (Shape.Idx.first h_S_) = (0 : EReal) := Ideal.ofBits_zero_f32
  rw [val_main_v86_apply, hx, val_main_v85_apply, val_main_v84_apply, val_main_v76_apply, z76, zero_add,
    Fin.sum_univ_one, val_main_v75_apply, val_main_v74_apply, z74, zero_add, dgate, ← Finset.sum_neg_distrib, ← coe_sum]
  have h75 : idx_main_v75 (idx_main_v76 (idx_main_v84 (idx_main_v85 (lane i h e))) 0)
      = idx_main_v84 (idx_main_v85 (lane i h e)) := funext fun a => Fin.ext (by
    have h0 : h.val < 8 := h.isLt
    have h1 : (i 0).val < 16384 := (i 0).isLt
    match a with
    | ⟨0, _⟩ => show ((h.val * 1 + 0) * 16384 + (i 0).val) / 16384 = h.val; omega
    | ⟨1, _⟩ => show ((h.val * 1 + 0) * 16384 + (i 0).val) % 16384 = (i 0).val; omega)
  rw [h75]
  refine Finset.sum_congr rfl fun r _ => ?_
  rw [val_main_v73_apply, dscore_at hM, EReal.coe_neg]
  rfl

end Rows

end Cert.Fox.Ref

end
-- ==== Proof.Value.lean ====
/- The keys', values' and gate sums' gradients: the kernel's result arrays are the reference's. -/
module

public import proofs.«01_k».proof.Proof.Final
public import proofs.«01_k».proof.Proof.Args
public import proofs.«01_k».proof.Proof.Ref
public import proofs.«01_k».proof.Proof.Gen.ReferenceIdeal.Run
public import Idealize.ShloMosaic.Lib.Claim

@[expose] public section

noncomputable section

namespace Cert.Fox.Value

open Cert.Fox.Blocks Idealize.ShloMosaic Idealize.ShloMosaic.TcCoe Idealize.SL.Sem

section Reference

open Cert.ReferenceIdeal Cert.ReferenceIdeal.Read

/-- Every row of scores has a real maximum. -/
theorem rows (q k : Fin 16384 → Fin 512 → ℝ) (g : Fin 8 → Fin 16384 → ℝ) :
    ∃ M : Fin 8 → Fin 16384 → ℝ, ∀ i, val_main_v20 (F := Ideal) (wide q) (wide k) (gates g) i = ((M (p0 i) (p1 i) : ℝ) : EReal) := by
  choose M hM using fun (h : Fin 8) (i : Fin 16384) => Cert.Fox.Ref.rowmax_at q k g (ix2 h i)
  refine ⟨M, fun i => ?_⟩
  have ei : i = ix2 (p0 i) (p1 i) := by
    funext a
    match a with
    | ⟨0, _⟩ => rfl
    | ⟨1, _⟩ => rfl
  exact (congrArg _ ei).trans (hM (p0 i) (p1 i))

/-- A column is its head's column at its place. -/
theorem split (i : S16384x512.Idx) : (i 1).val = 64 * (Final.headOf (p1 i)).val + (Final.laneOf (p1 i)).val := by
  show (i 1).val = 64 * ((i 1).val / 64) + (i 1).val % 64
  omega

variable (q k v d : Fin 16384 → Fin 512 → ℝ) (g : Fin 8 → Fin 16384 → ℝ)

theorem ref_dk : val_main_v82 (F := Ideal) (wide q) (wide k) (wide v) (gates g) (wide d) = Final.dk q k v d g := by
  obtain ⟨M, hM⟩ := rows q k g
  exact funext fun i => Cert.Fox.Ref.dkey_at hM i _ _ (split i)

theorem ref_dv : val_main_v83 (F := Ideal) (wide q) (wide k) (gates g) (wide d) = Final.dv q k d g := by
  obtain ⟨M, hM⟩ := rows q k g
  exact funext fun i => Cert.Fox.Ref.dval_at hM i _ _ (split i)

theorem ref_dc : val_main_v86 (F := Ideal) (wide q) (wide k) (wide v) (gates g) (wide d) = Final.dc q k v d g := by
  obtain ⟨M, hM⟩ := rows q k g
  exact funext fun i => Cert.Fox.Ref.dgate_at hM i _ _ (split i)

end Reference

section Kernel

open Cert.KernelIdeal Cert.KernelIdeal.Gen

variable {F : FTy → Type} [FloatOps F] [Named F] (m : (ℓ : Loc nD τ sig) → Buf (Elt F) ℓ) (ρ : Dev nD → PrngReg)

/-- The kernel's run with its result arrays named. -/
theorem run : θ_run defs (onTc (τ := τ) (main (F := F))) ⟨m, fun _ => 0, ρ⟩ fun r => ∀ c : Dev nD,
      r.2.mem ((c : Thread nD τ).loc main_v95_0) = (dats m 0 c).arrAt 7 cfg0.N
      ∧ r.2.mem ((c : Thread nD τ).loc main_v95_1) = (dats m 0 c).arrAt 8 cfg0.N
      ∧ r.2.mem ((c : Thread nD τ).loc main_v95_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 7, (h c).1 8, (h c).1 9,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Kernel

open Cert.KernelIdeal in
/-- From real arguments that agree, the kernel's three result arrays are the reference's. -/
theorem agree {m : (ℓ : Loc nD τ sig) → Buf (Elt Ideal) ℓ} {c : Dev nD} {q k v d : Fin 16384 → Fin 512 → ℝ}
    {g : Fin 8 → Fin 16384 → ℝ} (H : Reals m c q k v d g)
    {m' : (ℓ : Loc Cert.ReferenceIdeal.nD Cert.ReferenceIdeal.τ Cert.ReferenceIdeal.sig) → Buf (Elt Ideal) ℓ}
    {c' : Dev Cert.ReferenceIdeal.nD}
    (e0 : (m' ((c'.tc : Thread Cert.ReferenceIdeal.nD Cert.ReferenceIdeal.τ).loc Cert.ReferenceIdeal.main_arg0) : FVec Ideal S16384x512 .f32) = wide q)
    (e1 : (m' ((c'.tc : Thread Cert.ReferenceIdeal.nD Cert.ReferenceIdeal.τ).loc Cert.ReferenceIdeal.main_arg1) : FVec Ideal S16384x512 .f32) = wide k)
    (e2 : (m' ((c'.tc : Thread Cert.ReferenceIdeal.nD Cert.ReferenceIdeal.τ).loc Cert.ReferenceIdeal.main_arg2) : FVec Ideal S16384x512 .f32) = wide v)
    (e3 : (m' ((c'.tc : Thread Cert.ReferenceIdeal.nD Cert.ReferenceIdeal.τ).loc Cert.ReferenceIdeal.main_arg3) : FVec Ideal S8x16384 .f32) = gates g)
    (e4 : (m' ((c'.tc : Thread Cert.ReferenceIdeal.nD Cert.ReferenceIdeal.τ).loc Cert.ReferenceIdeal.main_arg4) : FVec Ideal S16384x512 .f32) = wide d) :
    Cert.ReferenceIdeal.Value.res_main_v82 m' c' = (Gen.dats m 0 c).arrAt 7 cfg0.N
    ∧ Cert.ReferenceIdeal.Value.res_main_v83 m' c' = (Gen.dats m 0 c).arrAt 8 cfg0.N
    ∧ Cert.ReferenceIdeal.Value.res_main_v86 m' c' = (Gen.dats m 0 c).arrAt 9 cfg0.N := by
  refine ⟨?_, ?_, ?_⟩
  · refine ((Cert.ReferenceIdeal.Read.val_main_v82_eq m' c').trans ?_).trans (Final.final7 H).symm
    rw [e0, e1, e2, e3, e4]; exact ref_dk q k v d g
  · refine ((Cert.ReferenceIdeal.Read.val_main_v83_eq m' c').trans ?_).trans (Final.final8 H).symm
    rw [e0, e1, e3, e4]; exact ref_dv q k d g
  · refine ((Cert.ReferenceIdeal.Read.val_main_v86_eq m' c').trans ?_).trans (Final.final9 H).symm
    rw [e0, e1, e2, e3, e4]; exact ref_dc q k v d g

end Cert.Fox.Value

end
-- ==== Proof.WGate.lean ====
/- The gradient of the gate's weight and of the up branch's: a grid's sum of products of row blocks is one product. -/
module

public import proofs.«01_k».proof.Proof.Gen.GateIdeal.Value
public import proofs.«01_k».proof.Proof.Gen.GateRefIdeal.Run
public import Idealize.ShloMosaic.Lib.Pointwise
public import Idealize.ShloMosaic.Lib.Pipeline.ValueKit

@[expose] public section

set_option maxRecDepth 16384

noncomputable section

namespace Cert.Weight.Gate

open Cert.GateIdeal Cert.GateIdeal.Gen Cert.GateIdeal.Value Idealize.ShloMosaic Idealize.ShloMosaic.TcCoe
open scoped BigOperators

variable (m : (ℓ : Loc nD τ sig) → Buf (Elt Ideal) ℓ) (c : Dev nD)

/-- The two arguments. -/
abbrev X : FVec Ideal S16384x1024 .bf16 := m ((c : Thread nD τ).loc main_arg0)
abbrev Y : FVec Ideal S16384x2816 .bf16 := m ((c : Thread nD τ).loc main_arg1)

/-- A point's blocks: the rows' block and the columns' block. -/
theorem idx : ∀ t : Fin cfg0.N, win0_0.index t = ![t.val % 32, 0] ∧ win0_1.index t = ![t.val % 32, t.val / 32] :=
  (by decide +kernel : ∀ t : Fin grid0.N, _)

theorem lt (t : Fin cfg0.N) : t.val / 32 < 2 := by
  have := lt_of_lt_of_eq t.isLt (show cfg0.N = 64 from N_0); omega

theorem left_at (t : Fin cfg0.N) (r : Fin 512) (x : Fin 1024) :
    (iblk m c 0 t : FVec Ideal S512x1024 .bf16) (ix2 r x)
      = X m c (ix2 ⟨t.val % 32 * 512 + r.val, by have := r.isLt; omega⟩ x) := by
  blk_ext [iblk, V, idx t]

theorem right_at (t : Fin cfg0.N) (r : Fin 512) (y : Fin 1408) :
    (iblk m c 1 t : FVec Ideal S512x1408 .bf16) (ix2 r y)
      = Y m c (ix2 ⟨t.val % 32 * 512 + r.val, by have := r.isLt; omega⟩
          ⟨t.val / 32 * 1408 + y.val, by have := lt t; have := y.isLt; omega⟩) := by
  blk_ext [iblk, V, idx t]

theorem zero_at (x : Fin 1024) (y : Fin 1408) : k0_pay1 (F := Ideal) (ix2 x y) = 0 := by
  pointwise [k0_pay1]

theorem pay_at (acc : Vec Ideal S1024x1408 .f32) (a : Vec Ideal S512x1024 .bf16) (b : Vec Ideal S512x1408 .bf16)
    (x : Fin 1024) (y : Fin 1408) :
    k0_pay2 acc a b (ix2 x y) = acc (ix2 x y) + ∑ r : Fin 512, (a (ix2 r x) * b (ix2 r y) : EReal) := by
  pointwise [k0_pay2]

/-- What point `n` adds. -/
def part (n : ℕ) (x : Fin 1024) (y : Fin 1408) : EReal :=
  ∑ r : Fin 512, X m c (ix2 ⟨n % 32 * 512 + r.val, by have := r.isLt; omega⟩ x)
    * Y m c (ix2 ⟨n % 32 * 512 + r.val, by have := r.isLt; omega⟩ ⟨(n / 32 * 1408 + y.val) % 2816, Nat.mod_lt _ (by decide)⟩)

theorem part_eq (n : ℕ) (h : n < cfg0.N) (x : Fin 1024) (y : Fin 1408) :
    ∑ r : Fin 512, ((show FVec Ideal S512x1024 .bf16 from iblk m c 0 ⟨n, h⟩) (ix2 r x)
      * (show FVec Ideal S512x1408 .bf16 from iblk m c 1 ⟨n, h⟩) (ix2 r y) : EReal) = part m c n x y := by
  refine Finset.sum_congr rfl fun r _ => ?_
  refine (congrArg₂ (fun a b : EReal => a * b) (left_at m c ⟨n, h⟩ r x) (right_at m c ⟨n, h⟩ r y)).trans ?_
  have hy := y.isLt
  have hl := lt ⟨n, h⟩
  have e : (⟨(⟨n, h⟩ : Fin cfg0.N).val / 32 * 1408 + y.val, by omega⟩ : Fin 2816)
      = ⟨(n / 32 * 1408 + y.val) % 2816, Nat.mod_lt _ (by decide)⟩ :=
    Fin.ext (Nat.mod_eq_of_lt (by show n / 32 * 1408 + y.val < 2816; have : n / 32 < 2 := hl; omega)).symm
  rw [e]

/-- A run of points leaves the sum of its points' parts. -/
theorem fold_at (b : ℕ) (h : b + 31 < cfg0.N) (x : Fin 1024) (y : Fin 1408) :
    Pipeline.accAt (reset2 m c) (step2 m c) b 31 h (ix2 x y) = ∑ s ∈ Finset.range 32, part m c (b + s) x y := by
  have key := Pipeline.accAt_add_apply (β := EReal) (reset2 m c) (step2 m c) (fun _ => 0)
    (fun n i => part m c n (i 0) (i 1)) b 31
    (fun hb i => by
      obtain ⟨p, q, rfl⟩ : ∃ (p : Fin 1024) (q : Fin 1408), i = ix2 p q := ⟨i 0, i 1, by funext a; fin_cases a <;> rfl⟩
      show reset2 m c b hb (ix2 p q) = 0 + part m c b p q
      unfold reset2
      rw [pay_at, zero_at, part_eq])
    (fun n hn acc i _ _ => by
      obtain ⟨p, q, rfl⟩ : ∃ (p : Fin 1024) (q : Fin 1408), i = ix2 p q := ⟨i 0, i 1, by funext a; fin_cases a <;> rfl⟩
      show step2 m c n hn acc (ix2 p q) = acc (ix2 p q) + part m c n p q
      unfold step2
      rw [pay_at, part_eq])
    31 (le_refl _) h (ix2 x y)
  exact key.trans (zero_add _)

/-- The kernel's array: the product of the first argument's transpose with the second. -/
theorem value_at (x : Fin 1024) (y : Fin 2816) :
    (G2 m c : FVec Ideal S1024x2816 .f32) (ix2 x y) = ∑ l : Fin 16384, (X m c (ix2 l x) * Y m c (ix2 l y) : EReal) := by
  have hx := x.isLt
  have hy := y.isLt
  have hrun : run2Of (ix2 x y) = y.val / 1408 := by
    show 2 * (x.val / 1024 - 0) + 1 * (y.val / 1408 - 0) = _
    omega
  have hN : cfg0.N = 64 := N_0
  unfold G2
  rw [dif_pos (by rw [hrun, hN]; omega)]
  have hloc : loc2Of (ix2 x y) = ix2 x ⟨y.val % 1408, Nat.mod_lt _ (by decide)⟩ := by
    funext a
    match a with
    | ⟨0, _⟩ => exact Fin.ext (Nat.mod_eq_of_lt hx)
    | ⟨1, _⟩ => rfl
  rw [hloc]
  refine (fold_at m c _ _ x ⟨y.val % 1408, Nat.mod_lt _ (by decide)⟩).trans ?_
  rw [Finset.sum_range]
  refine Fin.sum_mul_add_congr (S := 32) (n := 512) fun s k hl => ?_
  have hs := s.isLt
  have e1 : (32 * run2Of (ix2 x y) + s.val) % 32 = s.val := by rw [hrun]; omega
  have e2 : ((32 * run2Of (ix2 x y) + s.val) / 32 * 1408 + y.val % 1408) % 2816 = y.val := by rw [hrun]; omega
  have f1 : (⟨(32 * run2Of (ix2 x y) + s.val) % 32 * 512 + k.val, by have := k.isLt; omega⟩ : Fin 16384)
      = ⟨s.val * 512 + k.val, hl⟩ := Fin.ext (by show _ * 512 + k.val = _; rw [e1])
  have f2 : (⟨((32 * run2Of (ix2 x y) + s.val) / 32 * 1408 + y.val % 1408) % 2816, Nat.mod_lt _ (by decide)⟩ : Fin 2816) = y :=
    Fin.ext e2
  show X m c (ix2 ⟨_, _⟩ x) * Y m c (ix2 ⟨_, _⟩ ⟨_, _⟩) = _
  rw [f1, f2]

/-- The reference's array is the kernel's, from arguments that agree. -/
theorem agree {m' : (ℓ : Loc Cert.GateRefIdeal.nD Cert.GateRefIdeal.τ Cert.GateRefIdeal.sig) → Buf (Elt Ideal) ℓ}
    {c' : Dev Cert.GateRefIdeal.nD}
    (e0 : (m' ((c'.tc : Thread Cert.GateRefIdeal.nD Cert.GateRefIdeal.τ).loc Cert.GateRefIdeal.main_arg0) : FVec Ideal S16384x1024 .bf16) = X m c)
    (e1 : (m' ((c'.tc : Thread Cert.GateRefIdeal.nD Cert.GateRefIdeal.τ).loc Cert.GateRefIdeal.main_arg1) : FVec Ideal S16384x2816 .bf16) = Y m c) :
    @Eq (FVec Ideal S1024x2816 .f32) (transpose Cert.GateRefIdeal.S1024x2816 [1, 0] (Host.dotGeneral (F := Ideal) Cert.GateRefIdeal.dot_S16384x2816_S16384x1024_S2816x1024_0_0_1_1_n_n none (extf (F := Ideal) .f32 (m' ((c'.tc : Thread Cert.GateRefIdeal.nD Cert.GateRefIdeal.τ).loc Cert.GateRefIdeal.main_arg1)) Cert.GateRefIdeal.Gen.bitsLt_bf16_f32) (extf (F := Ideal) .f32 (m' ((c'.tc : Thread Cert.GateRefIdeal.nD Cert.GateRefIdeal.τ).loc Cert.GateRefIdeal.main_arg0)) Cert.GateRefIdeal.Gen.bitsLt_bf16_f32)) Cert.GateRefIdeal.Gen.transposes_S2816x1024_S1024x2816_1_0) (G2 m c) := by
  funext i
  obtain ⟨x, y, rfl⟩ : ∃ (p : Fin 1024) (q : Fin 2816), i = ix2 p q := ⟨i 0, i 1, by funext a; fin_cases a <;> rfl⟩
  rw [e0, e1, value_at]
  generalize X m c = a
  generalize Y m c = b
  pointwise
  exact Finset.sum_congr rfl fun l _ => mul_comm _ _

end Cert.Weight.Gate

end
-- ==== Proof.WDown.lean ====
/- The gradient of the down projection's weight: a grid's sum of products of row blocks is one product. -/
module

public import proofs.«01_k».proof.Proof.Gen.DownIdeal.Value
public import proofs.«01_k».proof.Proof.Gen.DownRefIdeal.Run
public import Idealize.ShloMosaic.Lib.Pointwise
public import Idealize.ShloMosaic.Lib.Pipeline.ValueKit

@[expose] public section

set_option maxRecDepth 16384

noncomputable section

namespace Cert.Weight.Down

open Cert.DownIdeal Cert.DownIdeal.Gen Cert.DownIdeal.Value Idealize.ShloMosaic Idealize.ShloMosaic.TcCoe
open scoped BigOperators

variable (m : (ℓ : Loc nD τ sig) → Buf (Elt Ideal) ℓ) (c : Dev nD)

/-- The two arguments. -/
abbrev X : FVec Ideal S16384x2816 .bf16 := m ((c : Thread nD τ).loc main_arg0)
abbrev Y : FVec Ideal S16384x1024 .bf16 := m ((c : Thread nD τ).loc main_arg1)

/-- A point's blocks: the rows' block and the columns' block. -/
theorem idx : ∀ t : Fin cfg0.N, win0_0.index t = ![t.val % 32, 0] ∧ win0_1.index t = ![t.val % 32, t.val / 32] :=
  (by decide +kernel : ∀ t : Fin grid0.N, _)

theorem lt (t : Fin cfg0.N) : t.val / 32 < 2 := by
  have := lt_of_lt_of_eq t.isLt (show cfg0.N = 64 from N_0); omega

theorem left_at (t : Fin cfg0.N) (r : Fin 512) (x : Fin 2816) :
    (iblk m c 0 t : FVec Ideal S512x2816 .bf16) (ix2 r x)
      = X m c (ix2 ⟨t.val % 32 * 512 + r.val, by have := r.isLt; omega⟩ x) := by
  blk_ext [iblk, V, idx t]

theorem right_at (t : Fin cfg0.N) (r : Fin 512) (y : Fin 512) :
    (iblk m c 1 t : FVec Ideal S512x512 .bf16) (ix2 r y)
      = Y m c (ix2 ⟨t.val % 32 * 512 + r.val, by have := r.isLt; omega⟩
          ⟨t.val / 32 * 512 + y.val, by have := lt t; have := y.isLt; omega⟩) := by
  blk_ext [iblk, V, idx t]

theorem zero_at (x : Fin 2816) (y : Fin 512) : k0_pay1 (F := Ideal) (ix2 x y) = 0 := by
  pointwise [k0_pay1]

theorem pay_at (acc : Vec Ideal S2816x512 .f32) (a : Vec Ideal S512x2816 .bf16) (b : Vec Ideal S512x512 .bf16)
    (x : Fin 2816) (y : Fin 512) :
    k0_pay2 acc a b (ix2 x y) = acc (ix2 x y) + ∑ r : Fin 512, (a (ix2 r x) * b (ix2 r y) : EReal) := by
  pointwise [k0_pay2]

/-- What point `n` adds. -/
def part (n : ℕ) (x : Fin 2816) (y : Fin 512) : EReal :=
  ∑ r : Fin 512, X m c (ix2 ⟨n % 32 * 512 + r.val, by have := r.isLt; omega⟩ x)
    * Y m c (ix2 ⟨n % 32 * 512 + r.val, by have := r.isLt; omega⟩ ⟨(n / 32 * 512 + y.val) % 1024, Nat.mod_lt _ (by decide)⟩)

theorem part_eq (n : ℕ) (h : n < cfg0.N) (x : Fin 2816) (y : Fin 512) :
    ∑ r : Fin 512, ((show FVec Ideal S512x2816 .bf16 from iblk m c 0 ⟨n, h⟩) (ix2 r x)
      * (show FVec Ideal S512x512 .bf16 from iblk m c 1 ⟨n, h⟩) (ix2 r y) : EReal) = part m c n x y := by
  refine Finset.sum_congr rfl fun r _ => ?_
  refine (congrArg₂ (fun a b : EReal => a * b) (left_at m c ⟨n, h⟩ r x) (right_at m c ⟨n, h⟩ r y)).trans ?_
  have hy := y.isLt
  have hl := lt ⟨n, h⟩
  have e : (⟨(⟨n, h⟩ : Fin cfg0.N).val / 32 * 512 + y.val, by omega⟩ : Fin 1024)
      = ⟨(n / 32 * 512 + y.val) % 1024, Nat.mod_lt _ (by decide)⟩ :=
    Fin.ext (Nat.mod_eq_of_lt (by show n / 32 * 512 + y.val < 1024; have : n / 32 < 2 := hl; omega)).symm
  rw [e]

/-- A run of points leaves the sum of its points' parts. -/
theorem fold_at (b : ℕ) (h : b + 31 < cfg0.N) (x : Fin 2816) (y : Fin 512) :
    Pipeline.accAt (reset2 m c) (step2 m c) b 31 h (ix2 x y) = ∑ s ∈ Finset.range 32, part m c (b + s) x y := by
  have key := Pipeline.accAt_add_apply (β := EReal) (reset2 m c) (step2 m c) (fun _ => 0)
    (fun n i => part m c n (i 0) (i 1)) b 31
    (fun hb i => by
      obtain ⟨p, q, rfl⟩ : ∃ (p : Fin 2816) (q : Fin 512), i = ix2 p q := ⟨i 0, i 1, by funext a; fin_cases a <;> rfl⟩
      show reset2 m c b hb (ix2 p q) = 0 + part m c b p q
      unfold reset2
      rw [pay_at, zero_at, part_eq])
    (fun n hn acc i _ _ => by
      obtain ⟨p, q, rfl⟩ : ∃ (p : Fin 2816) (q : Fin 512), i = ix2 p q := ⟨i 0, i 1, by funext a; fin_cases a <;> rfl⟩
      show step2 m c n hn acc (ix2 p q) = acc (ix2 p q) + part m c n p q
      unfold step2
      rw [pay_at, part_eq])
    31 (le_refl _) h (ix2 x y)
  exact key.trans (zero_add _)

/-- The kernel's array: the product of the first argument's transpose with the second. -/
theorem value_at (x : Fin 2816) (y : Fin 1024) :
    (G2 m c : FVec Ideal S2816x1024 .f32) (ix2 x y) = ∑ l : Fin 16384, (X m c (ix2 l x) * Y m c (ix2 l y) : EReal) := by
  have hx := x.isLt
  have hy := y.isLt
  have hrun : run2Of (ix2 x y) = y.val / 512 := by
    show 2 * (x.val / 2816 - 0) + 1 * (y.val / 512 - 0) = _
    omega
  have hN : cfg0.N = 64 := N_0
  unfold G2
  rw [dif_pos (by rw [hrun, hN]; omega)]
  have hloc : loc2Of (ix2 x y) = ix2 x ⟨y.val % 512, Nat.mod_lt _ (by decide)⟩ := by
    funext a
    match a with
    | ⟨0, _⟩ => exact Fin.ext (Nat.mod_eq_of_lt hx)
    | ⟨1, _⟩ => rfl
  rw [hloc]
  refine (fold_at m c _ _ x ⟨y.val % 512, Nat.mod_lt _ (by decide)⟩).trans ?_
  rw [Finset.sum_range]
  refine Fin.sum_mul_add_congr (S := 32) (n := 512) fun s k hl => ?_
  have hs := s.isLt
  have e1 : (32 * run2Of (ix2 x y) + s.val) % 32 = s.val := by rw [hrun]; omega
  have e2 : ((32 * run2Of (ix2 x y) + s.val) / 32 * 512 + y.val % 512) % 1024 = y.val := by rw [hrun]; omega
  have f1 : (⟨(32 * run2Of (ix2 x y) + s.val) % 32 * 512 + k.val, by have := k.isLt; omega⟩ : Fin 16384)
      = ⟨s.val * 512 + k.val, hl⟩ := Fin.ext (by show _ * 512 + k.val = _; rw [e1])
  have f2 : (⟨((32 * run2Of (ix2 x y) + s.val) / 32 * 512 + y.val % 512) % 1024, Nat.mod_lt _ (by decide)⟩ : Fin 1024) = y :=
    Fin.ext e2
  show X m c (ix2 ⟨_, _⟩ x) * Y m c (ix2 ⟨_, _⟩ ⟨_, _⟩) = _
  rw [f1, f2]

/-- The reference's array is the kernel's, from arguments that agree. -/
theorem agree {m' : (ℓ : Loc Cert.DownRefIdeal.nD Cert.DownRefIdeal.τ Cert.DownRefIdeal.sig) → Buf (Elt Ideal) ℓ}
    {c' : Dev Cert.DownRefIdeal.nD}
    (e0 : (m' ((c'.tc : Thread Cert.DownRefIdeal.nD Cert.DownRefIdeal.τ).loc Cert.DownRefIdeal.main_arg0) : FVec Ideal S16384x2816 .bf16) = X m c)
    (e1 : (m' ((c'.tc : Thread Cert.DownRefIdeal.nD Cert.DownRefIdeal.τ).loc Cert.DownRefIdeal.main_arg1) : FVec Ideal S16384x1024 .bf16) = Y m c) :
    @Eq (FVec Ideal S2816x1024 .f32) (transpose Cert.DownRefIdeal.S2816x1024 [1, 0] (Host.dotGeneral (F := Ideal) Cert.DownRefIdeal.dot_S16384x1024_S16384x2816_S1024x2816_0_0_1_1_n_n none (extf (F := Ideal) .f32 (m' ((c'.tc : Thread Cert.DownRefIdeal.nD Cert.DownRefIdeal.τ).loc Cert.DownRefIdeal.main_arg1)) Cert.DownRefIdeal.Gen.bitsLt_bf16_f32) (extf (F := Ideal) .f32 (m' ((c'.tc : Thread Cert.DownRefIdeal.nD Cert.DownRefIdeal.τ).loc Cert.DownRefIdeal.main_arg0)) Cert.DownRefIdeal.Gen.bitsLt_bf16_f32)) Cert.DownRefIdeal.Gen.transposes_S1024x2816_S2816x1024_1_0) (G2 m c) := by
  funext i
  obtain ⟨x, y, rfl⟩ : ∃ (p : Fin 2816) (q : Fin 1024), i = ix2 p q := ⟨i 0, i 1, by funext a; fin_cases a <;> rfl⟩
  rw [e0, e1, value_at]
  generalize X m c = a
  generalize Y m c = b
  pointwise
  exact Finset.sum_congr rfl fun l _ => mul_comm _ _

end Cert.Weight.Down

end
-- ==== Proof.WWin.lean ====
/- The gradient of the input projection's weight: a grid's sum of products of row blocks is one product. -/
module

public import proofs.«01_k».proof.Proof.Gen.WinIdeal.Value
public import proofs.«01_k».proof.Proof.Gen.WinRefIdeal.Run
public import Idealize.ShloMosaic.Lib.Pointwise
public import Idealize.ShloMosaic.Lib.Pipeline.ValueKit

@[expose] public section

set_option maxRecDepth 16384

noncomputable section

namespace Cert.Weight.Win

open Cert.WinIdeal Cert.WinIdeal.Gen Cert.WinIdeal.Value Idealize.ShloMosaic Idealize.ShloMosaic.TcCoe
open scoped BigOperators

variable (m : (ℓ : Loc nD τ sig) → Buf (Elt Ideal) ℓ) (c : Dev nD)

/-- The two arguments. -/
abbrev X : FVec Ideal S16384x1024 .bf16 := m ((c : Thread nD τ).loc main_arg0)
abbrev Y : FVec Ideal S16384x3584 .bf16 := m ((c : Thread nD τ).loc main_arg1)

/-- A point's blocks: the rows' block and the columns' block. -/
theorem idx : ∀ t : Fin cfg0.N, win0_0.index t = ![t.val % 32, 0] ∧ win0_1.index t = ![t.val % 32, t.val / 32] :=
  (by decide +kernel : ∀ t : Fin grid0.N, _)

theorem lt (t : Fin cfg0.N) : t.val / 32 < 2 := by
  have := lt_of_lt_of_eq t.isLt (show cfg0.N = 64 from N_0); omega

theorem left_at (t : Fin cfg0.N) (r : Fin 512) (x : Fin 1024) :
    (iblk m c 0 t : FVec Ideal S512x1024 .bf16) (ix2 r x)
      = X m c (ix2 ⟨t.val % 32 * 512 + r.val, by have := r.isLt; omega⟩ x) := by
  blk_ext [iblk, V, idx t]

theorem right_at (t : Fin cfg0.N) (r : Fin 512) (y : Fin 1792) :
    (iblk m c 1 t : FVec Ideal S512x1792 .bf16) (ix2 r y)
      = Y m c (ix2 ⟨t.val % 32 * 512 + r.val, by have := r.isLt; omega⟩
          ⟨t.val / 32 * 1792 + y.val, by have := lt t; have := y.isLt; omega⟩) := by
  blk_ext [iblk, V, idx t]

theorem zero_at (x : Fin 1024) (y : Fin 1792) : k0_pay1 (F := Ideal) (ix2 x y) = 0 := by
  pointwise [k0_pay1]

theorem pay_at (acc : Vec Ideal S1024x1792 .f32) (a : Vec Ideal S512x1024 .bf16) (b : Vec Ideal S512x1792 .bf16)
    (x : Fin 1024) (y : Fin 1792) :
    k0_pay2 acc a b (ix2 x y) = acc (ix2 x y) + ∑ r : Fin 512, (a (ix2 r x) * b (ix2 r y) : EReal) := by
  pointwise [k0_pay2]

/-- What point `n` adds. -/
def part (n : ℕ) (x : Fin 1024) (y : Fin 1792) : EReal :=
  ∑ r : Fin 512, X m c (ix2 ⟨n % 32 * 512 + r.val, by have := r.isLt; omega⟩ x)
    * Y m c (ix2 ⟨n % 32 * 512 + r.val, by have := r.isLt; omega⟩ ⟨(n / 32 * 1792 + y.val) % 3584, Nat.mod_lt _ (by decide)⟩)

theorem part_eq (n : ℕ) (h : n < cfg0.N) (x : Fin 1024) (y : Fin 1792) :
    ∑ r : Fin 512, ((show FVec Ideal S512x1024 .bf16 from iblk m c 0 ⟨n, h⟩) (ix2 r x)
      * (show FVec Ideal S512x1792 .bf16 from iblk m c 1 ⟨n, h⟩) (ix2 r y) : EReal) = part m c n x y := by
  refine Finset.sum_congr rfl fun r _ => ?_
  refine (congrArg₂ (fun a b : EReal => a * b) (left_at m c ⟨n, h⟩ r x) (right_at m c ⟨n, h⟩ r y)).trans ?_
  have hy := y.isLt
  have hl := lt ⟨n, h⟩
  have e : (⟨(⟨n, h⟩ : Fin cfg0.N).val / 32 * 1792 + y.val, by omega⟩ : Fin 3584)
      = ⟨(n / 32 * 1792 + y.val) % 3584, Nat.mod_lt _ (by decide)⟩ :=
    Fin.ext (Nat.mod_eq_of_lt (by show n / 32 * 1792 + y.val < 3584; have : n / 32 < 2 := hl; omega)).symm
  rw [e]

/-- A run of points leaves the sum of its points' parts. -/
theorem fold_at (b : ℕ) (h : b + 31 < cfg0.N) (x : Fin 1024) (y : Fin 1792) :
    Pipeline.accAt (reset2 m c) (step2 m c) b 31 h (ix2 x y) = ∑ s ∈ Finset.range 32, part m c (b + s) x y := by
  have key := Pipeline.accAt_add_apply (β := EReal) (reset2 m c) (step2 m c) (fun _ => 0)
    (fun n i => part m c n (i 0) (i 1)) b 31
    (fun hb i => by
      obtain ⟨p, q, rfl⟩ : ∃ (p : Fin 1024) (q : Fin 1792), i = ix2 p q := ⟨i 0, i 1, by funext a; fin_cases a <;> rfl⟩
      show reset2 m c b hb (ix2 p q) = 0 + part m c b p q
      unfold reset2
      rw [pay_at, zero_at, part_eq])
    (fun n hn acc i _ _ => by
      obtain ⟨p, q, rfl⟩ : ∃ (p : Fin 1024) (q : Fin 1792), i = ix2 p q := ⟨i 0, i 1, by funext a; fin_cases a <;> rfl⟩
      show step2 m c n hn acc (ix2 p q) = acc (ix2 p q) + part m c n p q
      unfold step2
      rw [pay_at, part_eq])
    31 (le_refl _) h (ix2 x y)
  exact key.trans (zero_add _)

/-- The kernel's array: the product of the first argument's transpose with the second. -/
theorem value_at (x : Fin 1024) (y : Fin 3584) :
    (G2 m c : FVec Ideal S1024x3584 .f32) (ix2 x y) = ∑ l : Fin 16384, (X m c (ix2 l x) * Y m c (ix2 l y) : EReal) := by
  have hx := x.isLt
  have hy := y.isLt
  have hrun : run2Of (ix2 x y) = y.val / 1792 := by
    show 2 * (x.val / 1024 - 0) + 1 * (y.val / 1792 - 0) = _
    omega
  have hN : cfg0.N = 64 := N_0
  unfold G2
  rw [dif_pos (by rw [hrun, hN]; omega)]
  have hloc : loc2Of (ix2 x y) = ix2 x ⟨y.val % 1792, Nat.mod_lt _ (by decide)⟩ := by
    funext a
    match a with
    | ⟨0, _⟩ => exact Fin.ext (Nat.mod_eq_of_lt hx)
    | ⟨1, _⟩ => rfl
  rw [hloc]
  refine (fold_at m c _ _ x ⟨y.val % 1792, Nat.mod_lt _ (by decide)⟩).trans ?_
  rw [Finset.sum_range]
  refine Fin.sum_mul_add_congr (S := 32) (n := 512) fun s k hl => ?_
  have hs := s.isLt
  have e1 : (32 * run2Of (ix2 x y) + s.val) % 32 = s.val := by rw [hrun]; omega
  have e2 : ((32 * run2Of (ix2 x y) + s.val) / 32 * 1792 + y.val % 1792) % 3584 = y.val := by rw [hrun]; omega
  have f1 : (⟨(32 * run2Of (ix2 x y) + s.val) % 32 * 512 + k.val, by have := k.isLt; omega⟩ : Fin 16384)
      = ⟨s.val * 512 + k.val, hl⟩ := Fin.ext (by show _ * 512 + k.val = _; rw [e1])
  have f2 : (⟨((32 * run2Of (ix2 x y) + s.val) / 32 * 1792 + y.val % 1792) % 3584, Nat.mod_lt _ (by decide)⟩ : Fin 3584) = y :=
    Fin.ext e2
  show X m c (ix2 ⟨_, _⟩ x) * Y m c (ix2 ⟨_, _⟩ ⟨_, _⟩) = _
  rw [f1, f2]

/-- The reference's array is the kernel's, from arguments that agree. -/
theorem agree {m' : (ℓ : Loc Cert.WinRefIdeal.nD Cert.WinRefIdeal.τ Cert.WinRefIdeal.sig) → Buf (Elt Ideal) ℓ}
    {c' : Dev Cert.WinRefIdeal.nD}
    (e0 : (m' ((c'.tc : Thread Cert.WinRefIdeal.nD Cert.WinRefIdeal.τ).loc Cert.WinRefIdeal.main_arg0) : FVec Ideal S16384x1024 .bf16) = X m c)
    (e1 : (m' ((c'.tc : Thread Cert.WinRefIdeal.nD Cert.WinRefIdeal.τ).loc Cert.WinRefIdeal.main_arg1) : FVec Ideal S16384x3584 .bf16) = Y m c) :
    @Eq (FVec Ideal S1024x3584 .f32) (transpose Cert.WinRefIdeal.S1024x3584 [1, 0] (Host.dotGeneral (F := Ideal) Cert.WinRefIdeal.dot_S16384x3584_S16384x1024_S3584x1024_0_0_1_1_n_n none (extf (F := Ideal) .f32 (m' ((c'.tc : Thread Cert.WinRefIdeal.nD Cert.WinRefIdeal.τ).loc Cert.WinRefIdeal.main_arg1)) Cert.WinRefIdeal.Gen.bitsLt_bf16_f32) (extf (F := Ideal) .f32 (m' ((c'.tc : Thread Cert.WinRefIdeal.nD Cert.WinRefIdeal.τ).loc Cert.WinRefIdeal.main_arg0)) Cert.WinRefIdeal.Gen.bitsLt_bf16_f32)) Cert.WinRefIdeal.Gen.transposes_S3584x1024_S1024x3584_1_0) (G2 m c) := by
  funext i
  obtain ⟨x, y, rfl⟩ : ∃ (p : Fin 1024) (q : Fin 3584), i = ix2 p q := ⟨i 0, i 1, by funext a; fin_cases a <;> rfl⟩
  rw [e0, e1, value_at]
  generalize X m c = a
  generalize Y m c = b
  pointwise
  exact Finset.sum_congr rfl fun l _ => mul_comm _ _

end Cert.Weight.Win

end
-- ==== Proof.WWout.lean ====
/- The gradient of the output projections' weights: a grid's sum of products of row blocks is one product. -/
module

public import proofs.«01_k».proof.Proof.Gen.WoutIdeal.Value
public import proofs.«01_k».proof.Proof.Gen.WoutRefIdeal.Run
public import Idealize.ShloMosaic.Lib.Pointwise
public import Idealize.ShloMosaic.Lib.Pipeline.ValueKit

@[expose] public section

set_option maxRecDepth 16384

noncomputable section

namespace Cert.Weight.Wout

open Cert.WoutIdeal Cert.WoutIdeal.Gen Cert.WoutIdeal.Value Idealize.ShloMosaic Idealize.ShloMosaic.TcCoe
open scoped BigOperators

variable (m : (ℓ : Loc nD τ sig) → Buf (Elt Ideal) ℓ) (c : Dev nD)

/-- The two arguments. -/
abbrev X : FVec Ideal S16384x512 .f32 := m ((c : Thread nD τ).loc main_arg0)
abbrev Y : FVec Ideal S16384x1024 .bf16 := m ((c : Thread nD τ).loc main_arg1)

/-- A point's blocks: the rows' block and the columns' block. -/
theorem idx : ∀ t : Fin cfg0.N, win0_0.index t = ![t.val % 32, 0] ∧ win0_1.index t = ![t.val % 32, t.val / 32] :=
  (by decide +kernel : ∀ t : Fin grid0.N, _)

theorem lt (t : Fin cfg0.N) : t.val / 32 < 1 := by
  have := lt_of_lt_of_eq t.isLt (show cfg0.N = 32 from N_0); omega

theorem left_at (t : Fin cfg0.N) (r : Fin 512) (x : Fin 512) :
    (iblk m c 0 t : FVec Ideal S512x512 .f32) (ix2 r x)
      = X m c (ix2 ⟨t.val % 32 * 512 + r.val, by have := r.isLt; omega⟩ x) := by
  blk_ext [iblk, V, idx t]

theorem right_at (t : Fin cfg0.N) (r : Fin 512) (y : Fin 1024) :
    (iblk m c 1 t : FVec Ideal S512x1024 .bf16) (ix2 r y)
      = Y m c (ix2 ⟨t.val % 32 * 512 + r.val, by have := r.isLt; omega⟩
          ⟨t.val / 32 * 1024 + y.val, by have := lt t; have := y.isLt; omega⟩) := by
  blk_ext [iblk, V, idx t]

theorem zero_at (x : Fin 512) (y : Fin 1024) : k0_pay1 (F := Ideal) (ix2 x y) = 0 := by
  pointwise [k0_pay1]

theorem pay_at (acc : Vec Ideal S512x1024 .f32) (a : Vec Ideal S512x512 .f32) (b : Vec Ideal S512x1024 .bf16)
    (x : Fin 512) (y : Fin 1024) :
    k0_pay2 acc a b (ix2 x y) = acc (ix2 x y) + ∑ r : Fin 512, (a (ix2 r x) * b (ix2 r y) : EReal) := by
  pointwise [k0_pay2]

/-- What point `n` adds. -/
def part (n : ℕ) (x : Fin 512) (y : Fin 1024) : EReal :=
  ∑ r : Fin 512, X m c (ix2 ⟨n % 32 * 512 + r.val, by have := r.isLt; omega⟩ x)
    * Y m c (ix2 ⟨n % 32 * 512 + r.val, by have := r.isLt; omega⟩ ⟨(n / 32 * 1024 + y.val) % 1024, Nat.mod_lt _ (by decide)⟩)

theorem part_eq (n : ℕ) (h : n < cfg0.N) (x : Fin 512) (y : Fin 1024) :
    ∑ r : Fin 512, ((show FVec Ideal S512x512 .f32 from iblk m c 0 ⟨n, h⟩) (ix2 r x)
      * (show FVec Ideal S512x1024 .bf16 from iblk m c 1 ⟨n, h⟩) (ix2 r y) : EReal) = part m c n x y := by
  refine Finset.sum_congr rfl fun r _ => ?_
  refine (congrArg₂ (fun a b : EReal => a * b) (left_at m c ⟨n, h⟩ r x) (right_at m c ⟨n, h⟩ r y)).trans ?_
  have hy := y.isLt
  have hl := lt ⟨n, h⟩
  have e : (⟨(⟨n, h⟩ : Fin cfg0.N).val / 32 * 1024 + y.val, by omega⟩ : Fin 1024)
      = ⟨(n / 32 * 1024 + y.val) % 1024, Nat.mod_lt _ (by decide)⟩ :=
    Fin.ext (Nat.mod_eq_of_lt (by show n / 32 * 1024 + y.val < 1024; have : n / 32 < 1 := hl; omega)).symm
  rw [e]

/-- A run of points leaves the sum of its points' parts. -/
theorem fold_at (b : ℕ) (h : b + 31 < cfg0.N) (x : Fin 512) (y : Fin 1024) :
    Pipeline.accAt (reset2 m c) (step2 m c) b 31 h (ix2 x y) = ∑ s ∈ Finset.range 32, part m c (b + s) x y := by
  have key := Pipeline.accAt_add_apply (β := EReal) (reset2 m c) (step2 m c) (fun _ => 0)
    (fun n i => part m c n (i 0) (i 1)) b 31
    (fun hb i => by
      obtain ⟨p, q, rfl⟩ : ∃ (p : Fin 512) (q : Fin 1024), i = ix2 p q := ⟨i 0, i 1, by funext a; fin_cases a <;> rfl⟩
      show reset2 m c b hb (ix2 p q) = 0 + part m c b p q
      unfold reset2
      rw [pay_at, zero_at, part_eq])
    (fun n hn acc i _ _ => by
      obtain ⟨p, q, rfl⟩ : ∃ (p : Fin 512) (q : Fin 1024), i = ix2 p q := ⟨i 0, i 1, by funext a; fin_cases a <;> rfl⟩
      show step2 m c n hn acc (ix2 p q) = acc (ix2 p q) + part m c n p q
      unfold step2
      rw [pay_at, part_eq])
    31 (le_refl _) h (ix2 x y)
  exact key.trans (zero_add _)

/-- The kernel's array: the product of the first argument's transpose with the second. -/
theorem value_at (x : Fin 512) (y : Fin 1024) :
    (G2 m c : FVec Ideal S512x1024 .f32) (ix2 x y) = ∑ l : Fin 16384, (X m c (ix2 l x) * Y m c (ix2 l y) : EReal) := by
  have hx := x.isLt
  have hy := y.isLt
  have hrun : run2Of (ix2 x y) = y.val / 1024 := by
    show 1 * (x.val / 512 - 0) + 1 * (y.val / 1024 - 0) = _
    omega
  have hN : cfg0.N = 32 := N_0
  unfold G2
  rw [dif_pos (by rw [hrun, hN]; omega)]
  have hloc : loc2Of (ix2 x y) = ix2 x ⟨y.val % 1024, Nat.mod_lt _ (by decide)⟩ := by
    funext a
    match a with
    | ⟨0, _⟩ => exact Fin.ext (Nat.mod_eq_of_lt hx)
    | ⟨1, _⟩ => rfl
  rw [hloc]
  refine (fold_at m c _ _ x ⟨y.val % 1024, Nat.mod_lt _ (by decide)⟩).trans ?_
  rw [Finset.sum_range]
  refine Fin.sum_mul_add_congr (S := 32) (n := 512) fun s k hl => ?_
  have hs := s.isLt
  have e1 : (32 * run2Of (ix2 x y) + s.val) % 32 = s.val := by rw [hrun]; omega
  have e2 : ((32 * run2Of (ix2 x y) + s.val) / 32 * 1024 + y.val % 1024) % 1024 = y.val := by rw [hrun]; omega
  have f1 : (⟨(32 * run2Of (ix2 x y) + s.val) % 32 * 512 + k.val, by have := k.isLt; omega⟩ : Fin 16384)
      = ⟨s.val * 512 + k.val, hl⟩ := Fin.ext (by show _ * 512 + k.val = _; rw [e1])
  have f2 : (⟨((32 * run2Of (ix2 x y) + s.val) / 32 * 1024 + y.val % 1024) % 1024, Nat.mod_lt _ (by decide)⟩ : Fin 1024) = y :=
    Fin.ext e2
  show X m c (ix2 ⟨_, _⟩ x) * Y m c (ix2 ⟨_, _⟩ ⟨_, _⟩) = _
  rw [f1, f2]

/-- The reference's array is the kernel's, from arguments that agree. -/
theorem agree {m' : (ℓ : Loc Cert.WoutRefIdeal.nD Cert.WoutRefIdeal.τ Cert.WoutRefIdeal.sig) → Buf (Elt Ideal) ℓ}
    {c' : Dev Cert.WoutRefIdeal.nD}
    (e0 : (m' ((c'.tc : Thread Cert.WoutRefIdeal.nD Cert.WoutRefIdeal.τ).loc Cert.WoutRefIdeal.main_arg0) : FVec Ideal S16384x512 .f32) = X m c)
    (e1 : (m' ((c'.tc : Thread Cert.WoutRefIdeal.nD Cert.WoutRefIdeal.τ).loc Cert.WoutRefIdeal.main_arg1) : FVec Ideal S16384x1024 .bf16) = Y m c) :
    @Eq (FVec Ideal S512x1024 .f32) (transpose Cert.WoutRefIdeal.S512x1024 [1, 0] (Host.dotGeneral (F := Ideal) (φ₂ := .f32) Cert.WoutRefIdeal.dot_S16384x1024_S16384x512_S1024x512_0_0_1_1_n_n none (extf (F := Ideal) .f32 (m' ((c'.tc : Thread Cert.WoutRefIdeal.nD Cert.WoutRefIdeal.τ).loc Cert.WoutRefIdeal.main_arg1)) Cert.WoutRefIdeal.Gen.bitsLt_bf16_f32) (m' ((c'.tc : Thread Cert.WoutRefIdeal.nD Cert.WoutRefIdeal.τ).loc Cert.WoutRefIdeal.main_arg0))) Cert.WoutRefIdeal.Gen.transposes_S1024x512_S512x1024_1_0) (G2 m c) := by
  funext i
  obtain ⟨x, y, rfl⟩ : ∃ (p : Fin 512) (q : Fin 1024), i = ix2 p q := ⟨i 0, i 1, by funext a; fin_cases a <;> rfl⟩
  rw [e0, e1, value_at]
  generalize X m c = a
  generalize Y m c = b
  pointwise
  exact Finset.sum_congr rfl fun l _ => mul_comm _ _

end Cert.Weight.Wout

end
-- ==== Proof.WWxo.lean ====
/- The gradient of the cross attention's output weight: a grid's sum of products of row blocks is one product. -/
module

public import proofs.«01_k».proof.Proof.Gen.WxoIdeal.Value
public import proofs.«01_k».proof.Proof.Gen.WxoRefIdeal.Run
public import Idealize.ShloMosaic.Lib.Pointwise
public import Idealize.ShloMosaic.Lib.Pipeline.ValueKit

@[expose] public section

set_option maxRecDepth 16384

noncomputable section

namespace Cert.Weight.Wxo

open Cert.WxoIdeal Cert.WxoIdeal.Gen Cert.WxoIdeal.Value Idealize.ShloMosaic Idealize.ShloMosaic.TcCoe
open scoped BigOperators

variable (m : (ℓ : Loc nD τ sig) → Buf (Elt Ideal) ℓ) (c : Dev nD)

/-- The two arguments. -/
abbrev X : FVec Ideal S16384x256 .bf16 := m ((c : Thread nD τ).loc main_arg0)
abbrev Y : FVec Ideal S16384x1024 .bf16 := m ((c : Thread nD τ).loc main_arg1)

/-- A point's blocks: the rows' block and the columns' block. -/
theorem idx : ∀ t : Fin cfg0.N, win0_0.index t = ![t.val % 32, 0] ∧ win0_1.index t = ![t.val % 32, t.val / 32] :=
  (by decide +kernel : ∀ t : Fin grid0.N, _)

theorem lt (t : Fin cfg0.N) : t.val / 32 < 1 := by
  have := lt_of_lt_of_eq t.isLt (show cfg0.N = 32 from N_0); omega

theorem left_at (t : Fin cfg0.N) (r : Fin 512) (x : Fin 256) :
    (iblk m c 0 t : FVec Ideal S512x256 .bf16) (ix2 r x)
      = X m c (ix2 ⟨t.val % 32 * 512 + r.val, by have := r.isLt; omega⟩ x) := by
  blk_ext [iblk, V, idx t]

theorem right_at (t : Fin cfg0.N) (r : Fin 512) (y : Fin 1024) :
    (iblk m c 1 t : FVec Ideal S512x1024 .bf16) (ix2 r y)
      = Y m c (ix2 ⟨t.val % 32 * 512 + r.val, by have := r.isLt; omega⟩
          ⟨t.val / 32 * 1024 + y.val, by have := lt t; have := y.isLt; omega⟩) := by
  blk_ext [iblk, V, idx t]

theorem zero_at (x : Fin 256) (y : Fin 1024) : k0_pay1 (F := Ideal) (ix2 x y) = 0 := by
  pointwise [k0_pay1]

theorem pay_at (acc : Vec Ideal S256x1024 .f32) (a : Vec Ideal S512x256 .bf16) (b : Vec Ideal S512x1024 .bf16)
    (x : Fin 256) (y : Fin 1024) :
    k0_pay2 acc a b (ix2 x y) = acc (ix2 x y) + ∑ r : Fin 512, (a (ix2 r x) * b (ix2 r y) : EReal) := by
  pointwise [k0_pay2]

/-- What point `n` adds. -/
def part (n : ℕ) (x : Fin 256) (y : Fin 1024) : EReal :=
  ∑ r : Fin 512, X m c (ix2 ⟨n % 32 * 512 + r.val, by have := r.isLt; omega⟩ x)
    * Y m c (ix2 ⟨n % 32 * 512 + r.val, by have := r.isLt; omega⟩ ⟨(n / 32 * 1024 + y.val) % 1024, Nat.mod_lt _ (by decide)⟩)

theorem part_eq (n : ℕ) (h : n < cfg0.N) (x : Fin 256) (y : Fin 1024) :
    ∑ r : Fin 512, ((show FVec Ideal S512x256 .bf16 from iblk m c 0 ⟨n, h⟩) (ix2 r x)
      * (show FVec Ideal S512x1024 .bf16 from iblk m c 1 ⟨n, h⟩) (ix2 r y) : EReal) = part m c n x y := by
  refine Finset.sum_congr rfl fun r _ => ?_
  refine (congrArg₂ (fun a b : EReal => a * b) (left_at m c ⟨n, h⟩ r x) (right_at m c ⟨n, h⟩ r y)).trans ?_
  have hy := y.isLt
  have hl := lt ⟨n, h⟩
  have e : (⟨(⟨n, h⟩ : Fin cfg0.N).val / 32 * 1024 + y.val, by omega⟩ : Fin 1024)
      = ⟨(n / 32 * 1024 + y.val) % 1024, Nat.mod_lt _ (by decide)⟩ :=
    Fin.ext (Nat.mod_eq_of_lt (by show n / 32 * 1024 + y.val < 1024; have : n / 32 < 1 := hl; omega)).symm
  rw [e]

/-- A run of points leaves the sum of its points' parts. -/
theorem fold_at (b : ℕ) (h : b + 31 < cfg0.N) (x : Fin 256) (y : Fin 1024) :
    Pipeline.accAt (reset2 m c) (step2 m c) b 31 h (ix2 x y) = ∑ s ∈ Finset.range 32, part m c (b + s) x y := by
  have key := Pipeline.accAt_add_apply (β := EReal) (reset2 m c) (step2 m c) (fun _ => 0)
    (fun n i => part m c n (i 0) (i 1)) b 31
    (fun hb i => by
      obtain ⟨p, q, rfl⟩ : ∃ (p : Fin 256) (q : Fin 1024), i = ix2 p q := ⟨i 0, i 1, by funext a; fin_cases a <;> rfl⟩
      show reset2 m c b hb (ix2 p q) = 0 + part m c b p q
      unfold reset2
      rw [pay_at, zero_at, part_eq])
    (fun n hn acc i _ _ => by
      obtain ⟨p, q, rfl⟩ : ∃ (p : Fin 256) (q : Fin 1024), i = ix2 p q := ⟨i 0, i 1, by funext a; fin_cases a <;> rfl⟩
      show step2 m c n hn acc (ix2 p q) = acc (ix2 p q) + part m c n p q
      unfold step2
      rw [pay_at, part_eq])
    31 (le_refl _) h (ix2 x y)
  exact key.trans (zero_add _)

/-- The kernel's array: the product of the first argument's transpose with the second. -/
theorem value_at (x : Fin 256) (y : Fin 1024) :
    (G2 m c : FVec Ideal S256x1024 .f32) (ix2 x y) = ∑ l : Fin 16384, (X m c (ix2 l x) * Y m c (ix2 l y) : EReal) := by
  have hx := x.isLt
  have hy := y.isLt
  have hrun : run2Of (ix2 x y) = y.val / 1024 := by
    show 1 * (x.val / 256 - 0) + 1 * (y.val / 1024 - 0) = _
    omega
  have hN : cfg0.N = 32 := N_0
  unfold G2
  rw [dif_pos (by rw [hrun, hN]; omega)]
  have hloc : loc2Of (ix2 x y) = ix2 x ⟨y.val % 1024, Nat.mod_lt _ (by decide)⟩ := by
    funext a
    match a with
    | ⟨0, _⟩ => exact Fin.ext (Nat.mod_eq_of_lt hx)
    | ⟨1, _⟩ => rfl
  rw [hloc]
  refine (fold_at m c _ _ x ⟨y.val % 1024, Nat.mod_lt _ (by decide)⟩).trans ?_
  rw [Finset.sum_range]
  refine Fin.sum_mul_add_congr (S := 32) (n := 512) fun s k hl => ?_
  have hs := s.isLt
  have e1 : (32 * run2Of (ix2 x y) + s.val) % 32 = s.val := by rw [hrun]; omega
  have e2 : ((32 * run2Of (ix2 x y) + s.val) / 32 * 1024 + y.val % 1024) % 1024 = y.val := by rw [hrun]; omega
  have f1 : (⟨(32 * run2Of (ix2 x y) + s.val) % 32 * 512 + k.val, by have := k.isLt; omega⟩ : Fin 16384)
      = ⟨s.val * 512 + k.val, hl⟩ := Fin.ext (by show _ * 512 + k.val = _; rw [e1])
  have f2 : (⟨((32 * run2Of (ix2 x y) + s.val) / 32 * 1024 + y.val % 1024) % 1024, Nat.mod_lt _ (by decide)⟩ : Fin 1024) = y :=
    Fin.ext e2
  show X m c (ix2 ⟨_, _⟩ x) * Y m c (ix2 ⟨_, _⟩ ⟨_, _⟩) = _
  rw [f1, f2]

/-- The reference's array is the kernel's, from arguments that agree. -/
theorem agree {m' : (ℓ : Loc Cert.WxoRefIdeal.nD Cert.WxoRefIdeal.τ Cert.WxoRefIdeal.sig) → Buf (Elt Ideal) ℓ}
    {c' : Dev Cert.WxoRefIdeal.nD}
    (e0 : (m' ((c'.tc : Thread Cert.WxoRefIdeal.nD Cert.WxoRefIdeal.τ).loc Cert.WxoRefIdeal.main_arg0) : FVec Ideal S16384x256 .bf16) = X m c)
    (e1 : (m' ((c'.tc : Thread Cert.WxoRefIdeal.nD Cert.WxoRefIdeal.τ).loc Cert.WxoRefIdeal.main_arg1) : FVec Ideal S16384x1024 .bf16) = Y m c) :
    @Eq (FVec Ideal S256x1024 .f32) (transpose Cert.WxoRefIdeal.S256x1024 [1, 0] (Host.dotGeneral (F := Ideal) Cert.WxoRefIdeal.dot_S16384x1024_S16384x256_S1024x256_0_0_1_1_n_n none (extf (F := Ideal) .f32 (m' ((c'.tc : Thread Cert.WxoRefIdeal.nD Cert.WxoRefIdeal.τ).loc Cert.WxoRefIdeal.main_arg1)) Cert.WxoRefIdeal.Gen.bitsLt_bf16_f32) (extf (F := Ideal) .f32 (m' ((c'.tc : Thread Cert.WxoRefIdeal.nD Cert.WxoRefIdeal.τ).loc Cert.WxoRefIdeal.main_arg0)) Cert.WxoRefIdeal.Gen.bitsLt_bf16_f32)) Cert.WxoRefIdeal.Gen.transposes_S1024x256_S256x1024_1_0) (G2 m c) := by
  funext i
  obtain ⟨x, y, rfl⟩ : ∃ (p : Fin 256) (q : Fin 1024), i = ix2 p q := ⟨i 0, i 1, by funext a; fin_cases a <;> rfl⟩
  rw [e0, e1, value_at]
  generalize X m c = a
  generalize Y m c = b
  pointwise
  exact Finset.sum_congr rfl fun l _ => mul_comm _ _

end Cert.Weight.Wxo

end
-- ==== Proof.WWxq.lean ====
/- The gradient of the cross attention's query weight: a grid's sum of products of row blocks is one product. -/
module

public import proofs.«01_k».proof.Proof.Gen.WxqIdeal.Value
public import proofs.«01_k».proof.Proof.Gen.WxqRefIdeal.Run
public import Idealize.ShloMosaic.Lib.Pointwise
public import Idealize.ShloMosaic.Lib.Pipeline.ValueKit

@[expose] public section

set_option maxRecDepth 16384

noncomputable section

namespace Cert.Weight.Wxq

open Cert.WxqIdeal Cert.WxqIdeal.Gen Cert.WxqIdeal.Value Idealize.ShloMosaic Idealize.ShloMosaic.TcCoe
open scoped BigOperators

variable (m : (ℓ : Loc nD τ sig) → Buf (Elt Ideal) ℓ) (c : Dev nD)

/-- The two arguments. -/
abbrev X : FVec Ideal S16384x1024 .bf16 := m ((c : Thread nD τ).loc main_arg0)
abbrev Y : FVec Ideal S16384x256 .bf16 := m ((c : Thread nD τ).loc main_arg1)

/-- A point's blocks: the rows' block and the columns' block. -/
theorem idx : ∀ t : Fin cfg0.N, win0_0.index t = ![t.val % 32, 0] ∧ win0_1.index t = ![t.val % 32, t.val / 32] :=
  (by decide +kernel : ∀ t : Fin grid0.N, _)

theorem lt (t : Fin cfg0.N) : t.val / 32 < 1 := by
  have := lt_of_lt_of_eq t.isLt (show cfg0.N = 32 from N_0); omega

theorem left_at (t : Fin cfg0.N) (r : Fin 512) (x : Fin 1024) :
    (iblk m c 0 t : FVec Ideal S512x1024 .bf16) (ix2 r x)
      = X m c (ix2 ⟨t.val % 32 * 512 + r.val, by have := r.isLt; omega⟩ x) := by
  blk_ext [iblk, V, idx t]

theorem right_at (t : Fin cfg0.N) (r : Fin 512) (y : Fin 256) :
    (iblk m c 1 t : FVec Ideal S512x256 .bf16) (ix2 r y)
      = Y m c (ix2 ⟨t.val % 32 * 512 + r.val, by have := r.isLt; omega⟩
          ⟨t.val / 32 * 256 + y.val, by have := lt t; have := y.isLt; omega⟩) := by
  blk_ext [iblk, V, idx t]

theorem zero_at (x : Fin 1024) (y : Fin 256) : k0_pay1 (F := Ideal) (ix2 x y) = 0 := by
  pointwise [k0_pay1]

theorem pay_at (acc : Vec Ideal S1024x256 .f32) (a : Vec Ideal S512x1024 .bf16) (b : Vec Ideal S512x256 .bf16)
    (x : Fin 1024) (y : Fin 256) :
    k0_pay2 acc a b (ix2 x y) = acc (ix2 x y) + ∑ r : Fin 512, (a (ix2 r x) * b (ix2 r y) : EReal) := by
  pointwise [k0_pay2]

/-- What point `n` adds. -/
def part (n : ℕ) (x : Fin 1024) (y : Fin 256) : EReal :=
  ∑ r : Fin 512, X m c (ix2 ⟨n % 32 * 512 + r.val, by have := r.isLt; omega⟩ x)
    * Y m c (ix2 ⟨n % 32 * 512 + r.val, by have := r.isLt; omega⟩ ⟨(n / 32 * 256 + y.val) % 256, Nat.mod_lt _ (by decide)⟩)

theorem part_eq (n : ℕ) (h : n < cfg0.N) (x : Fin 1024) (y : Fin 256) :
    ∑ r : Fin 512, ((show FVec Ideal S512x1024 .bf16 from iblk m c 0 ⟨n, h⟩) (ix2 r x)
      * (show FVec Ideal S512x256 .bf16 from iblk m c 1 ⟨n, h⟩) (ix2 r y) : EReal) = part m c n x y := by
  refine Finset.sum_congr rfl fun r _ => ?_
  refine (congrArg₂ (fun a b : EReal => a * b) (left_at m c ⟨n, h⟩ r x) (right_at m c ⟨n, h⟩ r y)).trans ?_
  have hy := y.isLt
  have hl := lt ⟨n, h⟩
  have e : (⟨(⟨n, h⟩ : Fin cfg0.N).val / 32 * 256 + y.val, by omega⟩ : Fin 256)
      = ⟨(n / 32 * 256 + y.val) % 256, Nat.mod_lt _ (by decide)⟩ :=
    Fin.ext (Nat.mod_eq_of_lt (by show n / 32 * 256 + y.val < 256; have : n / 32 < 1 := hl; omega)).symm
  rw [e]

/-- A run of points leaves the sum of its points' parts. -/
theorem fold_at (b : ℕ) (h : b + 31 < cfg0.N) (x : Fin 1024) (y : Fin 256) :
    Pipeline.accAt (reset2 m c) (step2 m c) b 31 h (ix2 x y) = ∑ s ∈ Finset.range 32, part m c (b + s) x y := by
  have key := Pipeline.accAt_add_apply (β := EReal) (reset2 m c) (step2 m c) (fun _ => 0)
    (fun n i => part m c n (i 0) (i 1)) b 31
    (fun hb i => by
      obtain ⟨p, q, rfl⟩ : ∃ (p : Fin 1024) (q : Fin 256), i = ix2 p q := ⟨i 0, i 1, by funext a; fin_cases a <;> rfl⟩
      show reset2 m c b hb (ix2 p q) = 0 + part m c b p q
      unfold reset2
      rw [pay_at, zero_at, part_eq])
    (fun n hn acc i _ _ => by
      obtain ⟨p, q, rfl⟩ : ∃ (p : Fin 1024) (q : Fin 256), i = ix2 p q := ⟨i 0, i 1, by funext a; fin_cases a <;> rfl⟩
      show step2 m c n hn acc (ix2 p q) = acc (ix2 p q) + part m c n p q
      unfold step2
      rw [pay_at, part_eq])
    31 (le_refl _) h (ix2 x y)
  exact key.trans (zero_add _)

/-- The kernel's array: the product of the first argument's transpose with the second. -/
theorem value_at (x : Fin 1024) (y : Fin 256) :
    (G2 m c : FVec Ideal S1024x256 .f32) (ix2 x y) = ∑ l : Fin 16384, (X m c (ix2 l x) * Y m c (ix2 l y) : EReal) := by
  have hx := x.isLt
  have hy := y.isLt
  have hrun : run2Of (ix2 x y) = y.val / 256 := by
    show 1 * (x.val / 1024 - 0) + 1 * (y.val / 256 - 0) = _
    omega
  have hN : cfg0.N = 32 := N_0
  unfold G2
  rw [dif_pos (by rw [hrun, hN]; omega)]
  have hloc : loc2Of (ix2 x y) = ix2 x ⟨y.val % 256, Nat.mod_lt _ (by decide)⟩ := by
    funext a
    match a with
    | ⟨0, _⟩ => exact Fin.ext (Nat.mod_eq_of_lt hx)
    | ⟨1, _⟩ => rfl
  rw [hloc]
  refine (fold_at m c _ _ x ⟨y.val % 256, Nat.mod_lt _ (by decide)⟩).trans ?_
  rw [Finset.sum_range]
  refine Fin.sum_mul_add_congr (S := 32) (n := 512) fun s k hl => ?_
  have hs := s.isLt
  have e1 : (32 * run2Of (ix2 x y) + s.val) % 32 = s.val := by rw [hrun]; omega
  have e2 : ((32 * run2Of (ix2 x y) + s.val) / 32 * 256 + y.val % 256) % 256 = y.val := by rw [hrun]; omega
  have f1 : (⟨(32 * run2Of (ix2 x y) + s.val) % 32 * 512 + k.val, by have := k.isLt; omega⟩ : Fin 16384)
      = ⟨s.val * 512 + k.val, hl⟩ := Fin.ext (by show _ * 512 + k.val = _; rw [e1])
  have f2 : (⟨((32 * run2Of (ix2 x y) + s.val) / 32 * 256 + y.val % 256) % 256, Nat.mod_lt _ (by decide)⟩ : Fin 256) = y :=
    Fin.ext e2
  show X m c (ix2 ⟨_, _⟩ x) * Y m c (ix2 ⟨_, _⟩ ⟨_, _⟩) = _
  rw [f1, f2]

/-- The reference's array is the kernel's, from arguments that agree. -/
theorem agree {m' : (ℓ : Loc Cert.WxqRefIdeal.nD Cert.WxqRefIdeal.τ Cert.WxqRefIdeal.sig) → Buf (Elt Ideal) ℓ}
    {c' : Dev Cert.WxqRefIdeal.nD}
    (e0 : (m' ((c'.tc : Thread Cert.WxqRefIdeal.nD Cert.WxqRefIdeal.τ).loc Cert.WxqRefIdeal.main_arg0) : FVec Ideal S16384x1024 .bf16) = X m c)
    (e1 : (m' ((c'.tc : Thread Cert.WxqRefIdeal.nD Cert.WxqRefIdeal.τ).loc Cert.WxqRefIdeal.main_arg1) : FVec Ideal S16384x256 .bf16) = Y m c) :
    @Eq (FVec Ideal S1024x256 .f32) (transpose Cert.WxqRefIdeal.S1024x256 [1, 0] (Host.dotGeneral (F := Ideal) Cert.WxqRefIdeal.dot_S16384x256_S16384x1024_S256x1024_0_0_1_1_n_n none (extf (F := Ideal) .f32 (m' ((c'.tc : Thread Cert.WxqRefIdeal.nD Cert.WxqRefIdeal.τ).loc Cert.WxqRefIdeal.main_arg1)) Cert.WxqRefIdeal.Gen.bitsLt_bf16_f32) (extf (F := Ideal) .f32 (m' ((c'.tc : Thread Cert.WxqRefIdeal.nD Cert.WxqRefIdeal.τ).loc Cert.WxqRefIdeal.main_arg0)) Cert.WxqRefIdeal.Gen.bitsLt_bf16_f32)) Cert.WxqRefIdeal.Gen.transposes_S256x1024_S1024x256_1_0) (G2 m c) := by
  funext i
  obtain ⟨x, y, rfl⟩ : ∃ (p : Fin 1024) (q : Fin 256), i = ix2 p q := ⟨i 0, i 1, by funext a; fin_cases a <;> rfl⟩
  rw [e0, e1, value_at]
  generalize X m c = a
  generalize Y m c = b
  pointwise
  exact Finset.sum_congr rfl fun l _ => mul_comm _ _

end Cert.Weight.Wxq

end
-- ==== Proof.Norm.lean ====
/- The gradient of a root-mean-square normalisation over a row of 1024 entries, as the backward kernels compute it and as
   differentiating the normalisation states it: one extended real, of any rows. -/
module

public import proofs.«01_k».proof.Proof.Arrays

@[expose] public section

noncomputable section

namespace Cert.Norm

open Idealize.ShloMosaic
open scoped BigOperators

/-- What is added to the mean of the squares. -/
def small : ℝ := 8796093 / 8796093022208

theorem bits_size : Ideal.ofBits .f32 0x44800000#32 = ((1024 : ℝ) : EReal) := by
  simp [Ideal.ofBits, Ideal.ieee]
  rw [← EReal.coe_mul]
  norm_num

theorem bits_neg_half : Ideal.ofBits .f32 0xBF000000#32 = ((-1 / 2 : ℝ) : EReal) := by
  simp [Ideal.ofBits, Ideal.ieee]
  rw [← EReal.coe_mul]
  norm_num

theorem bits_small : Ideal.ofBits .f32 0x358637BD#32 = ((small : ℝ) : EReal) := by
  simp [Ideal.ofBits, Ideal.ieee]
  rw [← EReal.coe_mul]
  refine congrArg _ ?_
  unfold small
  norm_num

theorem small_pos : 0 < small := by unfold small; norm_num

/-! ## The mean of the squares -/

/-- The mean of a row's squares and the small constant. -/
abbrev mean (x : Fin 1024 → EReal) : EReal :=
  Ideal.div (∑ p, x p * x p) (Ideal.ofBits .f32 0x44800000#32) + Ideal.ofBits .f32 0x358637BD#32

theorem sq_nonneg' (x : EReal) : 0 ≤ x * x := by
  induction x with
  | bot => simp
  | top => simp
  | coe r => rw [← EReal.coe_mul]; exact EReal.coe_nonneg.2 (mul_self_nonneg r)

/-- A row with an infinite entry has an infinite mean. -/
theorem mean_top {x : Fin 1024 → EReal} {q : Fin 1024} (h : x q = ⊤ ∨ x q = ⊥) : mean x = ⊤ := by
  have hq : x q * x q = ⊤ := by rcases h with h | h <;> rw [h] <;> simp
  have hs : ∑ p, x p * x p = ⊤ := by
    refine top_le_iff.1 ?_
    rw [← hq]
    exact Finset.single_le_sum (f := fun p => x p * x p) (fun p _ => sq_nonneg' _) (Finset.mem_univ q)
  unfold mean
  rw [hs, bits_size, bits_small, Ideal.div_coe (by norm_num), EReal.top_mul_coe_of_pos (by norm_num)]
  exact EReal.top_add_coe _

theorem coe_sum {X : Fin 1024 → ℝ} : ∑ p, ((X p : ℝ) : EReal) = ((∑ p, X p : ℝ) : EReal) := Cert.Fox.coe_sum _ _

/-- A row of reals has a positive real mean. -/
theorem mean_coe {x : Fin 1024 → EReal} {X : Fin 1024 → ℝ} (hx : ∀ p, x p = ((X p : ℝ) : EReal)) :
    ∃ M : ℝ, 0 < M ∧ mean x = ((M : ℝ) : EReal) := by
  refine ⟨(∑ p, X p * X p) * (1 / 1024) + small,
    add_pos_of_nonneg_of_pos (mul_nonneg (Finset.sum_nonneg fun p _ => mul_self_nonneg _) (by norm_num)) small_pos, ?_⟩
  have e : ∑ p, x p * x p = ((∑ p, X p * X p : ℝ) : EReal) := by
    rw [← coe_sum]; exact Finset.sum_congr rfl fun p _ => by rw [hx, ← EReal.coe_mul]
  unfold mean
  rw [e, bits_size, bits_small, Ideal.div_coe (by norm_num), ← EReal.coe_mul, ← EReal.coe_add]

/-! ## The gradient -/

/-- A nonnegative real factor leaves a sum. -/
theorem sum_mul_coe {n : ℕ} (f : Fin n → EReal) {r : ℝ} (hr : 0 ≤ r) :
    ∑ p, f p * ((r : ℝ) : EReal) = (∑ p, f p) * ((r : ℝ) : EReal) := by
  have key : ∀ s : Finset (Fin n), ∑ p ∈ s, f p * ((r : ℝ) : EReal) = (∑ p ∈ s, f p) * ((r : ℝ) : EReal) := by
    intro s
    classical
    induction s using Finset.induction_on with
    | empty => simp
    | insert a s ha ih =>
      rw [Finset.sum_insert ha, Finset.sum_insert ha, ih,
        EReal.right_distrib_of_nonneg_of_ne_top (EReal.coe_nonneg.2 hr) (EReal.coe_ne_top r)]
  exact key _

theorem add_self_coe (S : EReal) (b : ℝ) : S * ((b : ℝ) : EReal) + S * ((b : ℝ) : EReal) = S * ((b * 2 : ℝ) : EReal) := by
  rw [EReal.coe_mul, ← mul_assoc, show ((2 : ℝ) : EReal) = 1 + 1 from by rw [show (2 : ℝ) = 1 + 1 by norm_num, EReal.coe_add, EReal.coe_one],
    EReal.left_distrib_of_nonneg zero_le_one zero_le_one, mul_one]

/-- The gradient a kernel computes at entry `l` of a row `x` from the product `d` of the cotangent and the weight. -/
abbrev grad (x d : Fin 1024 → EReal) (l : Fin 1024) : EReal :=
  Ideal.rsqrt (mean x) * (d l - x l * Ideal.rsqrt (mean x)
    * Ideal.div (∑ p, d p * (x p * Ideal.rsqrt (mean x))) (Ideal.ofBits .f32 0x44800000#32))

/-- What differentiating the mean of the squares contributes, once for each factor. -/
abbrev part (x d : Fin 1024 → EReal) : EReal :=
  Ideal.div ((∑ p, x p * d p) * (Ideal.ofBits .f32 0xBF000000#32 * Ideal.div (Ideal.rsqrt (mean x)) (mean x)))
    (Ideal.ofBits .f32 0x44800000#32)

theorem grad_eq (x d : Fin 1024 → EReal) (l : Fin 1024) :
    grad x d l = d l * Ideal.rsqrt (mean x) + x l * part x d + part x d * x l := by
  unfold grad part
  by_cases h : ∃ q, x q = ⊤ ∨ x q = ⊥
  · obtain ⟨q, hq⟩ := h
    rw [mean_top hq, Ideal.rsqrt_top, bits_size, Ideal.div_coe (by norm_num), Ideal.div_coe (by norm_num)]
    have e : Ideal.div 0 ⊤ = 0 := by simp [Ideal.div]
    rw [e]
    simp
  · have hx : ∀ p, x p = (((x p).toReal : ℝ) : EReal) := fun p =>
      (EReal.coe_toReal (fun e => h ⟨p, .inl e⟩) (fun e => h ⟨p, .inr e⟩)).symm
    obtain ⟨M, hM, eM⟩ := mean_coe hx
    rw [eM, Ideal.rsqrt_coe, if_neg (not_lt.2 hM.le), if_neg hM.ne', bits_size, bits_neg_half,
      Ideal.div_coe (by norm_num), Ideal.div_coe (by norm_num), Ideal.div_coe hM.ne']
    have hr : 0 ≤ (Real.sqrt M)⁻¹ := inv_nonneg.2 (Real.sqrt_nonneg _)
    have hrr : 1 / M = (Real.sqrt M)⁻¹ * (Real.sqrt M)⁻¹ := by
      rw [← mul_inv, Real.mul_self_sqrt hM.le, one_div]
    rw [hrr]
    generalize (Real.sqrt M)⁻¹ = r at hr
    have e : ∑ p, d p * (x p * ((r : ℝ) : EReal)) = (∑ p, x p * d p) * ((r : ℝ) : EReal) := by
      rw [← sum_mul_coe _ hr]
      exact Finset.sum_congr rfl fun p _ => by rw [← mul_assoc, mul_comm (d p)]
    rw [e]
    generalize (∑ p, x p * d p) = S
    rw [hx l]
    generalize (x l).toReal = X
    generalize d l = D
    have e1 : ((X : ℝ) : EReal) * ((r : ℝ) : EReal) * (S * ((r : ℝ) : EReal) * ((1 / 1024 : ℝ) : EReal))
        = S * ((X * r * r * (1 / 1024) : ℝ) : EReal) := by
      simp only [EReal.coe_mul]
      simp only [mul_assoc, mul_left_comm S]
    have e2 : ((X : ℝ) : EReal) * (S * (((-1 / 2 : ℝ) : EReal) * (((r : ℝ) : EReal) * ((r * r : ℝ) : EReal))) * ((1 / 1024 : ℝ) : EReal))
        = S * ((X * (-1 / 2) * (r * (r * r)) * (1 / 1024) : ℝ) : EReal) := by
      simp only [EReal.coe_mul]
      simp only [mul_assoc, mul_left_comm S]
    rw [mul_comm (S * _ * _) ((X : ℝ) : EReal), e1, e2, sub_eq_add_neg,
      EReal.left_distrib_of_nonneg_of_ne_top (EReal.coe_nonneg.2 hr) (EReal.coe_ne_top r), add_assoc, add_self_coe,
      mul_comm ((r : ℝ) : EReal) D, ← mul_neg, ← EReal.coe_neg, mul_left_comm, ← EReal.coe_mul]
    congr 3
    ring

/-- From real cotangents the gradient is real, whatever the row. -/
theorem grad_real (x : Fin 1024 → EReal) {d : Fin 1024 → EReal} (h : ∀ p, ∃ e : ℝ, d p = ((e : ℝ) : EReal)) (l : Fin 1024) :
    ∃ e : ℝ, grad x d l = ((e : ℝ) : EReal) := by
  unfold grad
  by_cases hi : ∃ q, x q = ⊤ ∨ x q = ⊥
  · obtain ⟨q, hq⟩ := hi
    rw [mean_top hq, Ideal.rsqrt_top]
    exact ⟨0, by simp⟩
  · have hx : ∀ p, x p = (((x p).toReal : ℝ) : EReal) := fun p =>
      (EReal.coe_toReal (fun e => hi ⟨p, .inl e⟩) (fun e => hi ⟨p, .inr e⟩)).symm
    obtain ⟨M, hM, eM⟩ := mean_coe hx
    choose D hD using h
    rw [eM, Ideal.rsqrt_coe, if_neg (not_lt.2 hM.le), if_neg hM.ne', bits_size, Ideal.div_coe (by norm_num)]
    have e : ∑ p, d p * (x p * (((Real.sqrt M)⁻¹ : ℝ) : EReal))
        = ((∑ p, D p * ((x p).toReal * (Real.sqrt M)⁻¹) : ℝ) : EReal) := by
      rw [← coe_sum]
      exact Finset.sum_congr rfl fun p _ => by rw [hD, EReal.coe_mul, EReal.coe_mul, ← hx]
    refine ⟨(Real.sqrt M)⁻¹ * (D l - (x l).toReal * (Real.sqrt M)⁻¹
      * ((∑ p, D p * ((x p).toReal * (Real.sqrt M)⁻¹)) * (1 / 1024))), ?_⟩
    rw [e, hD, EReal.coe_mul, EReal.coe_sub, EReal.coe_mul, EReal.coe_mul, EReal.coe_mul, ← hx]

end Cert.Norm

end
-- ==== Proof.FfnValue.lean ====
/- The feed-forward layer's backward pass through its two first products and its norm: the kernel's two arrays and the
   derivative's. -/
module

public import proofs.«01_k».proof.Proof.Norm
public import proofs.«01_k».proof.Proof.Gen.FfnIdeal.Value
public import proofs.«01_k».proof.Proof.Gen.FfnRefIdeal.Run
public import Idealize.ShloMosaic.Lib.Pointwise
public import Idealize.ShloMosaic.Lib.Pipeline.ValueKit

@[expose] public section

set_option maxRecDepth 16384

noncomputable section

namespace Cert.Ffn

section Kernel

open Cert.FfnIdeal Cert.FfnIdeal.Gen Cert.FfnIdeal.Value Idealize.ShloMosaic Idealize.ShloMosaic.TcCoe
open scoped BigOperators

variable (m : (ℓ : Loc nD τ sig) → Buf (Elt Ideal) ℓ) (c : Dev nD)

/-- The seven arguments: the two cotangents, the two weights' transposes, the output's cotangent, the input, the norm's weight. -/
abbrev A : FVec Ideal S16384x2816 .bf16 := m ((c : Thread nD τ).loc main_arg0)
abbrev U : FVec Ideal S16384x2816 .bf16 := m ((c : Thread nD τ).loc main_arg1)
abbrev W : FVec Ideal S2816x1024 .bf16 := m ((c : Thread nD τ).loc main_arg2)
abbrev V' : FVec Ideal S2816x1024 .bf16 := m ((c : Thread nD τ).loc main_arg3)
abbrev D : FVec Ideal S16384x1024 .f32 := m ((c : Thread nD τ).loc main_arg4)
abbrev X : FVec Ideal S16384x1024 .f32 := m ((c : Thread nD τ).loc main_arg5)
abbrev G : FVec Ideal S1x1024 .f32 := m ((c : Thread nD τ).loc main_arg6)

/-- The cotangent of the normalised row. -/
abbrev dh (a u : FVec Ideal S16384x2816 .bf16) (w v : FVec Ideal S2816x1024 .bf16) (r : Fin 16384) (l : Fin 1024) : EReal :=
  (∑ k : Fin 2816, u (ix2 r k) * v (ix2 k l)) + ∑ k : Fin 2816, a (ix2 r k) * w (ix2 k l)

/-- One row of the input. -/
abbrev row (x : FVec Ideal S16384x1024 .f32) (r : Fin 16384) (p : Fin 1024) : EReal := x (ix2 r p)

/-- The input's gradient at one entry. -/
abbrev dxAt (a u : FVec Ideal S16384x2816 .bf16) (w v : FVec Ideal S2816x1024 .bf16) (d x : FVec Ideal S16384x1024 .f32)
    (g : FVec Ideal S1x1024 .f32) (r : Fin 16384) (l : Fin 1024) : EReal :=
  d (ix2 r l) + Norm.grad (row x r) (fun p => dh a u w v r p * g (ix2 0 p)) l

/-- What one row adds to the norm weight's gradient. -/
abbrev dgRow (a u : FVec Ideal S16384x2816 .bf16) (w v : FVec Ideal S2816x1024 .bf16) (x : FVec Ideal S16384x1024 .f32)
    (l : Fin 1024) (r : Fin 16384) : EReal :=
  dh a u w v r l * (x (ix2 r l) * Ideal.rsqrt (Norm.mean (row x r)))

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] :=
  (by decide +kernel : ∀ t : Fin grid0.N, _)

theorem lt (t : Fin cfg0.N) : t.val < 64 := lt_of_lt_of_eq t.isLt (show cfg0.N = 64 from N_0)

/-- Row `r` of point `t`'s block. -/
abbrev at' (t : Fin cfg0.N) (r : Fin 256) : Fin 16384 := ⟨t.val * 256 + r.val, by have := lt t; have := r.isLt; omega⟩

theorem a_at (t : Fin cfg0.N) (r : Fin 256) (k : Fin 2816) :
    (iblk m c 0 t : FVec Ideal S256x2816 .bf16) (ix2 r k) = A m c (ix2 (at' t r) k) := by
  blk_ext [iblk, V, idx t]

theorem u_at (t : Fin cfg0.N) (r : Fin 256) (k : Fin 2816) :
    (iblk m c 1 t : FVec Ideal S256x2816 .bf16) (ix2 r k) = U m c (ix2 (at' t r) k) := by
  blk_ext [iblk, V, idx t]

theorem w_at (t : Fin cfg0.N) (k : Fin 2816) (l : Fin 1024) :
    (iblk m c 2 t : FVec Ideal S2816x1024 .bf16) (ix2 k l) = W m c (ix2 k l) := by
  blk_ext [iblk, V, idx t]

theorem v_at (t : Fin cfg0.N) (k : Fin 2816) (l : Fin 1024) :
    (iblk m c 3 t : FVec Ideal S2816x1024 .bf16) (ix2 k l) = V' m c (ix2 k l) := by
  blk_ext [iblk, V, idx t]

theorem d_at (t : Fin cfg0.N) (r : Fin 256) (l : Fin 1024) :
    (iblk m c 4 t : FVec Ideal S256x1024 .f32) (ix2 r l) = D m c (ix2 (at' t r) l) := by
  blk_ext [iblk, V, idx t]

theorem x_at (t : Fin cfg0.N) (r : Fin 256) (l : Fin 1024) :
    (iblk m c 5 t : FVec Ideal S256x1024 .f32) (ix2 r l) = X m c (ix2 (at' t r) l) := by
  blk_ext [iblk, V, idx t]

theorem g_at (t : Fin cfg0.N) (l : Fin 1024) : (iblk m c 6 t : FVec Ideal S1x1024 .f32) (ix2 0 l) = G m c (ix2 0 l) := by
  blk_ext [iblk, V, idx t]

/-- A block's part of the norm weight's gradient. -/
theorem pay7_at (a u : Vec Ideal S256x2816 .bf16) (w v : Vec Ideal S2816x1024 .bf16) (x : Vec Ideal S256x1024 .f32)
    (acc : Vec Ideal S1x1024 .f32) (l : Fin 1024) :
    k0_pay1 (k0_pay7 a w u v x) acc (ix2 0 l) = acc (ix2 0 l)
      + ∑ r : Fin 256, ((((∑ k : Fin 2816, a (ix2 r k) * w (ix2 k l)) + ∑ k : Fin 2816, u (ix2 r k) * v (ix2 k l) : EReal))
        * (x (ix2 r l) * Ideal.rsqrt (Norm.mean fun p => x (ix2 r p)))) := by
  pointwise [k0_pay1, k0_pay7, k0_pay6, k0_pay5, k0_pay4]

theorem pay3_at (l : Fin 1024) : k0_pay3 (F := Ideal) (ix2 0 l) = 0 := by
  pointwise [k0_pay3]

theorem pay2_at (a u : Vec Ideal S256x2816 .bf16) (w v : Vec Ideal S2816x1024 .bf16) (x d : Vec Ideal S256x1024 .f32)
    (g : Vec Ideal S1x1024 .f32) (r : Fin 256) (l : Fin 1024) :
    k0_pay2 (k0_pay8 a w u v x g) (k0_pay9 x) d (ix2 r l) = d (ix2 r l)
      + Norm.grad (fun p => x (ix2 r p)) (fun p => ((∑ k : Fin 2816, a (ix2 r k) * w (ix2 k p))
        + ∑ k : Fin 2816, u (ix2 r k) * v (ix2 k p) : EReal) * g (ix2 0 p)) l := by
  pointwise [k0_pay2, k0_pay8, k0_pay9, k0_pay6, k0_pay5, k0_pay4]

theorem point7 (t : Fin cfg0.N) (r : Fin 256) (l : Fin 1024) :
    k0_pay2 (k0_pay8 (iblk m c 0 t) (iblk m c 2 t) (iblk m c 1 t) (iblk m c 3 t) (iblk m c 5 t) (iblk m c 6 t))
      (k0_pay9 (iblk m c 5 t)) (iblk m c 4 t) (ix2 r l)
      = dxAt (A m c) (U m c) (W m c) (V' m c) (D m c) (X m c) (G m c) (at' t r) l := by
  rw [pay2_at]
  simp only [a_at, u_at, w_at, v_at, x_at, d_at, g_at]
  exact congrArg (fun h : Fin 1024 → EReal => D m c (ix2 (at' t r) l)
    + Norm.grad (row (X m c) (at' t r)) (fun p => h p * G m c (ix2 0 p)) l) (funext fun p => add_comm _ _)

/-- What point `t` adds to the norm weight's gradient. -/
abbrev part (t : Fin cfg0.N) (l : Fin 1024) : EReal :=
  ∑ r : Fin 256, dgRow (A m c) (U m c) (W m c) (V' m c) (X m c) l (at' t r)

theorem point8 (t : Fin cfg0.N) (acc : Vec Ideal S1x1024 .f32) (l : Fin 1024) :
    k0_pay1 (k0_pay7 (iblk m c 0 t) (iblk m c 2 t) (iblk m c 1 t) (iblk m c 3 t) (iblk m c 5 t)) acc (ix2 0 l)
      = acc (ix2 0 l) + part m c t l := by
  rw [pay7_at]
  simp only [a_at, u_at, w_at, v_at, x_at]
  exact congrArg (fun e : EReal => acc (ix2 0 l) + e) (Finset.sum_congr rfl fun r _ =>
    congrArg (fun e : EReal => e * (X m c (ix2 (at' t r) l) * Ideal.rsqrt (Norm.mean (row (X m c) (at' t r))))) (add_comm _ _))

/-- The input's gradient. -/
def dx : FVec Ideal S16384x1024 .f32 := fun i =>
  dxAt (A m c) (U m c) (W m c) (V' m c) (D m c) (X m c) (G m c) (i 0) (i 1)

/-- The norm weight's. -/
def dg : FVec Ideal S1x1024 .f32 := fun i =>
  ∑ r : Fin 16384, dgRow (A m c) (U m c) (W m c) (V' m c) (X m c) (i 1) r

theorem final7 : (dats m 0 c).arrAt 7 cfg0.N = dx m c := by
  refine (dats m 0 c).arrAt_eq_of_covers 7 _ (by decide +kernel) fun t hf y => ?_
  obtain ⟨r, l, rfl⟩ : ∃ (r : Fin 256) (l : Fin 1024), y = ix2 r l := ⟨y 0, y 1, by funext a; match a with | ⟨0, _⟩ => rfl | ⟨1, _⟩ => rfl⟩
  have e0 : ((win0_7.blk t).view.emb (ix2 r l) : S16384x1024.Idx) = ix2 (at' t r) l := by
    funext a
    match a with
    | ⟨0, _⟩ => exact Fin.ext (by show win0_7.index t (0 : Fin 2) * 256 + 1 * r.val = _; rw [(idx t).2.2.2.2.2.2.2.1]; show t.val * 256 + 1 * r.val = t.val * 256 + r.val; omega)
    | ⟨1, _⟩ => exact Fin.ext (by show win0_7.index t (1 : Fin 2) * 1024 + 1 * l.val = _; rw [(idx t).2.2.2.2.2.2.2.1]; show 0 * 1024 + 1 * l.val = l.val; omega)
  blk_simp
  rw [after0_7]
  refine Eq.trans ?_ ((point7 m c t r l).trans (congrArg (dx m c) e0).symm)
  by_cases h : t.val % 64 = 0
  · rw [outsAt0_A m c t h]
    frame_out
  · rw [outsAt0_B m c t h]
    frame_out

theorem final8 : (dats m 0 c).arrAt 8 cfg0.N = dg m c := by
  refine (dats m 0 c).arrAt_eq_of_covers 8 _ (by decide +kernel) fun t hf y => ?_
  obtain ⟨z, l, rfl⟩ : ∃ (z : Fin 1) (l : Fin 1024), y = ix2 z l := ⟨y 0, y 1, by funext a; match a with | ⟨0, _⟩ => rfl | ⟨1, _⟩ => rfl⟩
  have e0 : ((win0_8.blk t).view.emb (ix2 z l) : S1x1024.Idx) = ix2 0 l := by
    funext a
    match a with
    | ⟨0, _⟩ => exact Subsingleton.elim (α := Fin 1) _ _
    | ⟨1, _⟩ => exact Fin.ext (by show win0_8.index t (1 : Fin 2) * 1024 + 1 * l.val = _; rw [(idx t).2.2.2.2.2.2.2.2]; show 0 * 1024 + 1 * l.val = l.val; omega)
  obtain rfl : z = 0 := Subsingleton.elim _ _
  blk_simp
  rw [after0_8, Pipeline.eq_sum_fin_of_reset_step_apply_of_flush (fun n h => (outsAt0 m c n h).2) 64 (fun _ => 0)
    (fun p (j : S1x1024.Idx) => part m c p (j 1))
    (fun t h j => by
      obtain ⟨z, l, rfl⟩ : ∃ (z : Fin 1) (l : Fin 1024), j = ix2 z l := ⟨j 0, j 1, by funext a; match a with | ⟨0, _⟩ => rfl | ⟨1, _⟩ => rfl⟩
      obtain rfl : z = 0 := Subsingleton.elim _ _
      rw [outsAt0_A m c t h]; frame_out
      rw [point8 m c t, pay3_at]; rfl)
    (fun t h j => by
      obtain ⟨z, l, rfl⟩ : ∃ (z : Fin 1) (l : Fin 1024), j = ix2 z l := ⟨j 0, j 1, by funext a; match a with | ⟨0, _⟩ => rfl | ⟨1, _⟩ => rfl⟩
      obtain rfl : z = 0 := Subsingleton.elim _ _
      rw [outsAt0_B m c t h]; frame_out
      exact point8 m c t _ l)
    t ((flush0_8 t).mp hf) _, zero_add]
  refine Eq.trans ?_ (congrArg (dg m c) e0).symm
  have ht : t.val / 64 = 0 := by have := lt t; omega
  refine Fin.sum_mul_add_congr (S := 64) (n := 256) fun s k hl => ?_
  refine congrArg (dgRow (A m c) (U m c) (W m c) (V' m c) (X m c) l) (Fin.ext ?_)
  show (64 * (t.val / 64) + s.val) * 256 + k.val = s.val * 256 + k.val
  rw [ht]; omega

end Kernel

section Reference

open Cert.FfnRefIdeal Cert.FfnRefIdeal.Gen Cert.FfnRefIdeal.Value Idealize.ShloMosaic Idealize.ShloMosaic.TcCoe
open scoped BigOperators

variable (m : (ℓ : Loc nD τ sig) → Buf (Elt Ideal) ℓ) (c : Dev nD)

theorem ref_dx (r : Fin 16384) (l : Fin 1024) :
    (res_main_v45 m c : FVec Ideal S16384x1024 .f32) (ix2 r l)
      = dxAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) r l := by
  unfold dxAt
  rw [Norm.grad_eq]
  pointwise [res_main_v45]
  simp only [Finset.univ_unique, Finset.sum_singleton]
  rw [add_assoc, add_assoc, add_assoc]

/-- The reference's gradient of the norm's weight. -/
abbrev refDg : FVec Ideal S1x1024 .f32 :=
  shapeCast _ (Host.reduceAdd (mulf (mulf (m ((c.tc : Thread nD τ).loc main_arg5)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg5)) (m ((c.tc : Thread nD τ).loc main_arg5))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (addf (Host.dotGeneral dot_S16384x2816_S1024x2816_S16384x1024_1_1_0_0_n_n none (extf .f32 (m ((c.tc : Thread nD τ).loc main_arg1)) bitsLt_bf16_f32) (transpose S1024x2816 [1, 0] (extf .f32 (m ((c.tc : Thread nD τ).loc main_arg3)) bitsLt_bf16_f32) transposes_S2816x1024_S1024x2816_1_0)) (Host.dotGeneral dot_S16384x2816_S1024x2816_S16384x1024_1_1_0_0_n_n none (extf .f32 (m ((c.tc : Thread nD τ).loc main_arg0)) bitsLt_bf16_f32) (transpose S1024x2816 [1, 0] (extf .f32 (m ((c.tc : Thread nD τ).loc main_arg2)) bitsLt_bf16_f32) transposes_S2816x1024_S1024x2816_1_0)))) (constant S_ .f32 0x00000000#32) reducesTo_S16384x1024_S1024_d0 h_S_) shapeCasts_S1024_S1x1024

theorem ref_dg (l : Fin 1024) :
    refDg m c (ix2 0 l) = ∑ r : Fin 16384, dgRow (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5)) l r := by
  pointwise [refDg]
  exact Finset.sum_congr rfl fun r _ => mul_comm _ _

end Reference

open Cert.FfnIdeal Cert.FfnIdeal.Gen Idealize.ShloMosaic Idealize.ShloMosaic.TcCoe

/-- The reference's arrays are the kernel's, from arguments that agree. -/
theorem agree (m : (ℓ : Loc nD τ sig) → Buf (Elt Ideal) ℓ) (c : Dev nD)
    {m' : (ℓ : Loc Cert.FfnRefIdeal.nD Cert.FfnRefIdeal.τ Cert.FfnRefIdeal.sig) → Buf (Elt Ideal) ℓ} {c' : Dev Cert.FfnRefIdeal.nD}
    (e0 : (m' ((c'.tc : Thread Cert.FfnRefIdeal.nD Cert.FfnRefIdeal.τ).loc Cert.FfnRefIdeal.main_arg0) : FVec Ideal S16384x2816 .bf16) = A m c)
    (e1 : (m' ((c'.tc : Thread Cert.FfnRefIdeal.nD Cert.FfnRefIdeal.τ).loc Cert.FfnRefIdeal.main_arg1) : FVec Ideal S16384x2816 .bf16) = U m c)
    (e2 : (m' ((c'.tc : Thread Cert.FfnRefIdeal.nD Cert.FfnRefIdeal.τ).loc Cert.FfnRefIdeal.main_arg2) : FVec Ideal S2816x1024 .bf16) = W m c)
    (e3 : (m' ((c'.tc : Thread Cert.FfnRefIdeal.nD Cert.FfnRefIdeal.τ).loc Cert.FfnRefIdeal.main_arg3) : FVec Ideal S2816x1024 .bf16) = V' m c)
    (e4 : (m' ((c'.tc : Thread Cert.FfnRefIdeal.nD Cert.FfnRefIdeal.τ).loc Cert.FfnRefIdeal.main_arg4) : FVec Ideal S16384x1024 .f32) = D m c)
    (e5 : (m' ((c'.tc : Thread Cert.FfnRefIdeal.nD Cert.FfnRefIdeal.τ).loc Cert.FfnRefIdeal.main_arg5) : FVec Ideal S16384x1024 .f32) = X m c)
    (e6 : (m' ((c'.tc : Thread Cert.FfnRefIdeal.nD Cert.FfnRefIdeal.τ).loc Cert.FfnRefIdeal.main_arg6) : FVec Ideal S1x1024 .f32) = G m c) :
    @Eq (FVec Ideal S16384x1024 .f32) (Cert.FfnRefIdeal.Value.res_main_v45 m' c') (dx m c)
      ∧ @Eq (FVec Ideal S1x1024 .f32) (refDg m' c') (dg m c) := by
  constructor
  · funext i
    obtain ⟨r, l, rfl⟩ : ∃ (r : Fin 16384) (l : Fin 1024), i = ix2 r l := ⟨i 0, i 1, by funext a; match a with | ⟨0, _⟩ => rfl | ⟨1, _⟩ => rfl⟩
    refine (ref_dx m' c' r l).trans ?_
    rw [e0, e1, e2, e3, e4, e5, e6]
    rfl
  · funext i
    obtain ⟨z, l, rfl⟩ : ∃ (z : Fin 1) (l : Fin 1024), i = ix2 z l := ⟨i 0, i 1, by funext a; match a with | ⟨0, _⟩ => rfl | ⟨1, _⟩ => rfl⟩
    obtain rfl : z = 0 := Subsingleton.elim _ _
    refine (ref_dg m' c' l).trans ?_
    rw [e0, e1, e2, e3, e5]
    rfl

end Cert.Ffn

end
-- ==== Proof.UpValue.lean ====
/- The feed-forward layer's norm, its two first products and its gate: the kernel's four arrays and the reference's. -/
module

public import proofs.«01_k».proof.Proof.Norm
public import proofs.«01_k».proof.Proof.Gen.UpIdeal.Value
public import proofs.«01_k».proof.Proof.Gen.UpRefIdeal.Run
public import Idealize.ShloMosaic.Lib.Pointwise
public import Idealize.ShloMosaic.Lib.Pipeline.ValueKit

@[expose] public section

set_option maxRecDepth 16384

noncomputable section

namespace Cert.Up

section Kernel

open Cert.UpIdeal Cert.UpIdeal.Gen Cert.UpIdeal.Value Idealize.ShloMosaic Idealize.ShloMosaic.TcCoe
open scoped BigOperators

variable (m : (ℓ : Loc nD τ sig) → Buf (Elt Ideal) ℓ) (c : Dev nD)

/-- The arguments: the input, the norm's weight, the two weights. -/
abbrev X : FVec Ideal S16384x1024 .f32 := m ((c : Thread nD τ).loc main_arg0)
abbrev G : FVec Ideal S1x1024 .f32 := m ((c : Thread nD τ).loc main_arg1)
abbrev W : FVec Ideal S1024x2816 .bf16 := m ((c : Thread nD τ).loc main_arg2)
abbrev V' : FVec Ideal S1024x2816 .bf16 := m ((c : Thread nD τ).loc main_arg3)

/-- One row of the input. -/
abbrev row (x : FVec Ideal S16384x1024 .f32) (r : Fin 16384) (p : Fin 1024) : EReal := x (ix2 r p)

/-- The normalised input, a product with a weight, and the gated product. -/
abbrev hAt (x : FVec Ideal S16384x1024 .f32) (g : FVec Ideal S1x1024 .f32) (r : Fin 16384) (l : Fin 1024) : EReal :=
  x (ix2 r l) * Ideal.rsqrt (Norm.mean (row x r)) * g (ix2 0 l)
abbrev prodAt (x : FVec Ideal S16384x1024 .f32) (g : FVec Ideal S1x1024 .f32) (w : FVec Ideal S1024x2816 .bf16) (r : Fin 16384) (l : Fin 2816) : EReal :=
  ∑ k : Fin 1024, hAt x g r k * w (ix2 k l)
abbrev gateAt (x : FVec Ideal S16384x1024 .f32) (g : FVec Ideal S1x1024 .f32) (w v : FVec Ideal S1024x2816 .bf16) (r : Fin 16384) (l : Fin 2816) : EReal :=
  prodAt x g w r l * Ideal.logistic (prodAt x g w r l) * prodAt x g v r l

/-- The blocks' places: the rows' blocks follow the point, the others stay. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)

theorem lt (t : Fin cfg0.N) : t.val < 64 := lt_of_lt_of_eq t.isLt (show cfg0.N = 64 from N_0)

/-- Row `r` of point `t`'s block. -/
abbrev at' (t : Fin cfg0.N) (r : Fin 256) : Fin 16384 := ⟨t.val * 256 + r.val, by have := lt t; have := r.isLt; omega⟩

theorem X_at (t : Fin cfg0.N) (r : Fin 256) (k : Fin 1024) :
    (iblk m c 0 t : FVec Ideal S256x1024 .f32) (ix2 r k) = X m c (ix2 (at' t r) k) := by
  blk_ext [iblk, V, idx t]

theorem G_at (t : Fin cfg0.N) (k : Fin 1024) : (iblk m c 1 t : FVec Ideal S1x1024 .f32) (ix2 0 k) = G m c (ix2 0 k) := by
  blk_ext [iblk, V, idx t]

theorem W_at (t : Fin cfg0.N) (r : Fin 1024) (k : Fin 2816) :
    (iblk m c 2 t : FVec Ideal S1024x2816 .bf16) (ix2 r k) = W m c (ix2 r k) := by
  blk_ext [iblk, V, idx t]

theorem V'_at (t : Fin cfg0.N) (r : Fin 1024) (k : Fin 2816) :
    (iblk m c 3 t : FVec Ideal S1024x2816 .bf16) (ix2 r k) = V' m c (ix2 r k) := by
  blk_ext [iblk, V, idx t]

theorem pay1_at (x : Vec Ideal S256x1024 .f32) (g : Vec Ideal S1x1024 .f32) (r : Fin 256) (l : Fin 1024) : k0_pay1 x g (ix2 r l) = (x (ix2 r l) * Ideal.rsqrt (Norm.mean fun p => x (ix2 r p)) * g (ix2 0 l)) := by
  pointwise [k0_pay1]

theorem pay4_at (x : Vec Ideal S256x1024 .f32) (g : Vec Ideal S1x1024 .f32) (w : Vec Ideal S1024x2816 .bf16) (r : Fin 256) (l : Fin 2816) : k0_pay4 x g w (ix2 r l) = (∑ k : Fin 1024, (x (ix2 r k) * Ideal.rsqrt (Norm.mean fun p => x (ix2 r p)) * g (ix2 0 k)) * w (ix2 k l) : EReal) := by
  pointwise [k0_pay4, k0_pay2, k0_pay1]

theorem pay5_at (x : Vec Ideal S256x1024 .f32) (g : Vec Ideal S1x1024 .f32) (w : Vec Ideal S1024x2816 .bf16) (r : Fin 256) (l : Fin 2816) : k0_pay5 x g w (ix2 r l) = (∑ k : Fin 1024, (x (ix2 r k) * Ideal.rsqrt (Norm.mean fun p => x (ix2 r p)) * g (ix2 0 k)) * w (ix2 k l) : EReal) := by
  pointwise [k0_pay5, k0_pay3, k0_pay1]

theorem pay6_at (x : Vec Ideal S256x1024 .f32) (g : Vec Ideal S1x1024 .f32) (w v : Vec Ideal S1024x2816 .bf16) (r : Fin 256) (l : Fin 2816) :
    k0_pay6 x g w v (ix2 r l) = (∑ k : Fin 1024, (x (ix2 r k) * Ideal.rsqrt (Norm.mean fun p => x (ix2 r p)) * g (ix2 0 k)) * w (ix2 k l) : EReal) * Ideal.logistic (∑ k : Fin 1024, (x (ix2 r k) * Ideal.rsqrt (Norm.mean fun p => x (ix2 r p)) * g (ix2 0 k)) * w (ix2 k l) : EReal) * (∑ k : Fin 1024, (x (ix2 r k) * Ideal.rsqrt (Norm.mean fun p => x (ix2 r p)) * g (ix2 0 k)) * v (ix2 k l) : EReal) := by
  pointwise [k0_pay6, k0_pay3, k0_pay2, k0_pay1]

theorem point4 (t : Fin cfg0.N) (r : Fin 256) (l : Fin 1024) :
    k0_pay1 (iblk m c 0 t) (iblk m c 1 t) (ix2 r l) = hAt (X m c) (G m c) (at' t r) l := by
  rw [pay1_at]
  simp only [X_at, G_at]

theorem point5 (t : Fin cfg0.N) (r : Fin 256) (l : Fin 2816) :
    k0_pay4 (iblk m c 0 t) (iblk m c 1 t) (iblk m c 2 t) (ix2 r l) = prodAt (X m c) (G m c) (W m c) (at' t r) l := by
  rw [pay4_at]
  simp only [X_at, G_at, W_at]

theorem point6 (t : Fin cfg0.N) (r : Fin 256) (l : Fin 2816) :
    k0_pay5 (iblk m c 0 t) (iblk m c 1 t) (iblk m c 3 t) (ix2 r l) = prodAt (X m c) (G m c) (V' m c) (at' t r) l := by
  rw [pay5_at]
  simp only [X_at, G_at, V'_at]

theorem point7 (t : Fin cfg0.N) (r : Fin 256) (l : Fin 2816) :
    k0_pay6 (iblk m c 0 t) (iblk m c 1 t) (iblk m c 2 t) (iblk m c 3 t) (ix2 r l)
      = gateAt (X m c) (G m c) (W m c) (V' m c) (at' t r) l := by
  rw [pay6_at]
  simp only [X_at, G_at, W_at, V'_at]

/-- The four arrays. -/
def h : FVec Ideal S16384x1024 .bf16 := fun i => hAt (X m c) (G m c) (i 0) (i 1)
def a : FVec Ideal S16384x2816 .bf16 := fun i => prodAt (X m c) (G m c) (W m c) (i 0) (i 1)
def u : FVec Ideal S16384x2816 .bf16 := fun i => prodAt (X m c) (G m c) (V' m c) (i 0) (i 1)
def z : FVec Ideal S16384x2816 .bf16 := fun i => gateAt (X m c) (G m c) (W m c) (V' m c) (i 0) (i 1)

theorem final4 : (dats m 0 c).arrAt 4 cfg0.N = h m c := by
  refine (dats m 0 c).arrAt_eq_of_covers 4 _ (by decide +kernel) fun t hf y => ?_
  obtain ⟨r, l, rfl⟩ : ∃ (r : Fin 256) (l : Fin 1024), y = ix2 r l := ⟨y 0, y 1, by funext a; match a with | ⟨0, _⟩ => rfl | ⟨1, _⟩ => rfl⟩
  have e0 : ((win0_4.blk t).view.emb (ix2 r l) : S16384x1024.Idx) = ix2 (at' t r) l := by
    funext a
    match a with
    | ⟨0, _⟩ => exact Fin.ext (by show win0_4.index t (0 : Fin 2) * 256 + 1 * r.val = _; rw [(idx t).2.2.2.2.1]; show t.val * 256 + 1 * r.val = t.val * 256 + r.val; omega)
    | ⟨1, _⟩ => exact Fin.ext (by show win0_4.index t (1 : Fin 2) * 1024 + 1 * l.val = _; rw [(idx t).2.2.2.2.1]; show 0 * 1024 + 1 * l.val = l.val; omega)
  blk_simp
  rw [after0_4]
  refine Eq.trans ?_ ((point4 m c t r l).trans (congrArg (h m c) e0).symm)
  frame_out

theorem final5 : (dats m 0 c).arrAt 5 cfg0.N = a m c := by
  refine (dats m 0 c).arrAt_eq_of_covers 5 _ (by decide +kernel) fun t hf y => ?_
  obtain ⟨r, l, rfl⟩ : ∃ (r : Fin 256) (l : Fin 2816), y = ix2 r l := ⟨y 0, y 1, by funext a; match a with | ⟨0, _⟩ => rfl | ⟨1, _⟩ => rfl⟩
  have e0 : ((win0_5.blk t).view.emb (ix2 r l) : S16384x2816.Idx) = ix2 (at' t r) l := by
    funext a
    match a with
    | ⟨0, _⟩ => exact Fin.ext (by show win0_5.index t (0 : Fin 2) * 256 + 1 * r.val = _; rw [(idx t).2.2.2.2.2.1]; show t.val * 256 + 1 * r.val = t.val * 256 + r.val; omega)
    | ⟨1, _⟩ => exact Fin.ext (by show win0_5.index t (1 : Fin 2) * 2816 + 1 * l.val = _; rw [(idx t).2.2.2.2.2.1]; show 0 * 2816 + 1 * l.val = l.val; omega)
  blk_simp
  rw [after0_5]
  refine Eq.trans ?_ ((point5 m c t r l).trans (congrArg (a m c) e0).symm)
  frame_out

theorem final6 : (dats m 0 c).arrAt 6 cfg0.N = u m c := by
  refine (dats m 0 c).arrAt_eq_of_covers 6 _ (by decide +kernel) fun t hf y => ?_
  obtain ⟨r, l, rfl⟩ : ∃ (r : Fin 256) (l : Fin 2816), y = ix2 r l := ⟨y 0, y 1, by funext a; match a with | ⟨0, _⟩ => rfl | ⟨1, _⟩ => rfl⟩
  have e0 : ((win0_6.blk t).view.emb (ix2 r l) : S16384x2816.Idx) = ix2 (at' t r) l := by
    funext a
    match a with
    | ⟨0, _⟩ => exact Fin.ext (by show win0_6.index t (0 : Fin 2) * 256 + 1 * r.val = _; rw [(idx t).2.2.2.2.2.2.1]; show t.val * 256 + 1 * r.val = t.val * 256 + r.val; omega)
    | ⟨1, _⟩ => exact Fin.ext (by show win0_6.index t (1 : Fin 2) * 2816 + 1 * l.val = _; rw [(idx t).2.2.2.2.2.2.1]; show 0 * 2816 + 1 * l.val = l.val; omega)
  blk_simp
  rw [after0_6]
  refine Eq.trans ?_ ((point6 m c t r l).trans (congrArg (u m c) e0).symm)
  frame_out

theorem final7 : (dats m 0 c).arrAt 7 cfg0.N = z m c := by
  refine (dats m 0 c).arrAt_eq_of_covers 7 _ (by decide +kernel) fun t hf y => ?_
  obtain ⟨r, l, rfl⟩ : ∃ (r : Fin 256) (l : Fin 2816), y = ix2 r l := ⟨y 0, y 1, by funext a; match a with | ⟨0, _⟩ => rfl | ⟨1, _⟩ => rfl⟩
  have e0 : ((win0_7.blk t).view.emb (ix2 r l) : S16384x2816.Idx) = ix2 (at' t r) l := by
    funext a
    match a with
    | ⟨0, _⟩ => exact Fin.ext (by show win0_7.index t (0 : Fin 2) * 256 + 1 * r.val = _; rw [(idx t).2.2.2.2.2.2.2]; show t.val * 256 + 1 * r.val = t.val * 256 + r.val; omega)
    | ⟨1, _⟩ => exact Fin.ext (by show win0_7.index t (1 : Fin 2) * 2816 + 1 * l.val = _; rw [(idx t).2.2.2.2.2.2.2]; show 0 * 2816 + 1 * l.val = l.val; omega)
  blk_simp
  rw [after0_7]
  refine Eq.trans ?_ ((point7 m c t r l).trans (congrArg (z m c) e0).symm)
  frame_out

end Kernel

section Reference

open Cert.UpRefIdeal Cert.UpRefIdeal.Gen Cert.UpRefIdeal.Value Idealize.ShloMosaic Idealize.ShloMosaic.TcCoe
open scoped BigOperators

variable (m : (ℓ : Loc nD τ sig) → Buf (Elt Ideal) ℓ) (c : Dev nD)

/-- The reference's array. -/
abbrev ref_h : FVec Ideal S16384x1024 .bf16 :=
  truncf .bf16 (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) bitsLt_bf16_f32

theorem ref_h_at (r : Fin 16384) (l : Fin 1024) : ref_h m c (ix2 r l) = hAt (m ((c.tc : Thread nD τ).loc main_arg0)) (m ((c.tc : Thread nD τ).loc main_arg1)) r l := by
  pointwise [ref_h]

/-- The reference's array. -/
abbrev ref_a : FVec Ideal S16384x2816 .bf16 :=
  truncf .bf16 (Host.dotGeneral dot_S16384x1024_S1024x2816_S16384x2816_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) bitsLt_bf16_f32

theorem ref_a_at (r : Fin 16384) (l : Fin 2816) : ref_a m c (ix2 r l) = prodAt (m ((c.tc : Thread nD τ).loc main_arg0)) (m ((c.tc : Thread nD τ).loc main_arg1)) (m ((c.tc : Thread nD τ).loc main_arg2)) r l := by
  pointwise [ref_a]

/-- The reference's array. -/
abbrev ref_u : FVec Ideal S16384x2816 .bf16 :=
  truncf .bf16 (Host.dotGeneral dot_S16384x1024_S1024x2816_S16384x2816_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg3)) bitsLt_bf16_f32)) bitsLt_bf16_f32

theorem ref_u_at (r : Fin 16384) (l : Fin 2816) : ref_u m c (ix2 r l) = prodAt (m ((c.tc : Thread nD τ).loc main_arg0)) (m ((c.tc : Thread nD τ).loc main_arg1)) (m ((c.tc : Thread nD τ).loc main_arg3)) r l := by
  pointwise [ref_u]

/-- The reference's array. -/
abbrev ref_z : FVec Ideal S16384x2816 .bf16 :=
  truncf .bf16 (mulf (mulf (Host.dotGeneral dot_S16384x1024_S1024x2816_S16384x2816_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32))))))) (Host.dotGeneral dot_S16384x1024_S1024x2816_S16384x2816_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg3)) bitsLt_bf16_f32))) bitsLt_bf16_f32

theorem ref_z_at (r : Fin 16384) (l : Fin 2816) : ref_z m c (ix2 r l) = gateAt (m ((c.tc : Thread nD τ).loc main_arg0)) (m ((c.tc : Thread nD τ).loc main_arg1)) (m ((c.tc : Thread nD τ).loc main_arg2)) (m ((c.tc : Thread nD τ).loc main_arg3)) r l := by
  pointwise [ref_z]
  rfl

end Reference

open Cert.UpIdeal Cert.UpIdeal.Gen Idealize.ShloMosaic Idealize.ShloMosaic.TcCoe

/-- The reference's arrays are the kernel's, from arguments that agree. -/
theorem agree (m : (ℓ : Loc nD τ sig) → Buf (Elt Ideal) ℓ) (c : Dev nD)
    {m' : (ℓ : Loc Cert.UpRefIdeal.nD Cert.UpRefIdeal.τ Cert.UpRefIdeal.sig) → Buf (Elt Ideal) ℓ} {c' : Dev Cert.UpRefIdeal.nD}
    (e0 : (m' ((c'.tc : Thread Cert.UpRefIdeal.nD Cert.UpRefIdeal.τ).loc Cert.UpRefIdeal.main_arg0) : FVec Ideal S16384x1024 .f32) = X m c)
    (e1 : (m' ((c'.tc : Thread Cert.UpRefIdeal.nD Cert.UpRefIdeal.τ).loc Cert.UpRefIdeal.main_arg1) : FVec Ideal S1x1024 .f32) = G m c)
    (e2 : (m' ((c'.tc : Thread Cert.UpRefIdeal.nD Cert.UpRefIdeal.τ).loc Cert.UpRefIdeal.main_arg2) : FVec Ideal S1024x2816 .bf16) = W m c)
    (e3 : (m' ((c'.tc : Thread Cert.UpRefIdeal.nD Cert.UpRefIdeal.τ).loc Cert.UpRefIdeal.main_arg3) : FVec Ideal S1024x2816 .bf16) = V' m c) :
    @Eq (FVec Ideal S16384x1024 .bf16) (ref_h m' c') (h m c) ∧ @Eq (FVec Ideal S16384x2816 .bf16) (ref_a m' c') (a m c) ∧ @Eq (FVec Ideal S16384x2816 .bf16) (ref_u m' c') (u m c) ∧ @Eq (FVec Ideal S16384x2816 .bf16) (ref_z m' c') (z m c) := by
  refine ⟨?_, ?_, ?_, ?_⟩
  · funext i
    obtain ⟨r, l, rfl⟩ : ∃ (r : Fin 16384) (l : Fin 1024), i = ix2 r l := ⟨i 0, i 1, by funext a; match a with | ⟨0, _⟩ => rfl | ⟨1, _⟩ => rfl⟩
    refine (ref_h_at m' c' r l).trans ?_
    rw [e0, e1]
    rfl
  · funext i
    obtain ⟨r, l, rfl⟩ : ∃ (r : Fin 16384) (l : Fin 2816), i = ix2 r l := ⟨i 0, i 1, by funext a; match a with | ⟨0, _⟩ => rfl | ⟨1, _⟩ => rfl⟩
    refine (ref_a_at m' c' r l).trans ?_
    rw [e0, e1, e2]
    rfl
  · funext i
    obtain ⟨r, l, rfl⟩ : ∃ (r : Fin 16384) (l : Fin 2816), i = ix2 r l := ⟨i 0, i 1, by funext a; match a with | ⟨0, _⟩ => rfl | ⟨1, _⟩ => rfl⟩
    refine (ref_u_at m' c' r l).trans ?_
    rw [e0, e1, e3]
    rfl
  · funext i
    obtain ⟨r, l, rfl⟩ : ∃ (r : Fin 16384) (l : Fin 2816), i = ix2 r l := ⟨i 0, i 1, by funext a; match a with | ⟨0, _⟩ => rfl | ⟨1, _⟩ => rfl⟩
    refine (ref_z_at m' c' r l).trans ?_
    rw [e0, e1, e2, e3]
    rfl

end Cert.Up

end
-- ==== Proof.LossValue.lean ====
/- The feed-forward layer's last product and norm and the loss: the kernel's three arrays and the reference's. -/
module

public import proofs.«01_k».proof.Proof.Norm
public import proofs.«01_k».proof.Proof.Gen.LossIdeal.Value
public import proofs.«01_k».proof.Proof.Gen.LossRefIdeal.Run
public import Idealize.ShloMosaic.Lib.Pointwise
public import Idealize.ShloMosaic.Lib.Pipeline.ValueKit

@[expose] public section

set_option maxRecDepth 16384

noncomputable section

namespace Cert.Loss

section Kernel

open Cert.LossIdeal Cert.LossIdeal.Gen Cert.LossIdeal.Value Idealize.ShloMosaic Idealize.ShloMosaic.TcCoe
open scoped BigOperators

variable (m : (ℓ : Loc nD τ sig) → Buf (Elt Ideal) ℓ) (c : Dev nD)

/-- The arguments: the gated product, the weight, the residual, the norm's weight, the target. -/
abbrev Z : FVec Ideal S16384x2816 .bf16 := m ((c : Thread nD τ).loc main_arg0)
abbrev W : FVec Ideal S2816x1024 .bf16 := m ((c : Thread nD τ).loc main_arg1)
abbrev X : FVec Ideal S16384x1024 .f32 := m ((c : Thread nD τ).loc main_arg2)
abbrev G : FVec Ideal S1x1024 .f32 := m ((c : Thread nD τ).loc main_arg3)
abbrev Tg : FVec Ideal S16384x1024 .f32 := m ((c : Thread nD τ).loc main_arg4)

/-- The product, the output's difference from the target, and the loss's derivative. -/
abbrev yAt (z : FVec Ideal S16384x2816 .bf16) (w : FVec Ideal S2816x1024 .bf16) (r : Fin 16384) (l : Fin 1024) : EReal := ∑ k : Fin 2816, z (ix2 r k) * w (ix2 k l)
abbrev errAt (z : FVec Ideal S16384x2816 .bf16) (w : FVec Ideal S2816x1024 .bf16) (x : FVec Ideal S16384x1024 .f32) (g : FVec Ideal S1x1024 .f32) (t : FVec Ideal S16384x1024 .f32) (r : Fin 16384) (l : Fin 1024) : EReal :=
  x (ix2 r l) + yAt z w r l * Ideal.rsqrt (Norm.mean (yAt z w r)) * g (ix2 0 l) - t (ix2 r l)
abbrev sqAt (z : FVec Ideal S16384x2816 .bf16) (w : FVec Ideal S2816x1024 .bf16) (x : FVec Ideal S16384x1024 .f32) (g : FVec Ideal S1x1024 .f32) (t : FVec Ideal S16384x1024 .f32) (l : Fin 1024) (r : Fin 16384) : EReal :=
  errAt z w x g t r l * errAt z w x g t r l
abbrev dAt (z : FVec Ideal S16384x2816 .bf16) (w : FVec Ideal S2816x1024 .bf16) (x : FVec Ideal S16384x1024 .f32) (g : FVec Ideal S1x1024 .f32) (t : FVec Ideal S16384x1024 .f32) (r : Fin 16384) (l : Fin 1024) : EReal :=
  errAt z w x g t r l * Ideal.ofBits .f32 0x3A800000#32

/-- The blocks' places: the rows' blocks follow the point, the others stay. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

theorem lt (t : Fin cfg0.N) : t.val < 64 := lt_of_lt_of_eq t.isLt (show cfg0.N = 64 from N_0)

/-- Row `r` of point `t`'s block. -/
abbrev at' (t : Fin cfg0.N) (r : Fin 256) : Fin 16384 := ⟨t.val * 256 + r.val, by have := lt t; have := r.isLt; omega⟩

theorem Z_at (t : Fin cfg0.N) (r : Fin 256) (k : Fin 2816) :
    (iblk m c 0 t : FVec Ideal S256x2816 .bf16) (ix2 r k) = Z m c (ix2 (at' t r) k) := by
  blk_ext [iblk, V, idx t]

theorem W_at (t : Fin cfg0.N) (r : Fin 2816) (k : Fin 1024) :
    (iblk m c 1 t : FVec Ideal S2816x1024 .bf16) (ix2 r k) = W m c (ix2 r k) := by
  blk_ext [iblk, V, idx t]

theorem X_at (t : Fin cfg0.N) (r : Fin 256) (k : Fin 1024) :
    (iblk m c 2 t : FVec Ideal S256x1024 .f32) (ix2 r k) = X m c (ix2 (at' t r) k) := by
  blk_ext [iblk, V, idx t]

theorem G_at (t : Fin cfg0.N) (k : Fin 1024) : (iblk m c 3 t : FVec Ideal S1x1024 .f32) (ix2 0 k) = G m c (ix2 0 k) := by
  blk_ext [iblk, V, idx t]

theorem Tg_at (t : Fin cfg0.N) (r : Fin 256) (k : Fin 1024) :
    (iblk m c 4 t : FVec Ideal S256x1024 .f32) (ix2 r k) = Tg m c (ix2 (at' t r) k) := by
  blk_ext [iblk, V, idx t]

theorem pay3_at (z : Vec Ideal S256x2816 .bf16) (w : Vec Ideal S2816x1024 .bf16) (r : Fin 256) (l : Fin 1024) : k0_pay3 z w (ix2 r l) = (∑ k : Fin 2816, z (ix2 r k) * w (ix2 k l) : EReal) := by
  pointwise [k0_pay3]

theorem pay4_at (z : Vec Ideal S256x2816 .bf16) (w : Vec Ideal S2816x1024 .bf16) (x : Vec Ideal S256x1024 .f32) (g : Vec Ideal S1x1024 .f32) (t : Vec Ideal S256x1024 .f32) (r : Fin 256) (l : Fin 1024) : k0_pay4 z w x g t (ix2 r l) = (x (ix2 r l) + (∑ k : Fin 2816, z (ix2 r k) * w (ix2 k l) : EReal) * Ideal.rsqrt (Norm.mean fun p => (∑ k : Fin 2816, z (ix2 r k) * w (ix2 k p) : EReal)) * g (ix2 0 l) - t (ix2 r l)) := by
  pointwise [k0_pay4, k0_pay3]

theorem pay1_at (z : Vec Ideal S256x2816 .bf16) (w : Vec Ideal S2816x1024 .bf16) (x : Vec Ideal S256x1024 .f32) (g : Vec Ideal S1x1024 .f32) (t : Vec Ideal S256x1024 .f32) (r : Fin 256) (l : Fin 1024) :
    k0_pay1 (k0_pay4 z w x g t) k0_pay6 (ix2 r l) = (x (ix2 r l) + (∑ k : Fin 2816, z (ix2 r k) * w (ix2 k l) : EReal) * Ideal.rsqrt (Norm.mean fun p => (∑ k : Fin 2816, z (ix2 r k) * w (ix2 k p) : EReal)) * g (ix2 0 l) - t (ix2 r l)) * Ideal.ofBits .f32 0x3A800000#32 := by
  pointwise [k0_pay1, k0_pay6, k0_pay4, k0_pay3]

theorem pay5_at (z : Vec Ideal S256x2816 .bf16) (w : Vec Ideal S2816x1024 .bf16) (x : Vec Ideal S256x1024 .f32) (g : Vec Ideal S1x1024 .f32) (t : Vec Ideal S256x1024 .f32) (acc : Vec Ideal S1x1024 .f32) (l : Fin 1024) :
    k0_pay5 z w x g t acc (ix2 0 l) = acc (ix2 0 l) + ∑ r : Fin 256, (x (ix2 r l) + (∑ k : Fin 2816, z (ix2 r k) * w (ix2 k l) : EReal) * Ideal.rsqrt (Norm.mean fun p => (∑ k : Fin 2816, z (ix2 r k) * w (ix2 k p) : EReal)) * g (ix2 0 l) - t (ix2 r l)) * (x (ix2 r l) + (∑ k : Fin 2816, z (ix2 r k) * w (ix2 k l) : EReal) * Ideal.rsqrt (Norm.mean fun p => (∑ k : Fin 2816, z (ix2 r k) * w (ix2 k p) : EReal)) * g (ix2 0 l) - t (ix2 r l)) := by
  pointwise [k0_pay5, k0_pay4, k0_pay3]

theorem pay2_at (l : Fin 1024) : k0_pay2 (F := Ideal) (ix2 0 l) = 0 := by
  pointwise [k0_pay2]

theorem point5 (t : Fin cfg0.N) (r : Fin 256) (l : Fin 1024) :
    k0_pay3 (iblk m c 0 t) (iblk m c 1 t) (ix2 r l) = yAt (Z m c) (W m c) (at' t r) l := by
  rw [pay3_at]
  simp only [Z_at, W_at]

theorem point6 (t : Fin cfg0.N) (r : Fin 256) (l : Fin 1024) :
    k0_pay1 (k0_pay4 (iblk m c 0 t) (iblk m c 1 t) (iblk m c 2 t) (iblk m c 3 t) (iblk m c 4 t)) k0_pay6 (ix2 r l)
      = dAt (Z m c) (W m c) (X m c) (G m c) (Tg m c) (at' t r) l := by
  rw [pay1_at]
  simp only [Z_at, W_at, X_at, G_at, Tg_at]

/-- What point `t` adds to the sum of the squares. -/
abbrev part (t : Fin cfg0.N) (l : Fin 1024) : EReal :=
  ∑ r : Fin 256, sqAt (Z m c) (W m c) (X m c) (G m c) (Tg m c) l (at' t r)

theorem point7 (t : Fin cfg0.N) (acc : Vec Ideal S1x1024 .f32) (l : Fin 1024) :
    k0_pay5 (iblk m c 0 t) (iblk m c 1 t) (iblk m c 2 t) (iblk m c 3 t) (iblk m c 4 t) acc (ix2 0 l)
      = acc (ix2 0 l) + part m c t l := by
  rw [pay5_at]
  simp only [Z_at, W_at, X_at, G_at, Tg_at]

/-- The three arrays. -/
def y : FVec Ideal S16384x1024 .f32 := fun i => yAt (Z m c) (W m c) (i 0) (i 1)
def d : FVec Ideal S16384x1024 .f32 := fun i => dAt (Z m c) (W m c) (X m c) (G m c) (Tg m c) (i 0) (i 1)
def sq : FVec Ideal S1x1024 .f32 := fun i => ∑ r : Fin 16384, sqAt (Z m c) (W m c) (X m c) (G m c) (Tg m c) (i 1) r

theorem final5 : (dats m 0 c).arrAt 5 cfg0.N = y m c := by
  refine (dats m 0 c).arrAt_eq_of_covers 5 _ (by decide +kernel) fun t hf y => ?_
  obtain ⟨r, l, rfl⟩ : ∃ (r : Fin 256) (l : Fin 1024), y = ix2 r l := ⟨y 0, y 1, by funext a; match a with | ⟨0, _⟩ => rfl | ⟨1, _⟩ => rfl⟩
  have e0 : ((win0_5.blk t).view.emb (ix2 r l) : S16384x1024.Idx) = ix2 (at' t r) l := by
    funext a
    match a with
    | ⟨0, _⟩ => exact Fin.ext (by show win0_5.index t (0 : Fin 2) * 256 + 1 * r.val = _; rw [(idx t).2.2.2.2.2.1]; show t.val * 256 + 1 * r.val = t.val * 256 + r.val; omega)
    | ⟨1, _⟩ => exact Fin.ext (by show win0_5.index t (1 : Fin 2) * 1024 + 1 * l.val = _; rw [(idx t).2.2.2.2.2.1]; show 0 * 1024 + 1 * l.val = l.val; omega)
  blk_simp
  rw [after0_5]
  refine Eq.trans ?_ ((point5 m c t r l).trans (congrArg (y m c) e0).symm)
  by_cases h : t.val % 64 = 0
  · rw [outsAt0_A m c t h]
    frame_out
  · rw [outsAt0_B m c t h]
    frame_out

theorem final6 : (dats m 0 c).arrAt 6 cfg0.N = d m c := by
  refine (dats m 0 c).arrAt_eq_of_covers 6 _ (by decide +kernel) fun t hf y => ?_
  obtain ⟨r, l, rfl⟩ : ∃ (r : Fin 256) (l : Fin 1024), y = ix2 r l := ⟨y 0, y 1, by funext a; match a with | ⟨0, _⟩ => rfl | ⟨1, _⟩ => rfl⟩
  have e0 : ((win0_6.blk t).view.emb (ix2 r l) : S16384x1024.Idx) = ix2 (at' t r) l := by
    funext a
    match a with
    | ⟨0, _⟩ => exact Fin.ext (by show win0_6.index t (0 : Fin 2) * 256 + 1 * r.val = _; rw [(idx t).2.2.2.2.2.2.1]; show t.val * 256 + 1 * r.val = t.val * 256 + r.val; omega)
    | ⟨1, _⟩ => exact Fin.ext (by show win0_6.index t (1 : Fin 2) * 1024 + 1 * l.val = _; rw [(idx t).2.2.2.2.2.2.1]; show 0 * 1024 + 1 * l.val = l.val; omega)
  blk_simp
  rw [after0_6]
  refine Eq.trans ?_ ((point6 m c t r l).trans (congrArg (d m c) e0).symm)
  by_cases h : t.val % 64 = 0
  · rw [outsAt0_A m c t h]
    frame_out
  · rw [outsAt0_B m c t h]
    frame_out

theorem final7 : (dats m 0 c).arrAt 7 cfg0.N = sq m c := by
  refine (dats m 0 c).arrAt_eq_of_covers 7 _ (by decide +kernel) fun t hf y => ?_
  obtain ⟨z, l, rfl⟩ : ∃ (z : Fin 1) (l : Fin 1024), y = ix2 z l := ⟨y 0, y 1, by funext a; match a with | ⟨0, _⟩ => rfl | ⟨1, _⟩ => rfl⟩
  have e0 : ((win0_7.blk t).view.emb (ix2 z l) : S1x1024.Idx) = ix2 0 l := by
    funext a
    match a with
    | ⟨0, _⟩ => exact Subsingleton.elim (α := Fin 1) _ _
    | ⟨1, _⟩ => exact Fin.ext (by show win0_7.index t (1 : Fin 2) * 1024 + 1 * l.val = _; rw [(idx t).2.2.2.2.2.2.2]; show 0 * 1024 + 1 * l.val = l.val; omega)
  obtain rfl : z = 0 := Subsingleton.elim _ _
  blk_simp
  rw [after0_7, Pipeline.eq_sum_fin_of_reset_step_apply_of_flush (fun n h => (outsAt0 m c n h).2.2) 64 (fun _ => 0)
    (fun p (j : S1x1024.Idx) => part m c p (j 1))
    (fun t h j => by
      obtain ⟨z, l, rfl⟩ : ∃ (z : Fin 1) (l : Fin 1024), j = ix2 z l := ⟨j 0, j 1, by funext a; match a with | ⟨0, _⟩ => rfl | ⟨1, _⟩ => rfl⟩
      obtain rfl : z = 0 := Subsingleton.elim _ _
      rw [outsAt0_A m c t h]; frame_out
      rw [point7 m c t, pay2_at]; rfl)
    (fun t h j => by
      obtain ⟨z, l, rfl⟩ : ∃ (z : Fin 1) (l : Fin 1024), j = ix2 z l := ⟨j 0, j 1, by funext a; match a with | ⟨0, _⟩ => rfl | ⟨1, _⟩ => rfl⟩
      obtain rfl : z = 0 := Subsingleton.elim _ _
      rw [outsAt0_B m c t h]; frame_out
      exact point7 m c t _ l)
    t ((flush0_7 t).mp hf) _, zero_add]
  refine Eq.trans ?_ (congrArg (sq m c) e0).symm
  have ht : t.val / 64 = 0 := by have := lt t; omega
  refine Fin.sum_mul_add_congr (S := 64) (n := 256) fun s k hl => ?_
  refine congrArg (sqAt (Z m c) (W m c) (X m c) (G m c) (Tg m c) l) (Fin.ext ?_)
  show (64 * (t.val / 64) + s.val) * 256 + k.val = s.val * 256 + k.val
  rw [ht]; omega

end Kernel

section Reference

open Cert.LossRefIdeal Cert.LossRefIdeal.Gen Cert.LossRefIdeal.Value Idealize.ShloMosaic Idealize.ShloMosaic.TcCoe
open scoped BigOperators

variable (m : (ℓ : Loc nD τ sig) → Buf (Elt Ideal) ℓ) (c : Dev nD)

theorem bits_half : Ideal.ofBits .f32 0x3F000000#32 = ((1 / 2 : ℝ) : EReal) := by
  simp [Ideal.ofBits, Ideal.ieee]
  rw [← EReal.coe_mul]
  norm_num

theorem bits_two : Ideal.ofBits .f32 0x40000000#32 = ((2 : ℝ) : EReal) := by
  simp [Ideal.ofBits, Ideal.ieee]
  rw [← EReal.coe_mul]
  norm_num

theorem bits_part : Ideal.ofBits .f32 0x3A800000#32 = ((1 / 1024 : ℝ) : EReal) := by
  simp [Ideal.ofBits, Ideal.ieee]
  rw [← EReal.coe_mul]
  norm_num

/-- Half of twice a difference over 1024 is its product with the 1024th. -/
theorem const_eq (e : EReal) : Ideal.div (Ideal.ofBits .f32 0x3F000000#32) (Ideal.ofBits .f32 0x44800000#32)
    * (Ideal.ofBits .f32 0x40000000#32 * e) = e * Ideal.ofBits .f32 0x3A800000#32 := by
  rw [bits_half, bits_two, bits_part, Norm.bits_size, Ideal.div_coe (by norm_num), ← EReal.coe_mul, ← mul_assoc, ← EReal.coe_mul,
    mul_comm]
  norm_num

/-- The reference's array. -/
abbrev ref_y : FVec Ideal S16384x1024 .f32 :=
  Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32)

theorem ref_y_at (r : Fin 16384) (l : Fin 1024) : ref_y m c (ix2 r l) = yAt (m ((c.tc : Thread nD τ).loc main_arg0)) (m ((c.tc : Thread nD τ).loc main_arg1)) r l := by
  pointwise [ref_y]

/-- The reference's array. -/
abbrev ref_d : FVec Ideal S16384x1024 .f32 :=
  mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) (subf (addf (m ((c.tc : Thread nD τ).loc main_arg2)) (mulf (mulf (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32)) (broadcastInDim S16384x1024 ![0, 1] bcast_S16384x1_S16384x1024_0_1 (Host.rsqrt (addf (Host.divf (broadcastInDim S16384x1 ![0] bcast_S16384_S16384x1_0 (Host.reduceAdd (mulf (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32)) (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg3))))) (m ((c.tc : Thread nD τ).loc main_arg4))))

theorem ref_d_at (r : Fin 16384) (l : Fin 1024) : ref_d m c (ix2 r l) = dAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r l := by
  pointwise [ref_d]
  exact const_eq _

/-- The reference's array. -/
abbrev ref_sq : FVec Ideal S1x1024 .f32 :=
  broadcastInDim S1x1024 ![1] bcast_S1024_S1x1024_1 (Host.reduceAdd (mulf (subf (addf (m ((c.tc : Thread nD τ).loc main_arg2)) (mulf (mulf (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32)) (broadcastInDim S16384x1024 ![0, 1] bcast_S16384x1_S16384x1024_0_1 (Host.rsqrt (addf (Host.divf (broadcastInDim S16384x1 ![0] bcast_S16384_S16384x1_0 (Host.reduceAdd (mulf (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32)) (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg3))))) (m ((c.tc : Thread nD τ).loc main_arg4))) (subf (addf (m ((c.tc : Thread nD τ).loc main_arg2)) (mulf (mulf (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32)) (broadcastInDim S16384x1024 ![0, 1] bcast_S16384x1_S16384x1024_0_1 (Host.rsqrt (addf (Host.divf (broadcastInDim S16384x1 ![0] bcast_S16384_S16384x1_0 (Host.reduceAdd (mulf (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32)) (Host.dotGeneral dot_S16384x2816_S2816x1024_S16384x1024_1_0_0_1_n_n none (extf .f32 (m ((c.tc : Thread nD τ).loc main_arg0)) bitsLt_bf16_f32) (extf .f32 (m ((c.tc : Thread nD τ).loc main_arg1)) bitsLt_bf16_f32))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg3))))) (m ((c.tc : Thread nD τ).loc main_arg4)))) (constant S_ .f32 0x00000000#32) reducesTo_S16384x1024_S1024_d0 h_S_)

theorem ref_sq_at (l : Fin 1024) : ref_sq m c (ix2 0 l) = ∑ r : Fin 16384, sqAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) l r := by
  pointwise [ref_sq]

end Reference

open Cert.LossIdeal Cert.LossIdeal.Gen Idealize.ShloMosaic Idealize.ShloMosaic.TcCoe

/-- The reference's arrays are the kernel's, from arguments that agree. -/
theorem agree (m : (ℓ : Loc nD τ sig) → Buf (Elt Ideal) ℓ) (c : Dev nD)
    {m' : (ℓ : Loc Cert.LossRefIdeal.nD Cert.LossRefIdeal.τ Cert.LossRefIdeal.sig) → Buf (Elt Ideal) ℓ} {c' : Dev Cert.LossRefIdeal.nD}
    (e0 : (m' ((c'.tc : Thread Cert.LossRefIdeal.nD Cert.LossRefIdeal.τ).loc Cert.LossRefIdeal.main_arg0) : FVec Ideal S16384x2816 .bf16) = Z m c)
    (e1 : (m' ((c'.tc : Thread Cert.LossRefIdeal.nD Cert.LossRefIdeal.τ).loc Cert.LossRefIdeal.main_arg1) : FVec Ideal S2816x1024 .bf16) = W m c)
    (e2 : (m' ((c'.tc : Thread Cert.LossRefIdeal.nD Cert.LossRefIdeal.τ).loc Cert.LossRefIdeal.main_arg2) : FVec Ideal S16384x1024 .f32) = X m c)
    (e3 : (m' ((c'.tc : Thread Cert.LossRefIdeal.nD Cert.LossRefIdeal.τ).loc Cert.LossRefIdeal.main_arg3) : FVec Ideal S1x1024 .f32) = G m c)
    (e4 : (m' ((c'.tc : Thread Cert.LossRefIdeal.nD Cert.LossRefIdeal.τ).loc Cert.LossRefIdeal.main_arg4) : FVec Ideal S16384x1024 .f32) = Tg m c) :
    @Eq (FVec Ideal S16384x1024 .f32) (ref_y m' c') (y m c) ∧ @Eq (FVec Ideal S16384x1024 .f32) (ref_d m' c') (d m c) ∧ @Eq (FVec Ideal S1x1024 .f32) (ref_sq m' c') (sq m c) := by
  refine ⟨?_, ?_, ?_⟩
  · funext i
    obtain ⟨r, l, rfl⟩ : ∃ (r : Fin 16384) (l : Fin 1024), i = ix2 r l := ⟨i 0, i 1, by funext a; match a with | ⟨0, _⟩ => rfl | ⟨1, _⟩ => rfl⟩
    refine (ref_y_at m' c' r l).trans ?_
    rw [e0, e1]
    rfl
  · funext i
    obtain ⟨r, l, rfl⟩ : ∃ (r : Fin 16384) (l : Fin 1024), i = ix2 r l := ⟨i 0, i 1, by funext a; match a with | ⟨0, _⟩ => rfl | ⟨1, _⟩ => rfl⟩
    refine (ref_d_at m' c' r l).trans ?_
    rw [e0, e1, e2, e3, e4]
    rfl
  · funext i
    obtain ⟨r, l, rfl⟩ : ∃ (r : Fin 1) (l : Fin 1024), i = ix2 r l := ⟨i 0, i 1, by funext a; match a with | ⟨0, _⟩ => rfl | ⟨1, _⟩ => rfl⟩
    obtain rfl : r = 0 := Subsingleton.elim _ _
    refine (ref_sq_at m' c' l).trans ?_
    rw [e0, e1, e2, e3, e4]
    rfl

end Cert.Loss

end
-- ==== Proof.ActValue.lean ====
/- The backward pass through the feed-forward layer's last norm, its last product and its gate: the kernel's four arrays and the derivative's. -/
module

public import proofs.«01_k».proof.Proof.Norm
public import proofs.«01_k».proof.Proof.Gen.ActIdeal.Value
public import proofs.«01_k».proof.Proof.Gen.ActRefIdeal.Run
public import Idealize.ShloMosaic.Lib.Pointwise
public import Idealize.ShloMosaic.Lib.Pipeline.ValueKit

@[expose] public section

set_option maxRecDepth 16384

noncomputable section

namespace Cert.Act

section Kernel

open Cert.ActIdeal Cert.ActIdeal.Gen Cert.ActIdeal.Value Idealize.ShloMosaic Idealize.ShloMosaic.TcCoe
open scoped BigOperators

variable (m : (ℓ : Loc nD τ sig) → Buf (Elt Ideal) ℓ) (c : Dev nD)

/-- The arguments: the output's cotangent, the product, the norm's weight, the weight's transpose, the gate's and the up branch's values. -/
abbrev D : FVec Ideal S16384x1024 .f32 := m ((c : Thread nD τ).loc main_arg0)
abbrev Y : FVec Ideal S16384x1024 .f32 := m ((c : Thread nD τ).loc main_arg1)
abbrev G : FVec Ideal S1x1024 .f32 := m ((c : Thread nD τ).loc main_arg2)
abbrev W : FVec Ideal S1024x2816 .bf16 := m ((c : Thread nD τ).loc main_arg3)
abbrev A : FVec Ideal S16384x2816 .bf16 := m ((c : Thread nD τ).loc main_arg4)
abbrev U : FVec Ideal S16384x2816 .bf16 := m ((c : Thread nD τ).loc main_arg5)

/-- One row of the product. -/
abbrev row (y : FVec Ideal S16384x1024 .f32) (r : Fin 16384) (p : Fin 1024) : EReal := y (ix2 r p)

/-- The cotangents of the product, of the gated values, of the gate and of the up branch; a row's part of the norm weight's gradient. -/
abbrev dyAt (d y : FVec Ideal S16384x1024 .f32) (g : FVec Ideal S1x1024 .f32) (r : Fin 16384) (l : Fin 1024) : EReal :=
  Norm.grad (row y r) (fun p => d (ix2 r p) * g (ix2 0 p)) l
abbrev dzAt (d y : FVec Ideal S16384x1024 .f32) (g : FVec Ideal S1x1024 .f32) (w : FVec Ideal S1024x2816 .bf16) (r : Fin 16384) (l : Fin 2816) : EReal :=
  ∑ k : Fin 1024, dyAt d y g r k * w (ix2 k l)
abbrev slope (a : EReal) : EReal := Ideal.logistic a * (1 + a * (1 - Ideal.logistic a))
abbrev daAt (d y : FVec Ideal S16384x1024 .f32) (g : FVec Ideal S1x1024 .f32) (w : FVec Ideal S1024x2816 .bf16) (a u : FVec Ideal S16384x2816 .bf16) (r : Fin 16384) (l : Fin 2816) : EReal :=
  dzAt d y g w r l * u (ix2 r l) * slope (a (ix2 r l))
abbrev duAt (d y : FVec Ideal S16384x1024 .f32) (g : FVec Ideal S1x1024 .f32) (w : FVec Ideal S1024x2816 .bf16) (a : FVec Ideal S16384x2816 .bf16) (r : Fin 16384) (l : Fin 2816) : EReal :=
  dzAt d y g w r l * (a (ix2 r l) * Ideal.logistic (a (ix2 r l)))
abbrev dgRow (d y : FVec Ideal S16384x1024 .f32) (l : Fin 1024) (r : Fin 16384) : EReal :=
  d (ix2 r l) * (y (ix2 r l) * Ideal.rsqrt (Norm.mean (row y r)))

/-- The blocks' places: the rows' blocks follow the point, the others stay. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] :=
  (by decide +kernel : ∀ t : Fin grid0.N, _)

theorem lt (t : Fin cfg0.N) : t.val < 64 := lt_of_lt_of_eq t.isLt (show cfg0.N = 64 from N_0)

/-- Row `r` of point `t`'s block. -/
abbrev at' (t : Fin cfg0.N) (r : Fin 256) : Fin 16384 := ⟨t.val * 256 + r.val, by have := lt t; have := r.isLt; omega⟩

theorem D_at (t : Fin cfg0.N) (r : Fin 256) (k : Fin 1024) :
    (iblk m c 0 t : FVec Ideal S256x1024 .f32) (ix2 r k) = D m c (ix2 (at' t r) k) := by
  blk_ext [iblk, V, idx t]

theorem Y_at (t : Fin cfg0.N) (r : Fin 256) (k : Fin 1024) :
    (iblk m c 1 t : FVec Ideal S256x1024 .f32) (ix2 r k) = Y m c (ix2 (at' t r) k) := by
  blk_ext [iblk, V, idx t]

theorem G_at (t : Fin cfg0.N) (k : Fin 1024) : (iblk m c 2 t : FVec Ideal S1x1024 .f32) (ix2 0 k) = G m c (ix2 0 k) := by
  blk_ext [iblk, V, idx t]

theorem W_at (t : Fin cfg0.N) (r : Fin 1024) (k : Fin 2816) :
    (iblk m c 3 t : FVec Ideal S1024x2816 .bf16) (ix2 r k) = W m c (ix2 r k) := by
  blk_ext [iblk, V, idx t]

theorem A_at (t : Fin cfg0.N) (r : Fin 256) (k : Fin 2816) :
    (iblk m c 4 t : FVec Ideal S256x2816 .bf16) (ix2 r k) = A m c (ix2 (at' t r) k) := by
  blk_ext [iblk, V, idx t]

theorem U_at (t : Fin cfg0.N) (r : Fin 256) (k : Fin 2816) :
    (iblk m c 5 t : FVec Ideal S256x2816 .bf16) (ix2 r k) = U m c (ix2 (at' t r) k) := by
  blk_ext [iblk, V, idx t]

theorem pay10_at (d y : Vec Ideal S256x1024 .f32) (g : Vec Ideal S1x1024 .f32) (r : Fin 256) (l : Fin 1024) : k0_pay10 y g d (ix2 r l) = Norm.grad (fun p => y (ix2 r p)) (fun p => d (ix2 r p) * g (ix2 0 p)) l := by
  pointwise [k0_pay10, k0_pay8, k0_pay7]

theorem pay4_at (b : FVec Ideal S256x1024 .bf16) (w : Vec Ideal S1024x2816 .bf16) (a u : Vec Ideal S256x2816 .bf16) (r : Fin 256) (l : Fin 2816) :
    k0_pay4 b w a u (ix2 r l) = (∑ k : Fin 1024, b (ix2 r k) * w (ix2 k l) : EReal) * u (ix2 r l) * slope (a (ix2 r l)) := by
  pointwise [k0_pay4, k0_pay1, k0_pay2, k0_pay3]

theorem pay5_at (b : FVec Ideal S256x1024 .bf16) (w : Vec Ideal S1024x2816 .bf16) (a : Vec Ideal S256x2816 .bf16) (r : Fin 256) (l : Fin 2816) :
    k0_pay5 b w a (ix2 r l) = (∑ k : Fin 1024, b (ix2 r k) * w (ix2 k l) : EReal) * (a (ix2 r l) * Ideal.logistic (a (ix2 r l))) := by
  pointwise [k0_pay5, k0_pay1, k0_pay2, k0_pay3]

theorem pay9_at (d y : Vec Ideal S256x1024 .f32) (acc : Vec Ideal S1x1024 .f32) (l : Fin 1024) :
    k0_pay9 y d acc (ix2 0 l) = acc (ix2 0 l)
      + ∑ r : Fin 256, (d (ix2 r l) * (y (ix2 r l) * Ideal.rsqrt (Norm.mean fun p => y (ix2 r p))) : EReal) := by
  pointwise [k0_pay9, k0_pay8, k0_pay7]

theorem pay6_at (l : Fin 1024) : k0_pay6 (F := Ideal) (ix2 0 l) = 0 := by
  pointwise [k0_pay6]

theorem point6 (t : Fin cfg0.N) (r : Fin 256) (l : Fin 1024) :
    k0_pay10 (iblk m c 1 t) (iblk m c 2 t) (iblk m c 0 t) (ix2 r l) = dyAt (D m c) (Y m c) (G m c) (at' t r) l := by
  rw [pay10_at]
  simp only [D_at, Y_at, G_at]

theorem point7 (t : Fin cfg0.N) (r : Fin 256) (l : Fin 2816) :
    k0_pay4 (k0_pay10 (iblk m c 1 t) (iblk m c 2 t) (iblk m c 0 t)) (iblk m c 3 t) (iblk m c 4 t) (iblk m c 5 t) (ix2 r l)
      = daAt (D m c) (Y m c) (G m c) (W m c) (A m c) (U m c) (at' t r) l := by
  rw [pay4_at]
  simp only [point6, W_at, A_at, U_at]

theorem point8 (t : Fin cfg0.N) (r : Fin 256) (l : Fin 2816) :
    k0_pay5 (k0_pay10 (iblk m c 1 t) (iblk m c 2 t) (iblk m c 0 t)) (iblk m c 3 t) (iblk m c 4 t) (ix2 r l)
      = duAt (D m c) (Y m c) (G m c) (W m c) (A m c) (at' t r) l := by
  rw [pay5_at]
  simp only [point6, W_at, A_at]

/-- What point `t` adds to the norm weight's gradient. -/
abbrev part (t : Fin cfg0.N) (l : Fin 1024) : EReal := ∑ r : Fin 256, dgRow (D m c) (Y m c) l (at' t r)

theorem point9 (t : Fin cfg0.N) (acc : Vec Ideal S1x1024 .f32) (l : Fin 1024) :
    k0_pay9 (iblk m c 1 t) (iblk m c 0 t) acc (ix2 0 l) = acc (ix2 0 l) + part m c t l := by
  rw [pay9_at]
  simp only [D_at, Y_at]

/-- The four arrays. -/
def dy : FVec Ideal S16384x1024 .bf16 := fun i => dyAt (D m c) (Y m c) (G m c) (i 0) (i 1)
def da : FVec Ideal S16384x2816 .bf16 := fun i => daAt (D m c) (Y m c) (G m c) (W m c) (A m c) (U m c) (i 0) (i 1)
def du : FVec Ideal S16384x2816 .bf16 := fun i => duAt (D m c) (Y m c) (G m c) (W m c) (A m c) (i 0) (i 1)
def dg : FVec Ideal S1x1024 .f32 := fun i => ∑ r : Fin 16384, dgRow (D m c) (Y m c) (i 1) r

theorem final6 : (dats m 0 c).arrAt 6 cfg0.N = dy m c := by
  refine (dats m 0 c).arrAt_eq_of_covers 6 _ (by decide +kernel) fun t hf y => ?_
  obtain ⟨r, l, rfl⟩ : ∃ (r : Fin 256) (l : Fin 1024), y = ix2 r l := ⟨y 0, y 1, by funext a; match a with | ⟨0, _⟩ => rfl | ⟨1, _⟩ => rfl⟩
  have e0 : ((win0_6.blk t).view.emb (ix2 r l) : S16384x1024.Idx) = ix2 (at' t r) l := by
    funext a
    match a with
    | ⟨0, _⟩ => exact Fin.ext (by show win0_6.index t (0 : Fin 2) * 256 + 1 * r.val = _; rw [(idx t).2.2.2.2.2.2.1]; show t.val * 256 + 1 * r.val = t.val * 256 + r.val; omega)
    | ⟨1, _⟩ => exact Fin.ext (by show win0_6.index t (1 : Fin 2) * 1024 + 1 * l.val = _; rw [(idx t).2.2.2.2.2.2.1]; show 0 * 1024 + 1 * l.val = l.val; omega)
  blk_simp
  rw [after0_6]
  refine Eq.trans ?_ ((point6 m c t r l).trans (congrArg (dy m c) e0).symm)
  by_cases h : t.val % 64 = 0
  · rw [outsAt0_A m c t h]
    frame_out
  · rw [outsAt0_B m c t h]
    frame_out

theorem final7 : (dats m 0 c).arrAt 7 cfg0.N = da m c := by
  refine (dats m 0 c).arrAt_eq_of_covers 7 _ (by decide +kernel) fun t hf y => ?_
  obtain ⟨r, l, rfl⟩ : ∃ (r : Fin 256) (l : Fin 2816), y = ix2 r l := ⟨y 0, y 1, by funext a; match a with | ⟨0, _⟩ => rfl | ⟨1, _⟩ => rfl⟩
  have e0 : ((win0_7.blk t).view.emb (ix2 r l) : S16384x2816.Idx) = ix2 (at' t r) l := by
    funext a
    match a with
    | ⟨0, _⟩ => exact Fin.ext (by show win0_7.index t (0 : Fin 2) * 256 + 1 * r.val = _; rw [(idx t).2.2.2.2.2.2.2.1]; show t.val * 256 + 1 * r.val = t.val * 256 + r.val; omega)
    | ⟨1, _⟩ => exact Fin.ext (by show win0_7.index t (1 : Fin 2) * 2816 + 1 * l.val = _; rw [(idx t).2.2.2.2.2.2.2.1]; show 0 * 2816 + 1 * l.val = l.val; omega)
  blk_simp
  rw [after0_7]
  refine Eq.trans ?_ ((point7 m c t r l).trans (congrArg (da m c) e0).symm)
  by_cases h : t.val % 64 = 0
  · rw [outsAt0_A m c t h]
    frame_out
  · rw [outsAt0_B m c t h]
    frame_out

theorem final8 : (dats m 0 c).arrAt 8 cfg0.N = du m c := by
  refine (dats m 0 c).arrAt_eq_of_covers 8 _ (by decide +kernel) fun t hf y => ?_
  obtain ⟨r, l, rfl⟩ : ∃ (r : Fin 256) (l : Fin 2816), y = ix2 r l := ⟨y 0, y 1, by funext a; match a with | ⟨0, _⟩ => rfl | ⟨1, _⟩ => rfl⟩
  have e0 : ((win0_8.blk t).view.emb (ix2 r l) : S16384x2816.Idx) = ix2 (at' t r) l := by
    funext a
    match a with
    | ⟨0, _⟩ => exact Fin.ext (by show win0_8.index t (0 : Fin 2) * 256 + 1 * r.val = _; rw [(idx t).2.2.2.2.2.2.2.2.1]; show t.val * 256 + 1 * r.val = t.val * 256 + r.val; omega)
    | ⟨1, _⟩ => exact Fin.ext (by show win0_8.index t (1 : Fin 2) * 2816 + 1 * l.val = _; rw [(idx t).2.2.2.2.2.2.2.2.1]; show 0 * 2816 + 1 * l.val = l.val; omega)
  blk_simp
  rw [after0_8]
  refine Eq.trans ?_ ((point8 m c t r l).trans (congrArg (du m c) e0).symm)
  by_cases h : t.val % 64 = 0
  · rw [outsAt0_A m c t h]
    frame_out
  · rw [outsAt0_B m c t h]
    frame_out

theorem final9 : (dats m 0 c).arrAt 9 cfg0.N = dg m c := by
  refine (dats m 0 c).arrAt_eq_of_covers 9 _ (by decide +kernel) fun t hf y => ?_
  obtain ⟨z, l, rfl⟩ : ∃ (z : Fin 1) (l : Fin 1024), y = ix2 z l := ⟨y 0, y 1, by funext a; match a with | ⟨0, _⟩ => rfl | ⟨1, _⟩ => rfl⟩
  have e0 : ((win0_9.blk t).view.emb (ix2 z l) : S1x1024.Idx) = ix2 0 l := by
    funext a
    match a with
    | ⟨0, _⟩ => exact Subsingleton.elim (α := Fin 1) _ _
    | ⟨1, _⟩ => exact Fin.ext (by show win0_9.index t (1 : Fin 2) * 1024 + 1 * l.val = _; rw [(idx t).2.2.2.2.2.2.2.2.2]; show 0 * 1024 + 1 * l.val = l.val; omega)
  obtain rfl : z = 0 := Subsingleton.elim _ _
  blk_simp
  rw [after0_9, Pipeline.eq_sum_fin_of_reset_step_apply_of_flush (fun n h => (outsAt0 m c n h).2.2.2) 64 (fun _ => 0)
    (fun p (j : S1x1024.Idx) => part m c p (j 1))
    (fun t h j => by
      obtain ⟨z, l, rfl⟩ : ∃ (z : Fin 1) (l : Fin 1024), j = ix2 z l := ⟨j 0, j 1, by funext a; match a with | ⟨0, _⟩ => rfl | ⟨1, _⟩ => rfl⟩
      obtain rfl : z = 0 := Subsingleton.elim _ _
      rw [outsAt0_A m c t h]; frame_out
      rw [point9 m c t, pay6_at]; rfl)
    (fun t h j => by
      obtain ⟨z, l, rfl⟩ : ∃ (z : Fin 1) (l : Fin 1024), j = ix2 z l := ⟨j 0, j 1, by funext a; match a with | ⟨0, _⟩ => rfl | ⟨1, _⟩ => rfl⟩
      obtain rfl : z = 0 := Subsingleton.elim _ _
      rw [outsAt0_B m c t h]; frame_out
      exact point9 m c t _ l)
    t ((flush0_9 t).mp hf) _, zero_add]
  refine Eq.trans ?_ (congrArg (dg m c) e0).symm
  have ht : t.val / 64 = 0 := by have := lt t; omega
  refine Fin.sum_mul_add_congr (S := 64) (n := 256) fun s k hl => ?_
  refine congrArg (dgRow (D m c) (Y m c) l) (Fin.ext ?_)
  show (64 * (t.val / 64) + s.val) * 256 + k.val = s.val * 256 + k.val
  rw [ht]; omega

end Kernel

section Reference

open Cert.ActRefIdeal Cert.ActRefIdeal.Gen Cert.ActRefIdeal.Value Idealize.ShloMosaic Idealize.ShloMosaic.TcCoe
open scoped BigOperators

variable (m : (ℓ : Loc nD τ sig) → Buf (Elt Ideal) ℓ) (c : Dev nD)

/-- The gate's derivative by the product rule, at a real cotangent, is its closed form. -/
theorem slope_eq (e a : EReal) (h : ∃ r : ℝ, e = ((r : ℝ) : EReal)) :
    e * Ideal.div 1 (1 + Ideal.exp (-a)) + a * e * (Ideal.div 1 (1 + Ideal.exp (-a)) * (1 - Ideal.div 1 (1 + Ideal.exp (-a))))
      = e * slope a := by
  obtain ⟨E, rfl⟩ := h
  have hs : ∀ b, Ideal.logistic b = Ideal.div 1 (1 + Ideal.exp (-b)) := fun _ => rfl
  unfold slope
  rw [hs]
  induction a with
  | bot =>
    have e1 : Ideal.div 1 (1 + Ideal.exp (-(⊥ : EReal))) = 0 := by
      have e0 : Ideal.exp (-(⊥ : EReal)) = ⊤ := by rw [EReal.neg_bot]; rfl
      have e2 : (1 : EReal) + ⊤ = ⊤ := by rw [← EReal.coe_one]; exact EReal.coe_add_top _
      rw [e0, e2]; simp [Ideal.div]
    rw [e1]; simp
  | top =>
    have e1 : Ideal.div 1 (1 + Ideal.exp (-(⊤ : EReal))) = 1 := by
      have : Ideal.exp (-(⊤ : EReal)) = 0 := by rw [EReal.neg_top]; rfl
      rw [this, add_zero, ← EReal.coe_one, Ideal.div_coe one_ne_zero, ← EReal.coe_mul]; norm_num
    have e2 : (1 : EReal) - 1 = 0 := by rw [← EReal.coe_one, ← EReal.coe_sub]; norm_num
    rw [e1, e2]; simp
  | coe r =>
    have e0 : Ideal.exp (-((r : ℝ) : EReal)) = ((Real.exp (-r) : ℝ) : EReal) := by rw [← EReal.coe_neg]; rfl
    have e1 : Ideal.div 1 (1 + Ideal.exp (-((r : ℝ) : EReal))) = ((1 / (1 + Real.exp (-r)) : ℝ) : EReal) := by
      have hp : 1 + Real.exp (-r) ≠ 0 := by positivity
      rw [e0, ← EReal.coe_one, ← EReal.coe_add, Ideal.div_coe hp, ← EReal.coe_mul, one_mul]
    rw [e1, ← EReal.coe_one]
    generalize 1 / (1 + Real.exp (-r)) = s
    simp only [← EReal.coe_mul, ← EReal.coe_sub, ← EReal.coe_add]
    congr 1
    ring

/-- Real arrays of cotangents, norm weights and weights give a real cotangent of the gated values. -/
theorem dz_real (d y : FVec Ideal S16384x1024 .f32) (g : FVec Ideal S1x1024 .f32) (w : FVec Ideal S1024x2816 .bf16)
    (hd : ∀ i, ∃ e : ℝ, d i = ((e : ℝ) : EReal)) (hg : ∀ i, ∃ e : ℝ, g i = ((e : ℝ) : EReal))
    (hw : ∀ i, ∃ e : ℝ, w i = ((e : ℝ) : EReal)) (r : Fin 16384) (l : Fin 2816) :
    ∃ e : ℝ, dzAt d y g w r l = ((e : ℝ) : EReal) := by
  have hy : ∀ k, ∃ e : ℝ, dyAt d y g r k = ((e : ℝ) : EReal) := fun k => Norm.grad_real _ (fun p => by
    obtain ⟨a, ha⟩ := hd (ix2 r p)
    obtain ⟨b, hb⟩ := hg (ix2 0 p)
    exact ⟨a * b, by rw [ha, hb, EReal.coe_mul]⟩) k
  choose Y hY using hy
  choose W hW using fun k => hw (ix2 k l)
  refine ⟨∑ k, Y k * W k, ?_⟩
  unfold dzAt
  rw [← Norm.coe_sum]
  exact Finset.sum_congr rfl fun k _ => by rw [hY, hW, EReal.coe_mul]

/-- The reference's arrays. -/
abbrev ref_dy : FVec Ideal S16384x1024 .bf16 :=
  truncf .bf16 (addf (addf (mulf (mulf (m ((c.tc : Thread nD τ).loc main_arg0)) (broadcastInDim S16384x1024 ![0, 1] bcast_S1x1024_S16384x1024_0_1 (m ((c.tc : Thread nD τ).loc main_arg2)))) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg1)) (m ((c.tc : Thread nD τ).loc main_arg1))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf (m ((c.tc : Thread nD τ).loc main_arg1)) (broadcastInDim S16384x1024 ![0] bcast_S16384_S16384x1024_0 (Host.reduceAdd (Host.divf (mulf (shapeCast _ (Host.reduceAdd (mulf (m ((c.tc : Thread nD τ).loc main_arg1)) (mulf (m ((c.tc : Thread nD τ).loc main_arg0)) (broadcastInDim S16384x1024 ![0, 1] bcast_S1x1024_S16384x1024_0_1 (m ((c.tc : Thread nD τ).loc main_arg2))))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (m ((c.tc : Thread nD τ).loc main_arg1)) (m ((c.tc : Thread nD τ).loc main_arg1))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (m ((c.tc : Thread nD τ).loc main_arg1)) (m ((c.tc : Thread nD τ).loc main_arg1))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast _ (Host.reduceAdd (mulf (m ((c.tc : Thread nD τ).loc main_arg1)) (mulf (m ((c.tc : Thread nD τ).loc main_arg0)) (broadcastInDim S16384x1024 ![0, 1] bcast_S1x1024_S16384x1024_0_1 (m ((c.tc : Thread nD τ).loc main_arg2))))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (m ((c.tc : Thread nD τ).loc main_arg1)) (m ((c.tc : Thread nD τ).loc main_arg1))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (m ((c.tc : Thread nD τ).loc main_arg1)) (m ((c.tc : Thread nD τ).loc main_arg1))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) (m ((c.tc : Thread nD τ).loc main_arg1)))) bitsLt_bf16_f32
abbrev ref_da : FVec Ideal S16384x2816 .bf16 := res_main_v46 m c
abbrev ref_du : FVec Ideal S16384x2816 .bf16 := res_main_v47 m c
abbrev ref_dg : FVec Ideal S1x1024 .f32 :=
  shapeCast _ (Host.reduceAdd (mulf (mulf (m ((c.tc : Thread nD τ).loc main_arg1)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg1)) (m ((c.tc : Thread nD τ).loc main_arg1))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (m ((c.tc : Thread nD τ).loc main_arg0))) (constant S_ .f32 0x00000000#32) reducesTo_S16384x1024_S1024_d0 h_S_) shapeCasts_S1024_S1x1024

theorem ref_dy_at (r : Fin 16384) (l : Fin 1024) : ref_dy m c (ix2 r l) = dyAt (m ((c.tc : Thread nD τ).loc main_arg0)) (m ((c.tc : Thread nD τ).loc main_arg1)) (m ((c.tc : Thread nD τ).loc main_arg2)) r l := by
  unfold dyAt
  rw [Norm.grad_eq]
  pointwise [ref_dy]
  simp only [Finset.univ_unique, Finset.sum_singleton]

theorem ref_dg_at (l : Fin 1024) : ref_dg m c (ix2 0 l) = ∑ r : Fin 16384, dgRow (m ((c.tc : Thread nD τ).loc main_arg0)) (m ((c.tc : Thread nD τ).loc main_arg1)) l r := by
  pointwise [ref_dg]
  exact Finset.sum_congr rfl fun r _ => mul_comm _ _

theorem ref_du_at (r : Fin 16384) (l : Fin 2816) : ref_du m c (ix2 r l) = duAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r l := by
  unfold duAt dzAt dyAt
  simp only [Norm.grad_eq]
  pointwise [ref_du, res_main_v47]
  simp only [Finset.univ_unique, Finset.sum_singleton]
  exact mul_comm _ _

theorem ref_da_at
    (hd : ∀ i, ∃ e : ℝ, ((m ((c.tc : Thread nD τ).loc main_arg0)) : FVec Ideal S16384x1024 .f32) i = ((e : ℝ) : EReal))
    (hg : ∀ i, ∃ e : ℝ, ((m ((c.tc : Thread nD τ).loc main_arg2)) : FVec Ideal S1x1024 .f32) i = ((e : ℝ) : EReal))
    (hw : ∀ i, ∃ e : ℝ, ((m ((c.tc : Thread nD τ).loc main_arg3)) : FVec Ideal S1024x2816 .bf16) i = ((e : ℝ) : EReal))
    (hu : ∀ i, ∃ e : ℝ, ((m ((c.tc : Thread nD τ).loc main_arg5)) : FVec Ideal S16384x2816 .bf16) i = ((e : ℝ) : EReal))
    (r : Fin 16384) (l : Fin 2816) : ref_da m c (ix2 r l) = daAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r l := by
  obtain ⟨a, ha⟩ := dz_real (m ((c.tc : Thread nD τ).loc main_arg0)) (m ((c.tc : Thread nD τ).loc main_arg1)) (m ((c.tc : Thread nD τ).loc main_arg2)) (m ((c.tc : Thread nD τ).loc main_arg3)) hd hg hw r l
  obtain ⟨b, hb⟩ := hu (ix2 r l)
  have h : ∃ e : ℝ, (show EReal from dzAt (m ((c.tc : Thread nD τ).loc main_arg0)) (m ((c.tc : Thread nD τ).loc main_arg1)) (m ((c.tc : Thread nD τ).loc main_arg2)) (m ((c.tc : Thread nD τ).loc main_arg3)) r l)
      * ((m ((c.tc : Thread nD τ).loc main_arg5)) : FVec Ideal S16384x2816 .bf16) (ix2 r l) = ((e : ℝ) : EReal) :=
    ⟨a * b, by rw [hb, EReal.coe_mul, ← ha]⟩
  unfold daAt
  unfold dzAt dyAt at h ⊢
  simp only [Norm.grad_eq] at h ⊢
  pointwise [ref_da, res_main_v46]
  simp only [Finset.univ_unique, Finset.sum_singleton]
  exact slope_eq _ _ h

end Reference

open Cert.ActIdeal Cert.ActIdeal.Gen Idealize.ShloMosaic Idealize.ShloMosaic.TcCoe

/-- The reference's arrays are the kernel's, from arguments that agree. -/
theorem agree (m : (ℓ : Loc nD τ sig) → Buf (Elt Ideal) ℓ) (c : Dev nD)
    {m' : (ℓ : Loc Cert.ActRefIdeal.nD Cert.ActRefIdeal.τ Cert.ActRefIdeal.sig) → Buf (Elt Ideal) ℓ} {c' : Dev Cert.ActRefIdeal.nD}
    (e0 : (m' ((c'.tc : Thread Cert.ActRefIdeal.nD Cert.ActRefIdeal.τ).loc Cert.ActRefIdeal.main_arg0) : FVec Ideal S16384x1024 .f32) = D m c)
    (e1 : (m' ((c'.tc : Thread Cert.ActRefIdeal.nD Cert.ActRefIdeal.τ).loc Cert.ActRefIdeal.main_arg1) : FVec Ideal S16384x1024 .f32) = Y m c)
    (e2 : (m' ((c'.tc : Thread Cert.ActRefIdeal.nD Cert.ActRefIdeal.τ).loc Cert.ActRefIdeal.main_arg2) : FVec Ideal S1x1024 .f32) = G m c)
    (e3 : (m' ((c'.tc : Thread Cert.ActRefIdeal.nD Cert.ActRefIdeal.τ).loc Cert.ActRefIdeal.main_arg3) : FVec Ideal S1024x2816 .bf16) = W m c)
    (e4 : (m' ((c'.tc : Thread Cert.ActRefIdeal.nD Cert.ActRefIdeal.τ).loc Cert.ActRefIdeal.main_arg4) : FVec Ideal S16384x2816 .bf16) = A m c)
    (e5 : (m' ((c'.tc : Thread Cert.ActRefIdeal.nD Cert.ActRefIdeal.τ).loc Cert.ActRefIdeal.main_arg5) : FVec Ideal S16384x2816 .bf16) = U m c)
    (hd : ∀ i, ∃ e : ℝ, D m c i = ((e : ℝ) : EReal)) (hg : ∀ i, ∃ e : ℝ, G m c i = ((e : ℝ) : EReal))
    (hw : ∀ i, ∃ e : ℝ, W m c i = ((e : ℝ) : EReal)) (hu : ∀ i, ∃ e : ℝ, U m c i = ((e : ℝ) : EReal)) :
    @Eq (FVec Ideal S16384x1024 .bf16) (ref_dy m' c') (dy m c) ∧ @Eq (FVec Ideal S16384x2816 .bf16) (ref_da m' c') (da m c) ∧ @Eq (FVec Ideal S16384x2816 .bf16) (ref_du m' c') (du m c) ∧ @Eq (FVec Ideal S1x1024 .f32) (ref_dg m' c') (dg m c) := by
  refine ⟨?_, ?_, ?_, ?_⟩
  · funext i
    obtain ⟨r, l, rfl⟩ : ∃ (r : Fin 16384) (l : Fin 1024), i = ix2 r l := ⟨i 0, i 1, by funext a; match a with | ⟨0, _⟩ => rfl | ⟨1, _⟩ => rfl⟩
    refine (ref_dy_at m' c' r l).trans ?_
    rw [e0, e1, e2]
    rfl
  · funext i
    obtain ⟨r, l, rfl⟩ : ∃ (r : Fin 16384) (l : Fin 2816), i = ix2 r l := ⟨i 0, i 1, by funext a; match a with | ⟨0, _⟩ => rfl | ⟨1, _⟩ => rfl⟩
    refine (ref_da_at m' c' (by rw [e0]; exact hd) (by rw [e2]; exact hg) (by rw [e3]; exact hw) (by rw [e5]; exact hu) r l).trans ?_
    rw [e0, e1, e2, e3, e4, e5]
    rfl
  · funext i
    obtain ⟨r, l, rfl⟩ : ∃ (r : Fin 16384) (l : Fin 2816), i = ix2 r l := ⟨i 0, i 1, by funext a; match a with | ⟨0, _⟩ => rfl | ⟨1, _⟩ => rfl⟩
    refine (ref_du_at m' c' r l).trans ?_
    rw [e0, e1, e2, e3, e4]
    rfl
  · funext i
    obtain ⟨r, l, rfl⟩ : ∃ (r : Fin 1) (l : Fin 1024), i = ix2 r l := ⟨i 0, i 1, by funext a; match a with | ⟨0, _⟩ => rfl | ⟨1, _⟩ => rfl⟩
    obtain rfl : r = 0 := Subsingleton.elim _ _
    refine (ref_dg_at m' c' l).trans ?_
    rw [e0, e1]
    rfl

end Cert.Act

end
-- ==== Proof.ActArgs.lean ====
/- The precondition of the backward pass through the gate, read back: the four arrays it names hold real numbers. -/
module

public import proofs.«01_k».proof.Proof.Args
public import proofs.«01_k».proof.Proof.ActValue

@[expose] public section

noncomputable section

namespace Cert.Act

open Idealize.ShloMosaic Idealize.ShloMosaic.TcCoe

/-- The shape relations the precondition states. -/
theorem facts : Cert.Pre_act_finite.Facts where
  bcast_S_S16384x1024 := by decide
  reducesTo_S16384x1024_S_d0_1 := by decide
  h_S_ := by decide
  bcast_S_S1x1024 := by decide
  reducesTo_S1x1024_S_d0_1 := by decide
  bitsLt_bf16_f32 := by decide
  bcast_S_S1024x2816 := by decide
  reducesTo_S1024x2816_S_d0_1 := by decide
  bcast_S_S16384x2816 := by decide
  reducesTo_S16384x2816_S_d0_1 := by decide

open Cert.ActIdeal in
/-- The precondition gives real arrays. -/
theorem reals [Cert.Pre_act_finite.Facts] (m : (ℓ : Loc nD τ sig) → Buf (Elt Ideal) ℓ) (h : Cert.Pre_ActIdeal_act_finite m)
    (c : Dev nD) : (∀ i, ∃ e : ℝ, D m c i = ((e : ℝ) : EReal)) ∧ (∀ i, ∃ e : ℝ, G m c i = ((e : ℝ) : EReal))
      ∧ (∀ i, ∃ e : ℝ, W m c i = ((e : ℝ) : EReal)) ∧ (∀ i, ∃ e : ℝ, U m c i = ((e : ℝ) : EReal)) := by
  have h0 := congrFun (h c) (fun x => x.elim0)
  unfold Cert.Pre_act_finite.fn Cert.Pre_act_finite.fn_part1 at h0
  obtain ⟨h1, e3⟩ := IntOp.andi_eq_one.1 h0
  obtain ⟨h2, e2⟩ := IntOp.andi_eq_one.1 h1
  obtain ⟨e0, e1⟩ := IntOp.andi_eq_one.1 h2
  exact ⟨fun i => ⟨_, (Cert.Fox.Args.real_of_all (D m c) _ _ _ _ _ e0 i).symm⟩,
    fun i => ⟨_, (Cert.Fox.Args.real_of_all (G m c) _ _ _ _ _ e1 i).symm⟩,
    fun i => ⟨_, (Cert.Fox.Args.real_of_all (W m c) _ _ _ _ _ e2 i).symm⟩,
    fun i => ⟨_, (Cert.Fox.Args.real_of_all (U m c) _ _ _ _ _ e3 i).symm⟩⟩

end Cert.Act

end
-- ==== Proof.ProjValue.lean ====
/- The mixer's norm and input projection: the kernel's four arrays and the reference's. -/
module

public import proofs.«01_k».proof.Proof.Norm
public import proofs.«01_k».proof.Proof.Gen.ProjIdeal.Value
public import proofs.«01_k».proof.Proof.Gen.ProjRefIdeal.Run
public import Idealize.ShloMosaic.Lib.Pointwise
public import Idealize.ShloMosaic.Lib.Pipeline.ValueKit

@[expose] public section

set_option maxRecDepth 16384

noncomputable section

namespace Cert.Proj

section Kernel

open Cert.ProjIdeal Cert.ProjIdeal.Gen Cert.ProjIdeal.Value Idealize.ShloMosaic Idealize.ShloMosaic.TcCoe
open scoped BigOperators

variable (m : (ℓ : Loc nD τ sig) → Buf (Elt Ideal) ℓ) (c : Dev nD)

/-- The arguments: the input, the norm's weight, the projection's weight. -/
abbrev X : FVec Ideal S16384x1024 .f32 := m ((c : Thread nD τ).loc main_arg0)
abbrev G : FVec Ideal S1x1024 .f32 := m ((c : Thread nD τ).loc main_arg1)
abbrev W : FVec Ideal S1024x3584 .bf16 := m ((c : Thread nD τ).loc main_arg2)

/-- One row of the input. -/
abbrev row (x : FVec Ideal S16384x1024 .f32) (r : Fin 16384) (p : Fin 1024) : EReal := x (ix2 r p)

/-- The normalised input, its projection, and the projection's queries scaled beside its keys and values. -/
abbrev hAt (x : FVec Ideal S16384x1024 .f32) (g : FVec Ideal S1x1024 .f32) (r : Fin 16384) (l : Fin 1024) : EReal :=
  x (ix2 r l) * Ideal.rsqrt (Norm.mean (row x r)) * g (ix2 0 l)
abbrev projAt (x : FVec Ideal S16384x1024 .f32) (g : FVec Ideal S1x1024 .f32) (w : FVec Ideal S1024x3584 .bf16) (r : Fin 16384) (l : Fin 3584) : EReal :=
  ∑ k : Fin 1024, hAt x g r k * w (ix2 k l)
abbrev qkvAt (o : ℕ) (ho : o + 1536 ≤ 3584) (x : FVec Ideal S16384x1024 .f32) (g : FVec Ideal S1x1024 .f32) (w : FVec Ideal S1024x3584 .bf16) (r : Fin 16384) (l : Fin 1536) : EReal :=
  if l.val < 512 then projAt x g w r ⟨o + l.val, by omega⟩ * Ideal.ofBits .f32 0x3E000000#32
  else projAt x g w r ⟨o + l.val, by omega⟩

/-- The blocks' places: the rows' blocks follow the point, the others stay. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] :=
  (by decide +kernel : ∀ t : Fin grid0.N, _)

theorem lt (t : Fin cfg0.N) : t.val < 64 := lt_of_lt_of_eq t.isLt (show cfg0.N = 64 from N_0)

/-- Row `r` of point `t`'s block. -/
abbrev at' (t : Fin cfg0.N) (r : Fin 256) : Fin 16384 := ⟨t.val * 256 + r.val, by have := lt t; have := r.isLt; omega⟩

theorem X_at (t : Fin cfg0.N) (r : Fin 256) (k : Fin 1024) :
    (iblk m c 0 t : FVec Ideal S256x1024 .f32) (ix2 r k) = X m c (ix2 (at' t r) k) := by
  blk_ext [iblk, V, idx t]

theorem G_at (t : Fin cfg0.N) (k : Fin 1024) : (iblk m c 1 t : FVec Ideal S1x1024 .f32) (ix2 0 k) = G m c (ix2 0 k) := by
  blk_ext [iblk, V, idx t]

theorem W_at (t : Fin cfg0.N) (r : Fin 1024) (k : Fin 3584) :
    (iblk m c 2 t : FVec Ideal S1024x3584 .bf16) (ix2 r k) = W m c (ix2 r k) := by
  blk_ext [iblk, V, idx t]

theorem pay2_at (x : Vec Ideal S256x1024 .f32) (g : Vec Ideal S1x1024 .f32) (r : Fin 256) (l : Fin 1024) : k0_pay2 x g (ix2 r l) = (x (ix2 r l) * Ideal.rsqrt (Norm.mean fun p => x (ix2 r p)) * g (ix2 0 l)) := by
  pointwise [k0_pay2]

theorem pay4_at (x : Vec Ideal S256x1024 .f32) (g : Vec Ideal S1x1024 .f32) (w : Vec Ideal S1024x3584 .bf16) (r : Fin 256) (l : Fin 512) :
    k0_pay4 x g w (ix2 r l) = (∑ k : Fin 1024, (x (ix2 r k) * Ideal.rsqrt (Norm.mean fun p => x (ix2 r p)) * g (ix2 0 k)) * w (ix2 k ⟨0 + l.val, by omega⟩) : EReal) * Ideal.ofBits .f32 0x3E000000#32 := by
  pointwise [k0_pay4, k0_pay3, k0_pay2]

theorem pay4_point (t : Fin cfg0.N) (r : Fin 256) (l : Fin 512) :
    k0_pay4 (iblk m c 0 t) (iblk m c 1 t) (iblk m c 2 t) (ix2 r l)
      = projAt (X m c) (G m c) (W m c) (at' t r) ⟨0 + l.val, by omega⟩ * Ideal.ofBits .f32 0x3E000000#32 := by
  rw [pay4_at]
  simp only [X_at, G_at, W_at]

theorem pay5_at (x : Vec Ideal S256x1024 .f32) (g : Vec Ideal S1x1024 .f32) (w : Vec Ideal S1024x3584 .bf16) (r : Fin 256) (l : Fin 1024) :
    k0_pay5 x g w (ix2 r l) = (∑ k : Fin 1024, (x (ix2 r k) * Ideal.rsqrt (Norm.mean fun p => x (ix2 r p)) * g (ix2 0 k)) * w (ix2 k ⟨512 + l.val, by omega⟩) : EReal) := by
  pointwise [k0_pay5, k0_pay3, k0_pay2]

theorem pay5_point (t : Fin cfg0.N) (r : Fin 256) (l : Fin 1024) :
    k0_pay5 (iblk m c 0 t) (iblk m c 1 t) (iblk m c 2 t) (ix2 r l)
      = projAt (X m c) (G m c) (W m c) (at' t r) ⟨512 + l.val, by omega⟩ := by
  rw [pay5_at]
  simp only [X_at, G_at, W_at]

theorem pay6_at (x : Vec Ideal S256x1024 .f32) (g : Vec Ideal S1x1024 .f32) (w : Vec Ideal S1024x3584 .bf16) (r : Fin 256) (l : Fin 512) :
    k0_pay6 x g w (ix2 r l) = (∑ k : Fin 1024, (x (ix2 r k) * Ideal.rsqrt (Norm.mean fun p => x (ix2 r p)) * g (ix2 0 k)) * w (ix2 k ⟨1536 + l.val, by omega⟩) : EReal) := by
  pointwise [k0_pay6, k0_pay3, k0_pay2]

theorem pay6_point (t : Fin cfg0.N) (r : Fin 256) (l : Fin 512) :
    k0_pay6 (iblk m c 0 t) (iblk m c 1 t) (iblk m c 2 t) (ix2 r l)
      = projAt (X m c) (G m c) (W m c) (at' t r) ⟨1536 + l.val, by omega⟩ := by
  rw [pay6_at]
  simp only [X_at, G_at, W_at]

theorem pay7_at (x : Vec Ideal S256x1024 .f32) (g : Vec Ideal S1x1024 .f32) (w : Vec Ideal S1024x3584 .bf16) (r : Fin 256) (l : Fin 512) :
    k0_pay7 x g w (ix2 r l) = (∑ k : Fin 1024, (x (ix2 r k) * Ideal.rsqrt (Norm.mean fun p => x (ix2 r p)) * g (ix2 0 k)) * w (ix2 k ⟨2048 + l.val, by omega⟩) : EReal) * Ideal.ofBits .f32 0x3E000000#32 := by
  pointwise [k0_pay7, k0_pay3, k0_pay2]

theorem pay7_point (t : Fin cfg0.N) (r : Fin 256) (l : Fin 512) :
    k0_pay7 (iblk m c 0 t) (iblk m c 1 t) (iblk m c 2 t) (ix2 r l)
      = projAt (X m c) (G m c) (W m c) (at' t r) ⟨2048 + l.val, by omega⟩ * Ideal.ofBits .f32 0x3E000000#32 := by
  rw [pay7_at]
  simp only [X_at, G_at, W_at]

theorem pay1_at (x : Vec Ideal S256x1024 .f32) (g : Vec Ideal S1x1024 .f32) (w : Vec Ideal S1024x3584 .bf16) (r : Fin 256) (l : Fin 1024) :
    k0_pay1 (k0_pay3 x g w) (ix2 r l) = (∑ k : Fin 1024, (x (ix2 r k) * Ideal.rsqrt (Norm.mean fun p => x (ix2 r p)) * g (ix2 0 k)) * w (ix2 k ⟨2560 + l.val, by omega⟩) : EReal) := by
  pointwise [k0_pay1, k0_pay3, k0_pay2]

theorem pay1_point (t : Fin cfg0.N) (r : Fin 256) (l : Fin 1024) :
    k0_pay1 (k0_pay3 (iblk m c 0 t) (iblk m c 1 t) (iblk m c 2 t)) (ix2 r l)
      = projAt (X m c) (G m c) (W m c) (at' t r) ⟨2560 + l.val, by omega⟩ := by
  rw [pay1_at]
  simp only [X_at, G_at, W_at]

theorem point3 (t : Fin cfg0.N) (r : Fin 256) (l : Fin 1024) :
    k0_pay2 (iblk m c 0 t) (iblk m c 1 t) (ix2 r l) = hAt (X m c) (G m c) (at' t r) l := by
  rw [pay2_at]
  simp only [X_at, G_at]

theorem point4 (t : Fin cfg0.N) (r : Fin 256) (l : Fin 1536) :
    (outsAt0 m c t).2.1 (ix2 r l) = qkvAt 0 (by decide) (X m c) (G m c) (W m c) (at' t r) l := by
  unfold outsAt0
  frame_out
  canon_tiles x h using (View.cover_of_tiledBy _ ![256, 512] (by sl_kernel_rfl) _)
  · obtain ⟨p, q, rfl⟩ : ∃ (p : Fin 256) (q : Fin 1024), x = ix2 p q := ⟨x 0, x 1, by funext a; match a with | ⟨0, _⟩ => rfl | ⟨1, _⟩ => rfl⟩
    obtain rfl : r = p := Fin.ext h0
    have hl : l.val = 512 + q.val := h1
    refine (pay5_point m c t r q).trans ?_
    unfold qkvAt
    rw [if_neg (by omega)]
    exact congrArg (projAt (X m c) (G m c) (W m c) (at' t r)) (Fin.ext (by show 512 + q.val = 0 + l.val; omega))
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = q.val := h1
    refine (pay4_point m c t r q).trans ?_
    unfold qkvAt
    rw [if_pos (by have := q.isLt; omega)]
    exact congrArg (fun e => projAt (X m c) (G m c) (W m c) (at' t r) e * Ideal.ofBits .f32 0x3E000000#32)
      (Fin.ext (by show 0 + q.val = 0 + l.val; omega))

theorem point6 (t : Fin cfg0.N) (r : Fin 256) (l : Fin 1536) :
    (outsAt0 m c t).2.2.2 (ix2 r l) = qkvAt 2048 (by decide) (X m c) (G m c) (W m c) (at' t r) l := by
  unfold outsAt0
  frame_out
  canon_tiles x h using (View.cover_of_tiledBy _ ![256, 512] (by sl_kernel_rfl) _)
  · obtain ⟨p, q, rfl⟩ : ∃ (p : Fin 256) (q : Fin 1024), x = ix2 p q := ⟨x 0, x 1, by funext a; match a with | ⟨0, _⟩ => rfl | ⟨1, _⟩ => rfl⟩
    obtain rfl : r = p := Fin.ext h0
    have hl : l.val = 512 + q.val := h1
    refine (pay1_point m c t r q).trans ?_
    unfold qkvAt
    rw [if_neg (by omega)]
    exact congrArg (projAt (X m c) (G m c) (W m c) (at' t r)) (Fin.ext (by show 2560 + q.val = 2048 + l.val; omega))
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = q.val := h1
    refine (pay7_point m c t r q).trans ?_
    unfold qkvAt
    rw [if_pos (by have := q.isLt; omega)]
    exact congrArg (fun e => projAt (X m c) (G m c) (W m c) (at' t r) e * Ideal.ofBits .f32 0x3E000000#32)
      (Fin.ext (by show 2048 + q.val = 2048 + l.val; omega))

/-- The four arrays. -/
def h : FVec Ideal S16384x1024 .bf16 := fun i => hAt (X m c) (G m c) (i 0) (i 1)
def f : FVec Ideal S16384x1536 .bf16 := fun i => qkvAt 0 (by decide) (X m c) (G m c) (W m c) (i 0) (i 1)
def gx : FVec Ideal S16384x512 .f32 := fun i => projAt (X m c) (G m c) (W m c) (i 0) ⟨1536 + (i 1).val, by have : (i 1).val < 512 := (i 1).isLt; omega⟩
def d : FVec Ideal S16384x1536 .bf16 := fun i => qkvAt 2048 (by decide) (X m c) (G m c) (W m c) (i 0) (i 1)

theorem final3 : (dats m 0 c).arrAt 3 cfg0.N = h m c := by
  refine (dats m 0 c).arrAt_eq_of_covers 3 _ (by decide +kernel) fun t hf y => ?_
  obtain ⟨r, l, rfl⟩ : ∃ (r : Fin 256) (l : Fin 1024), y = ix2 r l := ⟨y 0, y 1, by funext a; match a with | ⟨0, _⟩ => rfl | ⟨1, _⟩ => rfl⟩
  have e0 : ((win0_3.blk t).view.emb (ix2 r l) : S16384x1024.Idx) = ix2 (at' t r) l := by
    funext a
    match a with
    | ⟨0, _⟩ => exact Fin.ext (by show win0_3.index t (0 : Fin 2) * 256 + 1 * r.val = _; rw [(idx t).2.2.2.1]; show t.val * 256 + 1 * r.val = t.val * 256 + r.val; omega)
    | ⟨1, _⟩ => exact Fin.ext (by show win0_3.index t (1 : Fin 2) * 1024 + 1 * l.val = _; rw [(idx t).2.2.2.1]; show 0 * 1024 + 1 * l.val = l.val; omega)
  blk_simp
  rw [after0_3]
  refine Eq.trans ?_ ((point3 m c t r l).trans (congrArg (h m c) e0).symm)
  unfold outsAt0
  frame_out

theorem final5 : (dats m 0 c).arrAt 5 cfg0.N = gx m c := by
  refine (dats m 0 c).arrAt_eq_of_covers 5 _ (by decide +kernel) fun t hf y => ?_
  obtain ⟨r, l, rfl⟩ : ∃ (r : Fin 256) (l : Fin 512), y = ix2 r l := ⟨y 0, y 1, by funext a; match a with | ⟨0, _⟩ => rfl | ⟨1, _⟩ => rfl⟩
  have e0 : ((win0_5.blk t).view.emb (ix2 r l) : S16384x512.Idx) = ix2 (at' t r) l := by
    funext a
    match a with
    | ⟨0, _⟩ => exact Fin.ext (by show win0_5.index t (0 : Fin 2) * 256 + 1 * r.val = _; rw [(idx t).2.2.2.2.2.1]; show t.val * 256 + 1 * r.val = t.val * 256 + r.val; omega)
    | ⟨1, _⟩ => exact Fin.ext (by show win0_5.index t (1 : Fin 2) * 512 + 1 * l.val = _; rw [(idx t).2.2.2.2.2.1]; show 0 * 512 + 1 * l.val = l.val; omega)
  blk_simp
  rw [after0_5]
  refine Eq.trans ?_ ((pay6_point m c t r l).trans (congrArg (gx m c) e0).symm)
  unfold outsAt0
  frame_out

theorem final4 : (dats m 0 c).arrAt 4 cfg0.N = f m c := by
  refine (dats m 0 c).arrAt_eq_of_covers 4 _ (by decide +kernel) fun t hf y => ?_
  obtain ⟨r, l, rfl⟩ : ∃ (r : Fin 256) (l : Fin 1536), y = ix2 r l := ⟨y 0, y 1, by funext a; match a with | ⟨0, _⟩ => rfl | ⟨1, _⟩ => rfl⟩
  have e0 : ((win0_4.blk t).view.emb (ix2 r l) : S16384x1536.Idx) = ix2 (at' t r) l := by
    funext a
    match a with
    | ⟨0, _⟩ => exact Fin.ext (by show win0_4.index t (0 : Fin 2) * 256 + 1 * r.val = _; rw [(idx t).2.2.2.2.1]; show t.val * 256 + 1 * r.val = t.val * 256 + r.val; omega)
    | ⟨1, _⟩ => exact Fin.ext (by show win0_4.index t (1 : Fin 2) * 1536 + 1 * l.val = _; rw [(idx t).2.2.2.2.1]; show 0 * 1536 + 1 * l.val = l.val; omega)
  blk_simp
  rw [after0_4]
  exact (point4 m c t r l).trans (congrArg (f m c) e0).symm

theorem final6 : (dats m 0 c).arrAt 6 cfg0.N = d m c := by
  refine (dats m 0 c).arrAt_eq_of_covers 6 _ (by decide +kernel) fun t hf y => ?_
  obtain ⟨r, l, rfl⟩ : ∃ (r : Fin 256) (l : Fin 1536), y = ix2 r l := ⟨y 0, y 1, by funext a; match a with | ⟨0, _⟩ => rfl | ⟨1, _⟩ => rfl⟩
  have e0 : ((win0_6.blk t).view.emb (ix2 r l) : S16384x1536.Idx) = ix2 (at' t r) l := by
    funext a
    match a with
    | ⟨0, _⟩ => exact Fin.ext (by show win0_6.index t (0 : Fin 2) * 256 + 1 * r.val = _; rw [(idx t).2.2.2.2.2.2]; show t.val * 256 + 1 * r.val = t.val * 256 + r.val; omega)
    | ⟨1, _⟩ => exact Fin.ext (by show win0_6.index t (1 : Fin 2) * 1536 + 1 * l.val = _; rw [(idx t).2.2.2.2.2.2]; show 0 * 1536 + 1 * l.val = l.val; omega)
  blk_simp
  rw [after0_6]
  exact (point6 m c t r l).trans (congrArg (d m c) e0).symm

end Kernel

section Reference

open Cert.ProjRefIdeal Cert.ProjRefIdeal.Gen Cert.ProjRefIdeal.Value Idealize.ShloMosaic Idealize.ShloMosaic.TcCoe
open scoped BigOperators

variable (m : (ℓ : Loc nD τ sig) → Buf (Elt Ideal) ℓ) (c : Dev nD)

abbrev ref_h : FVec Ideal S16384x1024 .bf16 :=
  truncf .bf16 (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) bitsLt_bf16_f32
abbrev ref_f : FVec Ideal S16384x1536 .bf16 :=
  truncf .bf16 ((concatenate S16384x1536 1 [⟨S16384x512, ((mulf (extractStridedSlice S16384x512 ![0, 0] ((Host.dotGeneral dot_S16384x1024_S1024x3584_S16384x3584_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) : FVec Ideal S16384x3584 .f32) slices_S16384x3584_S16384x512_0_0) (broadcastInDim S16384x512 ![] bcast_S_S16384x512 (constant S_ .f32 0x3E000000#32))) : (⟨S16384x512, .f32⟩ : BufTy).Contents (Elt Ideal))⟩, ⟨S16384x512, ((extractStridedSlice S16384x512 ![0, 512] ((Host.dotGeneral dot_S16384x1024_S1024x3584_S16384x3584_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) : FVec Ideal S16384x3584 .f32) slices_S16384x3584_S16384x512_0_512) : (⟨S16384x512, .f32⟩ : BufTy).Contents (Elt Ideal))⟩, ⟨S16384x512, ((extractStridedSlice S16384x512 ![0, 1024] ((Host.dotGeneral dot_S16384x1024_S1024x3584_S16384x3584_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) : FVec Ideal S16384x3584 .f32) slices_S16384x3584_S16384x512_0_1024) : (⟨S16384x512, .f32⟩ : BufTy).Contents (Elt Ideal))⟩] concatenates_S16384x512_S16384x512_S16384x512_S16384x1536_d1 : (⟨S16384x1536, .f32⟩ : BufTy).Contents (Elt Ideal))) bitsLt_bf16_f32
abbrev ref_gx : FVec Ideal S16384x512 .f32 :=
  extractStridedSlice S16384x512 ![0, 1536] (Host.dotGeneral dot_S16384x1024_S1024x3584_S16384x3584_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) slices_S16384x3584_S16384x512_0_1536
abbrev ref_d : FVec Ideal S16384x1536 .bf16 :=
  truncf .bf16 ((concatenate S16384x1536 1 [⟨S16384x512, ((mulf (extractStridedSlice S16384x512 ![0, 2048] ((Host.dotGeneral dot_S16384x1024_S1024x3584_S16384x3584_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) : FVec Ideal S16384x3584 .f32) slices_S16384x3584_S16384x512_0_2048) (broadcastInDim S16384x512 ![] bcast_S_S16384x512 (constant S_ .f32 0x3E000000#32))) : (⟨S16384x512, .f32⟩ : BufTy).Contents (Elt Ideal))⟩, ⟨S16384x512, ((extractStridedSlice S16384x512 ![0, 2560] ((Host.dotGeneral dot_S16384x1024_S1024x3584_S16384x3584_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) : FVec Ideal S16384x3584 .f32) slices_S16384x3584_S16384x512_0_2560) : (⟨S16384x512, .f32⟩ : BufTy).Contents (Elt Ideal))⟩, ⟨S16384x512, ((extractStridedSlice S16384x512 ![0, 3072] ((Host.dotGeneral dot_S16384x1024_S1024x3584_S16384x3584_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (extf .f32 (m ((c.tc : Thread nD τ).loc main_arg2)) bitsLt_bf16_f32)) : FVec Ideal S16384x3584 .f32) slices_S16384x3584_S16384x512_0_3072) : (⟨S16384x512, .f32⟩ : BufTy).Contents (Elt Ideal))⟩] concatenates_S16384x512_S16384x512_S16384x512_S16384x1536_d1 : (⟨S16384x1536, .f32⟩ : BufTy).Contents (Elt Ideal))) bitsLt_bf16_f32

theorem ref_h_at (r : Fin 16384) (l : Fin 1024) : ref_h m c (ix2 r l) = hAt (m ((c.tc : Thread nD τ).loc main_arg0)) (m ((c.tc : Thread nD τ).loc main_arg1)) r l := by
  pointwise [ref_h]

theorem ref_gx_at (r : Fin 16384) (l : Fin 512) : ref_gx m c (ix2 r l) = projAt (m ((c.tc : Thread nD τ).loc main_arg0)) (m ((c.tc : Thread nD τ).loc main_arg1)) (m ((c.tc : Thread nD τ).loc main_arg2)) r ⟨1536 + l.val, by omega⟩ := by
  pointwise [ref_gx]

theorem ref_f_at (r : Fin 16384) (l : Fin 1536) : ref_f m c (ix2 r l) = qkvAt 0 (by decide) (m ((c.tc : Thread nD τ).loc main_arg0)) (m ((c.tc : Thread nD τ).loc main_arg1)) (m ((c.tc : Thread nD τ).loc main_arg2)) r l := by
  have hl := l.isLt
  pointwise [ref_f]
  unfold qkvAt
  by_cases h : l.val < 512
  · rw [dif_pos h, if_pos h]
    exact congrArg (fun e => projAt (m ((c.tc : Thread nD τ).loc main_arg0)) (m ((c.tc : Thread nD τ).loc main_arg1)) (m ((c.tc : Thread nD τ).loc main_arg2)) r e * Ideal.ofBits .f32 0x3E000000#32)
      (a₁ := ⟨l.val, by omega⟩) (Fin.ext (by show l.val = 0 + l.val; omega))
  · rw [dif_neg h, if_neg h]
    by_cases h' : l.val - 512 < 512
    · rw [dif_pos h']
      exact congrArg (projAt (m ((c.tc : Thread nD τ).loc main_arg0)) (m ((c.tc : Thread nD τ).loc main_arg1)) (m ((c.tc : Thread nD τ).loc main_arg2)) r) (a₁ := ⟨512 + (l.val - 512), by omega⟩) (a₂ := ⟨0 + l.val, by omega⟩) (Fin.ext (by show 512 + (l.val - 512) = 0 + l.val; omega))
    · rw [dif_neg h']
      exact congrArg (projAt (m ((c.tc : Thread nD τ).loc main_arg0)) (m ((c.tc : Thread nD τ).loc main_arg1)) (m ((c.tc : Thread nD τ).loc main_arg2)) r) (a₁ := ⟨1024 + (l.val - 512 - 512), by omega⟩) (a₂ := ⟨0 + l.val, by omega⟩) (Fin.ext (by show 1024 + (l.val - 512 - 512) = 0 + l.val; omega))

theorem ref_d_at (r : Fin 16384) (l : Fin 1536) : ref_d m c (ix2 r l) = qkvAt 2048 (by decide) (m ((c.tc : Thread nD τ).loc main_arg0)) (m ((c.tc : Thread nD τ).loc main_arg1)) (m ((c.tc : Thread nD τ).loc main_arg2)) r l := by
  have hl := l.isLt
  pointwise [ref_d]
  unfold qkvAt
  by_cases h : l.val < 512
  · rw [dif_pos h, if_pos h]
  · rw [dif_neg h, if_neg h]
    by_cases h' : l.val - 512 < 512
    · rw [dif_pos h']
      exact congrArg (projAt (m ((c.tc : Thread nD τ).loc main_arg0)) (m ((c.tc : Thread nD τ).loc main_arg1)) (m ((c.tc : Thread nD τ).loc main_arg2)) r) (a₁ := ⟨2560 + (l.val - 512), by omega⟩) (a₂ := ⟨2048 + l.val, by omega⟩) (Fin.ext (by show 2560 + (l.val - 512) = 2048 + l.val; omega))
    · rw [dif_neg h']
      exact congrArg (projAt (m ((c.tc : Thread nD τ).loc main_arg0)) (m ((c.tc : Thread nD τ).loc main_arg1)) (m ((c.tc : Thread nD τ).loc main_arg2)) r) (a₁ := ⟨3072 + (l.val - 512 - 512), by omega⟩) (a₂ := ⟨2048 + l.val, by omega⟩) (Fin.ext (by show 3072 + (l.val - 512 - 512) = 2048 + l.val; omega))

end Reference

open Cert.ProjIdeal Cert.ProjIdeal.Gen Idealize.ShloMosaic Idealize.ShloMosaic.TcCoe

/-- The reference's arrays are the kernel's, from arguments that agree. -/
theorem agree (m : (ℓ : Loc nD τ sig) → Buf (Elt Ideal) ℓ) (c : Dev nD)
    {m' : (ℓ : Loc Cert.ProjRefIdeal.nD Cert.ProjRefIdeal.τ Cert.ProjRefIdeal.sig) → Buf (Elt Ideal) ℓ} {c' : Dev Cert.ProjRefIdeal.nD}
    (e0 : (m' ((c'.tc : Thread Cert.ProjRefIdeal.nD Cert.ProjRefIdeal.τ).loc Cert.ProjRefIdeal.main_arg0) : FVec Ideal S16384x1024 .f32) = X m c)
    (e1 : (m' ((c'.tc : Thread Cert.ProjRefIdeal.nD Cert.ProjRefIdeal.τ).loc Cert.ProjRefIdeal.main_arg1) : FVec Ideal S1x1024 .f32) = G m c)
    (e2 : (m' ((c'.tc : Thread Cert.ProjRefIdeal.nD Cert.ProjRefIdeal.τ).loc Cert.ProjRefIdeal.main_arg2) : FVec Ideal S1024x3584 .bf16) = W m c) :
    @Eq (FVec Ideal S16384x1024 .bf16) (ref_h m' c') (h m c) ∧ @Eq (FVec Ideal S16384x1536 .bf16) (ref_f m' c') (f m c) ∧ @Eq (FVec Ideal S16384x512 .f32) (ref_gx m' c') (gx m c) ∧ @Eq (FVec Ideal S16384x1536 .bf16) (ref_d m' c') (d m c) := by
  refine ⟨?_, ?_, ?_, ?_⟩
  · funext i
    obtain ⟨r, l, rfl⟩ : ∃ (r : Fin 16384) (l : Fin 1024), i = ix2 r l := ⟨i 0, i 1, by funext a; match a with | ⟨0, _⟩ => rfl | ⟨1, _⟩ => rfl⟩
    refine (ref_h_at m' c' r l).trans ?_
    rw [e0, e1]
    rfl
  · funext i
    obtain ⟨r, l, rfl⟩ : ∃ (r : Fin 16384) (l : Fin 1536), i = ix2 r l := ⟨i 0, i 1, by funext a; match a with | ⟨0, _⟩ => rfl | ⟨1, _⟩ => rfl⟩
    refine (ref_f_at m' c' r l).trans ?_
    rw [e0, e1, e2]
    rfl
  · funext i
    obtain ⟨r, l, rfl⟩ : ∃ (r : Fin 16384) (l : Fin 512), i = ix2 r l := ⟨i 0, i 1, by funext a; match a with | ⟨0, _⟩ => rfl | ⟨1, _⟩ => rfl⟩
    refine (ref_gx_at m' c' r l).trans ?_
    rw [e0, e1, e2]
    rfl
  · funext i
    obtain ⟨r, l, rfl⟩ : ∃ (r : Fin 16384) (l : Fin 1536), i = ix2 r l := ⟨i 0, i 1, by funext a; match a with | ⟨0, _⟩ => rfl | ⟨1, _⟩ => rfl⟩
    refine (ref_d_at m' c' r l).trans ?_
    rw [e0, e1, e2]
    rfl

end Cert.Proj

end
-- ==== Proof.ProjbValue.lean ====
/- The backward pass through the mixer's input projection and its norm: the kernel's three arrays and the derivative's. -/
module

public import proofs.«01_k».proof.Proof.Norm
public import proofs.«01_k».proof.Proof.Gen.ProjbIdeal.Value
public import proofs.«01_k».proof.Proof.Gen.ProjbRefIdeal.Run
public import Idealize.ShloMosaic.Lib.Pointwise
public import Idealize.ShloMosaic.Lib.Pipeline.ValueKit

@[expose] public section

set_option maxRecDepth 16384

noncomputable section

namespace Cert.Projb

section Kernel

open Cert.ProjbIdeal Cert.ProjbIdeal.Gen Cert.ProjbIdeal.Value Idealize.ShloMosaic Idealize.ShloMosaic.TcCoe
open scoped BigOperators

variable (m : (ℓ : Loc nD τ sig) → Buf (Elt Ideal) ℓ) (c : Dev nD)

/-- The arguments: the cotangents of the projection's parts, the weight's transpose, the output's cotangent, the input, the norm's weight. -/
abbrev P0 : FVec Ideal S16384x512 .bf16 := m ((c : Thread nD τ).loc main_arg0)
abbrev P1 : FVec Ideal S16384x512 .bf16 := m ((c : Thread nD τ).loc main_arg1)
abbrev P2 : FVec Ideal S16384x512 .bf16 := m ((c : Thread nD τ).loc main_arg2)
abbrev P3 : FVec Ideal S16384x512 .bf16 := m ((c : Thread nD τ).loc main_arg3)
abbrev Q0 : FVec Ideal S16384x512 .f32 := m ((c : Thread nD τ).loc main_arg4)
abbrev Q1 : FVec Ideal S16384x512 .f32 := m ((c : Thread nD τ).loc main_arg5)
abbrev Q2 : FVec Ideal S16384x512 .f32 := m ((c : Thread nD τ).loc main_arg6)
abbrev K0 : FVec Ideal S16384x512 .f32 := m ((c : Thread nD τ).loc main_arg7)
abbrev K1 : FVec Ideal S16384x512 .f32 := m ((c : Thread nD τ).loc main_arg8)
abbrev K2 : FVec Ideal S16384x512 .f32 := m ((c : Thread nD τ).loc main_arg9)
abbrev V0 : FVec Ideal S16384x512 .f32 := m ((c : Thread nD τ).loc main_arg10)
abbrev V1 : FVec Ideal S16384x512 .f32 := m ((c : Thread nD τ).loc main_arg11)
abbrev V2 : FVec Ideal S16384x512 .f32 := m ((c : Thread nD τ).loc main_arg12)
abbrev W : FVec Ideal S3584x1024 .bf16 := m ((c : Thread nD τ).loc main_arg13)
abbrev D : FVec Ideal S16384x1024 .f32 := m ((c : Thread nD τ).loc main_arg14)
abbrev X : FVec Ideal S16384x1024 .f32 := m ((c : Thread nD τ).loc main_arg15)
abbrev G : FVec Ideal S1x1024 .f32 := m ((c : Thread nD τ).loc main_arg16)

/-- One row of the input. -/
abbrev row (x : FVec Ideal S16384x1024 .f32) (r : Fin 16384) (p : Fin 1024) : EReal := x (ix2 r p)

/-- The sum of three arrays at one entry. -/
abbrev three (a b c : FVec Ideal S16384x512 .f32) (r : Fin 16384) (l : Fin 512) : EReal := a (ix2 r l) + b (ix2 r l) + c (ix2 r l)

/-- The projection's cotangent: the parts side by side. -/
abbrev dpAt (p0 p1 p2 p3 : FVec Ideal S16384x512 .bf16) (q0 q1 q2 k0 k1 k2 v0 v1 v2 : FVec Ideal S16384x512 .f32) (r : Fin 16384) (l : Fin 3584) : EReal :=
  if h : l.val < 512 then p0 (ix2 r ⟨l.val, by omega⟩) else
  if h : l.val - 512 < 512 then p1 (ix2 r ⟨l.val - 512, by omega⟩) else
  if h : l.val - 512 - 512 < 512 then p2 (ix2 r ⟨l.val - 512 - 512, by omega⟩) else
  if h : l.val - 512 - 512 - 512 < 512 then p3 (ix2 r ⟨l.val - 512 - 512 - 512, by omega⟩) else
  if h : l.val - 512 - 512 - 512 - 512 < 512 then three q0 q1 q2 r ⟨l.val - 512 - 512 - 512 - 512, by omega⟩ * Ideal.ofBits .f32 0x3E000000#32 else
  if h : l.val - 512 - 512 - 512 - 512 - 512 < 512 then three k0 k1 k2 r ⟨l.val - 512 - 512 - 512 - 512 - 512, by omega⟩ else
  three v0 v1 v2 r ⟨l.val - 512 - 512 - 512 - 512 - 512 - 512, by have := l.isLt; omega⟩

/-- The cotangent of the normalised row, from the projection's. -/
abbrev dh (e : Fin 16384 → Fin 3584 → EReal) (w : FVec Ideal S3584x1024 .bf16) (r : Fin 16384) (l : Fin 1024) : EReal := ∑ k : Fin 3584, e r k * w (ix2 k l)

/-- The input's gradient at one entry. -/
abbrev dxAt (e : Fin 16384 → Fin 3584 → EReal) (w : FVec Ideal S3584x1024 .bf16) (d x : FVec Ideal S16384x1024 .f32) (g : FVec Ideal S1x1024 .f32) (r : Fin 16384) (l : Fin 1024) : EReal :=
  d (ix2 r l) + Norm.grad (row x r) (fun p => dh e w r p * g (ix2 0 p)) l

/-- What one row adds to the norm weight's gradient. -/
abbrev dgRow (e : Fin 16384 → Fin 3584 → EReal) (w : FVec Ideal S3584x1024 .bf16) (x : FVec Ideal S16384x1024 .f32) (l : Fin 1024) (r : Fin 16384) : EReal :=
  dh e w r l * (x (ix2 r l) * Ideal.rsqrt (Norm.mean (row x r)))

/-- The blocks' places: the rows' blocks follow the point, the others stay. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![0, 0] ∧ win0_14.index t = ![t.val, 0] ∧ win0_15.index t = ![t.val, 0] ∧ win0_16.index t = ![0, 0] ∧ win0_17.index t = ![t.val, 0] ∧ win0_18.index t = ![t.val, 0] ∧ win0_19.index t = ![0, 0] :=
  (by decide +kernel : ∀ t : Fin grid0.N, _)

theorem lt (t : Fin cfg0.N) : t.val < 64 := lt_of_lt_of_eq t.isLt (show cfg0.N = 64 from N_0)

/-- Row `r` of point `t`'s block. -/
abbrev at' (t : Fin cfg0.N) (r : Fin 256) : Fin 16384 := ⟨t.val * 256 + r.val, by have := lt t; have := r.isLt; omega⟩

theorem P0_at (t : Fin cfg0.N) (r : Fin 256) (k : Fin 512) :
    (iblk m c 0 t : FVec Ideal S256x512 .bf16) (ix2 r k) = P0 m c (ix2 (at' t r) k) := by
  blk_ext [iblk, V, idx t]

theorem P1_at (t : Fin cfg0.N) (r : Fin 256) (k : Fin 512) :
    (iblk m c 1 t : FVec Ideal S256x512 .bf16) (ix2 r k) = P1 m c (ix2 (at' t r) k) := by
  blk_ext [iblk, V, idx t]

theorem P2_at (t : Fin cfg0.N) (r : Fin 256) (k : Fin 512) :
    (iblk m c 2 t : FVec Ideal S256x512 .bf16) (ix2 r k) = P2 m c (ix2 (at' t r) k) := by
  blk_ext [iblk, V, idx t]

theorem P3_at (t : Fin cfg0.N) (r : Fin 256) (k : Fin 512) :
    (iblk m c 3 t : FVec Ideal S256x512 .bf16) (ix2 r k) = P3 m c (ix2 (at' t r) k) := by
  blk_ext [iblk, V, idx t]

theorem Q0_at (t : Fin cfg0.N) (r : Fin 256) (k : Fin 512) :
    (iblk m c 4 t : FVec Ideal S256x512 .f32) (ix2 r k) = Q0 m c (ix2 (at' t r) k) := by
  blk_ext [iblk, V, idx t]

theorem Q1_at (t : Fin cfg0.N) (r : Fin 256) (k : Fin 512) :
    (iblk m c 5 t : FVec Ideal S256x512 .f32) (ix2 r k) = Q1 m c (ix2 (at' t r) k) := by
  blk_ext [iblk, V, idx t]

theorem Q2_at (t : Fin cfg0.N) (r : Fin 256) (k : Fin 512) :
    (iblk m c 6 t : FVec Ideal S256x512 .f32) (ix2 r k) = Q2 m c (ix2 (at' t r) k) := by
  blk_ext [iblk, V, idx t]

theorem K0_at (t : Fin cfg0.N) (r : Fin 256) (k : Fin 512) :
    (iblk m c 7 t : FVec Ideal S256x512 .f32) (ix2 r k) = K0 m c (ix2 (at' t r) k) := by
  blk_ext [iblk, V, idx t]

theorem K1_at (t : Fin cfg0.N) (r : Fin 256) (k : Fin 512) :
    (iblk m c 8 t : FVec Ideal S256x512 .f32) (ix2 r k) = K1 m c (ix2 (at' t r) k) := by
  blk_ext [iblk, V, idx t]

theorem K2_at (t : Fin cfg0.N) (r : Fin 256) (k : Fin 512) :
    (iblk m c 9 t : FVec Ideal S256x512 .f32) (ix2 r k) = K2 m c (ix2 (at' t r) k) := by
  blk_ext [iblk, V, idx t]

theorem V0_at (t : Fin cfg0.N) (r : Fin 256) (k : Fin 512) :
    (iblk m c 10 t : FVec Ideal S256x512 .f32) (ix2 r k) = V0 m c (ix2 (at' t r) k) := by
  blk_ext [iblk, V, idx t]

theorem V1_at (t : Fin cfg0.N) (r : Fin 256) (k : Fin 512) :
    (iblk m c 11 t : FVec Ideal S256x512 .f32) (ix2 r k) = V1 m c (ix2 (at' t r) k) := by
  blk_ext [iblk, V, idx t]

theorem V2_at (t : Fin cfg0.N) (r : Fin 256) (k : Fin 512) :
    (iblk m c 12 t : FVec Ideal S256x512 .f32) (ix2 r k) = V2 m c (ix2 (at' t r) k) := by
  blk_ext [iblk, V, idx t]

theorem W_at (t : Fin cfg0.N) (r : Fin 3584) (k : Fin 1024) :
    (iblk m c 13 t : FVec Ideal S3584x1024 .bf16) (ix2 r k) = W m c (ix2 r k) := by
  blk_ext [iblk, V, idx t]

theorem D_at (t : Fin cfg0.N) (r : Fin 256) (k : Fin 1024) :
    (iblk m c 14 t : FVec Ideal S256x1024 .f32) (ix2 r k) = D m c (ix2 (at' t r) k) := by
  blk_ext [iblk, V, idx t]

theorem X_at (t : Fin cfg0.N) (r : Fin 256) (k : Fin 1024) :
    (iblk m c 15 t : FVec Ideal S256x1024 .f32) (ix2 r k) = X m c (ix2 (at' t r) k) := by
  blk_ext [iblk, V, idx t]

theorem G_at (t : Fin cfg0.N) (k : Fin 1024) : (iblk m c 16 t : FVec Ideal S1x1024 .f32) (ix2 0 k) = G m c (ix2 0 k) := by
  blk_ext [iblk, V, idx t]

theorem pay4_at (a b e : Vec Ideal S256x512 .f32) (r : Fin 256) (l : Fin 512) :
    k0_pay4 a b e (ix2 r l) = (a (ix2 r l) + b (ix2 r l) + e (ix2 r l) : EReal) * Ideal.ofBits .f32 0x3E000000#32 := by
  pointwise [k0_pay4]

theorem pay5_at (a b e : Vec Ideal S256x512 .f32) (r : Fin 256) (l : Fin 512) :
    k0_pay5 a b e (ix2 r l) = (a (ix2 r l) + b (ix2 r l) + e (ix2 r l) : EReal) := by
  pointwise [k0_pay5]

theorem pay6_at (a b e : Vec Ideal S256x512 .f32) (r : Fin 256) (l : Fin 512) :
    k0_pay6 a b e (ix2 r l) = (a (ix2 r l) + b (ix2 r l) + e (ix2 r l) : EReal) := by
  pointwise [k0_pay6]

/-- A block's part of the norm weight's gradient. -/
theorem pay10_at (b : Vec Ideal S256x3584 .bf16) (w : Vec Ideal S3584x1024 .bf16) (x : Vec Ideal S256x1024 .f32)
    (acc : Vec Ideal S1x1024 .f32) (l : Fin 1024) :
    k0_pay1 (k0_pay10 b w x) acc (ix2 0 l) = acc (ix2 0 l)
      + ∑ r : Fin 256, ((∑ k : Fin 3584, b (ix2 r k) * w (ix2 k l) : EReal) * (x (ix2 r l) * Ideal.rsqrt (Norm.mean fun p => x (ix2 r p)))) := by
  pointwise [k0_pay1, k0_pay10, k0_pay9, k0_pay8, k0_pay7]

theorem pay3_at (l : Fin 1024) : k0_pay3 (F := Ideal) (ix2 0 l) = 0 := by
  pointwise [k0_pay3]

theorem pay2_at (b : Vec Ideal S256x3584 .bf16) (w : Vec Ideal S3584x1024 .bf16) (x d : Vec Ideal S256x1024 .f32)
    (g : Vec Ideal S1x1024 .f32) (r : Fin 256) (l : Fin 1024) :
    k0_pay2 (k0_pay8 x) (k0_pay9 x) (k0_pay11 b w g) d (ix2 r l) = d (ix2 r l)
      + Norm.grad (fun p => x (ix2 r p)) (fun p => (∑ k : Fin 3584, b (ix2 r k) * w (ix2 k p) : EReal) * g (ix2 0 p)) l := by
  pointwise [k0_pay2, k0_pay11, k0_pay9, k0_pay8, k0_pay7]

/-- The projection's cotangent at one entry, of the arguments. -/
abbrev e (r : Fin 16384) (l : Fin 3584) : EReal := dpAt (P0 m c) (P1 m c) (P2 m c) (P3 m c) (Q0 m c) (Q1 m c) (Q2 m c) (K0 m c) (K1 m c) (K2 m c) (V0 m c) (V1 m c) (V2 m c) r l

/-- What point `t` stores, part by part. -/
abbrev parts (t : Fin cfg0.N) : List (View.Piece (Elt Ideal) S256x3584 .bf16) :=
  [⟨Rect.unit ![0, 3072] ![256, 512] inb_S256x3584_S256x512_0_3072, k0_pay6 (iblk m c 10 t) (iblk m c 11 t) (iblk m c 12 t)⟩,
   ⟨Rect.unit ![0, 2560] ![256, 512] inb_S256x3584_S256x512_0_2560, k0_pay5 (iblk m c 7 t) (iblk m c 8 t) (iblk m c 9 t)⟩,
   ⟨Rect.unit ![0, 2048] ![256, 512] inb_S256x3584_S256x512_0_2048, k0_pay4 (iblk m c 4 t) (iblk m c 5 t) (iblk m c 6 t)⟩,
   ⟨Rect.unit ![0, 1536] ![256, 512] inb_S256x3584_S256x512_0_1536, iblk m c 3 t⟩,
   ⟨Rect.unit ![0, 1024] ![256, 512] inb_S256x3584_S256x512_0_1024, iblk m c 2 t⟩,
   ⟨Rect.unit ![0, 512] ![256, 512] inb_S256x3584_S256x512_0_512, iblk m c 1 t⟩,
   ⟨Rect.unit ![0, 0] ![256, 512] inb_S256x3584_S256x512_0_0, iblk m c 0 t⟩]

/-- The seven parts together are the block. -/
theorem canon_parts (t : Fin cfg0.N) (r : Fin 256) (l : Fin 3584) : View.canon (parts m c t) (ix2 r l) = e m c (at' t r) l := by
  unfold parts e dpAt
  canon_tiles x h using (View.cover_of_tiledBy _ ![256, 512] (by sl_kernel_rfl) _)
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = 3072 + q.val := h1
    have hq := q.isLt
    rw [dif_neg (by omega), dif_neg (by omega), dif_neg (by omega), dif_neg (by omega), dif_neg (by omega), dif_neg (by omega)]
    have hx : q = (⟨l.val - 512 - 512 - 512 - 512 - 512 - 512, by omega⟩ : Fin 512) := Fin.ext (by show q.val = l.val - 512 - 512 - 512 - 512 - 512 - 512; omega)
    refine (pay6_at _ _ _ r q).trans ?_
    rw [V0_at, V1_at, V2_at]
    exact congrArg (fun k : Fin 512 => three (V0 m c) (V1 m c) (V2 m c) (at' t r) k) hx
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = 2560 + q.val := h1
    have hq := q.isLt
    rw [dif_neg (by omega), dif_neg (by omega), dif_neg (by omega), dif_neg (by omega), dif_neg (by omega), dif_pos (by omega)]
    have hx : q = (⟨l.val - 512 - 512 - 512 - 512 - 512, by omega⟩ : Fin 512) := Fin.ext (by show q.val = l.val - 512 - 512 - 512 - 512 - 512; omega)
    refine (pay5_at _ _ _ r q).trans ?_
    rw [K0_at, K1_at, K2_at]
    exact congrArg (fun k : Fin 512 => three (K0 m c) (K1 m c) (K2 m c) (at' t r) k) hx
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = 2048 + q.val := h1
    have hq := q.isLt
    rw [dif_neg (by omega), dif_neg (by omega), dif_neg (by omega), dif_neg (by omega), dif_pos (by omega)]
    have hx : q = (⟨l.val - 512 - 512 - 512 - 512, by omega⟩ : Fin 512) := Fin.ext (by show q.val = l.val - 512 - 512 - 512 - 512; omega)
    refine (pay4_at _ _ _ r q).trans ?_
    rw [Q0_at, Q1_at, Q2_at]
    exact congrArg (fun k : Fin 512 => three (Q0 m c) (Q1 m c) (Q2 m c) (at' t r) k * Ideal.ofBits .f32 0x3E000000#32) hx
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = 1536 + q.val := h1
    have hq := q.isLt
    rw [dif_neg (by omega), dif_neg (by omega), dif_neg (by omega), dif_pos (by omega)]
    have hx : q = (⟨l.val - 512 - 512 - 512, by omega⟩ : Fin 512) := Fin.ext (by show q.val = l.val - 512 - 512 - 512; omega)
    refine (P3_at m c t r q).trans ?_
    exact congrArg (fun k : Fin 512 => P3 m c (ix2 (at' t r) k)) hx
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = 1024 + q.val := h1
    have hq := q.isLt
    rw [dif_neg (by omega), dif_neg (by omega), dif_pos (by omega)]
    have hx : q = (⟨l.val - 512 - 512, by omega⟩ : Fin 512) := Fin.ext (by show q.val = l.val - 512 - 512; omega)
    refine (P2_at m c t r q).trans ?_
    exact congrArg (fun k : Fin 512 => P2 m c (ix2 (at' t r) k)) hx
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = 512 + q.val := h1
    have hq := q.isLt
    rw [dif_neg (by omega), dif_pos (by omega)]
    have hx : q = (⟨l.val - 512, by omega⟩ : Fin 512) := Fin.ext (by show q.val = l.val - 512; omega)
    refine (P1_at m c t r q).trans ?_
    exact congrArg (fun k : Fin 512 => P1 m c (ix2 (at' t r) k)) hx
  · obtain ⟨p, q, rfl⟩ : ∃ (p : Fin 256) (q : Fin 512), x = ix2 p q := ⟨x 0, x 1, by funext a; match a with | ⟨0, _⟩ => rfl | ⟨1, _⟩ => rfl⟩
    obtain rfl : r = p := Fin.ext h0
    have hl : l.val = 0 + q.val := h1.trans (Nat.zero_add _).symm
    have hq := q.isLt
    rw [dif_pos (by omega)]
    have hx : q = (⟨l.val, by omega⟩ : Fin 512) := Fin.ext (by show q.val = l.val; omega)
    refine (P0_at m c t r q).trans ?_
    exact congrArg (fun k : Fin 512 => P0 m c (ix2 (at' t r) k)) hx

/-- A load of the whole block reads what was stored. -/
theorem load (t : Fin cfg0.N) (w : View sig .tc .vmem S256x3584 .bf16) (r : Fin 256) (l : Fin 3584) :
    w.readCov (parts m c t) (Rect.unit (s := S256x3584) ![0, 0] ![256, 3584] inb_S256x3584_S256x3584_0_0).toLoadRect (ix2 r l)
      = e m c (at' t r) l := by
  rw [View.readCov_eq_canon']
  refine Eq.trans (congrArg (View.canon (parts m c t)) ?_) (canon_parts m c t r l)
  funext a
  match a with
  | ⟨0, _⟩ => exact Fin.ext (by show 0 + 1 * r.val = r.val; omega)
  | ⟨1, _⟩ => exact Fin.ext (by show 0 + 1 * l.val = l.val; omega)

theorem point17 (t : Fin cfg0.N) (b : Vec Ideal S256x3584 .bf16) (hb : ∀ r k, (b (ix2 r k) : EReal) = e m c (at' t r) k) (r : Fin 256) (l : Fin 1024) :
    k0_pay2 (k0_pay8 (iblk m c 15 t)) (k0_pay9 (iblk m c 15 t)) (k0_pay11 b (iblk m c 13 t) (iblk m c 16 t)) (iblk m c 14 t) (ix2 r l)
      = dxAt (e m c) (W m c) (D m c) (X m c) (G m c) (at' t r) l := by
  rw [pay2_at]
  simp only [hb, W_at, D_at, X_at, G_at]

/-- What point `t` adds to the norm weight's gradient. -/
abbrev part (t : Fin cfg0.N) (l : Fin 1024) : EReal := ∑ r : Fin 256, dgRow (e m c) (W m c) (X m c) l (at' t r)

theorem point19 (t : Fin cfg0.N) (b : Vec Ideal S256x3584 .bf16) (hb : ∀ r k, (b (ix2 r k) : EReal) = e m c (at' t r) k)
    (acc : Vec Ideal S1x1024 .f32) (l : Fin 1024) :
    k0_pay1 (k0_pay10 b (iblk m c 13 t) (iblk m c 15 t)) acc (ix2 0 l) = acc (ix2 0 l) + part m c t l := by
  rw [pay10_at]
  simp only [hb, W_at, X_at]

theorem point18 (t : Fin cfg0.N) (r : Fin 256) (l : Fin 3584) : (outsAt0 m c t.val t.isLt).2.1 (ix2 r l) = e m c (at' t r) l := by
  refine Eq.trans ?_ (canon_parts m c t r l)
  by_cases h : t.val % 64 = 0
  · rw [outsAt0_A m c t h]
    frame_out
  · rw [outsAt0_B m c t h]
    frame_out

/-- The input's gradient. -/
def dx : FVec Ideal S16384x1024 .f32 := fun i => dxAt (e m c) (W m c) (D m c) (X m c) (G m c) (i 0) (i 1)

/-- The projection's cotangent. -/
def dp : FVec Ideal S16384x3584 .bf16 := fun i => e m c (i 0) (i 1)

/-- The norm weight's gradient. -/
def dg : FVec Ideal S1x1024 .f32 := fun i => ∑ r : Fin 16384, dgRow (e m c) (W m c) (X m c) (i 1) r

theorem point17' (t : Fin cfg0.N) (r : Fin 256) (l : Fin 1024) :
    (outsAt0 m c t.val t.isLt).1 (ix2 r l) = dxAt (e m c) (W m c) (D m c) (X m c) (G m c) (at' t r) l := by
  by_cases h : t.val % 64 = 0
  · rw [outsAt0_A m c t h]
    frame_out
    exact point17 m c t _ (load m c t _) r l
  · rw [outsAt0_B m c t h]
    frame_out
    exact point17 m c t _ (load m c t _) r l

theorem final17 : (dats m 0 c).arrAt 17 cfg0.N = dx m c := by
  refine (dats m 0 c).arrAt_eq_of_covers 17 _ (by decide +kernel) fun t hf y => ?_
  obtain ⟨r, l, rfl⟩ : ∃ (r : Fin 256) (l : Fin 1024), y = ix2 r l := ⟨y 0, y 1, by funext a; match a with | ⟨0, _⟩ => rfl | ⟨1, _⟩ => rfl⟩
  have e0 : ((win0_17.blk t).view.emb (ix2 r l) : S16384x1024.Idx) = ix2 (at' t r) l := by
    funext a
    match a with
    | ⟨0, _⟩ => exact Fin.ext (by show win0_17.index t (0 : Fin 2) * 256 + 1 * r.val = _; rw [(idx t).2.2.2.2.2.2.2.2.2.2.2.2.2.2.2.2.2.1]; show t.val * 256 + 1 * r.val = t.val * 256 + r.val; omega)
    | ⟨1, _⟩ => exact Fin.ext (by show win0_17.index t (1 : Fin 2) * 1024 + 1 * l.val = _; rw [(idx t).2.2.2.2.2.2.2.2.2.2.2.2.2.2.2.2.2.1]; show 0 * 1024 + 1 * l.val = l.val; omega)
  blk_simp
  rw [after0_17]
  exact (point17' m c t r l).trans (congrArg (dx m c) e0).symm

theorem final18 : (dats m 0 c).arrAt 18 cfg0.N = dp m c := by
  refine (dats m 0 c).arrAt_eq_of_covers 18 _ (by decide +kernel) fun t hf y => ?_
  obtain ⟨r, l, rfl⟩ : ∃ (r : Fin 256) (l : Fin 3584), y = ix2 r l := ⟨y 0, y 1, by funext a; match a with | ⟨0, _⟩ => rfl | ⟨1, _⟩ => rfl⟩
  have e0 : ((win0_18.blk t).view.emb (ix2 r l) : S16384x3584.Idx) = ix2 (at' t r) l := by
    funext a
    match a with
    | ⟨0, _⟩ => exact Fin.ext (by show win0_18.index t (0 : Fin 2) * 256 + 1 * r.val = _; rw [(idx t).2.2.2.2.2.2.2.2.2.2.2.2.2.2.2.2.2.2.1]; show t.val * 256 + 1 * r.val = t.val * 256 + r.val; omega)
    | ⟨1, _⟩ => exact Fin.ext (by show win0_18.index t (1 : Fin 2) * 3584 + 1 * l.val = _; rw [(idx t).2.2.2.2.2.2.2.2.2.2.2.2.2.2.2.2.2.2.1]; show 0 * 3584 + 1 * l.val = l.val; omega)
  blk_simp
  rw [after0_18]
  exact (point18 m c t r l).trans (congrArg (dp m c) e0).symm

theorem final19 : (dats m 0 c).arrAt 19 cfg0.N = dg m c := by
  refine (dats m 0 c).arrAt_eq_of_covers 19 _ (by decide +kernel) fun t hf y => ?_
  obtain ⟨z, l, rfl⟩ : ∃ (z : Fin 1) (l : Fin 1024), y = ix2 z l := ⟨y 0, y 1, by funext a; match a with | ⟨0, _⟩ => rfl | ⟨1, _⟩ => rfl⟩
  have e0 : ((win0_19.blk t).view.emb (ix2 z l) : S1x1024.Idx) = ix2 0 l := by
    funext a
    match a with
    | ⟨0, _⟩ => exact Subsingleton.elim (α := Fin 1) _ _
    | ⟨1, _⟩ => exact Fin.ext (by show win0_19.index t (1 : Fin 2) * 1024 + 1 * l.val = _; rw [(idx t).2.2.2.2.2.2.2.2.2.2.2.2.2.2.2.2.2.2.2]; show 0 * 1024 + 1 * l.val = l.val; omega)
  obtain rfl : z = 0 := Subsingleton.elim _ _
  blk_simp
  rw [after0_19, Pipeline.eq_sum_fin_of_reset_step_apply_of_flush (fun n h => (outsAt0 m c n h).2.2) 64 (fun _ => 0)
    (fun p (j : S1x1024.Idx) => part m c p (j 1))
    (fun t h j => by
      obtain ⟨z, l, rfl⟩ : ∃ (z : Fin 1) (l : Fin 1024), j = ix2 z l := ⟨j 0, j 1, by funext a; match a with | ⟨0, _⟩ => rfl | ⟨1, _⟩ => rfl⟩
      obtain rfl : z = 0 := Subsingleton.elim _ _
      rw [outsAt0_A m c t h]; frame_out
      rw [point19 m c t _ (load m c t _), pay3_at]; rfl)
    (fun t h j => by
      obtain ⟨z, l, rfl⟩ : ∃ (z : Fin 1) (l : Fin 1024), j = ix2 z l := ⟨j 0, j 1, by funext a; match a with | ⟨0, _⟩ => rfl | ⟨1, _⟩ => rfl⟩
      obtain rfl : z = 0 := Subsingleton.elim _ _
      rw [outsAt0_B m c t h]; frame_out
      exact point19 m c t _ (load m c t _) _ l)
    t ((flush0_19 t).mp hf) _, zero_add]
  refine Eq.trans ?_ (congrArg (dg m c) e0).symm
  have ht : t.val / 64 = 0 := by have := lt t; omega
  refine Fin.sum_mul_add_congr (S := 64) (n := 256) fun s k hl => ?_
  refine congrArg (dgRow (e m c) (W m c) (X m c) l) (Fin.ext ?_)
  show (64 * (t.val / 64) + s.val) * 256 + k.val = s.val * 256 + k.val
  rw [ht]; omega

end Kernel

section Reference

open Cert.ProjbRefIdeal Cert.ProjbRefIdeal.Gen Cert.ProjbRefIdeal.Value Idealize.ShloMosaic Idealize.ShloMosaic.TcCoe
open scoped BigOperators

variable (m : (ℓ : Loc nD τ sig) → Buf (Elt Ideal) ℓ) (c : Dev nD)

/-- The reference's cotangent of the projection, before its rounding. -/
abbrev cat : FVec Ideal S16384x3584 .f32 :=
  (concatenate S16384x3584 1 [⟨S16384x512, ((extf .f32 (m ((c.tc : Thread nD τ).loc main_arg0)) bitsLt_bf16_f32) : FVec Ideal S16384x512 .f32)⟩, ⟨S16384x512, ((extf .f32 (m ((c.tc : Thread nD τ).loc main_arg1)) bitsLt_bf16_f32) : FVec Ideal S16384x512 .f32)⟩, ⟨S16384x512, ((extf .f32 (m ((c.tc : Thread nD τ).loc main_arg2)) bitsLt_bf16_f32) : FVec Ideal S16384x512 .f32)⟩, ⟨S16384x512, ((extf .f32 (m ((c.tc : Thread nD τ).loc main_arg3)) bitsLt_bf16_f32) : FVec Ideal S16384x512 .f32)⟩, ⟨S16384x512, ((mulf (addf (addf (m ((c.tc : Thread nD τ).loc main_arg4)) (m ((c.tc : Thread nD τ).loc main_arg5))) (m ((c.tc : Thread nD τ).loc main_arg6))) (broadcastInDim S16384x512 ![] bcast_S_S16384x512 (constant S_ .f32 0x3E000000#32))) : FVec Ideal S16384x512 .f32)⟩, ⟨S16384x512, ((addf (addf (m ((c.tc : Thread nD τ).loc main_arg7)) (m ((c.tc : Thread nD τ).loc main_arg8))) (m ((c.tc : Thread nD τ).loc main_arg9))) : FVec Ideal S16384x512 .f32)⟩, ⟨S16384x512, ((addf (addf (m ((c.tc : Thread nD τ).loc main_arg10)) (m ((c.tc : Thread nD τ).loc main_arg11))) (m ((c.tc : Thread nD τ).loc main_arg12))) : FVec Ideal S16384x512 .f32)⟩] concatenates_S16384x512_S16384x512_S16384x512_S16384x512_S16384x512_S16384x512_S16384x512_S16384x3584_d1 : (⟨S16384x3584, .f32⟩ : BufTy).Contents (Elt Ideal))

theorem cat_at (r : Fin 16384) (l : Fin 3584) : cat m c (ix2 r l) = dpAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) r l := by
  pointwise [cat]

/-- The reference's cotangent of the projection. -/
abbrev refDp : FVec Ideal S16384x3584 .bf16 := truncf .bf16 (cat m c) bitsLt_bf16_f32

theorem ref_dp (r : Fin 16384) (l : Fin 3584) : refDp m c (ix2 r l) = dpAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) r l := cat_at m c r l

/-- The reference's input gradient from the projection's cotangent. -/
abbrev dxOf (z : FVec Ideal S16384x3584 .f32) : FVec Ideal S16384x1024 .f32 :=
  addf (addf (addf (m ((c.tc : Thread nD τ).loc main_arg14)) (mulf (mulf (Host.dotGeneral dot_S16384x3584_S1024x3584_S16384x1024_1_1_0_0_n_n none (z) (transpose S1024x3584 [1, 0] (extf .f32 (m ((c.tc : Thread nD τ).loc main_arg13)) bitsLt_bf16_f32) transposes_S3584x1024_S1024x3584_1_0)) (broadcastInDim S16384x1024 ![0, 1] bcast_S1x1024_S16384x1024_0_1 (m ((c.tc : Thread nD τ).loc main_arg16)))) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg15)) (m ((c.tc : Thread nD τ).loc main_arg15))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))) (mulf (m ((c.tc : Thread nD τ).loc main_arg15)) (broadcastInDim S16384x1024 ![0] bcast_S16384_S16384x1024_0 (Host.reduceAdd (Host.divf (mulf (shapeCast _ (Host.reduceAdd (mulf (m ((c.tc : Thread nD τ).loc main_arg15)) (mulf (Host.dotGeneral dot_S16384x3584_S1024x3584_S16384x1024_1_1_0_0_n_n none (z) (transpose S1024x3584 [1, 0] (extf .f32 (m ((c.tc : Thread nD τ).loc main_arg13)) bitsLt_bf16_f32) transposes_S3584x1024_S1024x3584_1_0)) (broadcastInDim S16384x1024 ![0, 1] bcast_S1x1024_S16384x1024_0_1 (m ((c.tc : Thread nD τ).loc main_arg16))))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (m ((c.tc : Thread nD τ).loc main_arg15)) (m ((c.tc : Thread nD τ).loc main_arg15))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (m ((c.tc : Thread nD τ).loc main_arg15)) (m ((c.tc : Thread nD τ).loc main_arg15))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast _ (Host.reduceAdd (mulf (m ((c.tc : Thread nD τ).loc main_arg15)) (mulf (Host.dotGeneral dot_S16384x3584_S1024x3584_S16384x1024_1_1_0_0_n_n none (z) (transpose S1024x3584 [1, 0] (extf .f32 (m ((c.tc : Thread nD τ).loc main_arg13)) bitsLt_bf16_f32) transposes_S3584x1024_S1024x3584_1_0)) (broadcastInDim S16384x1024 ![0, 1] bcast_S1x1024_S16384x1024_0_1 (m ((c.tc : Thread nD τ).loc main_arg16))))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (m ((c.tc : Thread nD τ).loc main_arg15)) (m ((c.tc : Thread nD τ).loc main_arg15))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (m ((c.tc : Thread nD τ).loc main_arg15)) (m ((c.tc : Thread nD τ).loc main_arg15))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) (m ((c.tc : Thread nD τ).loc main_arg15)))

theorem dxOf_at (z : FVec Ideal S16384x3584 .f32) (r : Fin 16384) (l : Fin 1024) : dxOf m c z (ix2 r l)
      = dxAt (fun r k => z (ix2 r k)) (m ((c.tc : Thread nD τ).loc main_arg13)) (m ((c.tc : Thread nD τ).loc main_arg14)) (m ((c.tc : Thread nD τ).loc main_arg15)) (m ((c.tc : Thread nD τ).loc main_arg16)) r l := by
  unfold dxAt
  rw [Norm.grad_eq]
  pointwise [dxOf]
  simp only [Finset.univ_unique, Finset.sum_singleton]
  rw [add_assoc, add_assoc, add_assoc]

theorem ref_dx (r : Fin 16384) (l : Fin 1024) : (res_main_v61 m c : FVec Ideal S16384x1024 .f32) (ix2 r l)
      = dxAt (dpAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg13)) (m ((c.tc : Thread nD τ).loc main_arg14)) (m ((c.tc : Thread nD τ).loc main_arg15)) (m ((c.tc : Thread nD τ).loc main_arg16)) r l := by
  refine (show (res_main_v61 m c : FVec Ideal S16384x1024 .f32) (ix2 r l) = dxOf m c (cat m c) (ix2 r l) from by unfold res_main_v61; rfl).trans ?_
  rw [dxOf_at]
  exact congrArg (fun z => dxAt z (m ((c.tc : Thread nD τ).loc main_arg13)) (m ((c.tc : Thread nD τ).loc main_arg14)) (m ((c.tc : Thread nD τ).loc main_arg15)) (m ((c.tc : Thread nD τ).loc main_arg16)) r l) (funext fun r => funext fun k => cat_at m c r k)

/-- The reference's gradient of the norm's weight from the projection's cotangent. -/
abbrev dgOf (z : FVec Ideal S16384x3584 .f32) : FVec Ideal S1x1024 .f32 :=
  shapeCast _ (Host.reduceAdd (mulf (mulf (m ((c.tc : Thread nD τ).loc main_arg15)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg15)) (m ((c.tc : Thread nD τ).loc main_arg15))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (Host.dotGeneral dot_S16384x3584_S1024x3584_S16384x1024_1_1_0_0_n_n none (z) (transpose S1024x3584 [1, 0] (extf .f32 (m ((c.tc : Thread nD τ).loc main_arg13)) bitsLt_bf16_f32) transposes_S3584x1024_S1024x3584_1_0))) (constant S_ .f32 0x00000000#32) reducesTo_S16384x1024_S1024_d0 h_S_) shapeCasts_S1024_S1x1024

theorem dgOf_at (z : FVec Ideal S16384x3584 .f32) (l : Fin 1024) : dgOf m c z (ix2 0 l)
      = ∑ r : Fin 16384, dgRow (fun r k => z (ix2 r k)) (m ((c.tc : Thread nD τ).loc main_arg13)) (m ((c.tc : Thread nD τ).loc main_arg15)) l r := by
  pointwise [dgOf]
  exact Finset.sum_congr rfl fun r _ => mul_comm _ _

/-- The reference's gradient of the norm's weight. -/
abbrev refDg : FVec Ideal S1x1024 .f32 := dgOf m c (cat m c)

theorem ref_dg (l : Fin 1024) : refDg m c (ix2 0 l)
      = ∑ r : Fin 16384, dgRow (dpAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg13)) (m ((c.tc : Thread nD τ).loc main_arg15)) l r := by
  refine (dgOf_at m c _ l).trans ?_
  exact congrArg (fun z => ∑ r : Fin 16384, dgRow z (m ((c.tc : Thread nD τ).loc main_arg13)) (m ((c.tc : Thread nD τ).loc main_arg15)) l r) (funext fun r => funext fun k => cat_at m c r k)

end Reference

open Cert.ProjbIdeal Cert.ProjbIdeal.Gen Idealize.ShloMosaic Idealize.ShloMosaic.TcCoe

/-- The reference's arrays are the kernel's, from arguments that agree. -/
theorem agree (m : (ℓ : Loc nD τ sig) → Buf (Elt Ideal) ℓ) (c : Dev nD)
    {m' : (ℓ : Loc Cert.ProjbRefIdeal.nD Cert.ProjbRefIdeal.τ Cert.ProjbRefIdeal.sig) → Buf (Elt Ideal) ℓ} {c' : Dev Cert.ProjbRefIdeal.nD}
    (e0 : (m' ((c'.tc : Thread Cert.ProjbRefIdeal.nD Cert.ProjbRefIdeal.τ).loc Cert.ProjbRefIdeal.main_arg0) : FVec Ideal S16384x512 .bf16) = P0 m c)
    (e1 : (m' ((c'.tc : Thread Cert.ProjbRefIdeal.nD Cert.ProjbRefIdeal.τ).loc Cert.ProjbRefIdeal.main_arg1) : FVec Ideal S16384x512 .bf16) = P1 m c)
    (e2 : (m' ((c'.tc : Thread Cert.ProjbRefIdeal.nD Cert.ProjbRefIdeal.τ).loc Cert.ProjbRefIdeal.main_arg2) : FVec Ideal S16384x512 .bf16) = P2 m c)
    (e3 : (m' ((c'.tc : Thread Cert.ProjbRefIdeal.nD Cert.ProjbRefIdeal.τ).loc Cert.ProjbRefIdeal.main_arg3) : FVec Ideal S16384x512 .bf16) = P3 m c)
    (e4 : (m' ((c'.tc : Thread Cert.ProjbRefIdeal.nD Cert.ProjbRefIdeal.τ).loc Cert.ProjbRefIdeal.main_arg4) : FVec Ideal S16384x512 .f32) = Q0 m c)
    (e5 : (m' ((c'.tc : Thread Cert.ProjbRefIdeal.nD Cert.ProjbRefIdeal.τ).loc Cert.ProjbRefIdeal.main_arg5) : FVec Ideal S16384x512 .f32) = Q1 m c)
    (e6 : (m' ((c'.tc : Thread Cert.ProjbRefIdeal.nD Cert.ProjbRefIdeal.τ).loc Cert.ProjbRefIdeal.main_arg6) : FVec Ideal S16384x512 .f32) = Q2 m c)
    (e7 : (m' ((c'.tc : Thread Cert.ProjbRefIdeal.nD Cert.ProjbRefIdeal.τ).loc Cert.ProjbRefIdeal.main_arg7) : FVec Ideal S16384x512 .f32) = K0 m c)
    (e8 : (m' ((c'.tc : Thread Cert.ProjbRefIdeal.nD Cert.ProjbRefIdeal.τ).loc Cert.ProjbRefIdeal.main_arg8) : FVec Ideal S16384x512 .f32) = K1 m c)
    (e9 : (m' ((c'.tc : Thread Cert.ProjbRefIdeal.nD Cert.ProjbRefIdeal.τ).loc Cert.ProjbRefIdeal.main_arg9) : FVec Ideal S16384x512 .f32) = K2 m c)
    (e10 : (m' ((c'.tc : Thread Cert.ProjbRefIdeal.nD Cert.ProjbRefIdeal.τ).loc Cert.ProjbRefIdeal.main_arg10) : FVec Ideal S16384x512 .f32) = V0 m c)
    (e11 : (m' ((c'.tc : Thread Cert.ProjbRefIdeal.nD Cert.ProjbRefIdeal.τ).loc Cert.ProjbRefIdeal.main_arg11) : FVec Ideal S16384x512 .f32) = V1 m c)
    (e12 : (m' ((c'.tc : Thread Cert.ProjbRefIdeal.nD Cert.ProjbRefIdeal.τ).loc Cert.ProjbRefIdeal.main_arg12) : FVec Ideal S16384x512 .f32) = V2 m c)
    (e13 : (m' ((c'.tc : Thread Cert.ProjbRefIdeal.nD Cert.ProjbRefIdeal.τ).loc Cert.ProjbRefIdeal.main_arg13) : FVec Ideal S3584x1024 .bf16) = W m c)
    (e14 : (m' ((c'.tc : Thread Cert.ProjbRefIdeal.nD Cert.ProjbRefIdeal.τ).loc Cert.ProjbRefIdeal.main_arg14) : FVec Ideal S16384x1024 .f32) = D m c)
    (e15 : (m' ((c'.tc : Thread Cert.ProjbRefIdeal.nD Cert.ProjbRefIdeal.τ).loc Cert.ProjbRefIdeal.main_arg15) : FVec Ideal S16384x1024 .f32) = X m c)
    (e16 : (m' ((c'.tc : Thread Cert.ProjbRefIdeal.nD Cert.ProjbRefIdeal.τ).loc Cert.ProjbRefIdeal.main_arg16) : FVec Ideal S1x1024 .f32) = G m c) :
    @Eq (FVec Ideal S16384x1024 .f32) (Cert.ProjbRefIdeal.Value.res_main_v61 m' c') (dx m c) ∧ @Eq (FVec Ideal S16384x3584 .bf16) (refDp m' c') (dp m c) ∧ @Eq (FVec Ideal S1x1024 .f32) (refDg m' c') (dg m c) := by
  refine ⟨?_, ?_, ?_⟩
  · funext i
    obtain ⟨r, l, rfl⟩ : ∃ (r : Fin 16384) (l : Fin 1024), i = ix2 r l := ⟨i 0, i 1, by funext a; match a with | ⟨0, _⟩ => rfl | ⟨1, _⟩ => rfl⟩
    refine (ref_dx m' c' r l).trans ?_
    rw [e0, e1, e2, e3, e4, e5, e6, e7, e8, e9, e10, e11, e12, e13, e14, e15, e16]
    rfl
  · funext i
    obtain ⟨r, l, rfl⟩ : ∃ (r : Fin 16384) (l : Fin 3584), i = ix2 r l := ⟨i 0, i 1, by funext a; match a with | ⟨0, _⟩ => rfl | ⟨1, _⟩ => rfl⟩
    refine (ref_dp m' c' r l).trans ?_
    rw [e0, e1, e2, e3, e4, e5, e6, e7, e8, e9, e10, e11, e12]
    rfl
  · funext i
    obtain ⟨r, l, rfl⟩ : ∃ (r : Fin 1) (l : Fin 1024), i = ix2 r l := ⟨i 0, i 1, by funext a; match a with | ⟨0, _⟩ => rfl | ⟨1, _⟩ => rfl⟩
    obtain rfl : r = 0 := Subsingleton.elim _ _
    refine (ref_dg m' c' l).trans ?_
    rw [e0, e1, e2, e3, e4, e5, e6, e7, e8, e9, e10, e11, e12, e13, e15]
    rfl

end Cert.Projb

end
-- ==== Proof.Parts.lean ====
/- The claims of the weight gradients, the feed-forward's programs and the mixer's input projection, forward and backward: each program's
   frame, and the equality of its arrays with its reference's over the extended reals. -/
module

public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.Wout
public import proofs.«01_k».proof.Proof.Gen.Wout.Frame
public import proofs.«01_k».proof.Proof.Gen.WoutIdeal
public import proofs.«01_k».proof.Proof.Gen.WoutIdeal.Frame
public import proofs.«01_k».proof.Proof.Gen.WoutIdeal.Value
public import proofs.«01_k».proof.Proof.Gen.WoutRefIdeal
public import proofs.«01_k».proof.Proof.Gen.WoutRefIdeal.Run
public import proofs.«01_k».proof.Proof.Gen.Wxo
public import proofs.«01_k».proof.Proof.Gen.Wxo.Frame
public import proofs.«01_k».proof.Proof.Gen.WxoIdeal
public import proofs.«01_k».proof.Proof.Gen.WxoIdeal.Frame
public import proofs.«01_k».proof.Proof.Gen.WxoIdeal.Value
public import proofs.«01_k».proof.Proof.Gen.WxoRefIdeal
public import proofs.«01_k».proof.Proof.Gen.WxoRefIdeal.Run
public import proofs.«01_k».proof.Proof.Gen.Wxq
public import proofs.«01_k».proof.Proof.Gen.Wxq.Frame
public import proofs.«01_k».proof.Proof.Gen.WxqIdeal
public import proofs.«01_k».proof.Proof.Gen.WxqIdeal.Frame
public import proofs.«01_k».proof.Proof.Gen.WxqIdeal.Value
public import proofs.«01_k».proof.Proof.Gen.WxqRefIdeal
public import proofs.«01_k».proof.Proof.Gen.WxqRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Projb
public import proofs.«01_k».proof.Proof.Gen.Projb.Frame
public import proofs.«01_k».proof.Proof.Gen.ProjbIdeal
public import proofs.«01_k».proof.Proof.Gen.ProjbIdeal.Frame
public import proofs.«01_k».proof.Proof.Gen.ProjbIdeal.Value
public import proofs.«01_k».proof.Proof.Gen.ProjbRefIdeal
public import proofs.«01_k».proof.Proof.Gen.ProjbRefIdeal.Run
public import proofs.«01_k».proof.Proof.WGate
public import proofs.«01_k».proof.Proof.WDown
public import proofs.«01_k».proof.Proof.WWin
public import proofs.«01_k».proof.Proof.WWout
public import proofs.«01_k».proof.Proof.WWxo
public import proofs.«01_k».proof.Proof.WWxq
public import proofs.«01_k».proof.Proof.FfnValue
public import proofs.«01_k».proof.Proof.UpValue
public import proofs.«01_k».proof.Proof.LossValue
public import proofs.«01_k».proof.Proof.ActArgs
public import proofs.«01_k».proof.Proof.ActValue
public import proofs.«01_k».proof.Proof.ProjValue
public import proofs.«01_k».proof.Proof.ProjbValue
public import proofs.«01_k».proof.Defs
public import Idealize.ShloMosaic.Adequacy
public import Idealize.ShloMosaic.Init

@[expose] public section

noncomputable section

namespace Cert.Parts

open Idealize.ShloMosaic Idealize.ShloMosaic.TcCoe Idealize.SL.Sem

instance : Cert.Pre_act_finite.Facts := Cert.Act.facts

/-- The reference of `Gate` leaves its arguments and declares no semaphore. -/
theorem frame_Gate : Cert.quiescent_GateRefIdeal := by
  intro m g _
  exact (θ_run Cert.GateRefIdeal.defs _ _).mono (fun r h => ⟨fun c => (h c).2, sem_eq_zero_of_no_sems (by decide) r.2⟩)
    (Cert.GateRefIdeal.Value.run (F := Ideal) m g)

/-- The weight gradient `Gate`. -/
theorem algebraic_Gate : Cert.algebraic_GateIdeal_GateRefIdeal := by
  intro m g m' g' _ hagree
  refine ⟨_, Cert.GateIdeal.Value.run (F := Ideal) m g, ?_⟩
  refine (θ_run Cert.GateRefIdeal.defs _ _).mono (fun r h c => ?_) (Cert.GateRefIdeal.Value.run (F := Ideal) m' g')
  obtain ⟨r0, hargs⟩ := h c
  obtain ⟨a0, a1⟩ := hagree c
  exact ⟨r0.trans (Cert.Weight.Gate.agree m c a0 a1), hargs⟩

/-- The reference of `Down` leaves its arguments and declares no semaphore. -/
theorem frame_Down : Cert.quiescent_DownRefIdeal := by
  intro m g _
  exact (θ_run Cert.DownRefIdeal.defs _ _).mono (fun r h => ⟨fun c => (h c).2, sem_eq_zero_of_no_sems (by decide) r.2⟩)
    (Cert.DownRefIdeal.Value.run (F := Ideal) m g)

/-- The weight gradient `Down`. -/
theorem algebraic_Down : Cert.algebraic_DownIdeal_DownRefIdeal := by
  intro m g m' g' _ hagree
  refine ⟨_, Cert.DownIdeal.Value.run (F := Ideal) m g, ?_⟩
  refine (θ_run Cert.DownRefIdeal.defs _ _).mono (fun r h c => ?_) (Cert.DownRefIdeal.Value.run (F := Ideal) m' g')
  obtain ⟨r0, hargs⟩ := h c
  obtain ⟨a0, a1⟩ := hagree c
  exact ⟨r0.trans (Cert.Weight.Down.agree m c a0 a1), hargs⟩

/-- The reference of `Win` leaves its arguments and declares no semaphore. -/
theorem frame_Win : Cert.quiescent_WinRefIdeal := by
  intro m g _
  exact (θ_run Cert.WinRefIdeal.defs _ _).mono (fun r h => ⟨fun c => (h c).2, sem_eq_zero_of_no_sems (by decide) r.2⟩)
    (Cert.WinRefIdeal.Value.run (F := Ideal) m g)

/-- The weight gradient `Win`. -/
theorem algebraic_Win : Cert.algebraic_WinIdeal_WinRefIdeal := by
  intro m g m' g' _ hagree
  refine ⟨_, Cert.WinIdeal.Value.run (F := Ideal) m g, ?_⟩
  refine (θ_run Cert.WinRefIdeal.defs _ _).mono (fun r h c => ?_) (Cert.WinRefIdeal.Value.run (F := Ideal) m' g')
  obtain ⟨r0, hargs⟩ := h c
  obtain ⟨a0, a1⟩ := hagree c
  exact ⟨r0.trans (Cert.Weight.Win.agree m c a0 a1), hargs⟩

/-- The reference of `Wout` leaves its arguments and declares no semaphore. -/
theorem frame_Wout : Cert.quiescent_WoutRefIdeal := by
  intro m g _
  exact (θ_run Cert.WoutRefIdeal.defs _ _).mono (fun r h => ⟨fun c => (h c).2, sem_eq_zero_of_no_sems (by decide) r.2⟩)
    (Cert.WoutRefIdeal.Value.run (F := Ideal) m g)

/-- The weight gradient `Wout`. -/
theorem algebraic_Wout : Cert.algebraic_WoutIdeal_WoutRefIdeal := by
  intro m g m' g' _ hagree
  refine ⟨_, Cert.WoutIdeal.Value.run (F := Ideal) m g, ?_⟩
  refine (θ_run Cert.WoutRefIdeal.defs _ _).mono (fun r h c => ?_) (Cert.WoutRefIdeal.Value.run (F := Ideal) m' g')
  obtain ⟨r0, hargs⟩ := h c
  obtain ⟨a0, a1⟩ := hagree c
  exact ⟨r0.trans (Cert.Weight.Wout.agree m c a0 a1), hargs⟩

/-- The reference of `Wxo` leaves its arguments and declares no semaphore. -/
theorem frame_Wxo : Cert.quiescent_WxoRefIdeal := by
  intro m g _
  exact (θ_run Cert.WxoRefIdeal.defs _ _).mono (fun r h => ⟨fun c => (h c).2, sem_eq_zero_of_no_sems (by decide) r.2⟩)
    (Cert.WxoRefIdeal.Value.run (F := Ideal) m g)

/-- The weight gradient `Wxo`. -/
theorem algebraic_Wxo : Cert.algebraic_WxoIdeal_WxoRefIdeal := by
  intro m g m' g' _ hagree
  refine ⟨_, Cert.WxoIdeal.Value.run (F := Ideal) m g, ?_⟩
  refine (θ_run Cert.WxoRefIdeal.defs _ _).mono (fun r h c => ?_) (Cert.WxoRefIdeal.Value.run (F := Ideal) m' g')
  obtain ⟨r0, hargs⟩ := h c
  obtain ⟨a0, a1⟩ := hagree c
  exact ⟨r0.trans (Cert.Weight.Wxo.agree m c a0 a1), hargs⟩

/-- The reference of `Wxq` leaves its arguments and declares no semaphore. -/
theorem frame_Wxq : Cert.quiescent_WxqRefIdeal := by
  intro m g _
  exact (θ_run Cert.WxqRefIdeal.defs _ _).mono (fun r h => ⟨fun c => (h c).2, sem_eq_zero_of_no_sems (by decide) r.2⟩)
    (Cert.WxqRefIdeal.Value.run (F := Ideal) m g)

/-- The weight gradient `Wxq`. -/
theorem algebraic_Wxq : Cert.algebraic_WxqIdeal_WxqRefIdeal := by
  intro m g m' g' _ hagree
  refine ⟨_, Cert.WxqIdeal.Value.run (F := Ideal) m g, ?_⟩
  refine (θ_run Cert.WxqRefIdeal.defs _ _).mono (fun r h c => ?_) (Cert.WxqRefIdeal.Value.run (F := Ideal) m' g')
  obtain ⟨r0, hargs⟩ := h c
  obtain ⟨a0, a1⟩ := hagree c
  exact ⟨r0.trans (Cert.Weight.Wxq.agree m c a0 a1), hargs⟩

/-- The reference of `Ffn` leaves its arguments and declares no semaphore. -/
theorem frame_Ffn : Cert.quiescent_FfnRefIdeal := by
  intro m g _
  exact (θ_run Cert.FfnRefIdeal.defs _ _).mono (fun r h => ⟨fun c => (h c).2.2, sem_eq_zero_of_no_sems (by decide) r.2⟩)
    (Cert.FfnRefIdeal.Value.run (F := Ideal) m g)

/-- The arrays of `Ffn`. -/
theorem algebraic_Ffn : Cert.algebraic_FfnIdeal_FfnRefIdeal := by
  intro m g m' g' _ hagree
  refine ⟨fun c => Cert.Ffn.dx m c, fun c => Cert.Ffn.dg m c,
    (θ_run Cert.FfnIdeal.defs _ _).mono (fun r h c => ?_) (Cert.FfnIdeal.Value.run_blocks (F := Ideal) m g), ?_⟩
  · obtain ⟨r0, r1, hargs⟩ := h c
    exact ⟨r0.trans (Cert.Ffn.final7 m c), r1.trans (Cert.Ffn.final8 m c), hargs⟩
  refine (θ_run Cert.FfnRefIdeal.defs _ _).mono (fun r h c => ?_) (Cert.FfnRefIdeal.Value.run (F := Ideal) m' g')
  obtain ⟨r0, r1, hargs⟩ := h c
  obtain ⟨a0, a1, a2, a3, a4, a5, a6⟩ := hagree c
  obtain ⟨w0, w1⟩ := Cert.Ffn.agree m c a0 a1 a2 a3 a4 a5 a6
  exact ⟨r0.trans w0, r1.trans w1, hargs⟩

/-- The reference of `Act` leaves its arguments and declares no semaphore. -/
theorem frame_Act : Cert.quiescent_ActRefIdeal := by
  intro m g _
  exact (θ_run Cert.ActRefIdeal.defs _ _).mono (fun r h => ⟨fun c => (h c).2.2.2.2, sem_eq_zero_of_no_sems (by decide) r.2⟩)
    (Cert.ActRefIdeal.Value.run (F := Ideal) m g)

theorem frame_Act_pre : Cert.quiescent_ActRefIdeal_pre_act_finite := fun m g _ => frame_Act m g trivial

/-- The arrays of `Act`. -/
theorem algebraic_Act : Cert.algebraic_ActIdeal_ActRefIdeal_pre_act_finite := by
  intro m g m' g' hpre hagree
  refine ⟨fun c => Cert.Act.dy m c, fun c => Cert.Act.da m c, fun c => Cert.Act.du m c, fun c => Cert.Act.dg m c,
    (θ_run Cert.ActIdeal.defs _ _).mono (fun r h c => ?_) (Cert.ActIdeal.Value.run_blocks (F := Ideal) m g), ?_⟩
  · obtain ⟨r0, r1, r2, r3, hargs⟩ := h c
    exact ⟨r0.trans (Cert.Act.final6 m c), r1.trans (Cert.Act.final7 m c), r2.trans (Cert.Act.final8 m c), r3.trans (Cert.Act.final9 m c), hargs⟩
  refine (θ_run Cert.ActRefIdeal.defs _ _).mono (fun r h c => ?_) (Cert.ActRefIdeal.Value.run (F := Ideal) m' g')
  obtain ⟨r0, r1, r2, r3, hargs⟩ := h c
  obtain ⟨a0, a1, a2, a3, a4, a5⟩ := hagree c
  obtain ⟨hd, hg, hw, hu⟩ := Cert.Act.reals m hpre c
  obtain ⟨w0, w1, w2, w3⟩ := Cert.Act.agree m c a0 a1 a2 a3 a4 a5 hd hg hw hu
  exact ⟨r0.trans w0, r1.trans w1, r2.trans w2, r3.trans w3, hargs⟩

/-- The reference of `Up` leaves its arguments and declares no semaphore. -/
theorem frame_Up : Cert.quiescent_UpRefIdeal := by
  intro m g _
  exact (θ_run Cert.UpRefIdeal.defs _ _).mono (fun r h => ⟨fun c => (h c).2.2.2.2, sem_eq_zero_of_no_sems (by decide) r.2⟩)
    (Cert.UpRefIdeal.Value.run (F := Ideal) m g)

/-- The arrays of `Up`. -/
theorem algebraic_Up : Cert.algebraic_UpIdeal_UpRefIdeal := by
  intro m g m' g' _ hagree
  refine ⟨fun c => Cert.Up.h m c, fun c => Cert.Up.a m c, fun c => Cert.Up.u m c, fun c => Cert.Up.z m c,
    (θ_run Cert.UpIdeal.defs _ _).mono (fun r h c => ?_) (Cert.UpIdeal.Value.run_blocks (F := Ideal) m g), ?_⟩
  · obtain ⟨r0, r1, r2, r3, hargs⟩ := h c
    exact ⟨r0.trans (Cert.Up.final4 m c), r1.trans (Cert.Up.final5 m c), r2.trans (Cert.Up.final6 m c), r3.trans (Cert.Up.final7 m c), hargs⟩
  refine (θ_run Cert.UpRefIdeal.defs _ _).mono (fun r h c => ?_) (Cert.UpRefIdeal.Value.run (F := Ideal) m' g')
  obtain ⟨r0, r1, r2, r3, hargs⟩ := h c
  obtain ⟨a0, a1, a2, a3⟩ := hagree c
  obtain ⟨w0, w1, w2, w3⟩ := Cert.Up.agree m c a0 a1 a2 a3
  exact ⟨r0.trans w0, r1.trans w1, r2.trans w2, r3.trans w3, hargs⟩

/-- The reference of `Loss` leaves its arguments and declares no semaphore. -/
theorem frame_Loss : Cert.quiescent_LossRefIdeal := by
  intro m g _
  exact (θ_run Cert.LossRefIdeal.defs _ _).mono (fun r h => ⟨fun c => (h c).2.2.2, sem_eq_zero_of_no_sems (by decide) r.2⟩)
    (Cert.LossRefIdeal.Value.run (F := Ideal) m g)

/-- The arrays of `Loss`. -/
theorem algebraic_Loss : Cert.algebraic_LossIdeal_LossRefIdeal := by
  intro m g m' g' _ hagree
  refine ⟨fun c => Cert.Loss.y m c, fun c => Cert.Loss.d m c, fun c => Cert.Loss.sq m c,
    (θ_run Cert.LossIdeal.defs _ _).mono (fun r h c => ?_) (Cert.LossIdeal.Value.run_blocks (F := Ideal) m g), ?_⟩
  · obtain ⟨r0, r1, r2, hargs⟩ := h c
    exact ⟨r0.trans (Cert.Loss.final5 m c), r1.trans (Cert.Loss.final6 m c), r2.trans (Cert.Loss.final7 m c), hargs⟩
  refine (θ_run Cert.LossRefIdeal.defs _ _).mono (fun r h c => ?_) (Cert.LossRefIdeal.Value.run (F := Ideal) m' g')
  obtain ⟨r0, r1, r2, hargs⟩ := h c
  obtain ⟨a0, a1, a2, a3, a4⟩ := hagree c
  obtain ⟨w0, w1, w2⟩ := Cert.Loss.agree m c a0 a1 a2 a3 a4
  exact ⟨r0.trans w0, r1.trans w1, r2.trans w2, hargs⟩

/-- The reference of `Proj` leaves its arguments and declares no semaphore. -/
theorem frame_Proj : Cert.quiescent_ProjRefIdeal := by
  intro m g _
  exact (θ_run Cert.ProjRefIdeal.defs _ _).mono (fun r h => ⟨fun c => (h c).2.2.2.2, sem_eq_zero_of_no_sems (by decide) r.2⟩)
    (Cert.ProjRefIdeal.Value.run (F := Ideal) m g)

/-- The arrays of `Proj`. -/
theorem algebraic_Proj : Cert.algebraic_ProjIdeal_ProjRefIdeal := by
  intro m g m' g' _ hagree
  refine ⟨fun c => Cert.Proj.h m c, fun c => Cert.Proj.f m c, fun c => Cert.Proj.gx m c, fun c => Cert.Proj.d m c,
    (θ_run Cert.ProjIdeal.defs _ _).mono (fun r h c => ?_) (Cert.ProjIdeal.Value.run_blocks (F := Ideal) m g), ?_⟩
  · obtain ⟨r0, r1, r2, r3, hargs⟩ := h c
    exact ⟨r0.trans (Cert.Proj.final3 m c), r1.trans (Cert.Proj.final4 m c), r2.trans (Cert.Proj.final5 m c), r3.trans (Cert.Proj.final6 m c), hargs⟩
  refine (θ_run Cert.ProjRefIdeal.defs _ _).mono (fun r h c => ?_) (Cert.ProjRefIdeal.Value.run (F := Ideal) m' g')
  obtain ⟨r0, r1, r2, r3, hargs⟩ := h c
  obtain ⟨a0, a1, a2⟩ := hagree c
  obtain ⟨w0, w1, w2, w3⟩ := Cert.Proj.agree m c a0 a1 a2
  exact ⟨r0.trans w0, r1.trans w1, r2.trans w2, r3.trans w3, hargs⟩

/-- The reference of `Projb` leaves its arguments and declares no semaphore. -/
theorem frame_Projb : Cert.quiescent_ProjbRefIdeal := by
  intro m g _
  exact (θ_run Cert.ProjbRefIdeal.defs _ _).mono (fun r h => ⟨fun c => (h c).2.2.2, sem_eq_zero_of_no_sems (by decide) r.2⟩)
    (Cert.ProjbRefIdeal.Value.run (F := Ideal) m g)

/-- The arrays of `Projb`. -/
theorem algebraic_Projb : Cert.algebraic_ProjbIdeal_ProjbRefIdeal := by
  intro m g m' g' _ hagree
  refine ⟨fun c => Cert.Projb.dx m c, fun c => Cert.Projb.dp m c, fun c => Cert.Projb.dg m c,
    (θ_run Cert.ProjbIdeal.defs _ _).mono (fun r h c => ?_) (Cert.ProjbIdeal.Value.run_blocks (F := Ideal) m g), ?_⟩
  · obtain ⟨r0, r1, r2, hargs⟩ := h c
    exact ⟨r0.trans (Cert.Projb.final17 m c), r1.trans (Cert.Projb.final18 m c), r2.trans (Cert.Projb.final19 m c), hargs⟩
  refine (θ_run Cert.ProjbRefIdeal.defs _ _).mono (fun r h c => ?_) (Cert.ProjbRefIdeal.Value.run (F := Ideal) m' g')
  obtain ⟨r0, r1, r2, hargs⟩ := h c
  obtain ⟨a0, a1, a2, a3, a4, a5, a6, a7, a8, a9, a10, a11, a12, a13, a14, a15, a16⟩ := hagree c
  obtain ⟨w0, w1, w2⟩ := Cert.Projb.agree m c a0 a1 a2 a3 a4 a5 a6 a7 a8 a9 a10 a11 a12 a13 a14 a15 a16
  exact ⟨r0.trans w0, r1.trans w1, r2.trans w2, hargs⟩

end Cert.Parts

end
-- ==== Proof.lean ====
/- The certificate's claim: the frames of the programs, the mask's name, and the equality of each program's arrays with
   its reference's over the extended reals (the gating gradient's in Proof/Value.lean, the others' in Proof/Parts.lean). -/
module

public import proofs.«01_k».proof.Proof.Value
public import proofs.«01_k».proof.Proof.Parts
public import proofs.«01_k».proof.Proof.Gen.PrepIdeal
public import proofs.«01_k».proof.Proof.Gen.PrepIdeal.Run
public import proofs.«01_k».proof.Proof.Gen.Kernel
public import proofs.«01_k».proof.Proof.Gen.Kernel.Frame
public import proofs.«01_k».proof.Defs
public import Idealize.ShloMosaic.Adequacy
public import Idealize.ShloMosaic.Init

@[expose] public section

noncomputable section

namespace Cert.Proof

open Idealize.ShloMosaic Idealize.ShloMosaic.TcCoe Idealize.SL.Sem

instance : Cert.Pre_finite.Facts := Cert.Fox.Args.facts

/-- The host arrays' program leaves its arguments and declares no semaphore. -/
theorem frame_prep : Cert.quiescent_PrepIdeal := by
  intro m g _
  exact (θ_run Cert.PrepIdeal.defs _ _).mono (fun r h => ⟨fun c => (h c).2.2.2.2.2, sem_eq_zero_of_no_sems (by decide) r.2⟩)
    (Cert.PrepIdeal.Value.run (F := Ideal) m g)

/-- The reference leaves its arguments and declares no semaphore. -/
theorem frame_reference : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run (F := Ideal) m g)

theorem frame_reference_pre : Cert.quiescent_ReferenceIdeal_pre_finite := fun m g _ => frame_reference m g trivial

/-- The kernel's mask constant is the name's value. -/
theorem preserves : Cert.preserves_Kernel_KernelIdeal :=
  IdealRules.named_const.statement Cert.KernelIdeal.κ "mask" .f32 0xF149F2CA#32 ⊥ rfl

/-- The keys', values' and gate sums' gradients. -/
theorem algebraic : Cert.algebraic_KernelIdeal_ReferenceIdeal_pre_finite := by
  intro m g m' g' hpre hagree
  refine ⟨_, _, _, Cert.Fox.Value.run (F := Ideal) m g, ?_⟩
  refine (θ_run Cert.ReferenceIdeal.defs _ _).mono (fun r h c => ?_) (Cert.ReferenceIdeal.Value.run (F := Ideal) m' g')
  obtain ⟨r0, r1, r2, hargs⟩ := h c
  obtain ⟨a0, a1, a2, a3, a4⟩ := hagree c
  obtain ⟨q, k, v, d, G, H⟩ := Cert.Fox.Args.reals m hpre c
  obtain ⟨w0, w1, w2⟩ := Cert.Fox.Value.agree H (a0.trans H.a0) (a1.trans H.a1) (a2.trans H.a2) (a3.trans H.a3) (a4.trans H.a4)
  exact ⟨r0.trans w0, r1.trans w1, r2.trans w2, hargs⟩

theorem claim : Cert.Claim :=
  ⟨Cert.Kernel.Gen.facts, Cert.KernelIdeal.Gen.facts, Cert.ReferenceIdeal.Gen.facts, Cert.PrepIdeal.Gen.facts,
    Cert.Gate.Gen.facts, Cert.GateIdeal.Gen.facts, Cert.GateRefIdeal.Gen.facts, Cert.Down.Gen.facts,
    Cert.DownIdeal.Gen.facts, Cert.DownRefIdeal.Gen.facts, Cert.Win.Gen.facts, Cert.WinIdeal.Gen.facts,
    Cert.WinRefIdeal.Gen.facts, Cert.Wout.Gen.facts, Cert.WoutIdeal.Gen.facts, Cert.WoutRefIdeal.Gen.facts,
    Cert.Wxo.Gen.facts, Cert.WxoIdeal.Gen.facts, Cert.WxoRefIdeal.Gen.facts, Cert.Wxq.Gen.facts,
    Cert.WxqIdeal.Gen.facts, Cert.WxqRefIdeal.Gen.facts, Cert.Ffn.Gen.facts, Cert.FfnIdeal.Gen.facts,
    Cert.FfnRefIdeal.Gen.facts, Cert.Act.Gen.facts, Cert.ActIdeal.Gen.facts, Cert.ActRefIdeal.Gen.facts,
    Cert.Up.Gen.facts, Cert.UpIdeal.Gen.facts, Cert.UpRefIdeal.Gen.facts, Cert.Loss.Gen.facts,
    Cert.LossIdeal.Gen.facts, Cert.LossRefIdeal.Gen.facts, Cert.Proj.Gen.facts, Cert.ProjIdeal.Gen.facts,
    Cert.ProjRefIdeal.Gen.facts, Cert.Projb.Gen.facts, Cert.ProjbIdeal.Gen.facts, Cert.ProjbRefIdeal.Gen.facts,
    Cert.Fox.Args.facts, Cert.Act.facts, fun m g _ => Cert.Kernel.Gen.frame m g,
    fun m g _ => Cert.KernelIdeal.Gen.frame m g, fun m g _ => Cert.KernelIdeal.Gen.frame m g, frame_reference,
    frame_reference_pre, frame_prep, fun m g _ => Cert.Gate.Gen.frame m g, fun m g _ => Cert.GateIdeal.Gen.frame m g,
    Cert.Parts.frame_Gate, fun m g _ => Cert.Down.Gen.frame m g, fun m g _ => Cert.DownIdeal.Gen.frame m g,
    Cert.Parts.frame_Down, fun m g _ => Cert.Win.Gen.frame m g, fun m g _ => Cert.WinIdeal.Gen.frame m g,
    Cert.Parts.frame_Win, fun m g _ => Cert.Wout.Gen.frame m g, fun m g _ => Cert.WoutIdeal.Gen.frame m g,
    Cert.Parts.frame_Wout, fun m g _ => Cert.Wxo.Gen.frame m g, fun m g _ => Cert.WxoIdeal.Gen.frame m g,
    Cert.Parts.frame_Wxo, fun m g _ => Cert.Wxq.Gen.frame m g, fun m g _ => Cert.WxqIdeal.Gen.frame m g,
    Cert.Parts.frame_Wxq, fun m g _ => Cert.Ffn.Gen.frame m g, fun m g _ => Cert.FfnIdeal.Gen.frame m g,
    Cert.Parts.frame_Ffn, fun m g _ => Cert.Act.Gen.frame m g, fun m g _ => Cert.ActIdeal.Gen.frame m g,
    fun m g _ => Cert.ActIdeal.Gen.frame m g, Cert.Parts.frame_Act, Cert.Parts.frame_Act_pre,
    fun m g _ => Cert.Up.Gen.frame m g, fun m g _ => Cert.UpIdeal.Gen.frame m g, Cert.Parts.frame_Up,
    fun m g _ => Cert.Loss.Gen.frame m g, fun m g _ => Cert.LossIdeal.Gen.frame m g, Cert.Parts.frame_Loss,
    fun m g _ => Cert.Proj.Gen.frame m g, fun m g _ => Cert.ProjIdeal.Gen.frame m g, Cert.Parts.frame_Proj,
    fun m g _ => Cert.Projb.Gen.frame m g, fun m g _ => Cert.ProjbIdeal.Gen.frame m g, Cert.Parts.frame_Projb,
    preserves, algebraic, trivial, Cert.Parts.algebraic_Gate, trivial, Cert.Parts.algebraic_Down, trivial,
    Cert.Parts.algebraic_Win, trivial, Cert.Parts.algebraic_Wout, trivial, Cert.Parts.algebraic_Wxo, trivial,
    Cert.Parts.algebraic_Wxq, trivial, Cert.Parts.algebraic_Ffn, trivial, Cert.Parts.algebraic_Act, trivial,
    Cert.Parts.algebraic_Up, trivial, Cert.Parts.algebraic_Loss, trivial, Cert.Parts.algebraic_Proj, trivial,
    Cert.Parts.algebraic_Projb⟩

end Cert.Proof

end
